-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v39) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_v33) = v1 c
          ∧ r.2.mem ((c.tc : Thread Cert.ConvRefIdeal.nD Cert.ConvRefIdeal.τ).loc Cert.ConvRefIdeal.main_v34) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hKernel : Cert.Kernel.Facts) (hKernelIdeal : Cert.KernelIdeal.Facts) (hReferenceIdeal : Cert.ReferenceIdeal.Facts) (hPle : Cert.Ple.Facts) (hPleIdeal : Cert.PleIdeal.Facts) (hPleRefIdeal : Cert.PleRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Ple (hPle := hPle)
    ∧ quiescent_PleIdeal (hPleIdeal := hPleIdeal)
    ∧ quiescent_PleRefIdeal (hPleRefIdeal := hPleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Ple_PleIdeal
    ∧ algebraic_PleIdeal_PleRefIdeal (hPleIdeal := hPleIdeal) (hPleRefIdeal := hPleRefIdeal)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
-- ==== Pre_finite_gates.lean ====
abbrev S8192x3072 : Shape := ⟨2, ![8192, 3072]⟩
abbrev S8192x128 : Shape := ⟨2, ![8192, 128]⟩
abbrev S1x128 : Shape := ⟨2, ![1, 128]⟩
abbrev S1x1024 : Shape := ⟨2, ![1, 1024]⟩
abbrev S8192x2048 : Shape := ⟨2, ![8192, 2048]⟩
abbrev S8192x1024 : Shape := ⟨2, ![8192, 1024]⟩
abbrev S2048x2048 : Shape := ⟨2, ![2048, 2048]⟩
abbrev S5632x2048 : Shape := ⟨2, ![5632, 2048]⟩
abbrev S8192x8 : Shape := ⟨2, ![8192, 8]⟩
abbrev S8192x2056 : Shape := ⟨2, ![8192, 2056]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S1x128_S8192x128_0_1 : S1x128.BroadcastsInDim S8192x128 (![0, 1] : Fin 2 → Fin S8192x128.rank)
  slices_S8192x128_S8192x8_0_0 : S8192x128.Slices ![0, 0] S8192x8
  concatenates_S8192x2048_S8192x8_S8192x2056_d1 : Shape.Concatenates [S8192x2048, S8192x8] S8192x2056 1
  bcast_S_S8192x2056 : S_.BroadcastsInDim S8192x2056 (![] : Fin 0 → Fin S8192x2056.rank)

variable [Facts]

def fn {F : FTy → Type} [FloatOps F] (main_arg0 : FVec F S8192x3072 .bf16) (main_arg1 : FVec F S8192x128 .f32) (main_arg2 : FVec F S1x128 .f32) (main_arg3 : FVec F S1x1024 .f32) (main_arg4 : FVec F S8192x2048 .f32) (main_arg5 : FVec F S8192x1024 .bf16) (main_arg6 : FVec F S2048x2048 .bf16) (main_arg7 : FVec F S5632x2048 .f32) (main_arg8 : FVec F S2048x2048 .f32) : IVec S8192x2056 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x128 .f32 := broadcastInDim S8192x128 ![0, 1] bcast_S1x128_S8192x128_0_1 main_arg2
  let main_v3 : FVec F S8192x128 .f32 := addf main_arg1 main_v2
  let main_v4 : FVec F S8192x8 .f32 := (extractStridedSlice S8192x8 ![0, 0] · slices_S8192x128_S8192x8_0_0) main_v3
  let main_v5 : FVec F S8192x2056 .f32 := (fun a b => concatenate S8192x2056 1 [⟨S8192x2048, a⟩, ⟨S8192x8, b⟩] concatenates_S8192x2048_S8192x8_S8192x2056_d1) main_v1 main_v4
  let main_v6 : FVec F S8192x2056 .f32 := Host.absf main_v5
  let main_cst : FVec F S_ .f32 := constant S_ .f32 0x7F800000#32
  let main_v7 : FVec F S8192x2056 .f32 := broadcastInDim S8192x2056 ![] bcast_S_S8192x2056 main_cst
  let main_v8 : IVec S8192x2056 1 := cmpf .olt main_v6 main_v7
  main_v8
-- ==== Kernel.lean ====
abbrev S8192x3072 : Shape := ⟨2, ![8192, 3072]⟩
abbrev S8192x128 : Shape := ⟨2, ![8192, 128]⟩
abbrev S1x128 : Shape := ⟨2, ![1, 128]⟩
abbrev S1x1024 : Shape := ⟨2, ![1, 1024]⟩
abbrev S8192x2048 : Shape := ⟨2, ![8192, 2048]⟩
abbrev S8192x1024 : Shape := ⟨2, ![8192, 1024]⟩
abbrev S2048x2048 : Shape := ⟨2, ![2048, 2048]⟩
abbrev S5632x2048 : Shape := ⟨2, ![5632, 2048]⟩
abbrev S4x2048x3072 : Shape := ⟨3, ![4, 2048, 3072]⟩
abbrev S4x2048x128 : Shape := ⟨3, ![4, 2048, 128]⟩
abbrev S4x2048x2048 : Shape := ⟨3, ![4, 2048, 2048]⟩
abbrev S4x2048x1024 : Shape := ⟨3, ![4, 2048, 1024]⟩
abbrev S2x256x512 : Shape := ⟨3, ![2, 256, 512]⟩
abbrev S2x256x1024 : Shape := ⟨3, ![2, 256, 1024]⟩
abbrev S2x256x128 : Shape := ⟨3, ![2, 256, 128]⟩
abbrev S2x256x2048 : Shape := ⟨3, ![2, 256, 2048]⟩
abbrev S352x2048 : Shape := ⟨2, ![352, 2048]⟩
abbrev S128x2048 : Shape := ⟨2, ![128, 2048]⟩
abbrev S8x128x256 : Shape := ⟨3, ![8, 128, 256]⟩
abbrev S8x128 : Shape := ⟨2, ![8, 128]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S256x1 : Shape := ⟨2, ![256, 1]⟩
abbrev S1x256 : Shape := ⟨2, ![1, 256]⟩
abbrev S1x1 : Shape := ⟨2, ![1, 1]⟩
abbrev S256 : Shape := ⟨1, ![256]⟩
abbrev S1x256x256 : Shape := ⟨3, ![1, 256, 256]⟩
abbrev S1x128x256 : Shape := ⟨3, ![1, 128, 256]⟩
abbrev S128 : Shape := ⟨1, ![128]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S1x256x2048 : Shape := ⟨3, ![1, 256, 2048]⟩

abbrev nBuf : Space → Nat
  | .hbm => 16
  | .vmem => 31
  | .smem => 0
  | _ => 0

abbrev bufTy : (tb : Table) → Fin (tcTables nBuf tb) → BufTy
  | .hbm, ⟨0, _⟩ => ⟨S8192x3072, .bf16⟩
  | .hbm, ⟨1, _⟩ => ⟨S8192x128, .f32⟩
  | .hbm, ⟨2, _⟩ => ⟨S1x128, .f32⟩
  | .hbm, ⟨3, _⟩ => ⟨S1x1024, .f32⟩
  | .hbm, ⟨4, _⟩ => ⟨S8192x2048, .f32⟩
  | .hbm, ⟨5, _⟩ => ⟨S8192x1024, .bf16⟩
  | .hbm, ⟨6, _⟩ => ⟨S2048x2048, .bf16⟩
  | .hbm, ⟨7, _⟩ => ⟨S5632x2048, .f32⟩
  | .hbm, ⟨8, _⟩ => ⟨S2048x2048, .f32⟩
  | .hbm, ⟨9, _⟩ => ⟨S4x2048x3072, .bf16⟩
  | .hbm, ⟨10, _⟩ => ⟨S4x2048x128, .f32⟩
  | .hbm, ⟨11, _⟩ => ⟨S4x2048x2048, .f32⟩
  | .hbm, ⟨12, _⟩ => ⟨S4x2048x1024, .bf16⟩
  | .hbm, ⟨13, _⟩ => ⟨S4x2048x2048, .f32⟩
  | .hbm, ⟨14, _⟩ => ⟨S5632x2048, .bf16⟩
  | .hbm, ⟨15, _⟩ => ⟨S2048x2048, .bf16⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S2x256x1024, .bf16⟩
  | .local _ .vmem, ⟨8, _⟩ => ⟨S2x256x128, .f32⟩
  | .local _ .vmem, ⟨9, _⟩ => ⟨S2x256x128, .f32⟩
  | .local _ .vmem, ⟨10, _⟩ => ⟨S1x128, .f32⟩
  | .local _ .vmem, ⟨11, _⟩ => ⟨S1x1024, .f32⟩
  | .local _ .vmem, ⟨12, _⟩ => ⟨S2x256x2048, .f32⟩
  | .local _ .vmem, ⟨13, _⟩ => ⟨S2x256x2048, .f32⟩
  | .local _ .vmem, ⟨14, _⟩ => ⟨S2x256x1024, .bf16⟩
  | .local _ .vmem, ⟨15, _⟩ => ⟨S2x256x1024, .bf16⟩
  | .local _ .vmem, ⟨16, _⟩ => ⟨S2048x2048, .bf16⟩
  | .local _ .vmem, ⟨17, _⟩ => ⟨S352x2048, .f32⟩
  | .local _ .vmem, ⟨18, _⟩ => ⟨S352x2048, .f32⟩
  | .local _ .vmem, ⟨19, _⟩ => ⟨S128x2048, .f32⟩
  | .local _ .vmem, ⟨20, _⟩ => ⟨S128x2048, .f32⟩
  | .local _ .vmem, ⟨21, _⟩ => ⟨S2x256x2048, .f32⟩
  | .local _ .vmem, ⟨22, _⟩ => ⟨S2x256x2048, .f32⟩
  | .local _ .vmem, ⟨23, _⟩ => ⟨S352x2048, .bf16⟩
  | .local _ .vmem, ⟨24, _⟩ => ⟨S352x2048, .bf16⟩
  | .local _ .vmem, ⟨25, _⟩ => ⟨S128x2048, .bf16⟩
  | .local _ .vmem, ⟨26, _⟩ => ⟨S128x2048, .bf16⟩
  | .local _ .vmem, ⟨27, _⟩ => ⟨S8x128x256, .f32⟩
  | .local _ .vmem, ⟨28, _⟩ => ⟨S8x128, .f32⟩
  | .local _ .vmem, ⟨29, _⟩ => ⟨S8x128, .f32⟩
  | .local _ .vmem, ⟨30, _⟩ => ⟨S2x256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![17], ![false]⟩

def k0_cond3 (i : grid0.Coords) : BitVec 1 :=
  let arg0 : BitVec 32 := BitVec.ofNat 32 (i 0).val
  let c0_i32_14 : BitVec 32 := 0#32
  let v22 : BitVec 1 := Scalar.cmpi .sgt arg0 c0_i32_14
  let c16_i32 : BitVec 32 := 16#32
  let v23 : BitVec 1 := Scalar.cmpi .slt arg0 c16_i32
  let v24 : BitVec 1 := Scalar.andi v22 v23
  let v25 : BitVec 32 := Scalar.extui v24
  let c0_i32_15 : BitVec 32 := 0#32
  let v26 : BitVec 1 := Scalar.cmpi .ne v25 c0_i32_15
  v26

def k0_cond4 (i : grid0.Coords) : BitVec 1 :=
  let arg0 : BitVec 32 := BitVec.ofNat 32 (i 0).val
  let c16_i32_16 : BitVec 32 := 16#32
  let v27 : BitVec 1 := Scalar.cmpi .eq arg0 c16_i32_16
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let c0_i32_11 : BitVec 32 := 0#32
  ![v17.toNat, v27.toNat, c1_i32_10.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let c0_i32_11 : BitVec 32 := 0#32
  ![v17.toNat, v27.toNat, c1_i32_10.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let c0_i32_10 : BitVec 32 := 0#32
  ![v17.toNat, v27.toNat, c2_i32.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S352x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S352x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8192x3072 : Shape := ⟨2, ![8192, 3072]⟩
abbrev S8192x128 : Shape := ⟨2, ![8192, 128]⟩
abbrev S1x128 : Shape := ⟨2, ![1, 128]⟩
abbrev S1x1024 : Shape := ⟨2, ![1, 1024]⟩
abbrev S8192x2048 : Shape := ⟨2, ![8192, 2048]⟩
abbrev S8192x1024 : Shape := ⟨2, ![8192, 1024]⟩
abbrev S2048x2048 : Shape := ⟨2, ![2048, 2048]⟩
abbrev S5632x2048 : Shape := ⟨2, ![5632, 2048]⟩
abbrev S4x2048x2048 : Shape := ⟨3, ![4, 2048, 2048]⟩
abbrev S4x2048x512 : Shape := ⟨3, ![4, 2048, 512]⟩
abbrev S4x2048x1024 : Shape := ⟨3, ![4, 2048, 1024]⟩
abbrev S4x2048x128 : Shape := ⟨3, ![4, 2048, 128]⟩
abbrev S4x2048x4 : Shape := ⟨3, ![4, 2048, 4]⟩
abbrev S4x2048x4x128 : Shape := ⟨4, ![4, 2048, 4, 128]⟩
abbrev S4x4x2048x128 : Shape := ⟨4, ![4, 4, 2048, 128]⟩
abbrev S4x2048x4x256 : Shape := ⟨4, ![4, 2048, 4, 256]⟩
abbrev S4x4x2048x256 : Shape := ⟨4, ![4, 4, 2048, 256]⟩
abbrev S4x4x2048 : Shape := ⟨3, ![4, 4, 2048]⟩
abbrev S_ : Shape := ⟨0, ![]⟩
abbrev S4x4x32x64x128 : Shape := ⟨5, ![4, 4, 32, 64, 128]⟩
abbrev S32x4x4x64x128 : Shape := ⟨5, ![32, 4, 4, 64, 128]⟩
abbrev S4x4x32x64x256 : Shape := ⟨5, ![4, 4, 32, 64, 256]⟩
abbrev S32x4x4x64x256 : Shape := ⟨5, ![32, 4, 4, 64, 256]⟩
abbrev S4x4x32x64 : Shape := ⟨4, ![4, 4, 32, 64]⟩
abbrev S32x4x4x64 : Shape := ⟨4, ![32, 4, 4, 64]⟩
abbrev S64x64 : Shape := ⟨2, ![64, 64]⟩
abbrev S4x4x256x128 : Shape := ⟨4, ![4, 4, 256, 128]⟩
abbrev S4x4x128 : Shape := ⟨3, ![4, 4, 128]⟩
abbrev S4x4 : Shape := ⟨2, ![4, 4]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x2048x4x1 : Shape := ⟨4, ![4, 2048, 4, 1]⟩
abbrev S1024 : Shape := ⟨1, ![1024]⟩
abbrev S1x1x1024 : Shape := ⟨3, ![1, 1, 1024]⟩

abbrev nBuf : Space → Nat
  | .hbm => 243
  | .vmem => 0
  | .smem => 0
  | _ => 0

abbrev hbmTy0_0 (i : Nat) : BufTy := match i % 128 with
  | 0 => ⟨S8192x3072, .bf16⟩
  | 1 => ⟨S8192x128, .f32⟩
  | 2 => ⟨S1x128, .f32⟩
  | 3 => ⟨S1x1024, .f32⟩
  | 4 => ⟨S8192x2048, .f32⟩
  | 5 => ⟨S8192x1024, .bf16⟩
  | 6 => ⟨S2048x2048, .bf16⟩
  | 7 => ⟨S5632x2048, .f32⟩
  | 8 => ⟨S2048x2048, .f32⟩
  | 9 => ⟨S8192x2048, .bf16⟩
  | 10 => ⟨S8192x2048, .f32⟩
  | 11 => ⟨S4x2048x2048, .f32⟩
  | 12 => ⟨S4x2048x512, .f32⟩
  | 13 => ⟨S4x2048x512, .f32⟩
  | 14 => ⟨S4x2048x1024, .f32⟩
  | 15 => ⟨S8192x128, .f32⟩
  | 16 => ⟨S8192x128, .f32⟩
  | 17 => ⟨S4x2048x128, .f32⟩
  | 18 => ⟨S4x2048x4, .f32⟩
  | 19 => ⟨S4x2048x4, .f32⟩
  | 20 => ⟨S4x2048x4x128, .f32⟩
  | 21 => ⟨S4x4x2048x128, .f32⟩
  | 22 => ⟨S4x2048x4x128, .f32⟩
  | 23 => ⟨S4x4x2048x128, .f32⟩
  | 24 => ⟨S4x2048x4x256, .f32⟩
  | 25 => ⟨S4x4x2048x256, .f32⟩
  | 26 => ⟨S4x4x2048, .f32⟩
  | 27 => ⟨S4x4x2048, .f32⟩
  | 28 => ⟨S4x4x2048, .f32⟩
  | 29 => ⟨S_, .f32⟩
  | 30 => ⟨S4x4x2048, .f32⟩
  | 31 => ⟨S4x4x2048, .f32⟩
  | 32 => ⟨S4x4x2048, .f32⟩
  | 33 => ⟨S4x4x2048, .f32⟩
  | 34 => ⟨S4x4x2048, .i1⟩
  | 35 => ⟨S4x4x2048, .f32⟩
  | 36 => ⟨S4x4x2048, .f32⟩
  | 37 => ⟨S4x4x2048, .f32⟩
  | 38 => ⟨S4x4x2048, .f32⟩
  | 39 => ⟨S4x4x2048, .f32⟩
  | 40 => ⟨S4x4x2048, .f32⟩
  | 41 => ⟨S4x4x2048, .f32⟩
  | 42 => ⟨S4x4x2048, .f32⟩
  | 43 => ⟨S4x4x2048, .f32⟩
  | 44 => ⟨S4x4x32x64x128, .f32⟩
  | 45 => ⟨S32x4x4x64x128, .f32⟩
  | 46 => ⟨S4x4x32x64x128, .f32⟩
  | 47 => ⟨S32x4x4x64x128, .f32⟩
  | 48 => ⟨S4x4x32x64x256, .f32⟩
  | 49 => ⟨S32x4x4x64x256, .f32⟩
  | 50 => ⟨S4x4x32x64, .f32⟩
  | 51 => ⟨S32x4x4x64, .f32⟩
  | 52 => ⟨S4x4x32x64, .f32⟩
  | 53 => ⟨S32x4x4x64, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S_, .f32⟩
  | 66 => ⟨S4x4x256x128, .f32⟩
  | 67 => ⟨S_, .f32⟩
  | 68 => ⟨S4x4x128, .f32⟩
  | 69 => ⟨S_, .f32⟩
  | 70 => ⟨S4x4, .f32⟩
  | 71 => ⟨S_, .f32⟩
  | 72 => ⟨S32x4x4x64x256, .f32⟩
  | 73 => ⟨S_, .i32⟩
  | 74 => ⟨S32x4x4x64x128, .f32⟩
  | 75 => ⟨S32x4x4x64x128, .f32⟩
  | 76 => ⟨S32x4x4x64x256, .f32⟩
  | 77 => ⟨S32x4x4x64, .f32⟩
  | 78 => ⟨S32x4x4x64, .f32⟩
  | 79 => ⟨S64x64, .i1⟩
  | 80 => ⟨S_, .i32⟩
  | 81 => ⟨S4x4x256x128, .f32⟩
  | 82 => ⟨S4x4x128, .f32⟩
  | 83 => ⟨S4x4, .f32⟩
  | 84 => ⟨S32x4x4x64x256, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x4x4x64x128, .f32⟩
  | 92 => ⟨S4x4x64x128, .f32⟩
  | 93 => ⟨S_, .i32⟩
  | 94 => ⟨S_, .i32⟩
  | 95 => ⟨S_, .i32⟩
  | 96 => ⟨S_, .i32⟩
  | 97 => ⟨S1x4x4x64x128, .f32⟩
  | 98 => ⟨S4x4x64x128, .f32⟩
  | 99 => ⟨S_, .i32⟩
  | 100 => ⟨S_, .i32⟩
  | 101 => ⟨S_, .i32⟩
  | 102 => ⟨S_, .i32⟩
  | 103 => ⟨S1x4x4x64x256, .f32⟩
  | 104 => ⟨S4x4x64x256, .f32⟩
  | 105 => ⟨S_, .i32⟩
  | 106 => ⟨S_, .i32⟩
  | 107 => ⟨S_, .i32⟩
  | 108 => ⟨S1x4x4x64, .f32⟩
  | 109 => ⟨S4x4x64, .f32⟩
  | 110 => ⟨S_, .i32⟩
  | 111 => ⟨S_, .i32⟩
  | 112 => ⟨S_, .i32⟩
  | 113 => ⟨S1x4x4x64, .f32⟩
  | 114 => ⟨S4x4x64, .f32⟩
  | 115 => ⟨S_, .f32⟩
  | 116 => ⟨S_, .f32⟩
  | 117 => ⟨S4x4x64, .f32⟩
  | 118 => ⟨S4x4x64x1, .f32⟩
  | 119 => ⟨S4x4x1x64, .f32⟩
  | 120 => ⟨S4x4x64x64, .f32⟩
  | 121 => ⟨S4x4x64x64, .f32⟩
  | 122 => ⟨S4x4x64x64, .f32⟩
  | 123 => ⟨S4x4x1x64, .f32⟩
  | 124 => ⟨S4x4x64x64, .f32⟩
  | 125 => ⟨S4x4x64x64, .f32⟩
  | 126 => ⟨S_, .f32⟩
  | 127 => ⟨S_, .f32⟩
  | _ => ⟨S8192x3072, .bf16⟩

abbrev hbmTy0_1 (i : Nat) : BufTy := match i % 128 with
  | 0 => ⟨S4x4x64x64, .i1⟩
  | 1 => ⟨S4x4x64x64, .f32⟩
  | 2 => ⟨S4x4x64x64, .f32⟩
  | 3 => ⟨S4x4x1, .f32⟩
  | 4 => ⟨S4x4x64, .f32⟩
  | 5 => ⟨S4x4x64, .f32⟩
  | 6 => ⟨S_, .f32⟩
  | 7 => ⟨S4x4x64, .f32⟩
  | 8 => ⟨S4x4x64, .f32⟩
  | 9 => ⟨S4x4x64x1, .f32⟩
  | 10 => ⟨S4x4x64x64, .f32⟩
  | 11 => ⟨S4x4x64x64, .f32⟩
  | 12 => ⟨S4x4x64x64, .f32⟩
  | 13 => ⟨S4x4x64, .f32⟩
  | 14 => ⟨S4x4x64, .f32⟩
  | 15 => ⟨S4x4x64x64, .f32⟩
  | 16 => ⟨S4x4x64x64, .f32⟩
  | 17 => ⟨S4x4x64x1, .f32⟩
  | 18 => ⟨S4x4x64x256, .f32⟩
  | 19 => ⟨S4x4x64x256, .f32⟩
  | 20 => ⟨S4x4x64x256, .f32⟩
  | 21 => ⟨S4x4x64x256, .f32⟩
  | 22 => ⟨S4x4x64x256, .f32⟩
  | 23 => ⟨S4x4x64, .f32⟩
  | 24 => ⟨S4x4x64, .f32⟩
  | 25 => ⟨S_, .f32⟩
  | 26 => ⟨S4x4x64, .f32⟩
  | 27 => ⟨S4x4x64, .f32⟩
  | 28 => ⟨S4x4x64, .f32⟩
  | 29 => ⟨S4x4x64, .f32⟩
  | 30 => ⟨S4x4x64, .f32⟩
  | 31 => ⟨S4x4x64, .f32⟩
  | 32 => ⟨S4x4x64x1, .f32⟩
  | 33 => ⟨S4x4x64x256, .f32⟩
  | 34 => ⟨S4x4x64x256, .f32⟩
  | 35 => ⟨S4x4x1, .f32⟩
  | 36 => ⟨S4x4, .f32⟩
  | 37 => ⟨S4x4x1, .f32⟩
  | 38 => ⟨S4x4x64, .f32⟩
  | 39 => ⟨S4x4x64, .f32⟩
  | 40 => ⟨S4x4x64, .f32⟩
  | 41 => ⟨S4x4, .f32⟩
  | 42 => ⟨S_, .f32⟩
  | 43 => ⟨S4x4, .f32⟩
  | 44 => ⟨S4x4, .f32⟩
  | 45 => ⟨S4x4, .f32⟩
  | 46 => ⟨S4x4, .f32⟩
  | 47 => ⟨S4x4, .f32⟩
  | 48 => ⟨S4x4x1, .f32⟩
  | 49 => ⟨S4x4x64, .f32⟩
  | 50 => ⟨S4x4x64, .f32⟩
  | 51 => ⟨S4x4x64, .f32⟩
  | 52 => ⟨S4x4x1x1, .f32⟩
  | 53 => ⟨S4x4x256x128, .f32⟩
  | 54 => ⟨S4x4x256x128, .f32⟩
  | 55 => ⟨S4x4x64x1, .f32⟩
  | 56 => ⟨S4x4x64x128, .f32⟩
  | 57 => ⟨S4x4x64x128, .f32⟩
  | 58 => ⟨S4x4x256x128, .f32⟩
  | 59 => ⟨S4x4x256x128, .f32⟩
  | 60 => ⟨S4x4x1, .f32⟩
  | 61 => ⟨S4x4x128, .f32⟩
  | 62 => ⟨S4x4x128, .f32⟩
  | 63 => ⟨S4x4x128, .f32⟩
  | 64 => ⟨S4x4x128, .f32⟩
  | 65 => ⟨S1x4x4x64x256, .f32⟩
  | 66 => ⟨S_, .i32⟩
  | 67 => ⟨S_, .i32⟩
  | 68 => ⟨S_, .i32⟩
  | 69 => ⟨S_, .i32⟩
  | 70 => ⟨S32x4x4x64x256, .f32⟩
  | 71 => ⟨S_, .i32⟩
  | 72 => ⟨S_, .i32⟩
  | 73 => ⟨S4x4x32x64x256, .f32⟩
  | 74 => ⟨S4x4x2048x256, .f32⟩
  | 75 => ⟨S4x2048x4x256, .f32⟩
  | 76 => ⟨S4x2048x4x256, .f32⟩
  | 77 => ⟨S_, .f32⟩
  | 78 => ⟨S4x2048x4, .f32⟩
  | 79 => ⟨S4x2048x4x1, .f32⟩
  | 80 => ⟨S_, .f32⟩
  | 81 => ⟨S4x2048x4x1, .f32⟩
  | 82 => ⟨S4x2048x4x1, .f32⟩
  | 83 => ⟨S_, .f32⟩
  | 84 => ⟨S4x2048x4x1, .f32⟩
  | 85 => ⟨S4x2048x4x1, .f32⟩
  | 86 => ⟨S4x2048x4x1, .f32⟩
  | 87 => ⟨S4x2048x4x256, .f32⟩
  | 88 => ⟨S4x2048x4x256, .f32⟩
  | 89 => ⟨S4x2048x1024, .f32⟩
  | 90 => ⟨S1024, .f32⟩
  | 91 => ⟨S1x1x1024, .f32⟩
  | 92 => ⟨S4x2048x1024, .f32⟩
  | 93 => ⟨S4x2048x1024, .f32⟩
  | 94 => ⟨S8192x1024, .bf16⟩
  | 95 => ⟨S8192x1024, .f32⟩
  | 96 => ⟨S4x2048x1024, .f32⟩
  | 97 => ⟨S4x2048x1024, .f32⟩
  | 98 => ⟨S4x2048x1024, .f32⟩
  | 99 => ⟨S_, .f32⟩
  | 100 => ⟨S4x2048x1024, .f32⟩
  | 101 => ⟨S4x2048x1024, .f32⟩
  | 102 => ⟨S_, .f32⟩
  | 103 => ⟨S4x2048x1024, .f32⟩
  | 104 => ⟨S4x2048x1024, .f32⟩
  | 105 => ⟨S4x2048x1024, .f32⟩
  | 106 => ⟨S8192x1024, .f32⟩
  | 107 => ⟨S4x2048x1024, .f32⟩
  | 108 => ⟨S4x2048x2048, .f32⟩
  | 109 => ⟨S4x2048x2048, .f32⟩
  | 110 => ⟨S2048x2048, .f32⟩
  | 111 => ⟨S4x2048x2048, .f32⟩
  | 112 => ⟨S4x2048x2048, .f32⟩
  | 113 => ⟨S5632x2048, .bf16⟩
  | 114 => ⟨S2048x2048, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v31 : Ref sig .tc := ⟨.hbm, 64, rfl⟩
abbrev main_cst : Ref sig .tc := ⟨.hbm, 65, rfl⟩
abbrev main_v32 : Ref sig .tc := ⟨.hbm, 66, rfl⟩
abbrev main_cst_0 : Ref sig .tc := ⟨.hbm, 67, rfl⟩
abbrev main_v33 : Ref sig .tc := ⟨.hbm, 68, rfl⟩
abbrev main_cst_1 : Ref sig .tc := ⟨.hbm, 69, rfl⟩
abbrev main_v34 : Ref sig .tc := ⟨.hbm, 70, rfl⟩
abbrev main_cst_2 : Ref sig .tc := ⟨.hbm, 71, rfl⟩
abbrev main_v35 : Ref sig .tc := ⟨.hbm, 72, rfl⟩
abbrev main_c_3 : Ref sig .tc := ⟨.hbm, 73, rfl⟩
abbrev main_v36_0 : Ref sig .tc := ⟨.hbm, 74, rfl⟩
abbrev main_v36_1 : Ref sig .tc := ⟨.hbm, 75, rfl⟩
abbrev main_v36_2 : Ref sig .tc := ⟨.hbm, 76, rfl⟩
abbrev main_v36_3 : Ref sig .tc := ⟨.hbm, 77, rfl⟩
abbrev main_v36_4 : Ref sig .tc := ⟨.hbm, 78, rfl⟩
abbrev main_v36_5 : Ref sig .tc := ⟨.hbm, 79, rfl⟩
abbrev main_v36_6 : Ref sig .tc := ⟨.hbm, 80, rfl⟩
abbrev main_v36_7 : Ref sig .tc := ⟨.hbm, 81, rfl⟩
abbrev main_v36_8 : Ref sig .tc := ⟨.hbm, 82, rfl⟩
abbrev main_v36_9 : Ref sig .tc := ⟨.hbm, 83, rfl⟩
abbrev main_v36_10 : Ref sig .tc := ⟨.hbm, 84, rfl⟩
abbrev main_while0c_c_19 : Ref sig .tc := ⟨.hbm, 85, rfl⟩
abbrev main_while0c_v74 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v74 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v75 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v76 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_v0 : Ref sig .tc := ⟨.hbm, 108, rfl⟩
abbrev main_while0b_v77 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_v0 : Ref sig .tc := ⟨.hbm, 113, rfl⟩
abbrev main_while0b_v78 : Ref sig .tc := ⟨.hbm, 114, rfl⟩
abbrev main_while0b_call7_call0_cst : Ref sig .tc := ⟨.hbm, 115, rfl⟩
abbrev main_while0b_call7_call0_v0 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_cst_19 : Ref sig .tc := ⟨.hbm, 126, rfl⟩
abbrev main_while0b_call8_v0 : Ref sig .tc := ⟨.hbm, 127, rfl⟩
abbrev main_while0b_call8_v1 : Ref sig .tc := ⟨.hbm, 128, rfl⟩
abbrev main_while0b_call8_v2 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_cst_20 : Ref sig .tc := ⟨.hbm, 134, rfl⟩
abbrev main_while0b_v92 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_v103 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_cst_21 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_v119 : Ref sig .tc := ⟨.hbm, 163, rfl⟩
abbrev main_while0b_v120 : Ref sig .tc := ⟨.hbm, 164, rfl⟩
abbrev main_while0b_v121 : Ref sig .tc := ⟨.hbm, 165, rfl⟩
abbrev main_while0b_v122 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_cst_22 : Ref sig .tc := ⟨.hbm, 170, rfl⟩
abbrev main_while0b_v126 : Ref sig .tc := ⟨.hbm, 171, rfl⟩
abbrev main_while0b_v127 : Ref sig .tc := ⟨.hbm, 172, rfl⟩
abbrev main_while0b_v128 : Ref sig .tc := ⟨.hbm, 173, rfl⟩
abbrev main_while0b_v129 : Ref sig .tc := ⟨.hbm, 174, rfl⟩
abbrev main_while0b_v130 : Ref sig .tc := ⟨.hbm, 175, rfl⟩
abbrev main_while0b_v131 : Ref sig .tc := ⟨.hbm, 176, rfl⟩
abbrev main_while0b_v132 : Ref sig .tc := ⟨.hbm, 177, rfl⟩
abbrev main_while0b_v133 : Ref sig .tc := ⟨.hbm, 178, rfl⟩
abbrev main_while0b_v134 : Ref sig .tc := ⟨.hbm, 179, rfl⟩
abbrev main_while0b_v135 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_v140 : Ref sig .tc := ⟨.hbm, 185, rfl⟩
abbrev main_while0b_v141 : Ref sig .tc := ⟨.hbm, 186, rfl⟩
abbrev main_while0b_v142 : Ref sig .tc := ⟨.hbm, 187, rfl⟩
abbrev main_while0b_v143 : Ref sig .tc := ⟨.hbm, 188, rfl⟩
abbrev main_while0b_v144 : Ref sig .tc := ⟨.hbm, 189, rfl⟩
abbrev main_while0b_v145 : Ref sig .tc := ⟨.hbm, 190, rfl⟩
abbrev main_while0b_v146 : Ref sig .tc := ⟨.hbm, 191, rfl⟩
abbrev main_while0b_v147 : Ref sig .tc := ⟨.hbm, 192, rfl⟩
abbrev main_while0b_call9_v0 : Ref sig .tc := ⟨.hbm, 193, rfl⟩
abbrev main_while0b_call9_c : Ref sig .tc := ⟨.hbm, 194, rfl⟩
abbrev main_while0b_call9_c_0 : Ref sig .tc := ⟨.hbm, 195, rfl⟩
abbrev main_while0b_call9_c_1 : Ref sig .tc := ⟨.hbm, 196, rfl⟩
abbrev main_while0b_call9_c_2 : Ref sig .tc := ⟨.hbm, 197, rfl⟩
abbrev main_while0b_v148 : Ref sig .tc := ⟨.hbm, 198, rfl⟩
abbrev main_while0b_c_23 : Ref sig .tc := ⟨.hbm, 199, rfl⟩
abbrev main_while0b_v149 : Ref sig .tc := ⟨.hbm, 200, rfl⟩
abbrev main_v37 : Ref sig .tc := ⟨.hbm, 201, rfl⟩
abbrev main_v38 : Ref sig .tc := ⟨.hbm, 202, rfl⟩
abbrev main_v39 : Ref sig .tc := ⟨.hbm, 203, rfl⟩
abbrev main_v40 : Ref sig .tc := ⟨.hbm, 204, rfl⟩
abbrev main_cst_4 : Ref sig .tc := ⟨.hbm, 205, rfl⟩
abbrev main_v41 : Ref sig .tc := ⟨.hbm, 206, rfl⟩
abbrev main_v42 : Ref sig .tc := ⟨.hbm, 207, rfl⟩
abbrev main_cst_5 : Ref sig .tc := ⟨.hbm, 208, rfl⟩
abbrev main_v43 : Ref sig .tc := ⟨.hbm, 209, rfl⟩
abbrev main_v44 : Ref sig .tc := ⟨.hbm, 210, rfl⟩
abbrev main_cst_6 : Ref sig .tc := ⟨.hbm, 211, rfl⟩
abbrev main_v45 : Ref sig .tc := ⟨.hbm, 212, rfl⟩
abbrev main_v46 : Ref sig .tc := ⟨.hbm, 213, rfl⟩
abbrev main_v47 : Ref sig .tc := ⟨.hbm, 214, rfl⟩
abbrev main_v48 : Ref sig .tc := ⟨.hbm, 215, rfl⟩
abbrev main_v49 : Ref sig .tc := ⟨.hbm, 216, rfl⟩
abbrev main_v50 : Ref sig .tc := ⟨.hbm, 217, rfl⟩
abbrev main_v51 : Ref sig .tc := ⟨.hbm, 218, rfl⟩
abbrev main_v52 : Ref sig .tc := ⟨.hbm, 219, rfl⟩
abbrev main_v53 : Ref sig .tc := ⟨.hbm, 220, rfl⟩
abbrev main_v54 : Ref sig .tc := ⟨.hbm, 221, rfl⟩
abbrev main_v55 : Ref sig .tc := ⟨.hbm, 222, rfl⟩
abbrev main_v56 : Ref sig .tc := ⟨.hbm, 223, rfl⟩
abbrev main_v57 : Ref sig .tc := ⟨.hbm, 224, rfl⟩
abbrev main_v58 : Ref sig .tc := ⟨.hbm, 225, rfl⟩
abbrev main_v59 : Ref sig .tc := ⟨.hbm, 226, rfl⟩
abbrev main_cst_7 : Ref sig .tc := ⟨.hbm, 227, rfl⟩
abbrev main_v60 : Ref sig .tc := ⟨.hbm, 228, rfl⟩
abbrev main_v61 : Ref sig .tc := ⟨.hbm, 229, rfl⟩
abbrev main_cst_8 : Ref sig .tc := ⟨.hbm, 230, rfl⟩
abbrev main_v62 : Ref sig .tc := ⟨.hbm, 231, rfl⟩
abbrev main_v63 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_v70 : Ref sig .tc := ⟨.hbm, 239, rfl⟩
abbrev main_v71 : Ref sig .tc := ⟨.hbm, 240, rfl⟩
abbrev main_v72 : Ref sig .tc := ⟨.hbm, 241, rfl⟩
abbrev main_v73 : Ref sig .tc := ⟨.hbm, 242, rfl⟩

abbrev nD : Nat := 1
abbrev τ : Topo := Topo.v7x

variable {F : FTy → Type} [FloatOps F]

abbrev main_while0_count : Scf.Loop 32 := ⟨0#32, 32#32, 1#32⟩
-- ==== Ple.lean ====
abbrev S8192x2048 : Shape := ⟨2, ![8192, 2048]⟩
abbrev S1x2048 : Shape := ⟨2, ![1, 2048]⟩
abbrev S8192x256 : Shape := ⟨2, ![8192, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x256, .f32⟩
  | .hbm, ⟨3, _⟩ => ⟨S2048x2048, .bf16⟩
  | .hbm, ⟨4, _⟩ => ⟨S256x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S8192x2048 : Shape := ⟨2, ![8192, 2048]⟩
abbrev S1x2048 : Shape := ⟨2, ![1, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x256, .f32⟩
  | .hbm, ⟨3, _⟩ => ⟨S2048x2048, .bf16⟩
  | .hbm, ⟨4, _⟩ => ⟨S256x2048, .bf16⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S256x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S11x8x512 : Shape := ⟨3, ![11, 8, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩
abbrev S512x512 : Shape := ⟨2, ![512, 512]⟩
abbrev S520x512 : Shape := ⟨2, ![520, 512]⟩

abbrev nBuf : Space → Nat
  | .hbm => 7
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S1024x2048, .f32⟩
  | .local _ .vmem, ⟨18, _⟩ => ⟨S1024x2048, .f32⟩
  | .local _ .vmem, ⟨19, _⟩ => ⟨S1024x2048, .bf16⟩
  | .local _ .vmem, ⟨20, _⟩ => ⟨S11x8x512, .f32⟩
  | .local _ .vmem, ⟨21, _⟩ => ⟨S11x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k0_off2 (i : grid0.Coords) : Fin 3 → Nat :=
  let arg1 : BitVec 32 := BitVec.ofNat 32 (i 1).val
  let v13 : Index := Scalar.indexCast arg1
  let c0 : Index := 0#32
  let c0_5 : Index := 0#32
  ![v13.toNat, 0, 0]
def k0_cond2 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v16 : BitVec 32 := Scalar.extui v10
  let c0_i32_6 : BitVec 32 := 0#32
  let v17 : BitVec 1 := Scalar.cmpi .ne v16 c0_i32_6
  v17

def k0_off3 (i : grid0.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k0_cond3 (i : grid0.Coords) : BitVec 1 :=
  let arg1 : BitVec 32 := BitVec.ofNat 32 (i 1).val
  let c0_i32_9 : BitVec 32 := 0#32
  let v21 : BitVec 1 := Scalar.cmpi .eq arg1 c0_i32_9
  let v22 : BitVec 32 := Scalar.extui v21
  let c0_i32_10 : BitVec 32 := 0#32
  let v23 : BitVec 1 := Scalar.cmpi .ne v22 c0_i32_10
  v23

def k0_off4 (i : grid0.Coords) : Fin 3 → Nat :=
  let arg1 : BitVec 32 := BitVec.ofNat 32 (i 1).val
  let v167 : Index := Scalar.indexCast arg1
  let c0_75 : Index := 0#32
  let c0_76 : Index := 0#32
  ![v167.toNat, 0, 0]
def k0_cond4 (i : grid0.Coords) : BitVec 1 :=
  let arg1 : BitVec 32 := BitVec.ofNat 32 (i 1).val
  let c0_i32_11 : BitVec 32 := 0#32
  let v24 : BitVec 1 := Scalar.cmpi .sgt arg1 c0_i32_11
  let v25 : BitVec 32 := Scalar.extui v24
  let c0_i32_12 : BitVec 32 := 0#32
  let v26 : BitVec 1 := Scalar.cmpi .ne v25 c0_i32_12
  v26

def k0_off5 (i : grid0.Coords) : Fin 3 → Nat :=
  let arg1 : BitVec 32 := BitVec.ofNat 32 (i 1).val
  let v133 : Index := Scalar.indexCast arg1
  let c0_57 : Index := 0#32
  let c0_58 : Index := 0#32
  ![v133.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S8192x2048 : Shape := ⟨2, ![8192, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2050x11264 : Shape := ⟨3, ![4, 2050, 11264]⟩
abbrev S11264 : Shape := ⟨1, ![11264]⟩
abbrev S1x1x11264 : Shape := ⟨3, ![1, 1, 11264]⟩
abbrev S4x2048x5632 : Shape := ⟨3, ![4, 2048, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S4x2048x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S2048x11264, .f32⟩
  | .hbm, ⟨25, _⟩ => ⟨S4x2048x11264, .f32⟩
  | .hbm, ⟨26, _⟩ => ⟨S_, .i32⟩
  | .hbm, ⟨27, _⟩ => ⟨S_, .f32⟩
  | .hbm, ⟨28, _⟩ => ⟨S4x2050x11264, .f32⟩
  | .hbm, ⟨29, _⟩ => ⟨S4x2048x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S4x2048x11264, .f32⟩
  | .hbm, ⟨34, _⟩ => ⟨S4x2048x11264, .f32⟩
  | .hbm, ⟨35, _⟩ => ⟨S4x2048x11264, .f32⟩
  | .hbm, ⟨36, _⟩ => ⟨S1x11264, .f32⟩
  | .hbm, ⟨37, _⟩ => ⟨S11264, .f32⟩
  | .hbm, ⟨38, _⟩ => ⟨S1x1x11264, .f32⟩
  | .hbm, ⟨39, _⟩ => ⟨S4x2048x11264, .f32⟩
  | .hbm, ⟨40, _⟩ => ⟨S4x2048x11264, .f32⟩
  | .hbm, ⟨41, _⟩ => ⟨S4x2048x11264, .f32⟩
  | .hbm, ⟨42, _⟩ => ⟨S4x2048x11264, .f32⟩
  | .hbm, ⟨43, _⟩ => ⟨S1x11264, .f32⟩
  | .hbm, ⟨44, _⟩ => ⟨S11264, .f32⟩
  | .hbm, ⟨45, _⟩ => ⟨S1x1x11264, .f32⟩
  | .hbm, ⟨46, _⟩ => ⟨S4x2048x11264, .f32⟩
  | .hbm, ⟨47, _⟩ => ⟨S4x2048x11264, .f32⟩
  | .hbm, ⟨48, _⟩ => ⟨S4x2048x11264, .f32⟩
  | .hbm, ⟨49, _⟩ => ⟨S11264, .f32⟩
  | .hbm, ⟨50, _⟩ => ⟨S1x1x11264, .f32⟩
  | .hbm, ⟨51, _⟩ => ⟨S4x2048x11264, .f32⟩
  | .hbm, ⟨52, _⟩ => ⟨S4x2048x11264, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S_, .f32⟩
  | .hbm, ⟨58, _⟩ => ⟨S4x2048x5632, .f32⟩
  | .hbm, ⟨59, _⟩ => ⟨S4x2048x5632, .f32⟩
  | .hbm, ⟨60, _⟩ => ⟨S_, .f32⟩
  | .hbm, ⟨61, _⟩ => ⟨S4x2048x5632, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S5632x2048, .f32⟩
  | .hbm, ⟨66, _⟩ => ⟨S4x2048x2048, .f32⟩
  | .hbm, ⟨67, _⟩ => ⟨S4x2048x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Conv.lean ====
abbrev S8192x2048 : Shape := ⟨2, ![8192, 2048]⟩
abbrev S3072x2048 : Shape := ⟨2, ![3072, 2048]⟩
abbrev S3x1024 : Shape := ⟨2, ![3, 1024]⟩
abbrev S2048x11264 : Shape := ⟨2, ![2048, 11264]⟩
abbrev S2048x2048 : Shape := ⟨2, ![2048, 2048]⟩
abbrev S8192x1024 : Shape := ⟨2, ![8192, 1024]⟩
abbrev S1024x2048 : Shape := ⟨2, ![1024, 2048]⟩
abbrev S3x512 : Shape := ⟨2, ![3, 512]⟩
abbrev S128x11264 : Shape := ⟨2, ![128, 11264]⟩
abbrev S128x2048 : Shape := ⟨2, ![128, 2048]⟩
abbrev S1024x512 : Shape := ⟨2, ![1024, 512]⟩
abbrev S2x8x512 : Shape := ⟨3, ![2, 8, 512]⟩
abbrev S8x512 : Shape := ⟨2, ![8, 512]⟩
abbrev S1x8x512 : Shape := ⟨3, ![1, 8, 512]⟩
abbrev S256x2048 : Shape := ⟨2, ![256, 2048]⟩
abbrev S512x2048 : Shape := ⟨2, ![512, 2048]⟩
abbrev S256x512 : Shape := ⟨2, ![256, 512]⟩
abbrev S264x512 : Shape := ⟨2, ![264, 512]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S3072x2048, .bf16⟩
  | .hbm, ⟨2, _⟩ => ⟨S3x1024, .f32⟩
  | .hbm, ⟨3, _⟩ => ⟨S2048x11264, .f32⟩
  | .hbm, ⟨4, _⟩ => ⟨S2048x2048, .f32⟩
  | .hbm, ⟨5, _⟩ => ⟨S8192x1024, .bf16⟩
  | .hbm, ⟨6, _⟩ => ⟨S2048x11264, .bf16⟩
  | .hbm, ⟨7, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S3072x2048, .bf16⟩
  | .local _ .vmem, ⟨3, _⟩ => ⟨S3x512, .f32⟩
  | .local _ .vmem, ⟨4, _⟩ => ⟨S3x512, .f32⟩
  | .local _ .vmem, ⟨5, _⟩ => ⟨S128x11264, .f32⟩
  | .local _ .vmem, ⟨6, _⟩ => ⟨S128x11264, .f32⟩
  | .local _ .vmem, ⟨7, _⟩ => ⟨S128x2048, .f32⟩
  | .local _ .vmem, ⟨8, _⟩ => ⟨S128x2048, .f32⟩
  | .local _ .vmem, ⟨9, _⟩ => ⟨S1024x512, .bf16⟩
  | .local _ .vmem, ⟨10, _⟩ => ⟨S1024x512, .bf16⟩
  | .local _ .vmem, ⟨11, _⟩ => ⟨S128x11264, .bf16⟩
  | .local _ .vmem, ⟨12, _⟩ => ⟨S128x11264, .bf16⟩
  | .local _ .vmem, ⟨13, _⟩ => ⟨S128x2048, .bf16⟩
  | .local _ .vmem, ⟨14, _⟩ => ⟨S128x2048, .bf16⟩
  | .local _ .vmem, ⟨15, _⟩ => ⟨S2x8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c2_i32 : BitVec 32 := 2#32
  let c0_i32 : BitVec 32 := 0#32
  let v6 : BitVec 1 := Scalar.cmpi .eq c2_i32 c0_i32
  let c1_i32 : BitVec 32 := 1#32
  let v7 : BitVec 32 := Scalar.select v6 c1_i32 c2_i32
  let v8 : BitVec 32 := Scalar.remsi arg0 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let c0_i32_10 : BitVec 32 := 0#32
  let v16 : BitVec 1 := Scalar.cmpi .eq v15 c0_i32_10
  let v17 : BitVec 32 := Scalar.extui v16
  let c0_i32_11 : BitVec 32 := 0#32
  let v18 : BitVec 1 := Scalar.cmpi .ne v17 c0_i32_11
  v18

def k0_off1 (i : grid0.Coords) : Fin 3 → Nat :=
  let arg1 : BitVec 32 := BitVec.ofNat 32 (i 1).val
  let v183 : Index := Scalar.indexCast arg1
  let c0_82 : Index := 0#32
  let c0_83 : Index := 0#32
  ![v183.toNat, 0, 0]
def k0_off2 (i : grid0.Coords) : Fin 3 → Nat :=
  let arg1 : BitVec 32 := BitVec.ofNat 32 (i 1).val
  let v19 : Index := Scalar.indexCast arg1
  let c0_12 : Index := 0#32
  let c0_13 : Index := 0#32
  ![v19.toNat, 0, 0]
def k0_mult1 (i : grid0.Coords) : BitVec 32 :=
  let c0_i32_16 : BitVec 32 := 0#32
  let arg1 : BitVec 32 := BitVec.ofNat 32 (i 1).val
  let c512_i32 : BitVec 32 := 512#32
  let v23 : BitVec 32 := Scalar.muli arg1 c512_i32
  let v24 : BitVec 32 := Scalar.addi c0_i32_16 v23
  v24
def k0_off3 (i : grid0.Coords) (c0_i32_16 : BitVec 32) : Fin 2 → Nat :=
  let arg1 : BitVec 32 := BitVec.ofNat 32 (i 1).val
  let c512_i32 : BitVec 32 := 512#32
  let v23 : BitVec 32 := Scalar.muli arg1 c512_i32
  let v24 : BitVec 32 := Scalar.addi c0_i32_16 v23
  let v25 : BitVec 32 := v24
  let v26 : Index := Scalar.indexCast v25
  let c0_17 : Index := 0#32
  ![v26.toNat, 0]
def k0_mult2 (i : grid0.Coords) : BitVec 32 :=
  let c1024_i32 : BitVec 32 := 1024#32
  let arg1 : BitVec 32 := BitVec.ofNat 32 (i 1).val
  let c512_i32_18 : BitVec 32 := 512#32
  let v29 : BitVec 32 := Scalar.muli arg1 c512_i32_18
  let v30 : BitVec 32 := Scalar.addi c1024_i32 v29
  v30
def k0_mult3 (i : grid0.Coords) : BitVec 32 :=
  let c2048_i32 : BitVec 32 := 2048#32
  let arg1 : BitVec 32 := BitVec.ofNat 32 (i 1).val
  let c512_i32_21 : BitVec 32 := 512#32
  let v35 : BitVec 32 := Scalar.muli arg1 c512_i32_21
  let v36 : BitVec 32 := Scalar.addi c2048_i32 v35
  v36
def k0_mult4 (i : grid0.Coords) : BitVec 32 :=
  let c0_i32_26 : BitVec 32 := 0#32
  let arg1 : BitVec 32 := BitVec.ofNat 32 (i 1).val
  let c512_i32_25 : BitVec 32 := 512#32
  let v42 : BitVec 32 := Scalar.muli arg1 c512_i32_25
  let v43 : BitVec 32 := Scalar.addi c0_i32_26 v42
  v43
def k0_mult5 (i : grid0.Coords) : BitVec 32 :=
  let c1024_i32_30 : BitVec 32 := 1024#32
  let arg1 : BitVec 32 := BitVec.ofNat 32 (i 1).val
  let c512_i32_29 : BitVec 32 := 512#32
  let v48 : BitVec 32 := Scalar.muli arg1 c512_i32_29
  let v49 : BitVec 32 := Scalar.addi c1024_i32_30 v48
  v49
def k0_mult6 (i : grid0.Coords) : BitVec 32 :=
  let c2048_i32_34 : BitVec 32 := 2048#32
  let arg1 : BitVec 32 := BitVec.ofNat 32 (i 1).val
  let c512_i32_33 : BitVec 32 := 512#32
  let v54 : BitVec 32 := Scalar.muli arg1 c512_i32_33
  let v55 : BitVec 32 := Scalar.addi c2048_i32_34 v54
  v55
def k0_mult7 (i : grid0.Coords) : BitVec 32 :=
  let c0_i32_43 : BitVec 32 := 0#32
  let arg1 : BitVec 32 := BitVec.ofNat 32 (i 1).val
  let c512_i32_42 : BitVec 32 := 512#32
  let v81 : BitVec 32 := Scalar.muli arg1 c512_i32_42
  let v82 : BitVec 32 := Scalar.addi c0_i32_43 v81
  v82
def k0_mult8 (i : grid0.Coords) : BitVec 32 :=
  let c1024_i32_47 : BitVec 32 := 1024#32
  let arg1 : BitVec 32 := BitVec.ofNat 32 (i 1).val
  let c512_i32_46 : BitVec 32 := 512#32
  let v87 : BitVec 32 := Scalar.muli arg1 c512_i32_46
  let v88 : BitVec 32 := Scalar.addi c1024_i32_47 v87
  v88
def k0_mult9 (i : grid0.Coords) : BitVec 32 :=
  let c2048_i32_51 : BitVec 32 := 2048#32
  let arg1 : BitVec 32 := BitVec.ofNat 32 (i 1).val
  let c512_i32_50 : BitVec 32 := 512#32
  let v93 : BitVec 32 := Scalar.muli arg1 c512_i32_50
  let v94 : BitVec 32 := Scalar.addi c2048_i32_51 v93
  v94
def k0_mult10 (i : grid0.Coords) : BitVec 32 :=
  let c0_i32_60 : BitVec 32 := 0#32
  let arg1 : BitVec 32 := BitVec.ofNat 32 (i 1).val
  let c512_i32_59 : BitVec 32 := 512#32
  let v120 : BitVec 32 := Scalar.muli arg1 c512_i32_59
  let v121 : BitVec 32 := Scalar.addi c0_i32_60 v120
  v121
def k0_mult11 (i : grid0.Coords) : BitVec 32 :=
  let c1024_i32_64 : BitVec 32 := 1024#32
  let arg1 : BitVec 32 := BitVec.ofNat 32 (i 1).val
  let c512_i32_63 : BitVec 32 := 512#32
  let v126 : BitVec 32 := Scalar.muli arg1 c512_i32_63
  let v127 : BitVec 32 := Scalar.addi c1024_i32_64 v126
  v127
def k0_mult12 (i : grid0.Coords) : BitVec 32 :=
  let c2048_i32_68 : BitVec 32 := 2048#32
  let arg1 : BitVec 32 := BitVec.ofNat 32 (i 1).val
  let c512_i32_67 : BitVec 32 := 512#32
  let v132 : BitVec 32 := Scalar.muli arg1 c512_i32_67
  let v133 : BitVec 32 := Scalar.addi c2048_i32_68 v132
  v133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi c0_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvRefIdeal.lean ====
abbrev S8192x2048 : Shape := ⟨2, ![8192, 2048]⟩
abbrev S3072x2048 : Shape := ⟨2, ![3072, 2048]⟩
abbrev S3x1024 : Shape := ⟨2, ![3, 1024]⟩
abbrev S2048x11264 : Shape := ⟨2, ![2048, 11264]⟩
abbrev S2048x2048 : Shape := ⟨2, ![2048, 2048]⟩
abbrev S4x2048x2048 : Shape := ⟨3, ![4, 2048, 2048]⟩
abbrev S2048x3072 : Shape := ⟨2, ![2048, 3072]⟩
abbrev S4x2048x3072 : Shape := ⟨3, ![4, 2048, 3072]⟩
abbrev S4x2048x1024 : Shape := ⟨3, ![4, 2048, 1024]⟩
abbrev S_ : Shape := ⟨0, ![]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S3072x2048, .bf16⟩
  | .hbm, ⟨2, _⟩ => ⟨S3x1024, .f32⟩
  | .hbm, ⟨3, _⟩ => ⟨S2048x11264, .f32⟩
  | .hbm, ⟨4, _⟩ => ⟨S2048x2048, .f32⟩
  | .hbm, ⟨5, _⟩ => ⟨S8192x2048, .f32⟩
  | .hbm, ⟨6, _⟩ => ⟨S4x2048x2048, .f32⟩
  | .hbm, ⟨7, _⟩ => ⟨S3072x2048, .f32⟩
  | .hbm, ⟨8, _⟩ => ⟨S2048x3072, .f32⟩
  | .hbm, ⟨9, _⟩ => ⟨S4x2048x3072, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .i32⟩
  | .hbm, ⟨15, _⟩ => ⟨S_, .f32⟩
  | .hbm, ⟨16, _⟩ => ⟨S4x2050x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S8192x1024, .f32⟩
  | .hbm, ⟨39, _⟩ => ⟨S8192x1024, .bf16⟩
  | .hbm, ⟨40, _⟩ => ⟨S2048x11264, .bf16⟩
  | .hbm, ⟨41, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Proof.FfnIdealRun.lean ====
module

public import proofs.«01_k».proof.Proof.Gen.FfnIdeal.Frame.Runs

@[expose] public section

set_option maxRecDepth 16384

noncomputable section

namespace Cert.FfnIdeal.Halo

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- The body's run at a first column block of a sequence's first tile: from known contents of the two buffers that carry the last eight
    rows of a tile's projections, the body runs to its end, and the writes it made are the witness:
    the result block's (`L9`), the two carried buffers' (`LS1`, `LS2`) and the normed rows' (`LS0`). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S11x8x512 .f32) (harg13 : arg13.IsWhole) (arg14 : Memref sig .tc .vmem S11x8x512 .f32) (harg14 : arg14.IsWhole) (hc0 : cond0_0 i) (hc1 : cond0_1 i) (hc2 : cond0_2 i) (hc3 : ¬cond0_3 i)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (x8 : Vec F S512x2048 .bf16) (xs1 : Vec F S11x8x512 .f32) (xs2 : Vec F S11x8x512 .f32) :
    Σ' (L9 : List (View.Piece (Elt F) S1024x2048 .f32)) (LS1 : List (View.Piece (Elt F) S11x8x512 .f32)) (LS2 : List (View.Piece (Elt F) S11x8x512 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexact HS1
    iexact HS2

set_option maxHeartbeats 1000000 in
/-- The body's run at a later column block of a sequence's first tile: from known contents of the two buffers that carry the last eight
    rows of a tile's projections, the body runs to its end, and the writes it made are the witness:
    the result block's (`L9`), the two carried buffers' (`LS1`, `LS2`) and the normed rows' (`LS0`). -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S11x8x512 .f32) (harg13 : arg13.IsWhole) (arg14 : Memref sig .tc .vmem S11x8x512 .f32) (harg14 : arg14.IsWhole) (hc0 : cond0_0 i) (hc1 : cond0_1 i) (hc2 : ¬cond0_2 i) (hc3 : cond0_3 i)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (x8 : Vec F S512x2048 .bf16) (xo9 : Vec F S1024x2048 .f32) (xs0 : Vec F S1024x2048 .bf16) (xs1 : Vec F S11x8x512 .f32) (xs2 : Vec F S11x8x512 .f32) :
    Σ' (L9 : List (View.Piece (Elt F) S1024x2048 .f32)) (LS1 : List (View.Piece (Elt F) S11x8x512 .f32)) (LS2 : List (View.Piece (Elt F) S11x8x512 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], fun E K => ?run⟩
  case run =>
    simp only [cc0_ffn_eq_skeleton]; unfold cc0_ffn_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexact HS1
    iexact HS2

set_option maxHeartbeats 1000000 in
/-- The body's run at a first column block of a later tile: from known contents of the two buffers that carry the last eight
    rows of a tile's projections, the body runs to its end, and the writes it made are the witness:
    the result block's (`L9`), the two carried buffers' (`LS1`, `LS2`) and the normed rows' (`LS0`). -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S11x8x512 .f32) (harg13 : arg13.IsWhole) (arg14 : Memref sig .tc .vmem S11x8x512 .f32) (harg14 : arg14.IsWhole) (hc0 : ¬cond0_0 i) (hc1 : ¬cond0_1 i) (hc2 : cond0_2 i) (hc3 : ¬cond0_3 i)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (x8 : Vec F S512x2048 .bf16) (xs1 : Vec F S11x8x512 .f32) (xs2 : Vec F S11x8x512 .f32) :
    Σ' (L9 : List (View.Piece (Elt F) S1024x2048 .f32)) (LS1 : List (View.Piece (Elt F) S11x8x512 .f32)) (LS2 : List (View.Piece (Elt F) S11x8x512 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexact HS1
    iexact HS2

set_option maxHeartbeats 1000000 in
/-- The body's run at a later column block of a later tile: from known contents of the two buffers that carry the last eight
    rows of a tile's projections, the body runs to its end, and the writes it made are the witness:
    the result block's (`L9`), the two carried buffers' (`LS1`, `LS2`) and the normed rows' (`LS0`). -/
noncomputable def kernelRun0_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1024x2048 .f32) (harg11 : arg11.IsWhole) (arg12 : Memref sig .tc .vmem S1024x2048 .bf16) (harg12 : arg12.IsWhole) (arg13 : Memref sig .tc .vmem S11x8x512 .f32) (harg13 : arg13.IsWhole) (arg14 : Memref sig .tc .vmem S11x8x512 .f32) (harg14 : arg14.IsWhole) (hc0 : ¬cond0_0 i) (hc1 : ¬cond0_1 i) (hc2 : ¬cond0_2 i) (hc3 : cond0_3 i)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (x8 : Vec F S512x2048 .bf16) (xo9 : Vec F S1024x2048 .f32) (xs0 : Vec F S1024x2048 .bf16) (xs1 : Vec F S11x8x512 .f32) (xs2 : Vec F S11x8x512 .f32) :
    Σ' (L9 : List (View.Piece (Elt F) S1024x2048 .f32)) (LS1 : List (View.Piece (Elt F) S11x8x512 .f32)) (LS2 : List (View.Piece (Elt F) S11x8x512 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], fun E K => ?run⟩
  case run =>
    simp only [cc0_ffn_eq_skeleton]; unfold cc0_ffn_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]; · iexact HS1
    iexact HS2

end Cert.FfnIdeal.Halo

end
-- ==== Proof.FfnIdealState.lean ====
/- The feed-forward kernel's state between grid points: the result block, the normed rows, and the two
   buffers that hand the last eight rows of a tile's projections to the next tile. -/
module

public import proofs.«01_k».proof.Proof.FfnIdealRun
public import Idealize.ShloMosaic.Lib.WritesUnit

@[expose] public section

set_option maxRecDepth 16384

noncomputable section

namespace Cert.FfnIdeal.Halo

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Two states of a carried buffer agree on its first `n` column blocks. -/
def Agree (n : ℕ) (d d' : Vec F S11x8x512 .f32) : Prop := ∀ y : S11x8x512.Idx, (y 0).val < n → d y = d' y

/-- A write of column block `n % 11` over states that agree on the first `n` leaves them agreeing on `n + 1`. -/
theorem agree_write (M : Memref sig .tc .vmem S11x8x512 .f32) (f f' : M.view.ty.Contents (Elt F)) (n : ℕ) (off : Fin 3 → ℕ)
    (inb : ∀ a, off a + S1x8x512.size a ≤ S11x8x512.size a) (hoff : off = ![n % 11, 0, 0])
    (p : (Rect.unit (s := S11x8x512) off S1x8x512.size inb).shape.Idx → Elt F .f32) (L : List (View.Piece (Elt F) S11x8x512 .f32))
    (h : Agree n (M.view.read (Elt F) (M.view.writes (Elt F) f L)) (M.view.read (Elt F) (M.view.writes (Elt F) f' L))) :
    Agree (n + 1) (M.view.read (Elt F) (M.view.writes (Elt F) f (⟨Rect.unit (s := S11x8x512) off S1x8x512.size inb, p⟩ :: L)))
      (M.view.read (Elt F) (M.view.writes (Elt F) f' (⟨Rect.unit (s := S11x8x512) off S1x8x512.size inb, p⟩ :: L))) := by
  intro y hy
  rw [View.read_writes_cons_unit M.view f inb p L y hoff, View.read_writes_cons_unit M.view f' inb p L y hoff]
  split
  · rfl
  · next hn =>
    refine h y ?_
    by_contra hge
    refine hn fun a => ?_
    have h0 : (y 0).val < 11 := (y 0).isLt
    have h1 : (y 1).val < 8 := (y 1).isLt
    have h2 : (y 2).val < 512 := (y 2).isLt
    match a with
    | ⟨0, _⟩ =>
      show n % 11 ≤ (y 0).val ∧ (y 0).val < n % 11 + 1
      omega
    | ⟨1, _⟩ =>
      show 0 ≤ (y 1).val ∧ (y 1).val < 0 + 8
      omega
    | ⟨2, _⟩ =>
      show 0 ≤ (y 2).val ∧ (y 2).val < 0 + 512
      omega

theorem Agree.mono {n k : ℕ} {d d' : Vec F S11x8x512 .f32} (h : Agree n d d') (hk : k ≤ n) : Agree k d d' :=
  fun y hy => h y (lt_of_lt_of_le hy hk)

/-- Past the first eleven points every column block is agreed on. -/
theorem Agree.eq {n : ℕ} {d d' : Vec F S11x8x512 .f32} (h : Agree n d d') (hn : 11 ≤ n) : d = d' :=
  funext fun y => h y (lt_of_lt_of_le (y 0).isLt hn)

theorem off1_eq : ∀ t : Fin cfg0.N, k0_off1 (grid0.coords t) = ![t.val % 11, 0, 0] :=
  (by decide +kernel : ∀ t : Fin grid0.N, k0_off1 (grid0.coords t) = ![t.val % 11, 0, 0])
theorem off2_eq (t : Fin cfg0.N) : k0_off2 (grid0.coords t) = ![t.val % 11, 0, 0] := off1_eq t
theorem off3_eq (t : Fin cfg0.N) : k0_off3 (grid0.coords t) = ![t.val % 11, 0, 0] := off1_eq t
theorem off4_eq (t : Fin cfg0.N) : k0_off4 (grid0.coords t) = ![t.val % 11, 0, 0] := off1_eq t
theorem off5_eq (t : Fin cfg0.N) : k0_off5 (grid0.coords t) = ![t.val % 11, 0, 0] := off1_eq t

theorem read_left1 (d : Vec F S11x8x512 .f32) : scM0_1.view.read (Elt F) ((Memref.isWhole_whole cc0_scratch1).unread d) = d :=
  Memref.IsWhole.read_unread _ d
theorem read_left2 (d : Vec F S11x8x512 .f32) : scM0_2.view.read (Elt F) ((Memref.isWhole_whole cc0_scratch2).unread d) = d :=
  Memref.IsWhole.read_unread _ d

/-- A carried buffer's contents after the writes `L` over the contents `d`. -/
abbrev left1 (d : Vec F S11x8x512 .f32) (L : List (View.Piece (Elt F) S11x8x512 .f32)) : Vec F S11x8x512 .f32 :=
  scM0_1.view.read (Elt F) (scM0_1.view.writes (Elt F) ((Memref.isWhole_whole cc0_scratch1).unread d) L)
abbrev left2 (d : Vec F S11x8x512 .f32) (L : List (View.Piece (Elt F) S11x8x512 .f32)) : Vec F S11x8x512 .f32 :=
  scM0_2.view.read (Elt F) (scM0_2.view.writes (Elt F) ((Memref.isWhole_whole cc0_scratch2).unread d) L)

/-- The body's run at a point that is the first column block of a sequence's first tile, from the carried contents `d1`, `d2`. -/
abbrev runA (c : Dev nD) (t : Fin cfg0.N) (h : conds0_A (grid0.coords t)) (d1 d2 : Vec F S11x8x512 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) d1 d2

theorem coverA (c : Dev nD) (t : Fin cfg0.N) (h : conds0_A (grid0.coords t)) (d1 d2 : Vec F S11x8x512 .f32) (y : S1024x2048.Idx) :
    ∃ pc ∈ (runA m c t h d1 d2).1, y ∈ pc.1.set :=
  View.cover_of_tiledL (runA m c t h d1 d2).1 S512x2048.size (by sl_kernel_rfl) y

/-- The normed rows are written in two halves. -/
theorem halvesA (c : Dev nD) (t : Fin cfg0.N) (h : conds0_A (grid0.coords t)) : ∃ p q, ∀ d1 d2 : Vec F S11x8x512 .f32,
    (runA m c t h d1 d2).2.2.2.1 = [⟨Rect.unit (s := S1024x2048) ![512, 0] ![512, 2048] inb_S1024x2048_S512x2048_512_0, p⟩,
      ⟨Rect.unit (s := S1024x2048) ![0, 0] ![512, 2048] inb_S1024x2048_S512x2048_0_0, q⟩] := ⟨_, _, fun _ _ => rfl⟩

theorem scoverA (c : Dev nD) (t : Fin cfg0.N) (h : conds0_A (grid0.coords t)) (d1 d2 : Vec F S11x8x512 .f32) (y : S1024x2048.Idx) :
    ∃ pc ∈ (runA m c t h d1 d2).2.2.2.1, y ∈ pc.1.set := by
  obtain ⟨p, q, e⟩ := halvesA m c t h
  rw [e d1 d2]
  exact View.cover_of_tiledL (s := S1024x2048) _ S512x2048.size (by sl_kernel_rfl) y

theorem normedA_indep (c : Dev nD) (t : Fin cfg0.N) (h : conds0_A (grid0.coords t)) (d1 d2 d1' d2' : Vec F S11x8x512 .f32) :
    (runA m c t h d1 d2).2.2.2.1 = (runA m c t h d1' d2').2.2.2.1 := by
  obtain ⟨p, q, e⟩ := halvesA m c t h
  rw [e d1 d2, e d1' d2']

theorem slotA1 (c : Dev nD) (t : Fin cfg0.N) (h : conds0_A (grid0.coords t)) : ∃ inb inb' p z,
    ∀ d1 d2 : Vec F S11x8x512 .f32, (runA m c t h d1 d2).2.1 = [⟨Rect.unit (s := S11x8x512) (k0_off4 (grid0.coords t)) S1x8x512.size inb, p⟩, ⟨Rect.unit (s := S11x8x512) (k0_off1 (grid0.coords t)) S1x8x512.size inb', z⟩] :=
  ⟨_, _, _, _, fun _ _ => rfl⟩

/-- The carried buffers stay agreed on one column block more. -/
theorem agreeA1 (c : Dev nD) (t : Fin cfg0.N) (h : conds0_A (grid0.coords t)) (d1 d2 d1' d2' : Vec F S11x8x512 .f32)
    (hd : Agree t.val d1 d1') : Agree (t.val + 1) (left1 d1 (runA m c t h d1 d2).2.1) (left1 d1' (runA m c t h d1' d2').2.1) := by
  obtain ⟨inb, inb', p, z, e⟩ := slotA1 m c t h
  rw [e d1 d2, e d1' d2']
  refine agree_write scM0_1 _ _ t.val _ inb (off4_eq t) p _ (Agree.mono (agree_write scM0_1 _ _ t.val _ inb' (off1_eq t) z [] ?_) (Nat.le_succ _))
  rw [View.writes_nil, View.writes_nil, read_left1, read_left1]; exact hd

theorem slotA2 (c : Dev nD) (t : Fin cfg0.N) (h : conds0_A (grid0.coords t)) : ∃ inb inb' p z,
    ∀ d1 d2 : Vec F S11x8x512 .f32, (runA m c t h d1 d2).2.2.1 = [⟨Rect.unit (s := S11x8x512) (k0_off4 (grid0.coords t)) S1x8x512.size inb, p⟩, ⟨Rect.unit (s := S11x8x512) (k0_off3 (grid0.coords t)) S1x8x512.size inb', z⟩] :=
  ⟨_, _, _, _, fun _ _ => rfl⟩

/-- The carried buffers stay agreed on one column block more. -/
theorem agreeA2 (c : Dev nD) (t : Fin cfg0.N) (h : conds0_A (grid0.coords t)) (d1 d2 d1' d2' : Vec F S11x8x512 .f32)
    (hd : Agree t.val d2 d2') : Agree (t.val + 1) (left2 d2 (runA m c t h d1 d2).2.2.1) (left2 d2' (runA m c t h d1' d2').2.2.1) := by
  obtain ⟨inb, inb', p, z, e⟩ := slotA2 m c t h
  rw [e d1 d2, e d1' d2']
  refine agree_write scM0_2 _ _ t.val _ inb (off4_eq t) p _ (Agree.mono (agree_write scM0_2 _ _ t.val _ inb' (off3_eq t) z [] ?_) (Nat.le_succ _))
  rw [View.writes_nil, View.writes_nil, read_left2, read_left2]; exact hd

/-- The body's run at a point that is a later column block of a sequence's first tile, from the carried contents `d1`, `d2`. -/
abbrev runB (c : Dev nD) (t : Fin cfg0.N) (h : conds0_B (grid0.coords t)) (x9 : Vec F S1024x2048 .f32) (x0 : Vec F S1024x2048 .bf16) (d1 d2 : Vec F S11x8x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) x9 x0 d1 d2

theorem coverB (c : Dev nD) (t : Fin cfg0.N) (h : conds0_B (grid0.coords t)) (x9 : Vec F S1024x2048 .f32) (x0 : Vec F S1024x2048 .bf16) (d1 d2 : Vec F S11x8x512 .f32) (y : S1024x2048.Idx) :
    ∃ pc ∈ (runB m c t h x9 x0 d1 d2).1, y ∈ pc.1.set :=
  View.cover_of_tiledL (runB m c t h x9 x0 d1 d2).1 S512x2048.size (by sl_kernel_rfl) y

theorem slotB1 (c : Dev nD) (t : Fin cfg0.N) (h : conds0_B (grid0.coords t)) (x9 : Vec F S1024x2048 .f32) (x0 : Vec F S1024x2048 .bf16) : ∃ inb inb' p z,
    ∀ d1 d2 : Vec F S11x8x512 .f32, (runB m c t h x9 x0 d1 d2).2.1 = [⟨Rect.unit (s := S11x8x512) (k0_off5 (grid0.coords t)) S1x8x512.size inb, p⟩, ⟨Rect.unit (s := S11x8x512) (k0_off1 (grid0.coords t)) S1x8x512.size inb', z⟩] :=
  ⟨_, _, _, _, fun _ _ => rfl⟩

/-- The carried buffers stay agreed on one column block more. -/
theorem agreeB1 (c : Dev nD) (t : Fin cfg0.N) (h : conds0_B (grid0.coords t)) (x9 : Vec F S1024x2048 .f32) (x0 : Vec F S1024x2048 .bf16) (d1 d2 d1' d2' : Vec F S11x8x512 .f32)
    (hd : Agree t.val d1 d1') : Agree (t.val + 1) (left1 d1 (runB m c t h x9 x0 d1 d2).2.1) (left1 d1' (runB m c t h x9 x0 d1' d2').2.1) := by
  obtain ⟨inb, inb', p, z, e⟩ := slotB1 m c t h x9 x0
  rw [e d1 d2, e d1' d2']
  refine agree_write scM0_1 _ _ t.val _ inb (off5_eq t) p _ (Agree.mono (agree_write scM0_1 _ _ t.val _ inb' (off1_eq t) z [] ?_) (Nat.le_succ _))
  rw [View.writes_nil, View.writes_nil, read_left1, read_left1]; exact hd

theorem slotB2 (c : Dev nD) (t : Fin cfg0.N) (h : conds0_B (grid0.coords t)) (x9 : Vec F S1024x2048 .f32) (x0 : Vec F S1024x2048 .bf16) : ∃ inb inb' p z,
    ∀ d1 d2 : Vec F S11x8x512 .f32, (runB m c t h x9 x0 d1 d2).2.2.1 = [⟨Rect.unit (s := S11x8x512) (k0_off5 (grid0.coords t)) S1x8x512.size inb, p⟩, ⟨Rect.unit (s := S11x8x512) (k0_off3 (grid0.coords t)) S1x8x512.size inb', z⟩] :=
  ⟨_, _, _, _, fun _ _ => rfl⟩

/-- The carried buffers stay agreed on one column block more. -/
theorem agreeB2 (c : Dev nD) (t : Fin cfg0.N) (h : conds0_B (grid0.coords t)) (x9 : Vec F S1024x2048 .f32) (x0 : Vec F S1024x2048 .bf16) (d1 d2 d1' d2' : Vec F S11x8x512 .f32)
    (hd : Agree t.val d2 d2') : Agree (t.val + 1) (left2 d2 (runB m c t h x9 x0 d1 d2).2.2.1) (left2 d2' (runB m c t h x9 x0 d1' d2').2.2.1) := by
  obtain ⟨inb, inb', p, z, e⟩ := slotB2 m c t h x9 x0
  rw [e d1 d2, e d1' d2']
  refine agree_write scM0_2 _ _ t.val _ inb (off5_eq t) p _ (Agree.mono (agree_write scM0_2 _ _ t.val _ inb' (off3_eq t) z [] ?_) (Nat.le_succ _))
  rw [View.writes_nil, View.writes_nil, read_left2, read_left2]; exact hd

/-- The body's run at a point that is the first column block of a later tile, from the carried contents `d1`, `d2`. -/
abbrev runC (c : Dev nD) (t : Fin cfg0.N) (h : conds0_C (grid0.coords t)) (d1 d2 : Vec F S11x8x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) d1 d2

theorem coverC (c : Dev nD) (t : Fin cfg0.N) (h : conds0_C (grid0.coords t)) (d1 d2 : Vec F S11x8x512 .f32) (y : S1024x2048.Idx) :
    ∃ pc ∈ (runC m c t h d1 d2).1, y ∈ pc.1.set :=
  View.cover_of_tiledL (runC m c t h d1 d2).1 S512x2048.size (by sl_kernel_rfl) y

/-- The normed rows are written in two halves. -/
theorem halvesC (c : Dev nD) (t : Fin cfg0.N) (h : conds0_C (grid0.coords t)) : ∃ p q, ∀ d1 d2 : Vec F S11x8x512 .f32,
    (runC m c t h d1 d2).2.2.2.1 = [⟨Rect.unit (s := S1024x2048) ![512, 0] ![512, 2048] inb_S1024x2048_S512x2048_512_0, p⟩,
      ⟨Rect.unit (s := S1024x2048) ![0, 0] ![512, 2048] inb_S1024x2048_S512x2048_0_0, q⟩] := ⟨_, _, fun _ _ => rfl⟩

theorem scoverC (c : Dev nD) (t : Fin cfg0.N) (h : conds0_C (grid0.coords t)) (d1 d2 : Vec F S11x8x512 .f32) (y : S1024x2048.Idx) :
    ∃ pc ∈ (runC m c t h d1 d2).2.2.2.1, y ∈ pc.1.set := by
  obtain ⟨p, q, e⟩ := halvesC m c t h
  rw [e d1 d2]
  exact View.cover_of_tiledL (s := S1024x2048) _ S512x2048.size (by sl_kernel_rfl) y

theorem normedC_indep (c : Dev nD) (t : Fin cfg0.N) (h : conds0_C (grid0.coords t)) (d1 d2 d1' d2' : Vec F S11x8x512 .f32) :
    (runC m c t h d1 d2).2.2.2.1 = (runC m c t h d1' d2').2.2.2.1 := by
  obtain ⟨p, q, e⟩ := halvesC m c t h
  rw [e d1 d2, e d1' d2']

theorem slotC1 (c : Dev nD) (t : Fin cfg0.N) (h : conds0_C (grid0.coords t)) : ∃ inb p,
    ∀ d1 d2 : Vec F S11x8x512 .f32, (runC m c t h d1 d2).2.1 = [⟨Rect.unit (s := S11x8x512) (k0_off4 (grid0.coords t)) S1x8x512.size inb, p⟩] :=
  ⟨_, _, fun _ _ => rfl⟩

/-- The carried buffers stay agreed on one column block more. -/
theorem agreeC1 (c : Dev nD) (t : Fin cfg0.N) (h : conds0_C (grid0.coords t)) (d1 d2 d1' d2' : Vec F S11x8x512 .f32)
    (hd : Agree t.val d1 d1') : Agree (t.val + 1) (left1 d1 (runC m c t h d1 d2).2.1) (left1 d1' (runC m c t h d1' d2').2.1) := by
  obtain ⟨inb, p, e⟩ := slotC1 m c t h
  rw [e d1 d2, e d1' d2']
  refine agree_write scM0_1 _ _ t.val _ inb (off4_eq t) p [] ?_
  rw [View.writes_nil, View.writes_nil, read_left1, read_left1]; exact hd

theorem slotC2 (c : Dev nD) (t : Fin cfg0.N) (h : conds0_C (grid0.coords t)) : ∃ inb p,
    ∀ d1 d2 : Vec F S11x8x512 .f32, (runC m c t h d1 d2).2.2.1 = [⟨Rect.unit (s := S11x8x512) (k0_off4 (grid0.coords t)) S1x8x512.size inb, p⟩] :=
  ⟨_, _, fun _ _ => rfl⟩

/-- The carried buffers stay agreed on one column block more. -/
theorem agreeC2 (c : Dev nD) (t : Fin cfg0.N) (h : conds0_C (grid0.coords t)) (d1 d2 d1' d2' : Vec F S11x8x512 .f32)
    (hd : Agree t.val d2 d2') : Agree (t.val + 1) (left2 d2 (runC m c t h d1 d2).2.2.1) (left2 d2' (runC m c t h d1' d2').2.2.1) := by
  obtain ⟨inb, p, e⟩ := slotC2 m c t h
  rw [e d1 d2, e d1' d2']
  refine agree_write scM0_2 _ _ t.val _ inb (off4_eq t) p [] ?_
  rw [View.writes_nil, View.writes_nil, read_left2, read_left2]; exact hd

/-- The body's run at a point that is a later column block of a later tile, from the carried contents `d1`, `d2`. -/
abbrev runD (c : Dev nD) (t : Fin cfg0.N) (h : conds0_D (grid0.coords t)) (x9 : Vec F S1024x2048 .f32) (x0 : Vec F S1024x2048 .bf16) (d1 d2 : Vec F S11x8x512 .f32) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) h.1 h.2.1 h.2.2.1 h.2.2.2 (iblk m c 0 t) (iblk m c 1 t) (iblk m c 2 t) (iblk m c 3 t) (iblk m c 4 t) (iblk m c 5 t) (iblk m c 6 t) (iblk m c 7 t) (iblk m c 8 t) x9 x0 d1 d2

theorem coverD (c : Dev nD) (t : Fin cfg0.N) (h : conds0_D (grid0.coords t)) (x9 : Vec F S1024x2048 .f32) (x0 : Vec F S1024x2048 .bf16) (d1 d2 : Vec F S11x8x512 .f32) (y : S1024x2048.Idx) :
    ∃ pc ∈ (runD m c t h x9 x0 d1 d2).1, y ∈ pc.1.set :=
  View.cover_of_tiledL (runD m c t h x9 x0 d1 d2).1 S512x2048.size (by sl_kernel_rfl) y

theorem slotD1 (c : Dev nD) (t : Fin cfg0.N) (h : conds0_D (grid0.coords t)) (x9 : Vec F S1024x2048 .f32) (x0 : Vec F S1024x2048 .bf16) : ∃ inb p,
    ∀ d1 d2 : Vec F S11x8x512 .f32, (runD m c t h x9 x0 d1 d2).2.1 = [⟨Rect.unit (s := S11x8x512) (k0_off5 (grid0.coords t)) S1x8x512.size inb, p⟩] :=
  ⟨_, _, fun _ _ => rfl⟩

/-- The carried buffers stay agreed on one column block more. -/
theorem agreeD1 (c : Dev nD) (t : Fin cfg0.N) (h : conds0_D (grid0.coords t)) (x9 : Vec F S1024x2048 .f32) (x0 : Vec F S1024x2048 .bf16) (d1 d2 d1' d2' : Vec F S11x8x512 .f32)
    (hd : Agree t.val d1 d1') : Agree (t.val + 1) (left1 d1 (runD m c t h x9 x0 d1 d2).2.1) (left1 d1' (runD m c t h x9 x0 d1' d2').2.1) := by
  obtain ⟨inb, p, e⟩ := slotD1 m c t h x9 x0
  rw [e d1 d2, e d1' d2']
  refine agree_write scM0_1 _ _ t.val _ inb (off5_eq t) p [] ?_
  rw [View.writes_nil, View.writes_nil, read_left1, read_left1]; exact hd

theorem slotD2 (c : Dev nD) (t : Fin cfg0.N) (h : conds0_D (grid0.coords t)) (x9 : Vec F S1024x2048 .f32) (x0 : Vec F S1024x2048 .bf16) : ∃ inb p,
    ∀ d1 d2 : Vec F S11x8x512 .f32, (runD m c t h x9 x0 d1 d2).2.2.1 = [⟨Rect.unit (s := S11x8x512) (k0_off5 (grid0.coords t)) S1x8x512.size inb, p⟩] :=
  ⟨_, _, fun _ _ => rfl⟩

/-- The carried buffers stay agreed on one column block more. -/
theorem agreeD2 (c : Dev nD) (t : Fin cfg0.N) (h : conds0_D (grid0.coords t)) (x9 : Vec F S1024x2048 .f32) (x0 : Vec F S1024x2048 .bf16) (d1 d2 d1' d2' : Vec F S11x8x512 .f32)
    (hd : Agree t.val d2 d2') : Agree (t.val + 1) (left2 d2 (runD m c t h x9 x0 d1 d2).2.2.1) (left2 d2' (runD m c t h x9 x0 d1' d2').2.2.1) := by
  obtain ⟨inb, p, e⟩ := slotD2 m c t h x9 x0
  rw [e d1 d2, e d1' d2']
  refine agree_write scM0_2 _ _ t.val _ inb (off5_eq t) p [] ?_
  rw [View.writes_nil, View.writes_nil, read_left2, read_left2]; exact hd

/-- The result block is written in two halves, which do not depend on what the carried buffers held. -/
theorem partsA (c : Dev nD) (t : Fin cfg0.N) (h : conds0_A (grid0.coords t)) : ∃ p q, ∀ d1 d2 : Vec F S11x8x512 .f32,
    (runA m c t h d1 d2).1 = [⟨Rect.unit (s := S1024x2048) ![512, 0] ![512, 2048] inb_S1024x2048_S512x2048_512_0, p⟩,
      ⟨Rect.unit (s := S1024x2048) ![0, 0] ![512, 2048] inb_S1024x2048_S512x2048_0_0, q⟩] := ⟨_, _, fun _ _ => rfl⟩

theorem outA_indep (c : Dev nD) (t : Fin cfg0.N) (h : conds0_A (grid0.coords t)) (d1 d2 d1' d2' : Vec F S11x8x512 .f32) :
    (runA m c t h d1 d2).1 = (runA m c t h d1' d2').1 := by
  obtain ⟨p, q, e⟩ := partsA m c t h
  rw [e d1 d2, e d1' d2']

/-- The result block is written in two halves, which do not depend on what the carried buffers held. -/
theorem partsB (c : Dev nD) (t : Fin cfg0.N) (h : conds0_B (grid0.coords t)) (x9 : Vec F S1024x2048 .f32) (x0 : Vec F S1024x2048 .bf16) : ∃ p q, ∀ d1 d2 : Vec F S11x8x512 .f32,
    (runB m c t h x9 x0 d1 d2).1 = [⟨Rect.unit (s := S1024x2048) ![512, 0] ![512, 2048] inb_S1024x2048_S512x2048_512_0, p⟩,
      ⟨Rect.unit (s := S1024x2048) ![0, 0] ![512, 2048] inb_S1024x2048_S512x2048_0_0, q⟩] := ⟨_, _, fun _ _ => rfl⟩

theorem outB_indep (c : Dev nD) (t : Fin cfg0.N) (h : conds0_B (grid0.coords t)) (x9 : Vec F S1024x2048 .f32) (x0 : Vec F S1024x2048 .bf16) (d1 d2 d1' d2' : Vec F S11x8x512 .f32) :
    (runB m c t h x9 x0 d1 d2).1 = (runB m c t h x9 x0 d1' d2').1 := by
  obtain ⟨p, q, e⟩ := partsB m c t h x9 x0
  rw [e d1 d2, e d1' d2']

/-- What a grid point leaves: the result block, the normed rows, and the two carried buffers. -/
abbrev St (F : FTy → Type) := Vec F S1024x2048 .f32 × Vec F S1024x2048 .bf16 × Vec F S11x8x512 .f32 × Vec F S11x8x512 .f32

/-- What the point leaves, in case A. -/
abbrev afterA (c : Dev nD) (t : Fin cfg0.N) (h : conds0_A (grid0.coords t)) (s : St F) : St F :=
  (VO0_9.read (Elt F) (VO0_9.writes (Elt F) VO0_9.junk (runA m c t h s.2.2.1 s.2.2.2).1), VS0_0.read (Elt F) (VS0_0.writes (Elt F) VS0_0.junk (runA m c t h s.2.2.1 s.2.2.2).2.2.2.1), left1 s.2.2.1 (runA m c t h s.2.2.1 s.2.2.2).2.1, left2 s.2.2.2 (runA m c t h s.2.2.1 s.2.2.2).2.2.1)
/-- What the point leaves, in case B. -/
abbrev afterB (c : Dev nD) (t : Fin cfg0.N) (h : conds0_B (grid0.coords t)) (s : St F) : St F :=
  (VO0_9.read (Elt F) (VO0_9.writes (Elt F) VO0_9.junk (runB m c t h s.1 s.2.1 s.2.2.1 s.2.2.2).1), s.2.1, left1 s.2.2.1 (runB m c t h s.1 s.2.1 s.2.2.1 s.2.2.2).2.1, left2 s.2.2.2 (runB m c t h s.1 s.2.1 s.2.2.1 s.2.2.2).2.2.1)
/-- What the point leaves, in case C. -/
abbrev afterC (c : Dev nD) (t : Fin cfg0.N) (h : conds0_C (grid0.coords t)) (s : St F) : St F :=
  (VO0_9.read (Elt F) (VO0_9.writes (Elt F) VO0_9.junk (runC m c t h s.2.2.1 s.2.2.2).1), VS0_0.read (Elt F) (VS0_0.writes (Elt F) VS0_0.junk (runC m c t h s.2.2.1 s.2.2.2).2.2.2.1), left1 s.2.2.1 (runC m c t h s.2.2.1 s.2.2.2).2.1, left2 s.2.2.2 (runC m c t h s.2.2.1 s.2.2.2).2.2.1)
/-- What the point leaves, in case D. -/
abbrev afterD (c : Dev nD) (t : Fin cfg0.N) (h : conds0_D (grid0.coords t)) (s : St F) : St F :=
  (VO0_9.read (Elt F) (VO0_9.writes (Elt F) VO0_9.junk (runD m c t h s.1 s.2.1 s.2.2.1 s.2.2.2).1), s.2.1, left1 s.2.2.1 (runD m c t h s.1 s.2.1 s.2.2.1 s.2.2.2).2.1, left2 s.2.2.2 (runD m c t h s.1 s.2.1 s.2.2.1 s.2.2.2).2.2.1)
/-- One grid point, from what the point before left. -/
def step (c : Dev nD) (t : Fin cfg0.N) (s : St F) : St F :=
  if h : conds0_A (grid0.coords t) then afterA m c t h s
  else if h : conds0_B (grid0.coords t) then afterB m c t h s
  else if h : conds0_C (grid0.coords t) then afterC m c t h s
  else if h : conds0_D (grid0.coords t) then afterD m c t h s
  else s

theorem step_A (c : Dev nD) (t : Fin cfg0.N) (s : St F) (h : conds0_A (grid0.coords t)) : step m c t s =
    afterA m c t h s := by
  unfold step
  exact dif_pos h

theorem step_B (c : Dev nD) (t : Fin cfg0.N) (s : St F) (h : conds0_B (grid0.coords t)) : step m c t s =
    afterB m c t h s := by
  unfold step
  exact (dif_neg (show ¬ conds0_A (grid0.coords t) from fun g => h.2.2.1 g.2.2.1)).trans (dif_pos h)

theorem step_C (c : Dev nD) (t : Fin cfg0.N) (s : St F) (h : conds0_C (grid0.coords t)) : step m c t s =
    afterC m c t h s := by
  unfold step
  exact (dif_neg (show ¬ conds0_A (grid0.coords t) from fun g => h.1 g.1)).trans ( (dif_neg (show ¬ conds0_B (grid0.coords t) from fun g => h.1 g.1)).trans (dif_pos h))

theorem step_D (c : Dev nD) (t : Fin cfg0.N) (s : St F) (h : conds0_D (grid0.coords t)) : step m c t s =
    afterD m c t h s := by
  unfold step
  exact (dif_neg (show ¬ conds0_A (grid0.coords t) from fun g => h.1 g.1)).trans ( (dif_neg (show ¬ conds0_B (grid0.coords t) from fun g => h.1 g.1)).trans ( (dif_neg (show ¬ conds0_C (grid0.coords t) from fun g => h.2.2.1 g.2.2.1)).trans (dif_pos h)))

/-- The state before grid point `n`: anything before the first, then one `step` per point. -/
def st (c : Dev nD) : ℕ → St F
  | 0 => (VO0_9.read (Elt F) VO0_9.junk, VS0_0.read (Elt F) VS0_0.junk, scM0_1.view.read (Elt F) scM0_1.view.junk, scM0_2.view.read (Elt F) scM0_2.view.junk)
  | n + 1 => if h : n < cfg0.N then step m c ⟨n, h⟩ (st c n) else st c n

theorem st_succ (c : Dev nD) (t : Fin cfg0.N) : st m c (t.val + 1) = step m c t (st m c t.val) := by
  show (if h : t.val < cfg0.N then step m c ⟨t.val, h⟩ (st m c t.val) else st m c t.val) = _
  rw [dif_pos t.isLt]

/-- Every point is in one of the four cases. -/
theorem cases_of (t : Fin cfg0.N) : conds0_A (grid0.coords t) ∨ conds0_B (grid0.coords t) ∨ conds0_C (grid0.coords t) ∨ conds0_D (grid0.coords t) :=
  (by decide +kernel : ∀ t : Fin grid0.N, conds0_A (grid0.coords t) ∨ conds0_B (grid0.coords t) ∨ conds0_C (grid0.coords t) ∨ conds0_D (grid0.coords t)) t

/-- A later tile is at least eleven points in. -/
theorem late_of (t : Fin cfg0.N) (h : ¬ cond0_0 (grid0.coords t)) : 11 ≤ t.val := by
  by_contra hlt
  have hN : t.val < 88 := lt_of_lt_of_eq t.isLt N_0
  exact h ((hcond0_0 t).mpr (by omega))

theorem st_A1 (c : Dev nD) (t : Fin cfg0.N) (h : conds0_A (grid0.coords t)) :
    (st m c (t.val + 1)).1 = VO0_9.read (Elt F) (VO0_9.writes (Elt F) VO0_9.junk (runA m c t h (st m c t.val).2.2.1 (st m c t.val).2.2.2).1) := by
  rw [st_succ, step_A m c t _ h]

theorem st_A2 (c : Dev nD) (t : Fin cfg0.N) (h : conds0_A (grid0.coords t)) :
    (st m c (t.val + 1)).2.1 = VS0_0.read (Elt F) (VS0_0.writes (Elt F) VS0_0.junk (runA m c t h (st m c t.val).2.2.1 (st m c t.val).2.2.2).2.2.2.1) := by
  rw [st_succ, step_A m c t _ h]

theorem st_A3 (c : Dev nD) (t : Fin cfg0.N) (h : conds0_A (grid0.coords t)) :
    (st m c (t.val + 1)).2.2.1 = left1 (st m c t.val).2.2.1 (runA m c t h (st m c t.val).2.2.1 (st m c t.val).2.2.2).2.1 := by
  rw [st_succ, step_A m c t _ h]

theorem st_A4 (c : Dev nD) (t : Fin cfg0.N) (h : conds0_A (grid0.coords t)) :
    (st m c (t.val + 1)).2.2.2 = left2 (st m c t.val).2.2.2 (runA m c t h (st m c t.val).2.2.1 (st m c t.val).2.2.2).2.2.1 := by
  rw [st_succ, step_A m c t _ h]

/-- What the run leaves of the normed rows and of the carried buffers is the next state's, as far as it is agreed on. -/
theorem nextA (c : Dev nD) (t : Fin cfg0.N) (h : conds0_A (grid0.coords t)) (d1 d2 : Vec F S11x8x512 .f32)
    (h1 : Agree t.val d1 (st m c t.val).2.2.1) (h2 : Agree t.val d2 (st m c t.val).2.2.2) :
    (t.val + 1 ≠ 0 → VS0_0.read (Elt F) (VS0_0.writes (Elt F) VS0_0.junk (runA m c t h d1 d2).2.2.2.1) = (st m c (t.val + 1)).2.1)
      ∧ Agree (t.val + 1) (left1 d1 (runA m c t h d1 d2).2.1) (st m c (t.val + 1)).2.2.1
      ∧ Agree (t.val + 1) (left2 d2 (runA m c t h d1 d2).2.2.1) (st m c (t.val + 1)).2.2.2 := by
  refine ⟨fun _ => Eq.trans ?_ (st_A2 m c t h).symm, Eq.mpr (congrArg (Agree (t.val + 1) _) (st_A3 m c t h)) (agreeA1 m c t h d1 d2 _ _ h1),
    Eq.mpr (congrArg (Agree (t.val + 1) _) (st_A4 m c t h)) (agreeA2 m c t h d1 d2 _ _ h2)⟩
  exact congrArg (fun L => VS0_0.read (Elt F) (VS0_0.writes (Elt F) VS0_0.junk L)) (normedA_indep m c t h d1 d2 _ _)

/-- The run leaves the state's result block. -/
theorem blockA (c : Dev nD) (t : Fin cfg0.N) (h : conds0_A (grid0.coords t)) (d1 d2 : Vec F S11x8x512 .f32)
    (h1 : Agree t.val d1 (st m c t.val).2.2.1) (h2 : Agree t.val d2 (st m c t.val).2.2.2) :
    VO0_9.read (Elt F) (VO0_9.writes (Elt F) VO0_9.junk (runA m c t h d1 d2).1) = (st m c (t.val + 1)).1 := by
  refine Eq.trans ?_ (st_A1 m c t h).symm
  exact congrArg (fun L => VO0_9.read (Elt F) (VO0_9.writes (Elt F) VO0_9.junk L)) (outA_indep m c t h d1 d2 _ _)

theorem st_B1 (c : Dev nD) (t : Fin cfg0.N) (h : conds0_B (grid0.coords t)) :
    (st m c (t.val + 1)).1 = VO0_9.read (Elt F) (VO0_9.writes (Elt F) VO0_9.junk (runB m c t h (st m c t.val).1 (st m c t.val).2.1 (st m c t.val).2.2.1 (st m c t.val).2.2.2).1) := by
  rw [st_succ, step_B m c t _ h]

theorem st_B2 (c : Dev nD) (t : Fin cfg0.N) (h : conds0_B (grid0.coords t)) :
    (st m c (t.val + 1)).2.1 = (st m c t.val).2.1 := by
  rw [st_succ, step_B m c t _ h]

theorem st_B3 (c : Dev nD) (t : Fin cfg0.N) (h : conds0_B (grid0.coords t)) :
    (st m c (t.val + 1)).2.2.1 = left1 (st m c t.val).2.2.1 (runB m c t h (st m c t.val).1 (st m c t.val).2.1 (st m c t.val).2.2.1 (st m c t.val).2.2.2).2.1 := by
  rw [st_succ, step_B m c t _ h]

theorem st_B4 (c : Dev nD) (t : Fin cfg0.N) (h : conds0_B (grid0.coords t)) :
    (st m c (t.val + 1)).2.2.2 = left2 (st m c t.val).2.2.2 (runB m c t h (st m c t.val).1 (st m c t.val).2.1 (st m c t.val).2.2.1 (st m c t.val).2.2.2).2.2.1 := by
  rw [st_succ, step_B m c t _ h]

/-- What the run leaves of the normed rows and of the carried buffers is the next state's, as far as it is agreed on. -/
theorem nextB (c : Dev nD) (t : Fin cfg0.N) (h : conds0_B (grid0.coords t)) (d1 d2 : Vec F S11x8x512 .f32)
    (h1 : Agree t.val d1 (st m c t.val).2.2.1) (h2 : Agree t.val d2 (st m c t.val).2.2.2) :
    (t.val + 1 ≠ 0 → (st m c t.val).2.1 = (st m c (t.val + 1)).2.1)
      ∧ Agree (t.val + 1) (left1 d1 (runB m c t h (st m c t.val).1 (st m c t.val).2.1 d1 d2).2.1) (st m c (t.val + 1)).2.2.1
      ∧ Agree (t.val + 1) (left2 d2 (runB m c t h (st m c t.val).1 (st m c t.val).2.1 d1 d2).2.2.1) (st m c (t.val + 1)).2.2.2 := by
  refine ⟨fun _ => Eq.trans ?_ (st_B2 m c t h).symm, Eq.mpr (congrArg (Agree (t.val + 1) _) (st_B3 m c t h)) (agreeB1 m c t h (st m c t.val).1 (st m c t.val).2.1 d1 d2 _ _ h1),
    Eq.mpr (congrArg (Agree (t.val + 1) _) (st_B4 m c t h)) (agreeB2 m c t h (st m c t.val).1 (st m c t.val).2.1 d1 d2 _ _ h2)⟩
  rfl

/-- The run leaves the state's result block. -/
theorem blockB (c : Dev nD) (t : Fin cfg0.N) (h : conds0_B (grid0.coords t)) (d1 d2 : Vec F S11x8x512 .f32)
    (h1 : Agree t.val d1 (st m c t.val).2.2.1) (h2 : Agree t.val d2 (st m c t.val).2.2.2) :
    VO0_9.read (Elt F) (VO0_9.writes (Elt F) VO0_9.junk (runB m c t h (st m c t.val).1 (st m c t.val).2.1 d1 d2).1) = (st m c (t.val + 1)).1 := by
  refine Eq.trans ?_ (st_B1 m c t h).symm
  exact congrArg (fun L => VO0_9.read (Elt F) (VO0_9.writes (Elt F) VO0_9.junk L)) (outB_indep m c t h (st m c t.val).1 (st m c t.val).2.1 d1 d2 _ _)

theorem st_C1 (c : Dev nD) (t : Fin cfg0.N) (h : conds0_C (grid0.coords t)) :
    (st m c (t.val + 1)).1 = VO0_9.read (Elt F) (VO0_9.writes (Elt F) VO0_9.junk (runC m c t h (st m c t.val).2.2.1 (st m c t.val).2.2.2).1) := by
  rw [st_succ, step_C m c t _ h]

theorem st_C2 (c : Dev nD) (t : Fin cfg0.N) (h : conds0_C (grid0.coords t)) :
    (st m c (t.val + 1)).2.1 = VS0_0.read (Elt F) (VS0_0.writes (Elt F) VS0_0.junk (runC m c t h (st m c t.val).2.2.1 (st m c t.val).2.2.2).2.2.2.1) := by
  rw [st_succ, step_C m c t _ h]

theorem st_C3 (c : Dev nD) (t : Fin cfg0.N) (h : conds0_C (grid0.coords t)) :
    (st m c (t.val + 1)).2.2.1 = left1 (st m c t.val).2.2.1 (runC m c t h (st m c t.val).2.2.1 (st m c t.val).2.2.2).2.1 := by
  rw [st_succ, step_C m c t _ h]

theorem st_C4 (c : Dev nD) (t : Fin cfg0.N) (h : conds0_C (grid0.coords t)) :
    (st m c (t.val + 1)).2.2.2 = left2 (st m c t.val).2.2.2 (runC m c t h (st m c t.val).2.2.1 (st m c t.val).2.2.2).2.2.1 := by
  rw [st_succ, step_C m c t _ h]

/-- What the run leaves of the normed rows and of the carried buffers is the next state's, as far as it is agreed on. -/
theorem nextC (c : Dev nD) (t : Fin cfg0.N) (h : conds0_C (grid0.coords t)) (d1 d2 : Vec F S11x8x512 .f32)
    (h1 : Agree t.val d1 (st m c t.val).2.2.1) (h2 : Agree t.val d2 (st m c t.val).2.2.2) :
    (t.val + 1 ≠ 0 → VS0_0.read (Elt F) (VS0_0.writes (Elt F) VS0_0.junk (runC m c t h d1 d2).2.2.2.1) = (st m c (t.val + 1)).2.1)
      ∧ Agree (t.val + 1) (left1 d1 (runC m c t h d1 d2).2.1) (st m c (t.val + 1)).2.2.1
      ∧ Agree (t.val + 1) (left2 d2 (runC m c t h d1 d2).2.2.1) (st m c (t.val + 1)).2.2.2 := by
  refine ⟨fun _ => Eq.trans ?_ (st_C2 m c t h).symm, Eq.mpr (congrArg (Agree (t.val + 1) _) (st_C3 m c t h)) (agreeC1 m c t h d1 d2 _ _ h1),
    Eq.mpr (congrArg (Agree (t.val + 1) _) (st_C4 m c t h)) (agreeC2 m c t h d1 d2 _ _ h2)⟩
  exact congrArg (fun L => VS0_0.read (Elt F) (VS0_0.writes (Elt F) VS0_0.junk L)) (normedC_indep m c t h d1 d2 _ _)

/-- The run leaves the state's result block. -/
theorem blockC (c : Dev nD) (t : Fin cfg0.N) (h : conds0_C (grid0.coords t)) (d1 d2 : Vec F S11x8x512 .f32)
    (h1 : Agree t.val d1 (st m c t.val).2.2.1) (h2 : Agree t.val d2 (st m c t.val).2.2.2) :
    VO0_9.read (Elt F) (VO0_9.writes (Elt F) VO0_9.junk (runC m c t h d1 d2).1) = (st m c (t.val + 1)).1 := by
  refine Eq.trans ?_ (st_C1 m c t h).symm
  have hq1 := Agree.eq h1 (late_of t h.1)
  have hq2 := Agree.eq h2 (late_of t h.1)
  subst hq1
  subst hq2
  rfl

theorem st_D1 (c : Dev nD) (t : Fin cfg0.N) (h : conds0_D (grid0.coords t)) :
    (st m c (t.val + 1)).1 = VO0_9.read (Elt F) (VO0_9.writes (Elt F) VO0_9.junk (runD m c t h (st m c t.val).1 (st m c t.val).2.1 (st m c t.val).2.2.1 (st m c t.val).2.2.2).1) := by
  rw [st_succ, step_D m c t _ h]

theorem st_D2 (c : Dev nD) (t : Fin cfg0.N) (h : conds0_D (grid0.coords t)) :
    (st m c (t.val + 1)).2.1 = (st m c t.val).2.1 := by
  rw [st_succ, step_D m c t _ h]

theorem st_D3 (c : Dev nD) (t : Fin cfg0.N) (h : conds0_D (grid0.coords t)) :
    (st m c (t.val + 1)).2.2.1 = left1 (st m c t.val).2.2.1 (runD m c t h (st m c t.val).1 (st m c t.val).2.1 (st m c t.val).2.2.1 (st m c t.val).2.2.2).2.1 := by
  rw [st_succ, step_D m c t _ h]

theorem st_D4 (c : Dev nD) (t : Fin cfg0.N) (h : conds0_D (grid0.coords t)) :
    (st m c (t.val + 1)).2.2.2 = left2 (st m c t.val).2.2.2 (runD m c t h (st m c t.val).1 (st m c t.val).2.1 (st m c t.val).2.2.1 (st m c t.val).2.2.2).2.2.1 := by
  rw [st_succ, step_D m c t _ h]

/-- What the run leaves of the normed rows and of the carried buffers is the next state's, as far as it is agreed on. -/
theorem nextD (c : Dev nD) (t : Fin cfg0.N) (h : conds0_D (grid0.coords t)) (d1 d2 : Vec F S11x8x512 .f32)
    (h1 : Agree t.val d1 (st m c t.val).2.2.1) (h2 : Agree t.val d2 (st m c t.val).2.2.2) :
    (t.val + 1 ≠ 0 → (st m c t.val).2.1 = (st m c (t.val + 1)).2.1)
      ∧ Agree (t.val + 1) (left1 d1 (runD m c t h (st m c t.val).1 (st m c t.val).2.1 d1 d2).2.1) (st m c (t.val + 1)).2.2.1
      ∧ Agree (t.val + 1) (left2 d2 (runD m c t h (st m c t.val).1 (st m c t.val).2.1 d1 d2).2.2.1) (st m c (t.val + 1)).2.2.2 := by
  refine ⟨fun _ => Eq.trans ?_ (st_D2 m c t h).symm, Eq.mpr (congrArg (Agree (t.val + 1) _) (st_D3 m c t h)) (agreeD1 m c t h (st m c t.val).1 (st m c t.val).2.1 d1 d2 _ _ h1),
    Eq.mpr (congrArg (Agree (t.val + 1) _) (st_D4 m c t h)) (agreeD2 m c t h (st m c t.val).1 (st m c t.val).2.1 d1 d2 _ _ h2)⟩
  rfl

/-- The run leaves the state's result block. -/
theorem blockD (c : Dev nD) (t : Fin cfg0.N) (h : conds0_D (grid0.coords t)) (d1 d2 : Vec F S11x8x512 .f32)
    (h1 : Agree t.val d1 (st m c t.val).2.2.1) (h2 : Agree t.val d2 (st m c t.val).2.2.2) :
    VO0_9.read (Elt F) (VO0_9.writes (Elt F) VO0_9.junk (runD m c t h (st m c t.val).1 (st m c t.val).2.1 d1 d2).1) = (st m c (t.val + 1)).1 := by
  refine Eq.trans ?_ (st_D1 m c t h).symm
  have hq1 := Agree.eq h1 (late_of t h.1)
  have hq2 := Agree.eq h2 (late_of t h.1)
  subst hq1
  subst hq2
  rfl

end Cert.FfnIdeal.Halo

end
-- ==== Proof.FfnIdealData.lean ====
/- What the feed-forward kernel's pipeline holds between grid points. -/
module

public import proofs.«01_k».proof.Proof.FfnIdealState

@[expose] public section

set_option maxRecDepth 16384

noncomputable section

namespace Cert.FfnIdeal.Halo

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What holds before grid point `n`: the normed rows are the state's (from the second point on), and the carried
    buffers agree with the state's on the column blocks written so far. -/
def PhiS (c : Dev nD) (n : ℕ) : sProp (MT nD τ sig Unit (Elt F) ℕ (UR sig nD τ) ℕ) :=
  iprop(∃ d0 d1 d2, ⌜(n ≠ 0 → d0 = (st m c n).2.1) ∧ Agree n d1 (st m c n).2.2.1 ∧ Agree n d2 (st m c n).2.2.2⌝
    ∗ owns (c : Thread nD τ) scM0_0 fullShare d0 ∗ owns (c : Thread nD τ) scM0_1 fullShare d1
    ∗ owns (c : Thread nD τ) scM0_2 fullShare d2 ∗ (∃ r, prngReg c r))

/-- The kernel's data for the pipeline: each input's block stays, the result block after point `t` is the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (st m c (t.val + 1)).1
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (st m c (t.val + 1)).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem hcarry (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  exfalso
  rcases cases_of t with h | h | h | h
  · rw [liveAt0_9_A t h.1 h.2.1 h.2.2.1 h.2.2.2] at hi
    exact Bool.false_ne_true hi
  · rw [liveAt0_9_B t h.1 h.2.1 h.2.2.1 h.2.2.2] at hi
    exact Bool.false_ne_true hi
  · rw [liveAt0_9_C t h.1 h.2.1 h.2.2.1 h.2.2.2] at hi
    exact Bool.false_ne_true hi
  · rw [liveAt0_9_D t h.1 h.2.1 h.2.2.1 h.2.2.2] at hi
    exact Bool.false_ne_true hi

theorem posB (t : Fin cfg0.N) (h : conds0_B (grid0.coords t)) : t.val ≠ 0 := by
  intro e
  have := (hcond0_3 t).mp h.2.2.2
  omega

theorem before0_9_B (c : Dev nD) (t : Fin cfg0.N) (h : conds0_B (grid0.coords t)) (d) :
    (dats m 0 c).before 9 t d = (st m c t.val).1 := by
  rw [Dat.before_out_traj _ 9 rfl (fun _ _ => rfl) (hcarry m c) t.val t rfl d,
    if_neg (by rw [notFresh0_9_B t h.1 h.2.1 h.2.2.1 h.2.2.2]; exact Bool.false_ne_true)]
  rw [after0_9]
  have hp := posB t h
  show (st m c (t.val - 1 + 1)).1 = _
  rw [Nat.sub_add_cancel (by omega)]

theorem posD (t : Fin cfg0.N) (h : conds0_D (grid0.coords t)) : t.val ≠ 0 := by
  intro e
  have := (hcond0_3 t).mp h.2.2.2
  omega

theorem before0_9_D (c : Dev nD) (t : Fin cfg0.N) (h : conds0_D (grid0.coords t)) (d) :
    (dats m 0 c).before 9 t d = (st m c t.val).1 := by
  rw [Dat.before_out_traj _ 9 rfl (fun _ _ => rfl) (hcarry m c) t.val t rfl d,
    if_neg (by rw [notFresh0_9_D t h.1 h.2.1 h.2.2.1 h.2.2.2]; exact Bool.false_ne_true)]
  rw [after0_9]
  have hp := posD t h
  show (st m c (t.val - 1 + 1)).1 = _
  rw [Nat.sub_add_cancel (by omega)]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

end Cert.FfnIdeal.Halo

end
-- ==== Proof.FfnIdealFrame.lean ====
/- The feed-forward kernel's frame: it runs to its end from any memory, leaves its arguments alone, and its result
   array is what the blocks of `st` make of it. -/
module

public import proofs.«01_k».proof.Proof.FfnIdealData
public import Idealize.ShloMosaic.Lib.Claim

@[expose] public section

set_option maxRecDepth 16384

noncomputable section

namespace Cert.FfnIdeal.Halo

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem leaves_0 (c : Dev nD) (t : Fin cfg0.N) : (dats m 0 c).leavesExact 0 t = owns (c : Thread nD τ) (ms0_0 t) fullShare ((dats m 0 c).after 0 t) := by
  unfold Dat.leavesExact; rw [liveAt0_0 t]
theorem leaves_1 (c : Dev nD) (t : Fin cfg0.N) : (dats m 0 c).leavesExact 1 t = owns (c : Thread nD τ) (ms0_1 t) fullShare ((dats m 0 c).after 1 t) := by
  unfold Dat.leavesExact; rw [liveAt0_1 t]
theorem leaves_2 (c : Dev nD) (t : Fin cfg0.N) : (dats m 0 c).leavesExact 2 t = owns (c : Thread nD τ) (ms0_2 t) fullShare ((dats m 0 c).after 2 t) := by
  unfold Dat.leavesExact; rw [liveAt0_2 t]
theorem leaves_3 (c : Dev nD) (t : Fin cfg0.N) : (dats m 0 c).leavesExact 3 t = owns (c : Thread nD τ) (ms0_3 t) fullShare ((dats m 0 c).after 3 t) := by
  unfold Dat.leavesExact; rw [liveAt0_3 t]
theorem leaves_4 (c : Dev nD) (t : Fin cfg0.N) : (dats m 0 c).leavesExact 4 t = owns (c : Thread nD τ) (ms0_4 t) fullShare ((dats m 0 c).after 4 t) := by
  unfold Dat.leavesExact; rw [liveAt0_4 t]
theorem leaves_5 (c : Dev nD) (t : Fin cfg0.N) : (dats m 0 c).leavesExact 5 t = owns (c : Thread nD τ) (ms0_5 t) fullShare ((dats m 0 c).after 5 t) := by
  unfold Dat.leavesExact; rw [liveAt0_5 t]
theorem leaves_6 (c : Dev nD) (t : Fin cfg0.N) : (dats m 0 c).leavesExact 6 t = owns (c : Thread nD τ) (ms0_6 t) fullShare ((dats m 0 c).after 6 t) := by
  unfold Dat.leavesExact; rw [liveAt0_6 t]
theorem leaves_7 (c : Dev nD) (t : Fin cfg0.N) : (dats m 0 c).leavesExact 7 t = owns (c : Thread nD τ) (ms0_7 t) fullShare ((dats m 0 c).after 7 t) := by
  unfold Dat.leavesExact; rw [liveAt0_7 t]
theorem leaves_8 (c : Dev nD) (t : Fin cfg0.N) : (dats m 0 c).leavesExact 8 t = owns (c : Thread nD τ) (ms0_8 t) fullShare ((dats m 0 c).after 8 t) := by
  unfold Dat.leavesExact; rw [liveAt0_8 t]

set_option maxHeartbeats 4000000 in
/-- The body at the first column block of a sequence's first tile. -/
theorem soundA (c : Dev nD) (t : Fin cfg0.N) (h : conds0_A (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_castSucc m c t, leaves_0 m c t, after0_0, leaves_1 m c t, after0_1, leaves_2 m c t, after0_2, leaves_3 m c t, after0_3, leaves_4 m c t, after0_4, leaves_5 m c t, after0_5, leaves_6 m c t, after0_6, leaves_7 m c t, after0_7, leaves_8 m c t, after0_8]
  rw [show (dats m 0 c).leavesExact 9 t = owns (c : Thread nD τ) (ms0_9 t) fullShare ((dats m 0 c).after 9 t) from by
    unfold Dat.leavesExact; rw [liveAt0_9_A t h.1 h.2.1 h.2.2.1 h.2.2.2], after0_9]
  unfold PhiS
  iintro ⟨⟨%d0, %d1, %d2, %hd, HS0, HS1, HS2, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  have hc := coverA m c t h d1 d2
  have hs := scoverA m c t h d1 d2
  have hn := nextA m c t h d1 d2 hd.2.1 hd.2.2
  have ho := blockA m c t h d1 d2 hd.2.1 hd.2.2
  generalize runA m c t h d1 d2 = r at hc hs hn ho
  iapply (r.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexists _; iexact HS0
  isplitl [HS1]; · iexact HS1
  isplitl [HS2]; · iexact HS2
  iintro ⟨H0, H1, H2, H3, H4, H5, H6, H7, H8, ⟨%g9, H9⟩, ⟨%es0, HS0⟩, HS1, HS2⟩
  isplitl [HS0 HS1 HS2 Hg]
  · iexists (VS0_0.read (Elt F) (VS0_0.writes (Elt F) VS0_0.junk r.2.2.2.1)), (left1 d1 r.2.1), (left2 d2 r.2.2.1)
    isplitr
    · ipureintro
      exact hn
    isplitl [HS0]
    · unfold owns; iexists _; isplitr
      swap; · iexact HS0
      ipureintro; exact View.read_writes_of_cover _ _ _ _ _ hs
    isplitl [HS1]
    · unfold owns; iexists _; isplitr
      swap; · iexact HS1
      ipureintro; rfl
    isplitl [HS2]
    · unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact (View.read_writes_of_cover _ _ _ _ _ hc).trans ho

set_option maxHeartbeats 4000000 in
/-- The body at a later column block of a sequence's first tile. -/
theorem soundB (c : Dev nD) (t : Fin cfg0.N) (h : conds0_B (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_castSucc m c t, leaves_0 m c t, after0_0, leaves_1 m c t, after0_1, leaves_2 m c t, after0_2, leaves_3 m c t, after0_3, leaves_4 m c t, after0_4, leaves_5 m c t, after0_5, leaves_6 m c t, after0_6, leaves_7 m c t, after0_7, leaves_8 m c t, after0_8]
  rw [show (dats m 0 c).leavesExact 9 t = owns (c : Thread nD τ) (ms0_9 t) fullShare ((dats m 0 c).after 9 t) from by
    unfold Dat.leavesExact; rw [liveAt0_9_B t h.1 h.2.1 h.2.2.1 h.2.2.2], after0_9]
  simp only [before0_9_B m c t h]
  unfold PhiS
  iintro ⟨⟨%d0, %d1, %d2, %hd, HS0, HS1, HS2, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  obtain rfl := hd.1 (posB t h)
  have hc := coverB m c t h (st m c t.val).1 (st m c t.val).2.1 d1 d2
  have hn := nextB m c t h d1 d2 hd.2.1 hd.2.2
  have ho := blockB m c t h d1 d2 hd.2.1 hd.2.2
  generalize runB m c t h (st m c t.val).1 (st m c t.val).2.1 d1 d2 = r at hc hn ho
  iapply (r.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, ⟨%g9, H9⟩, HS0, HS1, HS2⟩
  isplitl [HS0 HS1 HS2 Hg]
  · iexists (st m c t.val).2.1, (left1 d1 r.2.1), (left2 d2 r.2.2.1)
    isplitr
    · ipureintro
      exact hn
    isplitl [HS0]
    · iexact HS0
    isplitl [HS1]
    · unfold owns; iexists _; isplitr
      swap; · iexact HS1
      ipureintro; rfl
    isplitl [HS2]
    · unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact (View.read_writes_of_cover _ _ _ _ _ hc).trans ho

set_option maxHeartbeats 4000000 in
/-- The body at the first column block of a later tile. -/
theorem soundC (c : Dev nD) (t : Fin cfg0.N) (h : conds0_C (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_castSucc m c t, leaves_0 m c t, after0_0, leaves_1 m c t, after0_1, leaves_2 m c t, after0_2, leaves_3 m c t, after0_3, leaves_4 m c t, after0_4, leaves_5 m c t, after0_5, leaves_6 m c t, after0_6, leaves_7 m c t, after0_7, leaves_8 m c t, after0_8]
  rw [show (dats m 0 c).leavesExact 9 t = owns (c : Thread nD τ) (ms0_9 t) fullShare ((dats m 0 c).after 9 t) from by
    unfold Dat.leavesExact; rw [liveAt0_9_C t h.1 h.2.1 h.2.2.1 h.2.2.2], after0_9]
  unfold PhiS
  iintro ⟨⟨%d0, %d1, %d2, %hd, HS0, HS1, HS2, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  have hc := coverC m c t h d1 d2
  have hs := scoverC m c t h d1 d2
  have hn := nextC m c t h d1 d2 hd.2.1 hd.2.2
  have ho := blockC m c t h d1 d2 hd.2.1 hd.2.2
  generalize runC m c t h d1 d2 = r at hc hs hn ho
  iapply (r.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexists _; iexact HS0
  isplitl [HS1]; · iexact HS1
  isplitl [HS2]; · iexact HS2
  iintro ⟨H0, H1, H2, H3, H4, H5, H6, H7, H8, ⟨%g9, H9⟩, ⟨%es0, HS0⟩, HS1, HS2⟩
  isplitl [HS0 HS1 HS2 Hg]
  · iexists (VS0_0.read (Elt F) (VS0_0.writes (Elt F) VS0_0.junk r.2.2.2.1)), (left1 d1 r.2.1), (left2 d2 r.2.2.1)
    isplitr
    · ipureintro
      exact hn
    isplitl [HS0]
    · unfold owns; iexists _; isplitr
      swap; · iexact HS0
      ipureintro; exact View.read_writes_of_cover _ _ _ _ _ hs
    isplitl [HS1]
    · unfold owns; iexists _; isplitr
      swap; · iexact HS1
      ipureintro; rfl
    isplitl [HS2]
    · unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact (View.read_writes_of_cover _ _ _ _ _ hc).trans ho

set_option maxHeartbeats 4000000 in
/-- The body at a later column block of a later tile. -/
theorem soundD (c : Dev nD) (t : Fin cfg0.N) (h : conds0_D (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_castSucc m c t, leaves_0 m c t, after0_0, leaves_1 m c t, after0_1, leaves_2 m c t, after0_2, leaves_3 m c t, after0_3, leaves_4 m c t, after0_4, leaves_5 m c t, after0_5, leaves_6 m c t, after0_6, leaves_7 m c t, after0_7, leaves_8 m c t, after0_8]
  rw [show (dats m 0 c).leavesExact 9 t = owns (c : Thread nD τ) (ms0_9 t) fullShare ((dats m 0 c).after 9 t) from by
    unfold Dat.leavesExact; rw [liveAt0_9_D t h.1 h.2.1 h.2.2.1 h.2.2.2], after0_9]
  simp only [before0_9_D m c t h]
  unfold PhiS
  iintro ⟨⟨%d0, %d1, %d2, %hd, HS0, HS1, HS2, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  obtain rfl := hd.1 (posD t h)
  have hc := coverD m c t h (st m c t.val).1 (st m c t.val).2.1 d1 d2
  have hn := nextD m c t h d1 d2 hd.2.1 hd.2.2
  have ho := blockD m c t h d1 d2 hd.2.1 hd.2.2
  generalize runD m c t h (st m c t.val).1 (st m c t.val).2.1 d1 d2 = r at hc hn ho
  iapply (r.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, ⟨%g9, H9⟩, HS0, HS1, HS2⟩
  isplitl [HS0 HS1 HS2 Hg]
  · iexists (st m c t.val).2.1, (left1 d1 r.2.1), (left2 d2 r.2.2.1)
    isplitr
    · ipureintro
      exact hn
    isplitl [HS0]
    · iexact HS0
    isplitl [HS1]
    · unfold owns; iexists _; isplitr
      swap; · iexact HS1
      ipureintro; rfl
    isplitl [HS2]
    · unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact (View.read_writes_of_cover _ _ _ _ _ hc).trans ho

theorem sound_body (c : Dev nD) (t : Fin cfg0.N) :
    bodyPre m c t ⊢ wp frame (wpE (defs₀ (F := F)) Variants.none c none) Set.univ (bodyAt0 t) (fun _ => bodyPost m c t) := by
  rcases cases_of t with h | h | h | h
  · exact soundA m c t h
  · exact soundB m c t h
  · exact soundC m c t h
  · exact soundD m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the buffers. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩, ⟨%d2, HS2⟩⟩, Hg⟩
  iexists d0, d1, d2
  isplitr
  · ipureintro
    exact ⟨fun h => absurd rfl h, fun y hy => absurd hy (Nat.not_lt_zero _), fun y hy => absurd hy (Nat.not_lt_zero _)⟩
  isplitl [HS0]; · iexact HS0
  isplitl [HS1]; · iexact HS1
  isplitl [HS2]; · iexact HS2
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%d0, %d1, %d2, %hd, HS0, HS1, HS2, Hg⟩
  isplitl [HS0 HS1 HS2]
  · isplitl [HS0]
    · iexists _; iexact HS0
    isplitl [HS1]
    · iexists _; iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The kernel ends from any memory, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Halo

end
-- ==== Proof.Row.lean ====
/- The row functions shared by the calls beside the mLSTM: a row divided by the root of its mean square and weighted, and the
   per-layer embedding's row. -/
module

public import Idealize.ShloMosaic.Lib.Pointwise

@[expose] public section

noncomputable section

namespace Cert.Row

open Idealize.ShloMosaic

/-- A row of 2048 entries divided by the root of its mean square, weighted by `g`. -/
def norm (x g : Fin 2048 → EReal) (n : Fin 2048) : EReal :=
  x n * Ideal.rsqrt (Ideal.div (∑ k, x k * x k) (Ideal.ofBits .f32 1157627904#32) + Ideal.ofBits .f32 897988541#32) * g n

/-- A row `x`, with the gated per-layer embedding `p` added to it. -/
def mix (x g : Fin 2048 → EReal) (p : Fin 256 → EReal) (wg : Fin 2048 → Fin 2048 → EReal) (wp : Fin 256 → Fin 2048 → EReal)
    (n : Fin 2048) : EReal :=
  x n + Ideal.logistic (∑ k, norm x g k * wg k n) * ∑ k, p k * wp k n

/-- The row of the final result: `mix`, divided by the root of its mean square and weighted by `gf`. -/
def ple (x g : Fin 2048 → EReal) (p : Fin 256 → EReal) (wg : Fin 2048 → Fin 2048 → EReal) (wp : Fin 256 → Fin 2048 → EReal)
    (gf : Fin 2048 → EReal) : Fin 2048 → EReal :=
  norm (mix x g p wg wp) gf

end Cert.Row

end
-- ==== Proof.FfnKernel.lean ====
/- The feed-forward kernel's arithmetic at an index: a block's projection, its causal convolution over three rows with the last
   rows of the block before, the gate, and the product with the down weights. -/
module

public import proofs.«01_k».proof.Proof.Row
public import proofs.«01_k».proof.Proof.Gen.FfnIdeal.Skeleton

@[expose] public section

set_option maxRecDepth 16384

noncomputable section

namespace Cert.FfnIdeal.Tile

open Idealize.ShloMosaic Idealize.ShloMosaic.TcCoe Idealize.SL.Sem
open Cert.FfnIdeal.Gen

/-- Row `r` of a block of 512 rows counted from two rows earlier: the first two rows are the last of the eight rows `h` before. -/
def back2 (h : Fin 8 → EReal) (z : Fin 512 → EReal) (r : Fin 512) : EReal :=
  if hr : r.val < 2 then h ⟨6 + r.val, by omega⟩ else z ⟨r.val - 2, by omega⟩

/-- Row `r` of a block of 512 rows counted from one row earlier: the first row is the last of the eight rows `h` before. -/
def back1 (h : Fin 8 → EReal) (z : Fin 512 → EReal) (r : Fin 512) : EReal :=
  if hr : r.val < 1 then h ⟨7, by omega⟩ else z ⟨r.val - 1, by omega⟩

/-- The causal convolution over three rows, of a block of 512 rows after the eight rows `h`, at row `r`. -/
def conv (h : Fin 8 → EReal) (z : Fin 512 → EReal) (c : Fin 3 → EReal) (r : Fin 512) : EReal :=
  back2 h z r * c 0 + back1 h z r * c 1 + z r * c 2

/-- A block's share of the result at row `r`: the gate branch through its logistic, times the other branch, times the down weights. -/
def share (hg hu : Fin 8 → Fin 512 → EReal) (zg zu : Fin 512 → Fin 512 → EReal) (cg cu : Fin 3 → Fin 512 → EReal)
    (bg bu : Fin 512 → EReal) (wd : Fin 512 → EReal) (r : Fin 512) : EReal :=
  ∑ k, (conv (fun i => hg i k) (fun i => zg i k) (fun i => cg i k) r + bg k) *
      Ideal.logistic (conv (fun i => hg i k) (fun i => zg i k) (fun i => cg i k) r + bg k) *
      (conv (fun i => hu i k) (fun i => zu i k) (fun i => cu i k) r + bu k) * wd k

theorem slice6 (h : FVec Ideal S8x512 .f32) (z : FVec Ideal S512x512 .f32) (r k : Fin 512) :
    extractStridedSlice S512x512 ![6, 0] (concatenate S520x512 0 [⟨S8x512, h⟩, ⟨S512x512, z⟩]
      concatenates_S8x512_S512x512_S520x512_d0) slices_S520x512_o6_0_S512x512 (ix2 r k) =
      back2 (fun i => h (ix2 i k)) (fun i => z (ix2 i k)) r := by
  simp only [pointwise]
  unfold back2
  by_cases hr : r.val < 2
  · rw [dif_pos hr]
    refine (dif_pos (show 6 + r.val < 8 by omega)).trans ?_
    refine congrArg h ?_
    funext a; apply Fin.ext
    match a with
    | ⟨0, _⟩ => show 6 + r.val = 6 + r.val; omega
    | ⟨1, _⟩ => show 0 + k.val = k.val; omega
  · rw [dif_neg hr]
    refine (dif_neg (show ¬ 6 + r.val < 8 by omega)).trans ?_
    refine congrArg z ?_
    funext a; apply Fin.ext
    match a with
    | ⟨0, _⟩ => show 6 + r.val - 8 = r.val - 2; omega
    | ⟨1, _⟩ => show 0 + k.val = k.val; omega

theorem slice7 (h : FVec Ideal S8x512 .f32) (z : FVec Ideal S512x512 .f32) (r k : Fin 512) :
    extractStridedSlice S512x512 ![7, 0] (concatenate S520x512 0 [⟨S8x512, h⟩, ⟨S512x512, z⟩]
      concatenates_S8x512_S512x512_S520x512_d0) slices_S520x512_o7_0_S512x512 (ix2 r k) =
      back1 (fun i => h (ix2 i k)) (fun i => z (ix2 i k)) r := by
  simp only [pointwise]
  unfold back1
  by_cases hr : r.val < 1
  · rw [dif_pos hr]
    refine (dif_pos (show 7 + r.val < 8 by omega)).trans ?_
    refine congrArg h ?_
    funext a; apply Fin.ext
    match a with
    | ⟨0, _⟩ => show 7 + r.val = 7; omega
    | ⟨1, _⟩ => show 0 + k.val = k.val; omega
  · rw [dif_neg hr]
    refine (dif_neg (show ¬ 7 + r.val < 8 by omega)).trans ?_
    refine congrArg z ?_
    funext a; apply Fin.ext
    match a with
    | ⟨0, _⟩ => show 7 + r.val - 8 = r.val - 1; omega
    | ⟨1, _⟩ => show 0 + k.val = k.val; omega

theorem tap0 (c : Vec Ideal S3x512 .f32) (r k : Fin 512) :
    broadcastTo S512x512 (extractStridedSlice S1x512 ![0, 0] c slices_S3x512_o0_0_S1x512) broadcasts_S1x512_S512x512 (ix2 r k) =
      c (ix2 0 k) := by
  simp only [pointwise]
  refine congrArg c ?_
  funext a; apply Fin.ext
  match a with
  | ⟨0, _⟩ => rfl
  | ⟨1, _⟩ => exact Nat.zero_add _

theorem tap1 (c : Vec Ideal S3x512 .f32) (r k : Fin 512) :
    broadcastTo S512x512 (extractStridedSlice S1x512 ![1, 0] c slices_S3x512_o1_0_S1x512) broadcasts_S1x512_S512x512 (ix2 r k) =
      c (ix2 1 k) := by
  simp only [pointwise]
  refine congrArg c ?_
  funext a; apply Fin.ext
  match a with
  | ⟨0, _⟩ => rfl
  | ⟨1, _⟩ => exact Nat.zero_add _

theorem tap2 (c : Vec Ideal S3x512 .f32) (r k : Fin 512) :
    broadcastTo S512x512 (extractStridedSlice S1x512 ![2, 0] c slices_S3x512_o2_0_S1x512) broadcasts_S1x512_S512x512 (ix2 r k) =
      c (ix2 2 k) := by
  simp only [pointwise]
  refine congrArg c ?_
  funext a; apply Fin.ext
  match a with
  | ⟨0, _⟩ => rfl
  | ⟨1, _⟩ => exact Nat.zero_add _

theorem spread (b : Vec Ideal S1x512 .f32) (r k : Fin 512) :
    broadcastTo S512x512 b broadcasts_S1x512_S512x512 (ix2 r k) = b (ix2 0 k) := by
  simp only [pointwise]
  rfl

theorem pay18_apply (h : FVec Ideal S8x512 .f32) (z : FVec Ideal S512x512 .f32) (cw : Vec Ideal S3x512 .f32)
    (b : Vec Ideal S1x512 .f32) (r k : Fin 512) : k0_pay18 h z cw b (ix2 r k) =
      conv (fun i => h (ix2 i k)) (fun i => z (ix2 i k)) (fun i => cw (ix2 i k)) r + (b (ix2 0 k) : EReal) := by
  unfold conv
  beta_reduce
  rw [← slice6 h z r k, ← slice7 h z r k, ← tap0 cw r k, ← tap1 cw r k, ← tap2 cw r k, ← spread b r k]
  rfl

theorem pay19_apply (h : FVec Ideal S8x512 .f32) (z : FVec Ideal S512x512 .f32) (cw : Vec Ideal S3x512 .f32) (r k : Fin 512) :
    ((k0_pay19 h z cw (ix2 r k) : EReal) + k0_pay20 z cw (ix2 r k) : EReal) =
      conv (fun i => h (ix2 i k)) (fun i => z (ix2 i k)) (fun i => cw (ix2 i k)) r := by
  unfold conv
  beta_reduce
  rw [← slice6 h z r k, ← slice7 h z r k, ← tap0 cw r k, ← tap1 cw r k, ← tap2 cw r k]
  rfl

theorem pay21_apply (g p q : FVec Ideal S512x512 .f32) (b : Vec Ideal S1x512 .f32) (x : Vec Ideal S512x2048 .f32)
    (wd : Vec Ideal S512x2048 .bf16) (r : Fin 512) (n : Fin 2048) : k0_pay21 g p q b x wd (ix2 r n) =
      (x (ix2 r n) : EReal) + ∑ k, (g (ix2 r k) : EReal) * Ideal.logistic (g (ix2 r k)) *
        ((p (ix2 r k) : EReal) + q (ix2 r k) + b (ix2 0 k)) * wd (ix2 k n) := by
  unfold k0_pay21
  simp only [pointwise, zero_add]
  rfl

/-- Rows 0 to 511 of a block, after the eight rows `hg`, `hu`. -/
theorem low_apply (hg hu : FVec Ideal S8x512 .f32) (zg zu : FVec Ideal S512x512 .f32) (cg cu : Vec Ideal S3x512 .f32)
    (bg bu : Vec Ideal S1x512 .f32) (x : Vec Ideal S512x2048 .f32) (wd : Vec Ideal S512x2048 .bf16) (r : Fin 512) (n : Fin 2048) :
    k0_pay21 (k0_pay18 hg zg cg bg) (k0_pay19 hu zu cu) (k0_pay20 zu cu) bu x wd (ix2 r n) =
      (x (ix2 r n) : EReal) + share (fun i k => hg (ix2 i k)) (fun i k => hu (ix2 i k)) (fun i k => zg (ix2 i k))
        (fun i k => zu (ix2 i k)) (fun i k => cg (ix2 i k)) (fun i k => cu (ix2 i k)) (fun k => bg (ix2 0 k))
        (fun k => bu (ix2 0 k)) (fun k => wd (ix2 k n)) r := by
  rw [pay21_apply]
  unfold share
  simp only [pay18_apply, pay19_apply]

/-- Rows 512 to 1023 of a block: rows 0 to 511 after the last eight of them. -/
theorem high_apply (zg0 zg1 zu0 zu1 : FVec Ideal S512x512 .f32) (cg cu : Vec Ideal S3x512 .f32)
    (bg bu : Vec Ideal S1x512 .f32) (x : Vec Ideal S512x2048 .f32) (wd : Vec Ideal S512x2048 .bf16) (r : Fin 512) (n : Fin 2048) :
    k0_pay5 zu1 (k0_pay22 zg0 zg1 cg bg) cu (k0_pay23 zu0 zu1 cu) bu x wd (ix2 r n) =
      (x (ix2 r n) : EReal) + share (fun i k => zg0 (ix2 ⟨504 + i.val, by omega⟩ k)) (fun i k => zu0 (ix2 ⟨504 + i.val, by omega⟩ k))
        (fun i k => zg1 (ix2 i k)) (fun i k => zu1 (ix2 i k)) (fun i k => cg (ix2 i k)) (fun i k => cu (ix2 i k))
        (fun k => bg (ix2 0 k)) (fun k => bu (ix2 0 k)) (fun k => wd (ix2 k n)) r := by
  have h := low_apply (extractStridedSlice S8x512 ![504, 0] zg0 slices_S512x512_o504_0_S8x512)
    (extractStridedSlice S8x512 ![504, 0] zu0 slices_S512x512_o504_0_S8x512) zg1 zu1 cg cu bg bu x wd r n
  refine (show _ = _ from rfl : k0_pay5 zu1 (k0_pay22 zg0 zg1 cg bg) cu (k0_pay23 zu0 zu1 cu) bu x wd (ix2 r n) = _).trans (h.trans ?_)
  have e : ∀ (z : FVec Ideal S512x512 .f32) (i : Fin 8) (k : Fin 512),
      extractStridedSlice S8x512 ![504, 0] z slices_S512x512_o504_0_S8x512 (ix2 i k) = z (ix2 ⟨504 + i.val, by omega⟩ k) := by
    intro z i k
    simp only [pointwise]
    refine congrArg z ?_
    funext a; apply Fin.ext
    match a with
    | ⟨0, _⟩ => rfl
    | ⟨1, _⟩ => exact Nat.zero_add _
  simp only [e]

theorem cast_self (x : Vec Ideal S512x2048 .f32) : shapeCast S512x2048 x shapeCasts_S512x2048_S512x2048 = x := by
  funext i
  obtain ⟨r, n, rfl⟩ : ∃ (r : Fin 512) (n : Fin 2048), i = ix2 r n := ⟨i 0, i 1, by
      funext a; match a with
      | ⟨0, _⟩ => rfl
      | ⟨1, _⟩ => rfl⟩
  simp only [pointwise]

/-- The later column blocks compute the low rows by the same terms. -/
theorem low_later (hg hu : FVec Ideal S8x512 .f32) (h : Vec Ideal S512x2048 .bf16) (wg wu : Vec Ideal S2048x512 .bf16)
    (cg cu : Vec Ideal S3x512 .f32) (bg bu : Vec Ideal S1x512 .f32) (x : Vec Ideal S512x2048 .f32) (wd : Vec Ideal S512x2048 .bf16) :
    k0_pay32 (k0_pay25 h wu) (k0_pay28 hg h wg cg bg) cu (k0_pay30 hu h wu cu) (k0_pay31 hu h wu cu) bu x wd =
      k0_pay21 (k0_pay18 hg (k0_pay12 h wg) cg bg) (k0_pay19 hu (k0_pay13 h wu) cu) (k0_pay20 (k0_pay13 h wu) cu) bu x wd := by
  refine Eq.trans ?_ (congrArg (fun y => k0_pay21 (k0_pay18 hg (k0_pay12 h wg) cg bg) (k0_pay19 hu (k0_pay13 h wu) cu)
    (k0_pay20 (k0_pay13 h wu) cu) bu y wd) (cast_self x))
  rfl

/-- The later column blocks compute the high rows by the same terms. -/
theorem high_later (zg0 zg1 zu0 zu1 : FVec Ideal S512x512 .f32) (cg cu : Vec Ideal S3x512 .f32)
    (bg bu : Vec Ideal S1x512 .f32) (x : Vec Ideal S512x2048 .f32) (wd : Vec Ideal S512x2048 .bf16) :
    k0_pay8 zu1 (k0_pay33 zg0 zg1 cg bg) cu (k0_pay35 zu0 zu1) (k0_pay36 zu0 zu1) (k0_pay37 cu) bu x wd =
      k0_pay5 zu1 (k0_pay22 zg0 zg1 cg bg) cu (k0_pay23 zu0 zu1 cu) bu x wd := by
  refine Eq.trans ?_ (congrArg (fun y => k0_pay5 zu1 (k0_pay22 zg0 zg1 cg bg) cu (k0_pay23 zu0 zu1 cu) bu y wd) (cast_self x))
  rfl

/-- A block's normed rows times a block of the up weights. -/
theorem up_apply (h : Vec Ideal S512x2048 .bf16) (w : Vec Ideal S2048x512 .bf16) (r k : Fin 512) :
    k0_pay12 h w (ix2 r k) = ∑ j, (h (ix2 r j) : EReal) * w (ix2 j k) := by
  unfold k0_pay12
  simp only [pointwise, zero_add]

theorem norm_low (x : Vec Ideal S512x2048 .f32) (g : Vec Ideal S1x2048 .f32) (r : Fin 512) (k : Fin 2048) :
    k0_pay11 x g (ix2 r k) = Row.norm (fun j => x (ix2 r j)) (fun j => g (ix2 0 j)) k := by
  unfold k0_pay11 Row.norm
  simp only [pointwise, zero_add]
  rfl

theorem norm_high (x : Vec Ideal S512x2048 .f32) (g : Vec Ideal S1x2048 .f32) (r : Fin 512) (k : Fin 2048) :
    k0_pay15 g (k0_pay14 x) (ix2 r k) = Row.norm (fun j => x (ix2 r j)) (fun j => g (ix2 0 j)) k := by
  unfold k0_pay15 k0_pay14 Row.norm
  simp only [pointwise, zero_add]
  rfl

/-- The last eight rows of a block, as they are handed on. -/
theorem last_apply (z : FVec Ideal S512x512 .f32) (a : Fin 1) (i : Fin 8) (k : Fin 512) :
    k0_pay6 z (ix3 a i k) = z (ix2 ⟨504 + i.val, by omega⟩ k) := by
  unfold k0_pay6
  simp only [pointwise]
  refine congrArg z ?_
  funext b; apply Fin.ext
  match b with
  | ⟨0, _⟩ => rfl
  | ⟨1, _⟩ => exact Nat.zero_add _

/-- Eight rows, as they are read back. -/
theorem halo_apply (v : Vec Ideal S1x8x512 .f32) (i : Fin 8) (k : Fin 512) : k0_pay2 v (ix2 i k) = v (ix3 0 i k) := by
  unfold k0_pay2
  simp only [pointwise]

theorem zero_apply (a : Fin 1) (i : Fin 8) (k : Fin 512) : (k0_pay1 (F := Ideal)) (ix3 a i k) = (0 : EReal) := by
  unfold k0_pay1
  simp only [pointwise]

end Cert.FfnIdeal.Tile

end
-- ==== Proof.FfnStores.lean ====
/- What the feed-forward kernel's body stores at a grid point, store by store, as terms of the blocks it reads. -/
module

public import proofs.«01_k».proof.Proof.FfnIdealState
public import proofs.«01_k».proof.Proof.FfnKernel

@[expose] public section

set_option maxRecDepth 16384

noncomputable section

namespace Cert.FfnIdeal.Halo

open Cert.FfnIdeal.Gen
open Idealize.ShloMosaic Idealize.ShloMosaic.TcCoe Idealize.ShloMosaic.Tactic
open Idealize.SL.Sem

/-- Rows 0 to 511 of a block of 1024 rows. -/
abbrev top {e : EltTy} (X : Vec Ideal S1024x2048 e) : Vec Ideal S512x2048 e :=
  View.ld X (Rect.unit (s := S1024x2048) ![0, 0] ![512, 2048] inb_S1024x2048_S512x2048_0_0)
/-- Rows 512 to 1023 of a block of 1024 rows. -/
abbrev bottom {e : EltTy} (X : Vec Ideal S1024x2048 e) : Vec Ideal S512x2048 e :=
  View.ld X (Rect.unit (s := S1024x2048) ![512, 0] ![512, 2048] inb_S1024x2048_S512x2048_512_0)
/-- One column block of the eight carried rows. -/
abbrev slot (d : Vec Ideal S11x8x512 .f32) (off : Fin 3 → ℕ) (inb : ∀ a, off a + S1x8x512.size a ≤ S11x8x512.size a) :
    Vec Ideal S1x8x512 .f32 := View.ld d (Rect.unit (s := S11x8x512) off S1x8x512.size inb)

theorem readCov_same {M : Memref sig .tc .vmem S11x8x512 .f32} (off off' : Fin 3 → ℕ) (h : off = off')
    (inb : ∀ a, off a + S1x8x512.size a ≤ S11x8x512.size a) (inb' : ∀ a, off' a + S1x8x512.size a ≤ S11x8x512.size a)
    (w : Vec Ideal S1x8x512 .f32) :
    M.view.readCov [⟨Rect.unit (s := S11x8x512) off S1x8x512.size inb, w⟩] (Rect.unit (s := S11x8x512) off' S1x8x512.size inb').toLoadRect = w := by
  subst h; exact View.readCov_cons_toLoadRect _ _ _ _

theorem off_same (i : grid0.Coords) : k0_off1 i = k0_off2 i := rfl

theorem zero2 : (![0, 0] : Fin 2 → ℕ) = fun _ => 0 := by
  funext a
  match a with
  | ⟨0, _⟩ => rfl
  | ⟨1, _⟩ => rfl

theorem full_S1x2048 {e : EltTy} (x : Vec Ideal S1x2048 e) (inb : ∀ a, (![0, 0] : Fin 2 → ℕ) a + (![1, 2048] : Fin 2 → ℕ) a ≤ S1x2048.size a) :
    View.ld x (Rect.unit (s := S1x2048) ![0, 0] ![1, 2048] inb) = x := View.ld_unit_zero (S := S1x2048) zero2 inb x
theorem full_S2048x512 {e : EltTy} (x : Vec Ideal S2048x512 e) (inb : ∀ a, (![0, 0] : Fin 2 → ℕ) a + (![2048, 512] : Fin 2 → ℕ) a ≤ S2048x512.size a) :
    View.ld x (Rect.unit (s := S2048x512) ![0, 0] ![2048, 512] inb) = x := View.ld_unit_zero (S := S2048x512) zero2 inb x
theorem full_S3x512 {e : EltTy} (x : Vec Ideal S3x512 e) (inb : ∀ a, (![0, 0] : Fin 2 → ℕ) a + (![3, 512] : Fin 2 → ℕ) a ≤ S3x512.size a) :
    View.ld x (Rect.unit (s := S3x512) ![0, 0] ![3, 512] inb) = x := View.ld_unit_zero (S := S3x512) zero2 inb x
theorem full_S1x512 {e : EltTy} (x : Vec Ideal S1x512 e) (inb : ∀ a, (![0, 0] : Fin 2 → ℕ) a + (![1, 512] : Fin 2 → ℕ) a ≤ S1x512.size a) :
    View.ld x (Rect.unit (s := S1x512) ![0, 0] ![1, 512] inb) = x := View.ld_unit_zero (S := S1x512) zero2 inb x
theorem full_S512x2048 {e : EltTy} (x : Vec Ideal S512x2048 e) (inb : ∀ a, (![0, 0] : Fin 2 → ℕ) a + (![512, 2048] : Fin 2 → ℕ) a ≤ S512x2048.size a) :
    View.ld x (Rect.unit (s := S512x2048) ![0, 0] ![512, 2048] inb) = x := View.ld_unit_zero (S := S512x2048) zero2 inb x

set_option maxHeartbeats 1600000

variable (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S3x512 .f32) (h6 : a6.IsWhole) (a7 : Memref sig .tc .vmem S3x512 .f32) (h7 : a7.IsWhole) (a8 : Memref sig .tc .vmem S1x512 .f32) (h8 : a8.IsWhole) (a9 : Memref sig .tc .vmem S1x512 .f32) (h9 : a9.IsWhole) (a10 : Memref sig .tc .vmem S512x2048 .bf16) (h10 : a10.IsWhole) (a11 : Memref sig .tc .vmem S1024x2048 .f32) (h11 : a11.IsWhole) (a12 : Memref sig .tc .vmem S1024x2048 .bf16) (h12 : a12.IsWhole) (a13 : Memref sig .tc .vmem S11x8x512 .f32) (h13 : a13.IsWhole) (a14 : Memref sig .tc .vmem S11x8x512 .f32) (h14 : a14.IsWhole)
  (x2 : Vec Ideal S1024x2048 .f32) (x3 : Vec Ideal S1x2048 .f32) (x4 : Vec Ideal S2048x512 .bf16) (x5 : Vec Ideal S2048x512 .bf16) (x6 : Vec Ideal S3x512 .f32) (x7 : Vec Ideal S3x512 .f32) (x8 : Vec Ideal S1x512 .f32) (x9 : Vec Ideal S1x512 .f32) (x10 : Vec Ideal S512x2048 .bf16)

/-- The result block's two stores, at the first column block of a tile after nothing. -/
theorem outPiecesA
    (c0 : cond0_0 i) (c1 : cond0_1 i) (c2 : cond0_2 i) (c3 : ¬cond0_3 i)
    (d1 d2 : Vec Ideal S11x8x512 .f32) :
    (kernelRun0_A (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).1 =
      [⟨Rect.unit (s := S1024x2048) ![512, 0] ![512, 2048] inb_S1024x2048_S512x2048_512_0, k0_pay5 (k0_pay17 (k0_pay15 x3 (k0_pay14 (bottom x2))) x5) (k0_pay22 (k0_pay12 (k0_pay11 (top x2) x3) x4) (k0_pay16 (k0_pay15 x3 (k0_pay14 (bottom x2))) x4) x6 x8) x7 (k0_pay23 (k0_pay13 (k0_pay11 (top x2) x3) x5) (k0_pay17 (k0_pay15 x3 (k0_pay14 (bottom x2))) x5) x7) x9 (bottom x2) x10⟩,
        ⟨Rect.unit (s := S1024x2048) ![0, 0] ![512, 2048] inb_S1024x2048_S512x2048_0_0, k0_pay21 (k0_pay18 (k0_pay2 (k0_pay1 (F := Ideal))) (k0_pay12 (k0_pay11 (top x2) x3) x4) x6 x8) (k0_pay19 (k0_pay4 (k0_pay3 (F := Ideal))) (k0_pay13 (k0_pay11 (top x2) x3) x5) x7) (k0_pay20 (k0_pay13 (k0_pay11 (top x2) x3) x5) x7) x9 (top x2) x10⟩] := by
  unfold kernelRun0_A
  sl_unfold_words
  dsimp only
  simp only [View.readCov_cons_toLoadRect, View.readAt_eq_ld, Memref.IsWhole.read_unread, full_S1x2048, full_S2048x512, full_S3x512, full_S1x512, full_S512x2048]

/-- The normed rows' two stores, at the first column block of a tile after nothing. -/
theorem normPiecesA
    (c0 : cond0_0 i) (c1 : cond0_1 i) (c2 : cond0_2 i) (c3 : ¬cond0_3 i)
    (d1 d2 : Vec Ideal S11x8x512 .f32) :
    (kernelRun0_A (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.2.2.1 =
      [⟨Rect.unit (s := S1024x2048) ![512, 0] ![512, 2048] inb_S1024x2048_S512x2048_512_0, (k0_pay15 x3 (k0_pay14 (bottom x2)))⟩, ⟨Rect.unit (s := S1024x2048) ![0, 0] ![512, 2048] inb_S1024x2048_S512x2048_0_0, (k0_pay11 (top x2) x3)⟩] := by
  unfold kernelRun0_A
  sl_unfold_words
  dsimp only
  simp only [View.readCov_cons_toLoadRect, View.readAt_eq_ld, Memref.IsWhole.read_unread, full_S1x2048, full_S2048x512, full_S3x512, full_S1x512, full_S512x2048]

/-- The last eight rows of the gate projection, as stored at the first column block of a tile after nothing. -/
theorem gatePiecesA
    (c0 : cond0_0 i) (c1 : cond0_1 i) (c2 : cond0_2 i) (c3 : ¬cond0_3 i)
    (d1 d2 : Vec Ideal S11x8x512 .f32) : ∀ inb inb',
    (kernelRun0_A (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.1 =
      [⟨Rect.unit (s := S11x8x512) (k0_off4 i) S1x8x512.size inb, k0_pay6 (k0_pay16 (k0_pay15 x3 (k0_pay14 (bottom x2))) x4)⟩, ⟨Rect.unit (s := S11x8x512) (k0_off1 i) S1x8x512.size inb', (k0_pay1 (F := Ideal))⟩] := by
  intro inb inb'
  unfold kernelRun0_A
  sl_unfold_words
  dsimp only
  simp only [View.readCov_cons_toLoadRect, View.readAt_eq_ld, Memref.IsWhole.read_unread, full_S1x2048, full_S2048x512, full_S3x512, full_S1x512, full_S512x2048]

/-- The last eight rows of the other projection, as stored at the first column block of a tile after nothing. -/
theorem upPiecesA
    (c0 : cond0_0 i) (c1 : cond0_1 i) (c2 : cond0_2 i) (c3 : ¬cond0_3 i)
    (d1 d2 : Vec Ideal S11x8x512 .f32) : ∀ inb inb',
    (kernelRun0_A (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.2.1 =
      [⟨Rect.unit (s := S11x8x512) (k0_off4 i) S1x8x512.size inb, k0_pay7 (k0_pay17 (k0_pay15 x3 (k0_pay14 (bottom x2))) x5)⟩, ⟨Rect.unit (s := S11x8x512) (k0_off3 i) S1x8x512.size inb', (k0_pay3 (F := Ideal))⟩] := by
  intro inb inb'
  unfold kernelRun0_A
  sl_unfold_words
  dsimp only
  simp only [View.readCov_cons_toLoadRect, View.readAt_eq_ld, Memref.IsWhole.read_unread, full_S1x2048, full_S2048x512, full_S3x512, full_S1x512, full_S512x2048]

/-- The result block's two stores, at a later column block of a tile after nothing. -/
theorem outPiecesB
    (c0 : cond0_0 i) (c1 : cond0_1 i) (c2 : ¬cond0_2 i) (c3 : cond0_3 i)
    (x11 : Vec Ideal S1024x2048 .f32) (x12 : Vec Ideal S1024x2048 .bf16) (d1 d2 : Vec Ideal S11x8x512 .f32) :
    (kernelRun0_B (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).1 =
      [⟨Rect.unit (s := S1024x2048) ![512, 0] ![512, 2048] inb_S1024x2048_S512x2048_512_0, k0_pay8 (k0_pay27 (bottom x12) x5) (k0_pay33 (k0_pay24 (top x12) x4) (k0_pay26 (bottom x12) x4) x6 x8) x7 (k0_pay35 (k0_pay25 (top x12) x5) (k0_pay27 (bottom x12) x5)) (k0_pay36 (k0_pay25 (top x12) x5) (k0_pay27 (bottom x12) x5)) (k0_pay37 x7) x9 (bottom x11) x10⟩,
        ⟨Rect.unit (s := S1024x2048) ![0, 0] ![512, 2048] inb_S1024x2048_S512x2048_0_0, k0_pay32 (k0_pay25 (top x12) x5) (k0_pay28 (k0_pay2 (k0_pay1 (F := Ideal))) (top x12) x4 x6 x8) x7 (k0_pay30 (k0_pay4 (k0_pay3 (F := Ideal))) (top x12) x5 x7) (k0_pay31 (k0_pay4 (k0_pay3 (F := Ideal))) (top x12) x5 x7) x9 (top x11) x10⟩] := by
  unfold kernelRun0_B
  sl_unfold_words
  dsimp only
  simp only [View.readCov_cons_toLoadRect, View.readAt_eq_ld, Memref.IsWhole.read_unread, full_S1x2048, full_S2048x512, full_S3x512, full_S1x512, full_S512x2048]

/-- The last eight rows of the gate projection, as stored at a later column block of a tile after nothing. -/
theorem gatePiecesB
    (c0 : cond0_0 i) (c1 : cond0_1 i) (c2 : ¬cond0_2 i) (c3 : cond0_3 i)
    (x11 : Vec Ideal S1024x2048 .f32) (x12 : Vec Ideal S1024x2048 .bf16) (d1 d2 : Vec Ideal S11x8x512 .f32) : ∀ inb inb',
    (kernelRun0_B (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).2.1 =
      [⟨Rect.unit (s := S11x8x512) (k0_off5 i) S1x8x512.size inb, k0_pay9 (k0_pay26 (bottom x12) x4)⟩, ⟨Rect.unit (s := S11x8x512) (k0_off1 i) S1x8x512.size inb', (k0_pay1 (F := Ideal))⟩] := by
  intro inb inb'
  unfold kernelRun0_B
  sl_unfold_words
  dsimp only
  simp only [View.readCov_cons_toLoadRect, View.readAt_eq_ld, Memref.IsWhole.read_unread, full_S1x2048, full_S2048x512, full_S3x512, full_S1x512, full_S512x2048]

/-- The last eight rows of the other projection, as stored at a later column block of a tile after nothing. -/
theorem upPiecesB
    (c0 : cond0_0 i) (c1 : cond0_1 i) (c2 : ¬cond0_2 i) (c3 : cond0_3 i)
    (x11 : Vec Ideal S1024x2048 .f32) (x12 : Vec Ideal S1024x2048 .bf16) (d1 d2 : Vec Ideal S11x8x512 .f32) : ∀ inb inb',
    (kernelRun0_B (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).2.2.1 =
      [⟨Rect.unit (s := S11x8x512) (k0_off5 i) S1x8x512.size inb, k0_pay10 (k0_pay27 (bottom x12) x5)⟩, ⟨Rect.unit (s := S11x8x512) (k0_off3 i) S1x8x512.size inb', (k0_pay3 (F := Ideal))⟩] := by
  intro inb inb'
  unfold kernelRun0_B
  sl_unfold_words
  dsimp only
  simp only [View.readCov_cons_toLoadRect, View.readAt_eq_ld, Memref.IsWhole.read_unread, full_S1x2048, full_S2048x512, full_S3x512, full_S1x512, full_S512x2048]

/-- The result block's two stores, at the first column block of a tile after another. -/
theorem outPiecesC
    (c0 : ¬cond0_0 i) (c1 : ¬cond0_1 i) (c2 : cond0_2 i) (c3 : ¬cond0_3 i)
    (d1 d2 : Vec Ideal S11x8x512 .f32) :
    (kernelRun0_C (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).1 =
      [⟨Rect.unit (s := S1024x2048) ![512, 0] ![512, 2048] inb_S1024x2048_S512x2048_512_0, k0_pay5 (k0_pay17 (k0_pay15 x3 (k0_pay14 (bottom x2))) x5) (k0_pay22 (k0_pay12 (k0_pay11 (top x2) x3) x4) (k0_pay16 (k0_pay15 x3 (k0_pay14 (bottom x2))) x4) x6 x8) x7 (k0_pay23 (k0_pay13 (k0_pay11 (top x2) x3) x5) (k0_pay17 (k0_pay15 x3 (k0_pay14 (bottom x2))) x5) x7) x9 (bottom x2) x10⟩,
        ⟨Rect.unit (s := S1024x2048) ![0, 0] ![512, 2048] inb_S1024x2048_S512x2048_0_0, k0_pay21 (k0_pay18 (k0_pay2 (slot d1 (k0_off2 i) (k0_off2_inb i))) (k0_pay12 (k0_pay11 (top x2) x3) x4) x6 x8) (k0_pay19 (k0_pay4 (slot d2 (k0_off2 i) (k0_off2_inb i))) (k0_pay13 (k0_pay11 (top x2) x3) x5) x7) (k0_pay20 (k0_pay13 (k0_pay11 (top x2) x3) x5) x7) x9 (top x2) x10⟩] := by
  unfold kernelRun0_C
  sl_unfold_words
  dsimp only
  simp only [View.readCov_cons_toLoadRect, View.readAt_eq_ld, Memref.IsWhole.read_unread, full_S1x2048, full_S2048x512, full_S3x512, full_S1x512, full_S512x2048]

/-- The normed rows' two stores, at the first column block of a tile after another. -/
theorem normPiecesC
    (c0 : ¬cond0_0 i) (c1 : ¬cond0_1 i) (c2 : cond0_2 i) (c3 : ¬cond0_3 i)
    (d1 d2 : Vec Ideal S11x8x512 .f32) :
    (kernelRun0_C (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.2.2.1 =
      [⟨Rect.unit (s := S1024x2048) ![512, 0] ![512, 2048] inb_S1024x2048_S512x2048_512_0, (k0_pay15 x3 (k0_pay14 (bottom x2)))⟩, ⟨Rect.unit (s := S1024x2048) ![0, 0] ![512, 2048] inb_S1024x2048_S512x2048_0_0, (k0_pay11 (top x2) x3)⟩] := by
  unfold kernelRun0_C
  sl_unfold_words
  dsimp only
  simp only [View.readCov_cons_toLoadRect, View.readAt_eq_ld, Memref.IsWhole.read_unread, full_S1x2048, full_S2048x512, full_S3x512, full_S1x512, full_S512x2048]

/-- The last eight rows of the gate projection, as stored at the first column block of a tile after another. -/
theorem gatePiecesC
    (c0 : ¬cond0_0 i) (c1 : ¬cond0_1 i) (c2 : cond0_2 i) (c3 : ¬cond0_3 i)
    (d1 d2 : Vec Ideal S11x8x512 .f32) : ∀ inb,
    (kernelRun0_C (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.1 =
      [⟨Rect.unit (s := S11x8x512) (k0_off4 i) S1x8x512.size inb, k0_pay6 (k0_pay16 (k0_pay15 x3 (k0_pay14 (bottom x2))) x4)⟩] := by
  intro inb
  unfold kernelRun0_C
  sl_unfold_words
  dsimp only
  simp only [View.readCov_cons_toLoadRect, View.readAt_eq_ld, Memref.IsWhole.read_unread, full_S1x2048, full_S2048x512, full_S3x512, full_S1x512, full_S512x2048]

/-- The last eight rows of the other projection, as stored at the first column block of a tile after another. -/
theorem upPiecesC
    (c0 : ¬cond0_0 i) (c1 : ¬cond0_1 i) (c2 : cond0_2 i) (c3 : ¬cond0_3 i)
    (d1 d2 : Vec Ideal S11x8x512 .f32) : ∀ inb,
    (kernelRun0_C (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 d1 d2).2.2.1 =
      [⟨Rect.unit (s := S11x8x512) (k0_off4 i) S1x8x512.size inb, k0_pay7 (k0_pay17 (k0_pay15 x3 (k0_pay14 (bottom x2))) x5)⟩] := by
  intro inb
  unfold kernelRun0_C
  sl_unfold_words
  dsimp only
  simp only [View.readCov_cons_toLoadRect, View.readAt_eq_ld, Memref.IsWhole.read_unread, full_S1x2048, full_S2048x512, full_S3x512, full_S1x512, full_S512x2048]

/-- The result block's two stores, at a later column block of a tile after another. -/
theorem outPiecesD
    (c0 : ¬cond0_0 i) (c1 : ¬cond0_1 i) (c2 : ¬cond0_2 i) (c3 : cond0_3 i)
    (x11 : Vec Ideal S1024x2048 .f32) (x12 : Vec Ideal S1024x2048 .bf16) (d1 d2 : Vec Ideal S11x8x512 .f32) :
    (kernelRun0_D (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).1 =
      [⟨Rect.unit (s := S1024x2048) ![512, 0] ![512, 2048] inb_S1024x2048_S512x2048_512_0, k0_pay8 (k0_pay27 (bottom x12) x5) (k0_pay33 (k0_pay24 (top x12) x4) (k0_pay26 (bottom x12) x4) x6 x8) x7 (k0_pay35 (k0_pay25 (top x12) x5) (k0_pay27 (bottom x12) x5)) (k0_pay36 (k0_pay25 (top x12) x5) (k0_pay27 (bottom x12) x5)) (k0_pay37 x7) x9 (bottom x11) x10⟩,
        ⟨Rect.unit (s := S1024x2048) ![0, 0] ![512, 2048] inb_S1024x2048_S512x2048_0_0, k0_pay32 (k0_pay25 (top x12) x5) (k0_pay28 (k0_pay2 (slot d1 (k0_off2 i) (k0_off2_inb i))) (top x12) x4 x6 x8) x7 (k0_pay30 (k0_pay4 (slot d2 (k0_off2 i) (k0_off2_inb i))) (top x12) x5 x7) (k0_pay31 (k0_pay4 (slot d2 (k0_off2 i) (k0_off2_inb i))) (top x12) x5 x7) x9 (top x11) x10⟩] := by
  unfold kernelRun0_D
  sl_unfold_words
  dsimp only
  simp only [View.readCov_cons_toLoadRect, View.readAt_eq_ld, Memref.IsWhole.read_unread, full_S1x2048, full_S2048x512, full_S3x512, full_S1x512, full_S512x2048]

/-- The last eight rows of the gate projection, as stored at a later column block of a tile after another. -/
theorem gatePiecesD
    (c0 : ¬cond0_0 i) (c1 : ¬cond0_1 i) (c2 : ¬cond0_2 i) (c3 : cond0_3 i)
    (x11 : Vec Ideal S1024x2048 .f32) (x12 : Vec Ideal S1024x2048 .bf16) (d1 d2 : Vec Ideal S11x8x512 .f32) : ∀ inb,
    (kernelRun0_D (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).2.1 =
      [⟨Rect.unit (s := S11x8x512) (k0_off5 i) S1x8x512.size inb, k0_pay9 (k0_pay26 (bottom x12) x4)⟩] := by
  intro inb
  unfold kernelRun0_D
  sl_unfold_words
  dsimp only
  simp only [View.readCov_cons_toLoadRect, View.readAt_eq_ld, Memref.IsWhole.read_unread, full_S1x2048, full_S2048x512, full_S3x512, full_S1x512, full_S512x2048]

/-- The last eight rows of the other projection, as stored at a later column block of a tile after another. -/
theorem upPiecesD
    (c0 : ¬cond0_0 i) (c1 : ¬cond0_1 i) (c2 : ¬cond0_2 i) (c3 : cond0_3 i)
    (x11 : Vec Ideal S1024x2048 .f32) (x12 : Vec Ideal S1024x2048 .bf16) (d1 d2 : Vec Ideal S11x8x512 .f32) : ∀ inb,
    (kernelRun0_D (F := Ideal) c i a2 h2 a3 h3 a4 h4 a5 h5 a6 h6 a7 h7 a8 h8 a9 h9 a10 h10 a11 h11 a12 h12 a13 h13 a14 h14 c0 c1 c2 c3 x2 x3 x4 x5 x6 x7 x8 x9 x10 x11 x12 d1 d2).2.2.1 =
      [⟨Rect.unit (s := S11x8x512) (k0_off5 i) S1x8x512.size inb, k0_pay10 (k0_pay27 (bottom x12) x5)⟩] := by
  intro inb
  unfold kernelRun0_D
  sl_unfold_words
  dsimp only
  simp only [View.readCov_cons_toLoadRect, View.readAt_eq_ld, Memref.IsWhole.read_unread, full_S1x2048, full_S2048x512, full_S3x512, full_S1x512, full_S512x2048]

end Cert.FfnIdeal.Halo

end
-- ==== Proof.FfnLayer.lean ====
/- The feed-forward block's result, entry by entry of the whole arrays, and a tile's terms as parts of it. -/
module

public import proofs.«01_k».proof.Proof.FfnKernel

@[expose] public section

set_option maxRecDepth 16384

noncomputable section

namespace Cert.FfnIdeal.Tile

open Idealize.ShloMosaic Idealize.ShloMosaic.TcCoe Idealize.SL.Sem
open Cert.FfnIdeal.Gen

/-- An entry of a two-axis array by its two positions, 0 outside. -/
def entry {a b : ℕ} (v : (⟨2, ![a, b]⟩ : Shape).Idx → EReal) (i k : ℕ) : EReal :=
  if h : i < a ∧ k < b then v (ix2 ⟨i, h.1⟩ ⟨k, h.2⟩) else 0

theorem entry_eq {a b : ℕ} (v : (⟨2, ![a, b]⟩ : Shape).Idx → EReal) (i : Fin a) (k : Fin b) : entry v i.val k.val = v (ix2 i k) :=
  dif_pos ⟨i.isLt, k.isLt⟩

variable (x : (⟨2, ![8192, 2048]⟩ : Shape).Idx → EReal) (g : (⟨2, ![1, 2048]⟩ : Shape).Idx → EReal)
  (wu : (⟨2, ![2048, 11264]⟩ : Shape).Idx → EReal) (cw : (⟨2, ![3, 11264]⟩ : Shape).Idx → EReal)
  (b : (⟨2, ![1, 11264]⟩ : Shape).Idx → EReal) (wd : (⟨2, ![5632, 2048]⟩ : Shape).Idx → EReal)

/-- Row `R` of the input, divided by the root of its mean square and weighted. -/
def normed (R : ℕ) : Fin 2048 → EReal := Row.norm (fun k => entry x R k.val) (fun k => g (ix2 0 k))

/-- The up projection of row `R` at column `C`. -/
def proj (R C : ℕ) : EReal := ∑ j : Fin 2048, normed x g R j * entry wu j.val C

theorem proj_at (R R' C : ℕ) (h : R = R') : proj x g wu R C = proj x g wu R' C := by rw [h]

/-- The up projection `d` rows before row `R` of its sequence of 2048 rows, 0 before the sequence. -/
def before (d R C : ℕ) : EReal := if R % 2048 < d then 0 else proj x g wu (R - d) C

/-- The causal convolution over three rows, at row `R` and column `C`. -/
def convAt (R C : ℕ) : EReal :=
  before x g wu 2 R C * entry cw 0 C + before x g wu 1 R C * entry cw 1 C + proj x g wu R C * entry cw 2 C

/-- The gated activation at row `R` and column `K`. -/
def act (R K : ℕ) : EReal :=
  (convAt x g wu cw R K + entry b 0 K) * Ideal.logistic (convAt x g wu cw R K + entry b 0 K) *
    (convAt x g wu cw R (K + 5632) + entry b 0 (K + 5632))

/-- The result's entry after the first `J` column blocks. -/
def part (R n : ℕ) : ℕ → EReal
  | 0 => entry x R n
  | J + 1 => part R n J + ∑ k : Fin 512, act x g wu cw b R (512 * J + k.val) * entry wd (512 * J + k.val) n

/-- The result at row `R` and column `n`: the input with the gated activation's down projection added. -/
def result (R n : ℕ) : EReal :=
  entry x R n + ∑ k : Fin 5632, act x g wu cw b R k.val * entry wd k.val n

theorem part_eq (R n J : ℕ) : part x g wu cw b wd R n J =
    entry x R n + ∑ k ∈ Finset.range (512 * J), act x g wu cw b R k * entry wd k n := by
  induction J with
  | zero => show entry x R n = _; simp
  | succ J ih =>
    show part x g wu cw b wd R n J + _ = _
    rw [ih, show 512 * (J + 1) = 512 * J + 512 by ring, Finset.sum_range_add, add_assoc,
      Finset.sum_range (fun k => act x g wu cw b R (512 * J + k) * entry wd (512 * J + k) n)]

/-- All eleven column blocks make the result. -/
theorem part_all (R n : ℕ) : part x g wu cw b wd R n 11 = result x g wu cw b wd R n := by
  rw [part_eq]
  unfold result
  rw [Finset.sum_range (fun k => act x g wu cw b R k * entry wd k n)]

/-- The convolution of a tile's first 512 rows, after the eight rows before the tile, or nothing at a sequence's start. -/
theorem conv_low (T C : ℕ) (h : Fin 8 → EReal) (hh : ∀ i, h i = if T % 2 = 0 then 0 else proj x g wu (1024 * T - 8 + i.val) C)
    (r : Fin 512) : conv h (fun i => proj x g wu (1024 * T + i.val) C) (fun i => entry cw i.val C) r =
      convAt x g wu cw (1024 * T + r.val) C := by
  unfold conv convAt
  have h2 : back2 h (fun i => proj x g wu (1024 * T + i.val) C) r = before x g wu 2 (1024 * T + r.val) C := by
    unfold back2 before
    by_cases hr : r.val < 2
    · rw [dif_pos hr, hh]
      by_cases hT : T % 2 = 0
      · rw [if_pos hT, if_pos (by omega)]
      · rw [if_neg hT, if_neg (by omega)]
        exact proj_at x g wu _ _ C (show 1024 * T - 8 + (6 + r.val) = _ by omega)
    · rw [dif_neg hr, if_neg (by omega)]
      exact proj_at x g wu _ _ C (show 1024 * T + (r.val - 2) = _ by omega)
  have h1 : back1 h (fun i => proj x g wu (1024 * T + i.val) C) r = before x g wu 1 (1024 * T + r.val) C := by
    unfold back1 before
    by_cases hr : r.val < 1
    · rw [dif_pos hr, hh]
      by_cases hT : T % 2 = 0
      · rw [if_pos hT, if_pos (by omega)]
      · rw [if_neg hT, if_neg (by omega)]
        exact proj_at x g wu _ _ C (show 1024 * T - 8 + 7 = _ by omega)
    · rw [dif_neg hr, if_neg (by omega)]
      exact proj_at x g wu _ _ C (show 1024 * T + (r.val - 1) = _ by omega)
  rw [h2, h1]
  rfl

/-- The convolution of a tile's last 512 rows, after the eight rows before them. -/
theorem conv_high (T C : ℕ) (r : Fin 512) :
    conv (fun i => proj x g wu (1024 * T + (504 + i.val)) C) (fun i => proj x g wu (1024 * T + (512 + i.val)) C)
      (fun i => entry cw i.val C) r = convAt x g wu cw (1024 * T + (512 + r.val)) C := by
  unfold conv convAt
  have h2 : back2 (fun i => proj x g wu (1024 * T + (504 + i.val)) C) (fun i => proj x g wu (1024 * T + (512 + i.val)) C) r =
      before x g wu 2 (1024 * T + (512 + r.val)) C := by
    unfold back2 before
    by_cases hr : r.val < 2
    · rw [dif_pos hr, if_neg (by omega)]
      exact proj_at x g wu _ _ C (show 1024 * T + (504 + (6 + r.val)) = _ by omega)
    · rw [dif_neg hr, if_neg (by omega)]
      exact proj_at x g wu _ _ C (show 1024 * T + (512 + (r.val - 2)) = _ by omega)
  have h1 : back1 (fun i => proj x g wu (1024 * T + (504 + i.val)) C) (fun i => proj x g wu (1024 * T + (512 + i.val)) C) r =
      before x g wu 1 (1024 * T + (512 + r.val)) C := by
    unfold back1 before
    by_cases hr : r.val < 1
    · rw [dif_pos hr, if_neg (by omega)]
      exact proj_at x g wu _ _ C (show 1024 * T + (504 + 7) = _ by omega)
    · rw [dif_neg hr, if_neg (by omega)]
      exact proj_at x g wu _ _ C (show 1024 * T + (512 + (r.val - 1)) = _ by omega)
  rw [h2, h1]
  rfl

variable (T J : ℕ) (cg cu : Fin 3 → Fin 512 → EReal) (bg bu : Fin 512 → EReal) (wn : Fin 512 → EReal) (n : ℕ)
  (hcg : ∀ i k, cg i k = entry cw i.val (512 * J + k.val)) (hcu : ∀ i k, cu i k = entry cw i.val (512 * J + k.val + 5632))
  (hbg : ∀ k, bg k = entry b 0 (512 * J + k.val)) (hbu : ∀ k, bu k = entry b 0 (512 * J + k.val + 5632))
  (hwn : ∀ k, wn k = entry wd (512 * J + k.val) n)

include hcg hcu hbg hbu hwn

/-- A column block's share at a tile's first 512 rows. -/
theorem share_low (hg hu : Fin 8 → Fin 512 → EReal) (zg zu : Fin 512 → Fin 512 → EReal)
    (hhg : ∀ i k, hg i k = if T % 2 = 0 then 0 else proj x g wu (1024 * T - 8 + i.val) (512 * J + k.val))
    (hhu : ∀ i k, hu i k = if T % 2 = 0 then 0 else proj x g wu (1024 * T - 8 + i.val) (512 * J + k.val + 5632))
    (hzg : ∀ i k, zg i k = proj x g wu (1024 * T + i.val) (512 * J + k.val))
    (hzu : ∀ i k, zu i k = proj x g wu (1024 * T + i.val) (512 * J + k.val + 5632)) (r : Fin 512) :
    share hg hu zg zu cg cu bg bu wn r =
      ∑ k : Fin 512, act x g wu cw b (1024 * T + r.val) (512 * J + k.val) * entry wd (512 * J + k.val) n := by
  unfold share act
  refine Finset.sum_congr rfl fun k _ => ?_
  have e1 := conv_low x g wu cw T (512 * J + k.val) (fun i => hg i k) (fun i => hhg i k) r
  have e2 := conv_low x g wu cw T (512 * J + k.val + 5632) (fun i => hu i k) (fun i => hhu i k) r
  simp only [hzg, hzu, hcg, hcu, hbg, hbu, hwn]
  rw [e1, e2]

/-- A column block's share at a tile's last 512 rows. -/
theorem share_high (hg hu : Fin 8 → Fin 512 → EReal) (zg zu : Fin 512 → Fin 512 → EReal)
    (hhg : ∀ i k, hg i k = proj x g wu (1024 * T + (504 + i.val)) (512 * J + k.val))
    (hhu : ∀ i k, hu i k = proj x g wu (1024 * T + (504 + i.val)) (512 * J + k.val + 5632))
    (hzg : ∀ i k, zg i k = proj x g wu (1024 * T + (512 + i.val)) (512 * J + k.val))
    (hzu : ∀ i k, zu i k = proj x g wu (1024 * T + (512 + i.val)) (512 * J + k.val + 5632)) (r : Fin 512) :
    share hg hu zg zu cg cu bg bu wn r =
      ∑ k : Fin 512, act x g wu cw b (1024 * T + (512 + r.val)) (512 * J + k.val) * entry wd (512 * J + k.val) n := by
  unfold share act
  refine Finset.sum_congr rfl fun k _ => ?_
  have e1 := conv_high x g wu cw T (512 * J + k.val) r
  have e2 := conv_high x g wu cw T (512 * J + k.val + 5632) r
  simp only [hhg, hhu, hzg, hzu, hcg, hcu, hbg, hbu, hwn]
  rw [e1, e2]

end Cert.FfnIdeal.Tile

end
-- ==== Proof.FfnBlocks.lean ====
/- The feed-forward kernel's whole result: what each grid point's stores are worth, what the buffers carry from point to point,
   and the array they leave. -/
module

public import proofs.«01_k».proof.Proof.FfnStores
public import proofs.«01_k».proof.Proof.FfnLayer
public import proofs.«01_k».proof.Proof.FfnIdealData

@[expose] public section

set_option maxRecDepth 16384

noncomputable section

namespace Cert.FfnIdeal.Tile

open Idealize.ShloMosaic Idealize.ShloMosaic.TcCoe Idealize.SL.Sem
open Cert.FfnIdeal.Gen Cert.FfnIdeal.Halo

theorem top_apply {e : EltTy} (X : Vec Ideal S1024x2048 e) (r : Fin 512) (k : Fin 2048) :
    top X (ix2 r k) = X (ix2 ⟨r.val, by omega⟩ k) := by
  refine congrArg X ?_
  funext a; apply Fin.ext
  match a with
  | ⟨0, _⟩ => show 0 + 1 * r.val = r.val; omega
  | ⟨1, _⟩ => show 0 + 1 * k.val = k.val; omega

theorem bottom_apply {e : EltTy} (X : Vec Ideal S1024x2048 e) (r : Fin 512) (k : Fin 2048) :
    bottom X (ix2 r k) = X (ix2 ⟨512 + r.val, by omega⟩ k) := by
  refine congrArg X ?_
  funext a; apply Fin.ext
  match a with
  | ⟨0, _⟩ => show 512 + 1 * r.val = 512 + r.val; omega
  | ⟨1, _⟩ => show 0 + 1 * k.val = k.val; omega

theorem slot_apply (d : Vec Ideal S11x8x512 .f32) (off : Fin 3 → ℕ) (inb : ∀ a, off a + S1x8x512.size a ≤ S11x8x512.size a)
    (q : Fin 11) (h : off = ![q.val, 0, 0]) (i : Fin 8) (k : Fin 512) : slot d off inb (ix3 0 i k) = d (ix3 q i k) := by
  subst h
  refine congrArg d ?_
  funext a; apply Fin.ext
  match a with
  | ⟨0, _⟩ => show q.val + 1 * 0 = q.val; omega
  | ⟨1, _⟩ => show 0 + 1 * i.val = i.val; omega
  | ⟨2, _⟩ => show 0 + 1 * k.val = k.val; omega

/-- A block stored as two halves, read at an entry. -/
theorem halves_read {sg : RefSig} {κ : Kind} {sp : Space} {e : EltTy} (v : View sg κ sp S1024x2048 e) (f : v.ty.Contents (Elt Ideal))
    (p q : Vec Ideal S512x2048 e) (P : Fin 1024 → Fin 2048 → Elt Ideal e)
    (hp : ∀ (r : Fin 512) n, p (ix2 r n) = P ⟨512 + r.val, by omega⟩ n) (hq : ∀ (r : Fin 512) n, q (ix2 r n) = P ⟨r.val, by omega⟩ n)
    (r : Fin 1024) (n : Fin 2048) :
    v.read (Elt Ideal) (v.writes (Elt Ideal) f
      [⟨Rect.unit (s := S1024x2048) ![512, 0] ![512, 2048] inb_S1024x2048_S512x2048_512_0, p⟩,
       ⟨Rect.unit (s := S1024x2048) ![0, 0] ![512, 2048] inb_S1024x2048_S512x2048_0_0, q⟩]) (ix2 r n) = P r n := by
  by_cases hr : r.val < 512
  · refine (View.read_writes_cons_unit_of_not_mem v f inb_S1024x2048_S512x2048_512_0 p _ (ix2 r n) rfl 0 (.inl hr)).trans ?_
    refine (View.read_writes_cons_unit_of_mem v f inb_S1024x2048_S512x2048_0_0 q [] (ix2 r n) (ix2 (⟨r.val, hr⟩ : Fin 512) n) rfl (fun a => ?_)).trans (hq _ _)
    match a with
    | ⟨0, _⟩ => show r.val = 0 + r.val; omega
    | ⟨1, _⟩ => show n.val = 0 + n.val; omega
  · refine (View.read_writes_cons_unit_of_mem v f inb_S1024x2048_S512x2048_512_0 p _ (ix2 r n) (ix2 (⟨r.val - 512, by omega⟩ : Fin 512) n) rfl (fun a => ?_)).trans ((hp _ _).trans ?_)
    · match a with
      | ⟨0, _⟩ => show r.val = 512 + (r.val - 512); omega
      | ⟨1, _⟩ => show n.val = 0 + n.val; omega
    · congr 1; apply Fin.ext; show 512 + (r.val - 512) = r.val; omega

/-- A carried buffer after one column block's store: that block is the stored one. -/
theorem slot_read {sg : RefSig} {κ : Kind} {sp : Space} (v : View sg κ sp S11x8x512 .f32) (f : v.ty.Contents (Elt Ideal))
    (off : Fin 3 → ℕ) (inb : ∀ a, off a + S1x8x512.size a ≤ S11x8x512.size a) (q : Fin 11) (h : off = ![q.val, 0, 0])
    (p : Vec Ideal S1x8x512 .f32) (L : List (View.Piece (Elt Ideal) S11x8x512 .f32)) (i : Fin 8) (k : Fin 512) :
    v.read (Elt Ideal) (v.writes (Elt Ideal) f (⟨Rect.unit (s := S11x8x512) off S1x8x512.size inb, p⟩ :: L)) (ix3 q i k) = p (ix3 0 i k) := by
  refine View.read_writes_cons_unit_of_mem v f inb p L (ix3 q i k) (ix3 0 i k) h (fun a => ?_)
  match a with
  | ⟨0, _⟩ => show q.val = q.val + 0; omega
  | ⟨1, _⟩ => show i.val = 0 + i.val; omega
  | ⟨2, _⟩ => show k.val = 0 + k.val; omega

/-- A carried buffer after one column block's store: another block is as it was. -/
theorem slot_keep {sg : RefSig} {κ : Kind} {sp : Space} (v : View sg κ sp S11x8x512 .f32) (f : v.ty.Contents (Elt Ideal))
    (off : Fin 3 → ℕ) (inb : ∀ a, off a + S1x8x512.size a ≤ S11x8x512.size a) (j : ℕ) (h : off = ![j, 0, 0])
    (p : Vec Ideal S1x8x512 .f32) (L : List (View.Piece (Elt Ideal) S11x8x512 .f32)) (q : Fin 11) (hq : q.val ≠ j) (i : Fin 8) (k : Fin 512) :
    v.read (Elt Ideal) (v.writes (Elt Ideal) f (⟨Rect.unit (s := S11x8x512) off S1x8x512.size inb, p⟩ :: L)) (ix3 q i k) =
      v.read (Elt Ideal) (v.writes (Elt Ideal) f L) (ix3 q i k) := by
  refine View.read_writes_cons_unit_of_not_mem v f inb p L (ix3 q i k) h 0 ?_
  show q.val < j ∨ j + 1 ≤ q.val
  omega

section Values

variable (x : (⟨2, ![8192, 2048]⟩ : Shape).Idx → EReal) (g : (⟨2, ![1, 2048]⟩ : Shape).Idx → EReal)
  (wu : (⟨2, ![2048, 11264]⟩ : Shape).Idx → EReal) (cw : (⟨2, ![3, 11264]⟩ : Shape).Idx → EReal)
  (b : (⟨2, ![1, 11264]⟩ : Shape).Idx → EReal) (wd : (⟨2, ![5632, 2048]⟩ : Shape).Idx → EReal)
  (T J : ℕ) (x4 x5 : Vec Ideal S2048x512 .bf16) (x6 x7 : Vec Ideal S3x512 .f32) (x8 x9 : Vec Ideal S1x512 .f32)
  (x10 : Vec Ideal S512x2048 .bf16)

theorem up_value (o D : ℕ) (H : Vec Ideal S512x2048 .bf16) (w : Vec Ideal S2048x512 .bf16)
    (hH : ∀ r k, H (ix2 r k) = normed x g (1024 * T + (o + r.val)) k)
    (hw : ∀ j k, w (ix2 j k) = entry wu j.val (512 * J + k.val + D)) (r k : Fin 512) :
    k0_pay12 H w (ix2 r k) = proj x g wu (1024 * T + (o + r.val)) (512 * J + k.val + D) := by
  rw [up_apply]
  unfold proj
  simp only [hH, hw]

variable (h4 : ∀ j k, x4 (ix2 j k) = entry wu j.val (512 * J + k.val)) (h5 : ∀ j k, x5 (ix2 j k) = entry wu j.val (512 * J + k.val + 5632))
  (h6 : ∀ i k, x6 (ix2 i k) = entry cw i.val (512 * J + k.val)) (h7 : ∀ i k, x7 (ix2 i k) = entry cw i.val (512 * J + k.val + 5632))
  (h8 : ∀ k, x8 (ix2 0 k) = entry b 0 (512 * J + k.val)) (h9 : ∀ k, x9 (ix2 0 k) = entry b 0 (512 * J + k.val + 5632))
  (h10 : ∀ k n, x10 (ix2 k n) = entry wd (512 * J + k.val) n.val)

include h4 h5 h6 h7 h8 h9 h10

/-- A tile's first 512 rows after column block `J`, from those after the blocks before. -/
theorem value_low (hg hu : FVec Ideal S8x512 .f32) (H : Vec Ideal S512x2048 .bf16) (xp : Vec Ideal S512x2048 .f32)
    (hH : ∀ r k, H (ix2 r k) = normed x g (1024 * T + r.val) k)
    (hhg : ∀ i k, hg (ix2 i k) = if T % 2 = 0 then 0 else proj x g wu (1024 * T - 8 + i.val) (512 * J + k.val))
    (hhu : ∀ i k, hu (ix2 i k) = if T % 2 = 0 then 0 else proj x g wu (1024 * T - 8 + i.val) (512 * J + k.val + 5632))
    (hxp : ∀ r n, xp (ix2 r n) = part x g wu cw b wd (1024 * T + r.val) n.val J) (r : Fin 512) (n : Fin 2048) :
    k0_pay21 (k0_pay18 hg (k0_pay12 H x4) x6 x8) (k0_pay19 hu (k0_pay13 H x5) x7) (k0_pay20 (k0_pay13 H x5) x7) x9 xp x10 (ix2 r n) =
      part x g wu cw b wd (1024 * T + r.val) n.val (J + 1) := by
  rw [low_apply, hxp]
  have hH' : ∀ r k, H (ix2 r k) = normed x g (1024 * T + (0 + r.val)) k := fun r k => by rw [Nat.zero_add]; exact hH r k
  refine congrArg (fun y : EReal => part x g wu cw b wd (1024 * T + r.val) n.val J + y) ?_
  refine share_low x g wu cw b wd T J _ _ _ _ _ n.val h6 h7 h8 h9 (fun k => h10 k n) _ _ _ _ hhg hhu (fun i k => ?_) (fun i k => ?_) r
  · have e := up_value x g wu T J 0 0 H x4 hH' h4 i k
    rw [Nat.zero_add] at e
    exact e
  · have e := up_value x g wu T J 0 5632 H x5 hH' h5 i k
    rw [Nat.zero_add] at e
    exact e

/-- A tile's last 512 rows after column block `J`, from those after the blocks before. -/
theorem value_high (H0 H1 : Vec Ideal S512x2048 .bf16) (xp : Vec Ideal S512x2048 .f32)
    (hH0 : ∀ r k, H0 (ix2 r k) = normed x g (1024 * T + r.val) k) (hH1 : ∀ r k, H1 (ix2 r k) = normed x g (1024 * T + (512 + r.val)) k)
    (hxp : ∀ r n, xp (ix2 r n) = part x g wu cw b wd (1024 * T + (512 + r.val)) n.val J) (r : Fin 512) (n : Fin 2048) :
    k0_pay5 (k0_pay17 H1 x5) (k0_pay22 (k0_pay12 H0 x4) (k0_pay16 H1 x4) x6 x8) x7 (k0_pay23 (k0_pay13 H0 x5) (k0_pay17 H1 x5) x7) x9 xp x10
      (ix2 r n) = part x g wu cw b wd (1024 * T + (512 + r.val)) n.val (J + 1) := by
  rw [high_apply, hxp]
  have hH' : ∀ r k, H0 (ix2 r k) = normed x g (1024 * T + (0 + r.val)) k := fun r k => by rw [Nat.zero_add]; exact hH0 r k
  refine congrArg (fun y : EReal => part x g wu cw b wd (1024 * T + (512 + r.val)) n.val J + y) ?_
  refine share_high x g wu cw b wd T J _ _ _ _ _ n.val h6 h7 h8 h9 (fun k => h10 k n) _ _ _ _ (fun i k => ?_) (fun i k => ?_)
    (fun i k => ?_) (fun i k => ?_) r
  · have e := up_value x g wu T J 0 0 H0 x4 hH' h4 ⟨504 + i.val, by omega⟩ k
    rw [Nat.zero_add] at e
    exact e
  · have e := up_value x g wu T J 0 5632 H0 x5 hH' h5 ⟨504 + i.val, by omega⟩ k
    rw [Nat.zero_add] at e
    exact e
  · exact up_value x g wu T J 512 0 H1 x4 hH1 h4 i k
  · exact up_value x g wu T J 512 5632 H1 x5 hH1 h5 i k

omit h4 h5 h6 h7 h8 h9 h10

/-- The last eight rows of a tile's projection. -/
theorem value_last (D : ℕ) (w : Vec Ideal S2048x512 .bf16) (hw : ∀ j k, w (ix2 j k) = entry wu j.val (512 * J + k.val + D))
    (H1 : Vec Ideal S512x2048 .bf16) (hH1 : ∀ r k, H1 (ix2 r k) = normed x g (1024 * T + (512 + r.val)) k) (a : Fin 1) (i : Fin 8) (k : Fin 512) :
    k0_pay6 (k0_pay12 H1 w) (ix3 a i k) = proj x g wu (1024 * T + 1016 + i.val) (512 * J + k.val + D) := by
  rw [last_apply, up_value x g wu T J 512 D H1 w hH1 hw]
  exact proj_at x g wu _ _ _ (by show 1024 * T + (512 + (504 + i.val)) = _; omega)

end Values

theorem index_0 : ∀ t : Fin cfg0.N, (cfg0.win 0).index t = ![t.val / 11, 0] :=
  (by decide +kernel : ∀ t : Fin grid0.N, win0_0.index t = ![t.val / 11, 0])
theorem index_1 : ∀ t : Fin cfg0.N, (cfg0.win 1).index t = ![0, 0] :=
  (by decide +kernel : ∀ t : Fin grid0.N, win0_1.index t = ![0, 0])
theorem index_2 : ∀ t : Fin cfg0.N, (cfg0.win 2).index t = ![0, t.val % 11] :=
  (by decide +kernel : ∀ t : Fin grid0.N, win0_2.index t = ![0, t.val % 11])
theorem index_3 : ∀ t : Fin cfg0.N, (cfg0.win 3).index t = ![0, t.val % 11 + 11] :=
  (by decide +kernel : ∀ t : Fin grid0.N, win0_3.index t = ![0, t.val % 11 + 11])
theorem index_4 : ∀ t : Fin cfg0.N, (cfg0.win 4).index t = ![0, t.val % 11] :=
  (by decide +kernel : ∀ t : Fin grid0.N, win0_4.index t = ![0, t.val % 11])
theorem index_5 : ∀ t : Fin cfg0.N, (cfg0.win 5).index t = ![0, t.val % 11 + 11] :=
  (by decide +kernel : ∀ t : Fin grid0.N, win0_5.index t = ![0, t.val % 11 + 11])
theorem index_6 : ∀ t : Fin cfg0.N, (cfg0.win 6).index t = ![0, t.val % 11] :=
  (by decide +kernel : ∀ t : Fin grid0.N, win0_6.index t = ![0, t.val % 11])
theorem index_7 : ∀ t : Fin cfg0.N, (cfg0.win 7).index t = ![0, t.val % 11 + 11] :=
  (by decide +kernel : ∀ t : Fin grid0.N, win0_7.index t = ![0, t.val % 11 + 11])
theorem index_8 : ∀ t : Fin cfg0.N, (cfg0.win 8).index t = ![t.val % 11, 0] :=
  (by decide +kernel : ∀ t : Fin grid0.N, win0_8.index t = ![t.val % 11, 0])
theorem index_9 : ∀ t : Fin cfg0.N, (cfg0.win 9).index t = ![t.val / 11, 0] :=
  (by decide +kernel : ∀ t : Fin grid0.N, win0_9.index t = ![t.val / 11, 0])
theorem flush_9 : ∀ t : Fin cfg0.N, (cfg0.win 9).flush t = decide (t.val % 11 = 10) :=
  (by decide +kernel : ∀ t : Fin grid0.N, win0_9.flush t = decide (t.val % 11 = 10))

variable (m : (ℓ : Loc nD τ sig) → Buf (Elt Ideal) ℓ) (c : Dev nD)

theorem blk_0 (t : Fin cfg0.N) (r : Fin 1024) (k : Fin 2048) :
    iblk m c 0 t (ix2 r k) = entry (a := 8192) (b := 2048) (m ((c : Thread nD τ).loc main_arg0)) (1024 * (t.val / 11) + r.val) (k.val) := by
  have hN : t.val < 88 := t.isLt
  have hr := r.isLt
  have hk := k.isLt
  refine Eq.trans ?_ (dif_pos (show 1024 * (t.val / 11) + r.val < 8192 ∧ k.val < 2048 by omega)).symm
  unfold iblk
  rw [View.read_apply]
  show V m c main_arg0 _ = _
  rw [V_main_arg0]
  refine congrArg _ ?_
  funext a; apply Fin.ext
  refine (Pipeline.Window.rect_emb_val (cfg0.win 0) t _ a).trans ?_
  rw [index_0 t]
  match a with
  | ⟨0, _⟩ => show (t.val / 11) * 1024 + r.val = 1024 * (t.val / 11) + r.val; omega
  | ⟨1, _⟩ => show (0) * 2048 + k.val = k.val; omega

theorem blk_1 (t : Fin cfg0.N) (r : Fin 1) (k : Fin 2048) :
    iblk m c 1 t (ix2 r k) = entry (a := 1) (b := 2048) (m ((c : Thread nD τ).loc main_arg1)) (r.val) (k.val) := by
  have hN : t.val < 88 := t.isLt
  have hr := r.isLt
  have hk := k.isLt
  refine Eq.trans ?_ (dif_pos (show r.val < 1 ∧ k.val < 2048 by omega)).symm
  unfold iblk
  rw [View.read_apply]
  show V m c main_arg1 _ = _
  rw [V_main_arg1]
  refine congrArg _ ?_
  funext a; apply Fin.ext
  refine (Pipeline.Window.rect_emb_val (cfg0.win 1) t _ a).trans ?_
  rw [index_1 t]
  match a with
  | ⟨0, _⟩ => show (0) * 1 + r.val = r.val; omega
  | ⟨1, _⟩ => show (0) * 2048 + k.val = k.val; omega

theorem blk_2 (t : Fin cfg0.N) (r : Fin 2048) (k : Fin 512) :
    iblk m c 2 t (ix2 r k) = entry (a := 2048) (b := 11264) (m ((c : Thread nD τ).loc main_arg2)) (r.val) (512 * (t.val % 11) + k.val) := by
  have hN : t.val < 88 := t.isLt
  have hr := r.isLt
  have hk := k.isLt
  refine Eq.trans ?_ (dif_pos (show r.val < 2048 ∧ 512 * (t.val % 11) + k.val < 11264 by omega)).symm
  unfold iblk
  rw [View.read_apply]
  show V m c main_arg2 _ = _
  rw [V_main_arg2]
  refine congrArg _ ?_
  funext a; apply Fin.ext
  refine (Pipeline.Window.rect_emb_val (cfg0.win 2) t _ a).trans ?_
  rw [index_2 t]
  match a with
  | ⟨0, _⟩ => show (0) * 2048 + r.val = r.val; omega
  | ⟨1, _⟩ => show (t.val % 11) * 512 + k.val = 512 * (t.val % 11) + k.val; omega

theorem blk_3 (t : Fin cfg0.N) (r : Fin 2048) (k : Fin 512) :
    iblk m c 3 t (ix2 r k) = entry (a := 2048) (b := 11264) (m ((c : Thread nD τ).loc main_arg2)) (r.val) (512 * (t.val % 11) + k.val + 5632) := by
  have hN : t.val < 88 := t.isLt
  have hr := r.isLt
  have hk := k.isLt
  refine Eq.trans ?_ (dif_pos (show r.val < 2048 ∧ 512 * (t.val % 11) + k.val + 5632 < 11264 by omega)).symm
  unfold iblk
  rw [View.read_apply]
  show V m c main_arg2 _ = _
  rw [V_main_arg2]
  refine congrArg _ ?_
  funext a; apply Fin.ext
  refine (Pipeline.Window.rect_emb_val (cfg0.win 3) t _ a).trans ?_
  rw [index_3 t]
  match a with
  | ⟨0, _⟩ => show (0) * 2048 + r.val = r.val; omega
  | ⟨1, _⟩ => show (t.val % 11 + 11) * 512 + k.val = 512 * (t.val % 11) + k.val + 5632; omega

theorem blk_4 (t : Fin cfg0.N) (r : Fin 3) (k : Fin 512) :
    iblk m c 4 t (ix2 r k) = entry (a := 3) (b := 11264) (m ((c : Thread nD τ).loc main_arg3)) (r.val) (512 * (t.val % 11) + k.val) := by
  have hN : t.val < 88 := t.isLt
  have hr := r.isLt
  have hk := k.isLt
  refine Eq.trans ?_ (dif_pos (show r.val < 3 ∧ 512 * (t.val % 11) + k.val < 11264 by omega)).symm
  unfold iblk
  rw [View.read_apply]
  show V m c main_arg3 _ = _
  rw [V_main_arg3]
  refine congrArg _ ?_
  funext a; apply Fin.ext
  refine (Pipeline.Window.rect_emb_val (cfg0.win 4) t _ a).trans ?_
  rw [index_4 t]
  match a with
  | ⟨0, _⟩ => show (0) * 3 + r.val = r.val; omega
  | ⟨1, _⟩ => show (t.val % 11) * 512 + k.val = 512 * (t.val % 11) + k.val; omega

theorem blk_5 (t : Fin cfg0.N) (r : Fin 3) (k : Fin 512) :
    iblk m c 5 t (ix2 r k) = entry (a := 3) (b := 11264) (m ((c : Thread nD τ).loc main_arg3)) (r.val) (512 * (t.val % 11) + k.val + 5632) := by
  have hN : t.val < 88 := t.isLt
  have hr := r.isLt
  have hk := k.isLt
  refine Eq.trans ?_ (dif_pos (show r.val < 3 ∧ 512 * (t.val % 11) + k.val + 5632 < 11264 by omega)).symm
  unfold iblk
  rw [View.read_apply]
  show V m c main_arg3 _ = _
  rw [V_main_arg3]
  refine congrArg _ ?_
  funext a; apply Fin.ext
  refine (Pipeline.Window.rect_emb_val (cfg0.win 5) t _ a).trans ?_
  rw [index_5 t]
  match a with
  | ⟨0, _⟩ => show (0) * 3 + r.val = r.val; omega
  | ⟨1, _⟩ => show (t.val % 11 + 11) * 512 + k.val = 512 * (t.val % 11) + k.val + 5632; omega

theorem blk_6 (t : Fin cfg0.N) (r : Fin 1) (k : Fin 512) :
    iblk m c 6 t (ix2 r k) = entry (a := 1) (b := 11264) (m ((c : Thread nD τ).loc main_arg4)) (r.val) (512 * (t.val % 11) + k.val) := by
  have hN : t.val < 88 := t.isLt
  have hr := r.isLt
  have hk := k.isLt
  refine Eq.trans ?_ (dif_pos (show r.val < 1 ∧ 512 * (t.val % 11) + k.val < 11264 by omega)).symm
  unfold iblk
  rw [View.read_apply]
  show V m c main_arg4 _ = _
  rw [V_main_arg4]
  refine congrArg _ ?_
  funext a; apply Fin.ext
  refine (Pipeline.Window.rect_emb_val (cfg0.win 6) t _ a).trans ?_
  rw [index_6 t]
  match a with
  | ⟨0, _⟩ => show (0) * 1 + r.val = r.val; omega
  | ⟨1, _⟩ => show (t.val % 11) * 512 + k.val = 512 * (t.val % 11) + k.val; omega

theorem blk_7 (t : Fin cfg0.N) (r : Fin 1) (k : Fin 512) :
    iblk m c 7 t (ix2 r k) = entry (a := 1) (b := 11264) (m ((c : Thread nD τ).loc main_arg4)) (r.val) (512 * (t.val % 11) + k.val + 5632) := by
  have hN : t.val < 88 := t.isLt
  have hr := r.isLt
  have hk := k.isLt
  refine Eq.trans ?_ (dif_pos (show r.val < 1 ∧ 512 * (t.val % 11) + k.val + 5632 < 11264 by omega)).symm
  unfold iblk
  rw [View.read_apply]
  show V m c main_arg4 _ = _
  rw [V_main_arg4]
  refine congrArg _ ?_
  funext a; apply Fin.ext
  refine (Pipeline.Window.rect_emb_val (cfg0.win 7) t _ a).trans ?_
  rw [index_7 t]
  match a with
  | ⟨0, _⟩ => show (0) * 1 + r.val = r.val; omega
  | ⟨1, _⟩ => show (t.val % 11 + 11) * 512 + k.val = 512 * (t.val % 11) + k.val + 5632; omega

theorem blk_8 (t : Fin cfg0.N) (r : Fin 512) (k : Fin 2048) :
    iblk m c 8 t (ix2 r k) = entry (a := 5632) (b := 2048) (m ((c : Thread nD τ).loc main_arg5)) (512 * (t.val % 11) + r.val) (k.val) := by
  have hN : t.val < 88 := t.isLt
  have hr := r.isLt
  have hk := k.isLt
  refine Eq.trans ?_ (dif_pos (show 512 * (t.val % 11) + r.val < 5632 ∧ k.val < 2048 by omega)).symm
  unfold iblk
  rw [View.read_apply]
  show V m c main_arg5 _ = _
  rw [V_main_arg5]
  refine congrArg _ ?_
  funext a; apply Fin.ext
  refine (Pipeline.Window.rect_emb_val (cfg0.win 8) t _ a).trans ?_
  rw [index_8 t]
  match a with
  | ⟨0, _⟩ => show (t.val % 11) * 512 + r.val = 512 * (t.val % 11) + r.val; omega
  | ⟨1, _⟩ => show (0) * 2048 + k.val = k.val; omega

end Cert.FfnIdeal.Tile

end
-- ==== Proof.FfnPoints.lean ====
/- The feed-forward kernel from grid point to grid point: what the result block, the normed rows and the two carried buffers
   hold after each, and the array the flushed blocks make. -/
module

public import proofs.«01_k».proof.Proof.FfnBlocks

@[expose] public section

set_option maxRecDepth 16384

noncomputable section

namespace Cert.FfnIdeal.Tile

open Idealize.ShloMosaic Idealize.ShloMosaic.TcCoe Idealize.SL.Sem
open Cert.FfnIdeal.Gen Cert.FfnIdeal.Halo

theorem valA : ∀ t : Fin cfg0.N, conds0_A (grid0.coords t) → t.val % 22 = 0 :=
  (by decide +kernel : ∀ t : Fin grid0.N, conds0_A (grid0.coords t) → t.val % 22 = 0)
theorem valB : ∀ t : Fin cfg0.N, conds0_B (grid0.coords t) → t.val % 22 < 11 ∧ t.val % 11 ≠ 0 :=
  (by decide +kernel : ∀ t : Fin grid0.N, conds0_B (grid0.coords t) → t.val % 22 < 11 ∧ t.val % 11 ≠ 0)
theorem valC : ∀ t : Fin cfg0.N, conds0_C (grid0.coords t) → t.val % 22 = 11 :=
  (by decide +kernel : ∀ t : Fin grid0.N, conds0_C (grid0.coords t) → t.val % 22 = 11)
theorem valD : ∀ t : Fin cfg0.N, conds0_D (grid0.coords t) → 11 < t.val % 22 :=
  (by decide +kernel : ∀ t : Fin grid0.N, conds0_D (grid0.coords t) → 11 < t.val % 22)

variable (m : (ℓ : Loc nD τ sig) → Buf (Elt Ideal) ℓ) (c : Dev nD)

/-- The call's six arguments, as arrays of numbers. -/
abbrev ax : (⟨2, ![8192, 2048]⟩ : Shape).Idx → EReal := m ((c : Thread nD τ).loc main_arg0)
abbrev ag : (⟨2, ![1, 2048]⟩ : Shape).Idx → EReal := m ((c : Thread nD τ).loc main_arg1)
abbrev au : (⟨2, ![2048, 11264]⟩ : Shape).Idx → EReal := m ((c : Thread nD τ).loc main_arg2)
abbrev ac : (⟨2, ![3, 11264]⟩ : Shape).Idx → EReal := m ((c : Thread nD τ).loc main_arg3)
abbrev ab : (⟨2, ![1, 11264]⟩ : Shape).Idx → EReal := m ((c : Thread nD τ).loc main_arg4)
abbrev ad : (⟨2, ![5632, 2048]⟩ : Shape).Idx → EReal := m ((c : Thread nD τ).loc main_arg5)

/-- What the buffers hold after point `t`: the tile's normed rows, the tile's result after its column blocks so far, and in each
    column block's place in the carried buffers the last eight rows of the last tile whose projection there is made. -/
structure Inv (t : ℕ) (s : St Ideal) : Prop where
  norm : ∀ (r : Fin 1024) (k : Fin 2048), s.2.1 (ix2 r k) = normed (ax m c) (ag m c) (1024 * (t / 11) + r.val) k
  out : ∀ (r : Fin 1024) (n : Fin 2048),
    s.1 (ix2 r n) = part (ax m c) (ag m c) (au m c) (ac m c) (ab m c) (ad m c) (1024 * (t / 11) + r.val) n.val (t % 11 + 1)
  gate : ∀ (q : Fin 11) (i : Fin 8) (k : Fin 512), q.val ≤ t →
    s.2.2.1 (ix3 q i k) = proj (ax m c) (ag m c) (au m c) (1024 * ((t - q.val) / 11) + 1016 + i.val) (512 * q.val + k.val)
  up : ∀ (q : Fin 11) (i : Fin 8) (k : Fin 512), q.val ≤ t →
    s.2.2.2 (ix3 q i k) = proj (ax m c) (ag m c) (au m c) (1024 * ((t - q.val) / 11) + 1016 + i.val) (512 * q.val + k.val + 5632)

theorem weight_row (t : Fin cfg0.N) : (fun j => iblk m c 1 t (ix2 0 j) : Fin 2048 → EReal) = fun j => ag m c (ix2 0 j) := by
  funext j
  exact (blk_1 m c t 0 j).trans (entry_eq (ag m c) 0 j)

theorem norm_top (t : Fin cfg0.N) (r : Fin 512) (k : Fin 2048) :
    k0_pay11 (top (iblk m c 0 t)) (iblk m c 1 t) (ix2 r k) = normed (ax m c) (ag m c) (1024 * (t.val / 11) + r.val) k := by
  rw [norm_low, weight_row]
  unfold normed
  refine congrArg (fun y => Row.norm y _ k) ?_
  funext j
  exact (top_apply _ r j).trans (blk_0 m c t _ j)

theorem norm_bottom (t : Fin cfg0.N) (r : Fin 512) (k : Fin 2048) :
    k0_pay15 (iblk m c 1 t) (k0_pay14 (bottom (iblk m c 0 t))) (ix2 r k) =
      normed (ax m c) (ag m c) (1024 * (t.val / 11) + (512 + r.val)) k := by
  rw [norm_high, weight_row]
  unfold normed
  refine congrArg (fun y => Row.norm y _ k) ?_
  funext j
  exact (bottom_apply _ r j).trans (blk_0 m c t _ j)

theorem inb_slot (q : ℕ) (hq : q < 11) : ∀ a, (![q, 0, 0] : Fin 3 → ℕ) a + S1x8x512.size a ≤ S11x8x512.size a := by
  intro a
  match a with
  | ⟨0, _⟩ => show q + 1 ≤ 11; omega
  | ⟨1, _⟩ => show 0 + 8 ≤ 8; omega
  | ⟨2, _⟩ => show 0 + 512 ≤ 512; omega

theorem gateA (t : Fin cfg0.N) (h : conds0_A (grid0.coords t)) (q : Fin 11) (i : Fin 8) (k : Fin 512) :
    (st m c (t.val + 1)).2.2.1 (ix3 q i k) = if q.val = t.val % 11 then k0_pay6 (k0_pay12 (k0_pay15 (iblk m c 1 t) (k0_pay14 (bottom (iblk m c 0 t)))) (iblk m c 2 t)) (ix3 0 i k)
      else (st m c t.val).2.2.1 (ix3 q i k) := by
  refine (congrFun (st_A3 m c t h) _).trans ?_
  refine (congrFun (congrArg (fun L => scM0_1.view.read (Elt Ideal) (scM0_1.view.writes (Elt Ideal) _ L))
    (gatePiecesA c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2 (by rw [off4_eq t]; exact inb_slot _ (Nat.mod_lt _ (by omega))) (by rw [off1_eq t]; exact inb_slot _ (Nat.mod_lt _ (by omega))))) _).trans ?_
  by_cases hq : q.val = t.val % 11
  · rw [if_pos hq]
    exact slot_read scM0_1.view _ _ _ q (by rw [hq]; exact off4_eq t) _ _ i k
  · rw [if_neg hq]
    refine (slot_keep scM0_1.view _ _ _ (t.val % 11) (off4_eq t) _ _ q hq i k).trans ?_
    refine (slot_keep scM0_1.view _ _ _ (t.val % 11) (off1_eq t) _ _ q hq i k).trans ?_
    exact congrFun (read_left1 _) _

theorem upA (t : Fin cfg0.N) (h : conds0_A (grid0.coords t)) (q : Fin 11) (i : Fin 8) (k : Fin 512) :
    (st m c (t.val + 1)).2.2.2 (ix3 q i k) = if q.val = t.val % 11 then k0_pay6 (k0_pay12 (k0_pay15 (iblk m c 1 t) (k0_pay14 (bottom (iblk m c 0 t)))) (iblk m c 3 t)) (ix3 0 i k)
      else (st m c t.val).2.2.2 (ix3 q i k) := by
  refine (congrFun (st_A4 m c t h) _).trans ?_
  refine (congrFun (congrArg (fun L => scM0_2.view.read (Elt Ideal) (scM0_2.view.writes (Elt Ideal) _ L))
    (upPiecesA c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2 (by rw [off4_eq t]; exact inb_slot _ (Nat.mod_lt _ (by omega))) (by rw [off3_eq t]; exact inb_slot _ (Nat.mod_lt _ (by omega))))) _).trans ?_
  by_cases hq : q.val = t.val % 11
  · rw [if_pos hq]
    exact slot_read scM0_2.view _ _ _ q (by rw [hq]; exact off4_eq t) _ _ i k
  · rw [if_neg hq]
    refine (slot_keep scM0_2.view _ _ _ (t.val % 11) (off4_eq t) _ _ q hq i k).trans ?_
    refine (slot_keep scM0_2.view _ _ _ (t.val % 11) (off3_eq t) _ _ q hq i k).trans ?_
    exact congrFun (read_left2 _) _

theorem normedA (t : Fin cfg0.N) (h : conds0_A (grid0.coords t)) (r : Fin 1024) (k : Fin 2048) :
    (st m c (t.val + 1)).2.1 (ix2 r k) = normed (ax m c) (ag m c) (1024 * (t.val / 11) + r.val) k := by
  refine (congrFun (st_A2 m c t h) _).trans ?_
  refine (congrFun (congrArg (fun L => VS0_0.read (Elt Ideal) (VS0_0.writes (Elt Ideal) _ L)) (normPiecesA c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2)) _).trans ?_
  exact halves_read VS0_0 _ _ _ (fun r k => normed (ax m c) (ag m c) (1024 * (t.val / 11) + r.val) k)
    (fun r n => norm_bottom m c t r n) (fun r n => norm_top m c t r n) r k

theorem outA (t : Fin cfg0.N) (h : conds0_A (grid0.coords t)) (r : Fin 1024) (n : Fin 2048) :
    (st m c (t.val + 1)).1 (ix2 r n) =
      part (ax m c) (ag m c) (au m c) (ac m c) (ab m c) (ad m c) (1024 * (t.val / 11) + r.val) n.val (t.val % 11 + 1) := by
  have hv := valA t h
  have hT : t.val / 11 % 2 = 0 := by omega
  have hJ : t.val % 11 = 0 := by omega
  refine (congrFun (st_A1 m c t h) _).trans ?_
  refine (congrFun (congrArg (fun L => VO0_9.read (Elt Ideal) (VO0_9.writes (Elt Ideal) _ L)) (outPiecesA c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2)) _).trans ?_
  refine halves_read VO0_9 _ _ _ (fun r n => part (ax m c) (ag m c) (au m c) (ac m c) (ab m c) (ad m c) (1024 * (t.val / 11) + r.val) n.val (t.val % 11 + 1))
    (fun r n => ?_) (fun r n => ?_) r n
  · exact (value_high (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ (fun r k => norm_top m c t r k) (fun r k => norm_bottom m c t r k) (fun r n => (bottom_apply _ r n).trans ((blk_0 m c t _ n).trans (by rw [hJ]; rfl))) r n)
  · exact (value_low (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ _ (fun r k => norm_top m c t r k) (fun i k => by rw [if_pos hT]; exact (halo_apply _ i k).trans (zero_apply 0 i k)) (fun i k => by rw [if_pos hT]; exact (halo_apply _ i k).trans (zero_apply 0 i k)) (fun r n => (top_apply _ r n).trans ((blk_0 m c t _ n).trans (by rw [hJ]; rfl))) r n)

theorem gateB (t : Fin cfg0.N) (h : conds0_B (grid0.coords t)) (q : Fin 11) (i : Fin 8) (k : Fin 512) :
    (st m c (t.val + 1)).2.2.1 (ix3 q i k) = if q.val = t.val % 11 then k0_pay6 (k0_pay12 (bottom (st m c t.val).2.1) (iblk m c 2 t)) (ix3 0 i k)
      else (st m c t.val).2.2.1 (ix3 q i k) := by
  refine (congrFun (st_B3 m c t h) _).trans ?_
  refine (congrFun (congrArg (fun L => scM0_1.view.read (Elt Ideal) (scM0_1.view.writes (Elt Ideal) _ L))
    (gatePiecesB c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2 (by rw [off5_eq t]; exact inb_slot _ (Nat.mod_lt _ (by omega))) (by rw [off1_eq t]; exact inb_slot _ (Nat.mod_lt _ (by omega))))) _).trans ?_
  by_cases hq : q.val = t.val % 11
  · rw [if_pos hq]
    exact slot_read scM0_1.view _ _ _ q (by rw [hq]; exact off5_eq t) _ _ i k
  · rw [if_neg hq]
    refine (slot_keep scM0_1.view _ _ _ (t.val % 11) (off5_eq t) _ _ q hq i k).trans ?_
    refine (slot_keep scM0_1.view _ _ _ (t.val % 11) (off1_eq t) _ _ q hq i k).trans ?_
    exact congrFun (read_left1 _) _

theorem upB (t : Fin cfg0.N) (h : conds0_B (grid0.coords t)) (q : Fin 11) (i : Fin 8) (k : Fin 512) :
    (st m c (t.val + 1)).2.2.2 (ix3 q i k) = if q.val = t.val % 11 then k0_pay6 (k0_pay12 (bottom (st m c t.val).2.1) (iblk m c 3 t)) (ix3 0 i k)
      else (st m c t.val).2.2.2 (ix3 q i k) := by
  refine (congrFun (st_B4 m c t h) _).trans ?_
  refine (congrFun (congrArg (fun L => scM0_2.view.read (Elt Ideal) (scM0_2.view.writes (Elt Ideal) _ L))
    (upPiecesB c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2 (by rw [off5_eq t]; exact inb_slot _ (Nat.mod_lt _ (by omega))) (by rw [off3_eq t]; exact inb_slot _ (Nat.mod_lt _ (by omega))))) _).trans ?_
  by_cases hq : q.val = t.val % 11
  · rw [if_pos hq]
    exact slot_read scM0_2.view _ _ _ q (by rw [hq]; exact off5_eq t) _ _ i k
  · rw [if_neg hq]
    refine (slot_keep scM0_2.view _ _ _ (t.val % 11) (off5_eq t) _ _ q hq i k).trans ?_
    refine (slot_keep scM0_2.view _ _ _ (t.val % 11) (off3_eq t) _ _ q hq i k).trans ?_
    exact congrFun (read_left2 _) _

theorem outB (t : Fin cfg0.N) (h : conds0_B (grid0.coords t))
    (hn : ∀ (r : Fin 1024) (k : Fin 2048), (st m c t.val).2.1 (ix2 r k) = normed (ax m c) (ag m c) (1024 * (t.val / 11) + r.val) k)
    (hx : ∀ (r : Fin 1024) (n : Fin 2048), (st m c t.val).1 (ix2 r n) = part (ax m c) (ag m c) (au m c) (ac m c) (ab m c) (ad m c) (1024 * (t.val / 11) + r.val) n.val (t.val % 11)) (r : Fin 1024) (n : Fin 2048) :
    (st m c (t.val + 1)).1 (ix2 r n) =
      part (ax m c) (ag m c) (au m c) (ac m c) (ab m c) (ad m c) (1024 * (t.val / 11) + r.val) n.val (t.val % 11 + 1) := by
  have hv := valB t h
  have hT : t.val / 11 % 2 = 0 := by omega

  refine (congrFun (st_B1 m c t h) _).trans ?_
  refine (congrFun (congrArg (fun L => VO0_9.read (Elt Ideal) (VO0_9.writes (Elt Ideal) _ L)) (outPiecesB c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2)) _).trans ?_
  refine halves_read VO0_9 _ _ _ (fun r n => part (ax m c) (ag m c) (au m c) (ac m c) (ab m c) (ad m c) (1024 * (t.val / 11) + r.val) n.val (t.val % 11 + 1))
    (fun r n => ?_) (fun r n => ?_) r n
  · exact (congrFun (high_later _ _ _ _ _ _ _ _ _ _) _).trans (value_high (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ (fun r k => (top_apply _ r k).trans (hn _ k)) (fun r k => (bottom_apply _ r k).trans (hn _ k)) (fun r n => (bottom_apply _ r n).trans (hx _ n)) r n)
  · exact (congrFun (low_later _ _ _ _ _ _ _ _ _ _ _) _).trans (value_low (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ _ (fun r k => (top_apply _ r k).trans (hn _ k)) (fun i k => by rw [if_pos hT]; exact (halo_apply _ i k).trans (zero_apply 0 i k)) (fun i k => by rw [if_pos hT]; exact (halo_apply _ i k).trans (zero_apply 0 i k)) (fun r n => (top_apply _ r n).trans (hx _ n)) r n)

theorem gateC (t : Fin cfg0.N) (h : conds0_C (grid0.coords t)) (q : Fin 11) (i : Fin 8) (k : Fin 512) :
    (st m c (t.val + 1)).2.2.1 (ix3 q i k) = if q.val = t.val % 11 then k0_pay6 (k0_pay12 (k0_pay15 (iblk m c 1 t) (k0_pay14 (bottom (iblk m c 0 t)))) (iblk m c 2 t)) (ix3 0 i k)
      else (st m c t.val).2.2.1 (ix3 q i k) := by
  refine (congrFun (st_C3 m c t h) _).trans ?_
  refine (congrFun (congrArg (fun L => scM0_1.view.read (Elt Ideal) (scM0_1.view.writes (Elt Ideal) _ L))
    (gatePiecesC c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2 (by rw [off4_eq t]; exact inb_slot _ (Nat.mod_lt _ (by omega))))) _).trans ?_
  by_cases hq : q.val = t.val % 11
  · rw [if_pos hq]
    exact slot_read scM0_1.view _ _ _ q (by rw [hq]; exact off4_eq t) _ _ i k
  · rw [if_neg hq]
    refine (slot_keep scM0_1.view _ _ _ (t.val % 11) (off4_eq t) _ _ q hq i k).trans ?_
    exact congrFun (read_left1 _) _

theorem upC (t : Fin cfg0.N) (h : conds0_C (grid0.coords t)) (q : Fin 11) (i : Fin 8) (k : Fin 512) :
    (st m c (t.val + 1)).2.2.2 (ix3 q i k) = if q.val = t.val % 11 then k0_pay6 (k0_pay12 (k0_pay15 (iblk m c 1 t) (k0_pay14 (bottom (iblk m c 0 t)))) (iblk m c 3 t)) (ix3 0 i k)
      else (st m c t.val).2.2.2 (ix3 q i k) := by
  refine (congrFun (st_C4 m c t h) _).trans ?_
  refine (congrFun (congrArg (fun L => scM0_2.view.read (Elt Ideal) (scM0_2.view.writes (Elt Ideal) _ L))
    (upPiecesC c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2 (by rw [off4_eq t]; exact inb_slot _ (Nat.mod_lt _ (by omega))))) _).trans ?_
  by_cases hq : q.val = t.val % 11
  · rw [if_pos hq]
    exact slot_read scM0_2.view _ _ _ q (by rw [hq]; exact off4_eq t) _ _ i k
  · rw [if_neg hq]
    refine (slot_keep scM0_2.view _ _ _ (t.val % 11) (off4_eq t) _ _ q hq i k).trans ?_
    exact congrFun (read_left2 _) _

theorem normedC (t : Fin cfg0.N) (h : conds0_C (grid0.coords t)) (r : Fin 1024) (k : Fin 2048) :
    (st m c (t.val + 1)).2.1 (ix2 r k) = normed (ax m c) (ag m c) (1024 * (t.val / 11) + r.val) k := by
  refine (congrFun (st_C2 m c t h) _).trans ?_
  refine (congrFun (congrArg (fun L => VS0_0.read (Elt Ideal) (VS0_0.writes (Elt Ideal) _ L)) (normPiecesC c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2)) _).trans ?_
  exact halves_read VS0_0 _ _ _ (fun r k => normed (ax m c) (ag m c) (1024 * (t.val / 11) + r.val) k)
    (fun r n => norm_bottom m c t r n) (fun r n => norm_top m c t r n) r k

theorem outC (t : Fin cfg0.N) (h : conds0_C (grid0.coords t))
    (hg : ∀ (q : Fin 11) (i : Fin 8) (k : Fin 512), q.val = t.val % 11 → (st m c t.val).2.2.1 (ix3 q i k) =
      proj (ax m c) (ag m c) (au m c) (1024 * (t.val / 11) - 8 + i.val) (512 * (t.val % 11) + k.val))
    (hu : ∀ (q : Fin 11) (i : Fin 8) (k : Fin 512), q.val = t.val % 11 → (st m c t.val).2.2.2 (ix3 q i k) =
      proj (ax m c) (ag m c) (au m c) (1024 * (t.val / 11) - 8 + i.val) (512 * (t.val % 11) + k.val + 5632)) (r : Fin 1024) (n : Fin 2048) :
    (st m c (t.val + 1)).1 (ix2 r n) =
      part (ax m c) (ag m c) (au m c) (ac m c) (ab m c) (ad m c) (1024 * (t.val / 11) + r.val) n.val (t.val % 11 + 1) := by
  have hv := valC t h
  have hT : ¬ t.val / 11 % 2 = 0 := by omega
  have hJ : t.val % 11 = 0 := by omega
  refine (congrFun (st_C1 m c t h) _).trans ?_
  refine (congrFun (congrArg (fun L => VO0_9.read (Elt Ideal) (VO0_9.writes (Elt Ideal) _ L)) (outPiecesC c (grid0.coords t) _ _ _ _ _ _ _ _ _ _ _ _ _ _ _ _ _ _ _ _ _ _ _ _ _ _ _ _ _ _ _ _ _ _ _ h.1 h.2.1 h.2.2.1 h.2.2.2 (st m c t.val).2.2.1 (st m c t.val).2.2.2)) _).trans ?_
  refine halves_read VO0_9 _ _ _ (fun r n => part (ax m c) (ag m c) (au m c) (ac m c) (ab m c) (ad m c) (1024 * (t.val / 11) + r.val) n.val (t.val % 11 + 1))
    (fun r n => ?_) (fun r n => ?_) r n
  · exact (value_high (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ (fun r k => norm_top m c t r k) (fun r k => norm_bottom m c t r k) (fun r n => (bottom_apply _ r n).trans ((blk_0 m c t _ n).trans (by rw [hJ]; rfl))) r n)
  · exact (value_low (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ _ (fun r k => norm_top m c t r k) (fun i k => by rw [if_neg hT]; exact (halo_apply _ i k).trans ((slot_apply _ _ _ ⟨t.val % 11, by omega⟩ (off2_eq t) i k).trans (hg _ i k rfl))) (fun i k => by rw [if_neg hT]; exact (halo_apply _ i k).trans ((slot_apply _ _ _ ⟨t.val % 11, by omega⟩ (off2_eq t) i k).trans (hu _ i k rfl))) (fun r n => (top_apply _ r n).trans ((blk_0 m c t _ n).trans (by rw [hJ]; rfl))) r n)

theorem gateD (t : Fin cfg0.N) (h : conds0_D (grid0.coords t)) (q : Fin 11) (i : Fin 8) (k : Fin 512) :
    (st m c (t.val + 1)).2.2.1 (ix3 q i k) = if q.val = t.val % 11 then k0_pay6 (k0_pay12 (bottom (st m c t.val).2.1) (iblk m c 2 t)) (ix3 0 i k)
      else (st m c t.val).2.2.1 (ix3 q i k) := by
  refine (congrFun (st_D3 m c t h) _).trans ?_
  refine (congrFun (congrArg (fun L => scM0_1.view.read (Elt Ideal) (scM0_1.view.writes (Elt Ideal) _ L))
    (gatePiecesD c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2 (by rw [off5_eq t]; exact inb_slot _ (Nat.mod_lt _ (by omega))))) _).trans ?_
  by_cases hq : q.val = t.val % 11
  · rw [if_pos hq]
    exact slot_read scM0_1.view _ _ _ q (by rw [hq]; exact off5_eq t) _ _ i k
  · rw [if_neg hq]
    refine (slot_keep scM0_1.view _ _ _ (t.val % 11) (off5_eq t) _ _ q hq i k).trans ?_
    exact congrFun (read_left1 _) _

theorem upD (t : Fin cfg0.N) (h : conds0_D (grid0.coords t)) (q : Fin 11) (i : Fin 8) (k : Fin 512) :
    (st m c (t.val + 1)).2.2.2 (ix3 q i k) = if q.val = t.val % 11 then k0_pay6 (k0_pay12 (bottom (st m c t.val).2.1) (iblk m c 3 t)) (ix3 0 i k)
      else (st m c t.val).2.2.2 (ix3 q i k) := by
  refine (congrFun (st_D4 m c t h) _).trans ?_
  refine (congrFun (congrArg (fun L => scM0_2.view.read (Elt Ideal) (scM0_2.view.writes (Elt Ideal) _ L))
    (upPiecesD c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2 (by rw [off5_eq t]; exact inb_slot _ (Nat.mod_lt _ (by omega))))) _).trans ?_
  by_cases hq : q.val = t.val % 11
  · rw [if_pos hq]
    exact slot_read scM0_2.view _ _ _ q (by rw [hq]; exact off5_eq t) _ _ i k
  · rw [if_neg hq]
    refine (slot_keep scM0_2.view _ _ _ (t.val % 11) (off5_eq t) _ _ q hq i k).trans ?_
    exact congrFun (read_left2 _) _

theorem outD (t : Fin cfg0.N) (h : conds0_D (grid0.coords t))
    (hn : ∀ (r : Fin 1024) (k : Fin 2048), (st m c t.val).2.1 (ix2 r k) = normed (ax m c) (ag m c) (1024 * (t.val / 11) + r.val) k)
    (hx : ∀ (r : Fin 1024) (n : Fin 2048), (st m c t.val).1 (ix2 r n) = part (ax m c) (ag m c) (au m c) (ac m c) (ab m c) (ad m c) (1024 * (t.val / 11) + r.val) n.val (t.val % 11))
    (hg : ∀ (q : Fin 11) (i : Fin 8) (k : Fin 512), q.val = t.val % 11 → (st m c t.val).2.2.1 (ix3 q i k) =
      proj (ax m c) (ag m c) (au m c) (1024 * (t.val / 11) - 8 + i.val) (512 * (t.val % 11) + k.val))
    (hu : ∀ (q : Fin 11) (i : Fin 8) (k : Fin 512), q.val = t.val % 11 → (st m c t.val).2.2.2 (ix3 q i k) =
      proj (ax m c) (ag m c) (au m c) (1024 * (t.val / 11) - 8 + i.val) (512 * (t.val % 11) + k.val + 5632)) (r : Fin 1024) (n : Fin 2048) :
    (st m c (t.val + 1)).1 (ix2 r n) =
      part (ax m c) (ag m c) (au m c) (ac m c) (ab m c) (ad m c) (1024 * (t.val / 11) + r.val) n.val (t.val % 11 + 1) := by
  have hv := valD t h
  have hT : ¬ t.val / 11 % 2 = 0 := by omega

  refine (congrFun (st_D1 m c t h) _).trans ?_
  refine (congrFun (congrArg (fun L => VO0_9.read (Elt Ideal) (VO0_9.writes (Elt Ideal) _ L)) (outPiecesD c (grid0.coords t) _ _ _ _ _ _ _ _ _ _ _ _ _ _ _ _ _ _ _ _ _ _ _ _ _ _ _ _ _ _ _ _ _ _ _ h.1 h.2.1 h.2.2.1 h.2.2.2 (st m c t.val).1 (st m c t.val).2.1 (st m c t.val).2.2.1 (st m c t.val).2.2.2)) _).trans ?_
  refine halves_read VO0_9 _ _ _ (fun r n => part (ax m c) (ag m c) (au m c) (ac m c) (ab m c) (ad m c) (1024 * (t.val / 11) + r.val) n.val (t.val % 11 + 1))
    (fun r n => ?_) (fun r n => ?_) r n
  · exact (congrFun (high_later _ _ _ _ _ _ _ _ _ _) _).trans (value_high (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ (fun r k => (top_apply _ r k).trans (hn _ k)) (fun r k => (bottom_apply _ r k).trans (hn _ k)) (fun r n => (bottom_apply _ r n).trans (hx _ n)) r n)
  · exact (congrFun (low_later _ _ _ _ _ _ _ _ _ _ _) _).trans (value_low (ax m c) (ag m c) (au m c) (ac m c) (ab m c) (ad m c) (t.val / 11) (t.val % 11) _ _ _ _ _ _ _ (fun j k => blk_2 m c t j k) (fun j k => blk_3 m c t j k) (fun i k => blk_4 m c t i k) (fun i k => blk_5 m c t i k) (fun k => blk_6 m c t 0 k) (fun k => blk_7 m c t 0 k) (fun k n => blk_8 m c t k n) _ _ _ _ (fun r k => (top_apply _ r k).trans (hn _ k)) (fun i k => by rw [if_neg hT]; exact (halo_apply _ i k).trans ((slot_apply _ _ _ ⟨t.val % 11, by omega⟩ (off2_eq t) i k).trans (hg _ i k rfl))) (fun i k => by rw [if_neg hT]; exact (halo_apply _ i k).trans ((slot_apply _ _ _ ⟨t.val % 11, by omega⟩ (off2_eq t) i k).trans (hu _ i k rfl))) (fun r n => (top_apply _ r n).trans (hx _ n)) r n)

theorem proj_at2 (R R' C C' : ℕ) (hR : R = R') (hC : C = C') :
    proj (ax m c) (ag m c) (au m c) R C = proj (ax m c) (ag m c) (au m c) R' C' := by rw [hR, hC]

/-- One point's step. -/
theorem inv_step (t : Fin cfg0.N) (hp : t.val ≠ 0 → Inv m c (t.val - 1) (st m c t.val)) : Inv m c t.val (st m c (t.val + 1)) := by
  have hN : t.val < 88 := t.isLt
  rcases cases_of t with h | h | h | h
  · have hv := valA t h
    refine ⟨(normedA m c t h), outA m c t h, fun q i k hle => ?_, fun q i k hle => ?_⟩
    · rw [gateA m c t h q i k]
      by_cases e : q.val = t.val % 11
      · rw [if_pos e]
        refine (value_last (ax m c) (ag m c) (au m c) (t.val / 11) (t.val % 11) 0 _ (fun j k => blk_2 m c t j k) _ (norm_bottom m c t) 0 i k).trans ?_
        exact proj_at2 m c _ _ _ _ (by omega) (by omega)
      · rw [if_neg e]
        exact ((hp (by omega)).gate q i k (by omega)).trans (proj_at2 m c _ _ _ _ (by have := q.isLt; omega) rfl)
    · rw [upA m c t h q i k]
      by_cases e : q.val = t.val % 11
      · rw [if_pos e]
        refine (value_last (ax m c) (ag m c) (au m c) (t.val / 11) (t.val % 11) 5632 _ (fun j k => blk_3 m c t j k) _ (norm_bottom m c t) 0 i k).trans ?_
        exact proj_at2 m c _ _ _ _ (by omega) (by omega)
      · rw [if_neg e]
        exact ((hp (by omega)).up q i k (by omega)).trans (proj_at2 m c _ _ _ _ (by have := q.isLt; omega) rfl)
  · have hv := valB t h
    have hq := hp (by omega)
    have e1 : (t.val - 1) / 11 = t.val / 11 := by omega
    have e2 : (t.val - 1) % 11 + 1 = t.val % 11 := by omega
    have hn : ∀ (r : Fin 1024) (k : Fin 2048), (st m c t.val).2.1 (ix2 r k) = normed (ax m c) (ag m c) (1024 * (t.val / 11) + r.val) k :=
      fun r k => by rw [hq.norm r k, e1]
    have hx : ∀ (r : Fin 1024) (n : Fin 2048), (st m c t.val).1 (ix2 r n) = part (ax m c) (ag m c) (au m c) (ac m c) (ab m c) (ad m c) (1024 * (t.val / 11) + r.val) n.val (t.val % 11) :=
      fun r n => by rw [hq.out r n, e1, e2]
    refine ⟨(fun r k => (congrFun (st_B2 m c t h) _).trans (hn r k)), outB m c t h hn hx, fun q i k hle => ?_, fun q i k hle => ?_⟩
    · rw [gateB m c t h q i k]
      by_cases e : q.val = t.val % 11
      · rw [if_pos e]
        refine (value_last (ax m c) (ag m c) (au m c) (t.val / 11) (t.val % 11) 0 _ (fun j k => blk_2 m c t j k) _ (fun r k => (bottom_apply _ r k).trans (hn _ k)) 0 i k).trans ?_
        exact proj_at2 m c _ _ _ _ (by omega) (by omega)
      · rw [if_neg e]
        exact ((hp (by omega)).gate q i k (by omega)).trans (proj_at2 m c _ _ _ _ (by have := q.isLt; omega) rfl)
    · rw [upB m c t h q i k]
      by_cases e : q.val = t.val % 11
      · rw [if_pos e]
        refine (value_last (ax m c) (ag m c) (au m c) (t.val / 11) (t.val % 11) 5632 _ (fun j k => blk_3 m c t j k) _ (fun r k => (bottom_apply _ r k).trans (hn _ k)) 0 i k).trans ?_
        exact proj_at2 m c _ _ _ _ (by omega) (by omega)
      · rw [if_neg e]
        exact ((hp (by omega)).up q i k (by omega)).trans (proj_at2 m c _ _ _ _ (by have := q.isLt; omega) rfl)
  · have hv := valC t h
    have hq := hp (by omega)
    have hg : ∀ (q : Fin 11) (i : Fin 8) (k : Fin 512), q.val = t.val % 11 → (st m c t.val).2.2.1 (ix3 q i k) =
        proj (ax m c) (ag m c) (au m c) (1024 * (t.val / 11) - 8 + i.val) (512 * (t.val % 11) + k.val) := fun q i k e =>
      (hq.gate q i k (by omega)).trans (proj_at2 m c _ _ _ _ (by have := q.isLt; omega) (by rw [e]))
    have hu : ∀ (q : Fin 11) (i : Fin 8) (k : Fin 512), q.val = t.val % 11 → (st m c t.val).2.2.2 (ix3 q i k) =
        proj (ax m c) (ag m c) (au m c) (1024 * (t.val / 11) - 8 + i.val) (512 * (t.val % 11) + k.val + 5632) := fun q i k e =>
      (hq.up q i k (by omega)).trans (proj_at2 m c _ _ _ _ (by have := q.isLt; omega) (by rw [e]))
    refine ⟨(normedC m c t h), outC m c t h hg hu, fun q i k hle => ?_, fun q i k hle => ?_⟩
    · rw [gateC m c t h q i k]
      by_cases e : q.val = t.val % 11
      · rw [if_pos e]
        refine (value_last (ax m c) (ag m c) (au m c) (t.val / 11) (t.val % 11) 0 _ (fun j k => blk_2 m c t j k) _ (norm_bottom m c t) 0 i k).trans ?_
        exact proj_at2 m c _ _ _ _ (by omega) (by omega)
      · rw [if_neg e]
        exact ((hp (by omega)).gate q i k (by omega)).trans (proj_at2 m c _ _ _ _ (by have := q.isLt; omega) rfl)
    · rw [upC m c t h q i k]
      by_cases e : q.val = t.val % 11
      · rw [if_pos e]
        refine (value_last (ax m c) (ag m c) (au m c) (t.val / 11) (t.val % 11) 5632 _ (fun j k => blk_3 m c t j k) _ (norm_bottom m c t) 0 i k).trans ?_
        exact proj_at2 m c _ _ _ _ (by omega) (by omega)
      · rw [if_neg e]
        exact ((hp (by omega)).up q i k (by omega)).trans (proj_at2 m c _ _ _ _ (by have := q.isLt; omega) rfl)
  · have hv := valD t h
    have hq := hp (by omega)
    have e1 : (t.val - 1) / 11 = t.val / 11 := by omega
    have e2 : (t.val - 1) % 11 + 1 = t.val % 11 := by omega
    have hn : ∀ (r : Fin 1024) (k : Fin 2048), (st m c t.val).2.1 (ix2 r k) = normed (ax m c) (ag m c) (1024 * (t.val / 11) + r.val) k :=
      fun r k => by rw [hq.norm r k, e1]
    have hx : ∀ (r : Fin 1024) (n : Fin 2048), (st m c t.val).1 (ix2 r n) = part (ax m c) (ag m c) (au m c) (ac m c) (ab m c) (ad m c) (1024 * (t.val / 11) + r.val) n.val (t.val % 11) :=
      fun r n => by rw [hq.out r n, e1, e2]
    have hg : ∀ (q : Fin 11) (i : Fin 8) (k : Fin 512), q.val = t.val % 11 → (st m c t.val).2.2.1 (ix3 q i k) =
        proj (ax m c) (ag m c) (au m c) (1024 * (t.val / 11) - 8 + i.val) (512 * (t.val % 11) + k.val) := fun q i k e =>
      (hq.gate q i k (by omega)).trans (proj_at2 m c _ _ _ _ (by have := q.isLt; omega) (by rw [e]))
    have hu : ∀ (q : Fin 11) (i : Fin 8) (k : Fin 512), q.val = t.val % 11 → (st m c t.val).2.2.2 (ix3 q i k) =
        proj (ax m c) (ag m c) (au m c) (1024 * (t.val / 11) - 8 + i.val) (512 * (t.val % 11) + k.val + 5632) := fun q i k e =>
      (hq.up q i k (by omega)).trans (proj_at2 m c _ _ _ _ (by have := q.isLt; omega) (by rw [e]))
    refine ⟨(fun r k => (congrFun (st_D2 m c t h) _).trans (hn r k)), outD m c t h hn hx hg hu, fun q i k hle => ?_, fun q i k hle => ?_⟩
    · rw [gateD m c t h q i k]
      by_cases e : q.val = t.val % 11
      · rw [if_pos e]
        refine (value_last (ax m c) (ag m c) (au m c) (t.val / 11) (t.val % 11) 0 _ (fun j k => blk_2 m c t j k) _ (fun r k => (bottom_apply _ r k).trans (hn _ k)) 0 i k).trans ?_
        exact proj_at2 m c _ _ _ _ (by omega) (by omega)
      · rw [if_neg e]
        exact ((hp (by omega)).gate q i k (by omega)).trans (proj_at2 m c _ _ _ _ (by have := q.isLt; omega) rfl)
    · rw [upD m c t h q i k]
      by_cases e : q.val = t.val % 11
      · rw [if_pos e]
        refine (value_last (ax m c) (ag m c) (au m c) (t.val / 11) (t.val % 11) 5632 _ (fun j k => blk_3 m c t j k) _ (fun r k => (bottom_apply _ r k).trans (hn _ k)) 0 i k).trans ?_
        exact proj_at2 m c _ _ _ _ (by omega) (by omega)
      · rw [if_neg e]
        exact ((hp (by omega)).up q i k (by omega)).trans (proj_at2 m c _ _ _ _ (by have := q.isLt; omega) rfl)

/-- What the buffers hold after every point. -/
theorem inv (n : ℕ) (hn : n < cfg0.N) : Inv m c n (st m c (n + 1)) := by
  induction n with
  | zero => exact inv_step m c ⟨0, hn⟩ (fun h => absurd rfl h)
  | succ n ih => exact inv_step m c ⟨n + 1, hn⟩ (fun _ => ih (by omega))

/-- An entry of the result, from the arguments held at entry. -/
def resultAt (R n : ℕ) : EReal := result (ax m c) (ag m c) (au m c) (ac m c) (ab m c) (ad m c) R n

/-- The whole result of the kernel. -/
theorem final : (dats m 0 c).arrAt 9 cfg0.N = fun i => resultAt m c (i 0).val (i 1).val := by
  funext i
  refine (dats m 0 c).arrAt_forall_of_cover 9 (fun i v => v = resultAt m c (i 0).val (i 1).val) (fun t hf y => ?_) (fun i => ?_) i
  · have hN : t.val < 88 := t.isLt
    have hJ : t.val % 11 = 10 := by
      have e := flush_9 t
      rw [hf] at e
      exact of_decide_eq_true e.symm
    obtain ⟨r, n, rfl⟩ : ∃ (r : Fin 1024) (n : Fin 2048), y = ix2 r n := ⟨y 0, y 1, by
      funext a; match a with
      | ⟨0, _⟩ => rfl
      | ⟨1, _⟩ => rfl⟩
    have hb := (inv m c t.val t.isLt).out r n
    rw [hJ, part_all] at hb
    have hfl : (dats m 0 c).flushed 9 t = (cfg0.win 9).cut (grid0.coords t) (st m c (t.val + 1)).1 := by
      show (cfg0.win 9).cut (grid0.coords t) ((dats m 0 c).after 9 t) = _
      rw [after0_9]
    rw [hfl]
    revert hb
    generalize (st m c (t.val + 1)).1 = w
    intro hb
    show w (ix2 r n) = _
    rw [hb]
    have hi := index_9 t
    have h0 := Pipeline.Window.rect_emb_val (cfg0.win 9) t (ix2 r n) 0
    have h1 := Pipeline.Window.rect_emb_val (cfg0.win 9) t (ix2 r n) 1
    rw [hi] at h0 h1
    unfold resultAt
    refine congr (congrArg _ ?_) ?_
    · refine Eq.trans ?_ h0.symm
      show 1024 * (t.val / 11) + r.val = t.val / 11 * 1024 + r.val
      omega
    · refine Eq.trans ?_ h1.symm
      show n.val = 0 * 2048 + n.val
      omega
  · obtain ⟨r, n, rfl⟩ : ∃ (r : Fin 8192) (n : Fin 2048), i = ix2 r n := ⟨i 0, i 1, by
      funext a; match a with
      | ⟨0, _⟩ => rfl
      | ⟨1, _⟩ => rfl⟩
    have hr := r.isLt
    let t : Fin cfg0.N := ⟨11 * (r.val / 1024) + 10, by show _ < 88; omega⟩
    have ht : t.val = 11 * (r.val / 1024) + 10 := rfl
    refine ⟨t, (flush_9 t).trans (decide_eq_true (by omega)), ?_⟩
    have key : ((cfg0.win 9).rect t).emb (ix2 (⟨r.val % 1024, by omega⟩ : Fin 1024) n : ((cfg0.win 9).xblock (cfg0.grid.coords t)).Idx)
        = (ix2 r n : S8192x2048.Idx) := by
      funext a; apply Fin.ext
      refine (Pipeline.Window.rect_emb_val (cfg0.win 9) t _ a).trans ?_
      rw [index_9 t]
      match a with
      | ⟨0, _⟩ => show t.val / 11 * 1024 + r.val % 1024 = r.val; omega
      | ⟨1, _⟩ => show 0 * 2048 + n.val = n.val; omega
    rw [← key]
    exact View.emb_mem_set ((cfg0.win 9).blk t).view _

end Cert.FfnIdeal.Tile

end
-- ==== Proof.FfnResult.lean ====
/- The feed-forward kernel's run: it ends with the layer's rows and its arguments unchanged. -/
module

public import proofs.«01_k».proof.Proof.FfnPoints
public import proofs.«01_k».proof.Proof.FfnIdealFrame

@[expose] public section

set_option maxRecDepth 16384

noncomputable section

namespace Cert.FfnIdeal.Tile

open Idealize.ShloMosaic Idealize.ShloMosaic.TcCoe Idealize.SL.Sem Cert.FfnIdeal Cert.FfnIdeal.Gen Cert.FfnIdeal.Halo

variable (m : (ℓ : Loc nD τ sig) → Buf (Elt Ideal) ℓ) (ρ : Dev nD → PrngReg)

/-- Every weakly fair execution ends with the result array at the layer's rows, and the arguments as they were. -/
theorem run : θ_run defs (onTc (τ := τ) (main (F := Ideal))) ⟨m, fun _ => 0, ρ⟩ (fun r => ∀ c : Dev nD,
      r.2.mem ((c.tc : Thread nD τ).loc main_v0) = (fun i : S8192x2048.Idx => resultAt m c (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 9).trans (final m c), h.2 c⟩) (θ_run_and (run_main m ρ) (unchanged m ρ))

end Cert.FfnIdeal.Tile

end
-- ==== Proof.FfnRef.lean ====
/- The feed-forward reference's whole result, entry by entry. -/
module

public import proofs.«01_k».proof.Proof.FfnLayer
public import proofs.«01_k».proof.Proof.Gen.FfnRefIdeal.Run

@[expose] public section

set_option maxRecDepth 16384

noncomputable section

namespace Cert.FfnRefIdeal.Rows

open Idealize.ShloMosaic Idealize.ShloMosaic.TcCoe Idealize.SL.Sem Cert.FfnRefIdeal Cert.FfnRefIdeal.Gen Cert.FfnIdeal.Tile Idealize.ShloMosaic.StableHlo

variable (m : (ℓ : Loc nD τ sig) → Buf (Elt Ideal) ℓ) (c : Dev nD)

/-- The up projection of the whole sequence batch. -/
def hidden : FVec Ideal S4x2048x11264 .f32 := Host.dotGeneral dot_S4x2048x2048_S2048x11264_S4x2048x11264_2_0_01_1_n_n none (mulf (mulf (shapeCast _ (m ((c.tc : Thread nD τ).loc main_arg0)) shapeCasts_S8192x2048_S4x2048x2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (shapeCast _ (m ((c.tc : Thread nD τ).loc main_arg0)) shapeCasts_S8192x2048_S4x2048x2048) (shapeCast _ (m ((c.tc : Thread nD τ).loc main_arg0)) shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (m ((c.tc : Thread nD τ).loc main_arg1)) shapeCasts_S1x2048_S2048)))) (extf .f32 (m ((c.tc : Thread nD τ).loc main_arg2)) bitsLt_bf16_f32)

/-- Two zero rows before each sequence. -/
def padded (H : FVec Ideal S4x2048x11264 .f32) : FVec Ideal S4x2050x11264 .f32 := pad S4x2050x11264 ![0, 2, 0] ![0, 0, 0] ![0, 0, 0] H (sitofp .f32 (constantI S_ 32 0#32)) pads_S4x2048x11264_S4x2050x11264_000_200_000 h_S_

/-- The convolution's three taps and the bias. -/
def mixed (P : FVec Ideal S4x2050x11264 .f32) : FVec Ideal S4x2048x11264 .f32 := addf (addf (addf (mulf (extractStridedSlice S4x2048x11264 ![0, 0, 0] P slices_S4x2050x11264_S4x2048x11264_0_0_0) (broadcastInDim S4x2048x11264 ![0, 1, 2] bcast_S1x1x11264_S4x2048x11264_0_1_2 (broadcastInDim S1x1x11264 ![2] bcast_S11264_S1x1x11264_2 (shapeCast _ (extractStridedSlice S1x11264 ![0, 0] (m ((c.tc : Thread nD τ).loc main_arg3)) slices_S3x11264_S1x11264_0_0) shapeCasts_S1x11264_S11264)))) (mulf (extractStridedSlice S4x2048x11264 ![0, 1, 0] P slices_S4x2050x11264_S4x2048x11264_0_1_0) (broadcastInDim S4x2048x11264 ![0, 1, 2] bcast_S1x1x11264_S4x2048x11264_0_1_2 (broadcastInDim S1x1x11264 ![2] bcast_S11264_S1x1x11264_2 (shapeCast _ (extractStridedSlice S1x11264 ![1, 0] (m ((c.tc : Thread nD τ).loc main_arg3)) slices_S3x11264_S1x11264_1_0) shapeCasts_S1x11264_S11264))))) (mulf (extractStridedSlice S4x2048x11264 ![0, 2, 0] P slices_S4x2050x11264_S4x2048x11264_0_2_0) (broadcastInDim S4x2048x11264 ![0, 1, 2] bcast_S1x1x11264_S4x2048x11264_0_1_2 (broadcastInDim S1x1x11264 ![2] bcast_S11264_S1x1x11264_2 (shapeCast _ (extractStridedSlice S1x11264 ![2, 0] (m ((c.tc : Thread nD τ).loc main_arg3)) slices_S3x11264_S1x11264_2_0) shapeCasts_S1x11264_S11264))))) (broadcastInDim S4x2048x11264 ![0, 1, 2] bcast_S1x1x11264_S4x2048x11264_0_1_2 (broadcastInDim S1x1x11264 ![2] bcast_S11264_S1x1x11264_2 (shapeCast _ (m ((c.tc : Thread nD τ).loc main_arg4)) shapeCasts_S1x11264_S11264)))

/-- The gated activation. -/
def acted (U : FVec Ideal S4x2048x11264 .f32) : FVec Ideal S4x2048x5632 .f32 := mulf (mulf (extractStridedSlice S4x2048x5632 ![0, 0, 0] U slices_S4x2048x11264_S4x2048x5632_0_0_0) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (extractStridedSlice S4x2048x5632 ![0, 0, 0] U slices_S4x2048x11264_S4x2048x5632_0_0_0)))))) (extractStridedSlice S4x2048x5632 ![0, 0, 5632] U slices_S4x2048x11264_S4x2048x5632_0_0_5632)

/-- The down projection and the residual. -/
def summed (A : FVec Ideal S4x2048x5632 .f32) : FVec Ideal S8192x2048 .f32 := shapeCast _ (addf (shapeCast _ (m ((c.tc : Thread nD τ).loc main_arg0)) shapeCasts_S8192x2048_S4x2048x2048) (Host.dotGeneral dot_S4x2048x5632_S5632x2048_S4x2048x2048_2_0_01_1_n_n none A (extf .f32 (m ((c.tc : Thread nD τ).loc main_arg5)) bitsLt_bf16_f32))) shapeCasts_S4x2048x2048_S8192x2048

theorem result_steps : Cert.FfnRefIdeal.Value.res_main_v49 m c = summed m c (acted (mixed m c (padded (hidden m c)))) := rfl

theorem at_index {S : Shape} (V : S.Idx → EReal) (i j : S.Idx) (h : ∀ a, (i a).val = (j a).val) : V i = V j :=
  congrArg V (funext fun a => Fin.ext (h a))

theorem proj_row (x : (⟨2, ![8192, 2048]⟩ : Shape).Idx → EReal) (g : (⟨2, ![1, 2048]⟩ : Shape).Idx → EReal)
    (wu : (⟨2, ![2048, 11264]⟩ : Shape).Idx → EReal) (R : Fin 8192) (C : Fin 11264) :
    proj x g wu R.val C.val = ∑ k : Fin 2048, Row.norm (fun k => x (ix2 R k)) (fun k => g (ix2 0 k)) k * wu (ix2 k C) := by
  unfold proj normed
  simp only [entry_eq]

/-- The up projection at position `p` of sequence `s`. -/
theorem hidden_apply (s : Fin 4) (p : Fin 2048) (C : Fin 11264) : hidden m c (ix3 s p C) =
    proj (m ((c.tc : Thread nD τ).loc main_arg0)) (m ((c.tc : Thread nD τ).loc main_arg1)) (m ((c.tc : Thread nD τ).loc main_arg2)) (s.val * 2048 + p.val) C.val := by
  refine Eq.trans ?_ (proj_row (m ((c.tc : Thread nD τ).loc main_arg0)) (m ((c.tc : Thread nD τ).loc main_arg1)) (m ((c.tc : Thread nD τ).loc main_arg2)) ⟨s.val * 2048 + p.val, by omega⟩ C).symm
  unfold hidden
  simp only [pointwise, zero_add]
  rfl

theorem pad_zero : (FloatOps.sitofp (F := Ideal) .f32 0#32 : EReal) = 0 := by
  show ((((0#32 : BitVec 32).toInt : ℤ) : ℝ) : EReal) = 0
  simp

/-- The padded rows, `d` rows before position `p`. -/
theorem padded_before (d : ℕ) (hd : d ≤ 2) (s : Fin 4) (p : Fin 2048) (C : Fin 11264) (i : S4x2050x11264.Idx)
    (h0 : (i 0).val = s.val) (h1 : (i 1).val = 2 - d + p.val) (h2 : (i 2).val = C.val) :
    padded (hidden m c) i = before (m ((c.tc : Thread nD τ).loc main_arg0)) (m ((c.tc : Thread nD τ).loc main_arg1)) (m ((c.tc : Thread nD τ).loc main_arg2)) d (s.val * 2048 + p.val) C.val := by
  have hs := s.isLt
  have hp := p.isLt
  have hC := C.isLt
  obtain ⟨q, hq⟩ : ∃ q : Fin 2050, q.val = 2 - d + p.val := ⟨⟨2 - d + p.val, by omega⟩, rfl⟩
  have hi : i = ix3 s q C := by
    funext a; apply Fin.ext
    match a with
    | ⟨0, _⟩ => exact h0
    | ⟨1, _⟩ => exact h1.trans hq.symm
    | ⟨2, _⟩ => exact h2
  rw [hi]
  unfold padded before
  simp only [pointwise, zero_add]
  by_cases h : p.val < d
  · rw [if_pos (by omega)]
    refine (dif_neg (fun hin => ?_)).trans pad_zero
    have := (hin 1).1
    change 2 ≤ q.val at this
    omega
  · rw [if_neg (by omega)]
    refine (dif_pos (fun a => ?_)).trans ?_
    · match a with
      | ⟨0, _⟩ => show 0 ≤ s.val ∧ (s.val - 0) % (0 + 1) = 0 ∧ (s.val - 0) / (0 + 1) < 4; omega
      | ⟨1, _⟩ => show 2 ≤ q.val ∧ (q.val - 2) % (0 + 1) = 0 ∧ (q.val - 2) / (0 + 1) < 2048; omega
      | ⟨2, _⟩ => show 0 ≤ C.val ∧ (C.val - 0) % (0 + 1) = 0 ∧ (C.val - 0) / (0 + 1) < 11264; omega
    · refine (at_index (S := S4x2048x11264) (hidden m c) _ (ix3 s ⟨p.val - d, by omega⟩ C) (fun a => ?_)).trans ?_
      · match a with
        | ⟨0, _⟩ => show (s.val - 0) / (0 + 1) = s.val; omega
        | ⟨1, _⟩ => show (q.val - 2) / (0 + 1) = p.val - d; omega
        | ⟨2, _⟩ => show (C.val - 0) / (0 + 1) = C.val; omega
      · refine (hidden_apply m c s ⟨p.val - d, by omega⟩ C).trans (proj_at _ _ _ _ _ _ ?_)
        show s.val * 2048 + (p.val - d) = s.val * 2048 + p.val - d
        omega

/-- The convolved and biased projection. -/
theorem mixed_apply (s : Fin 4) (p : Fin 2048) (C : Fin 11264) : mixed m c (padded (hidden m c)) (ix3 s p C) =
    convAt (m ((c.tc : Thread nD τ).loc main_arg0)) (m ((c.tc : Thread nD τ).loc main_arg1)) (m ((c.tc : Thread nD τ).loc main_arg2)) (m ((c.tc : Thread nD τ).loc main_arg3)) (s.val * 2048 + p.val) C.val + entry (m ((c.tc : Thread nD τ).loc main_arg4)) 0 C.val := by
  have e0 := padded_before m c 2 (by omega) s p C (ix3 ⟨0 + s.val, by omega⟩ ⟨0 + p.val, by omega⟩ ⟨0 + C.val, by omega⟩) (Nat.zero_add _) (by show 0 + p.val = _; omega) (Nat.zero_add _)
  have e1 := padded_before m c 1 (by omega) s p C (ix3 ⟨0 + s.val, by omega⟩ ⟨1 + p.val, by omega⟩ ⟨0 + C.val, by omega⟩) (Nat.zero_add _) (by show 1 + p.val = _; omega) (Nat.zero_add _)
  have e2 := padded_before m c 0 (by omega) s p C (ix3 ⟨0 + s.val, by omega⟩ ⟨2 + p.val, by omega⟩ ⟨0 + C.val, by omega⟩) (Nat.zero_add _) (by show 2 + p.val = _; omega) (Nat.zero_add _)
  have e2' : before (m ((c.tc : Thread nD τ).loc main_arg0)) (m ((c.tc : Thread nD τ).loc main_arg1)) (m ((c.tc : Thread nD τ).loc main_arg2)) 0 (s.val * 2048 + p.val) C.val = proj (m ((c.tc : Thread nD τ).loc main_arg0)) (m ((c.tc : Thread nD τ).loc main_arg1)) (m ((c.tc : Thread nD τ).loc main_arg2)) (s.val * 2048 + p.val) C.val := by
    unfold before
    rw [if_neg (Nat.not_lt_zero _)]
    rfl
  have z : ∀ d : Fin 3, entry (m ((c.tc : Thread nD τ).loc main_arg3)) d.val C.val = (m ((c.tc : Thread nD τ).loc main_arg3)) (ix2 d ⟨0 + C.val, by omega⟩) := fun d => by
    refine (entry_eq _ d C).trans (at_index (S := S3x11264) _ _ _ (fun a => ?_))
    match a with
    | ⟨0, _⟩ => rfl
    | ⟨1, _⟩ => exact (Nat.zero_add _).symm
  have z0 := z 0
  have z1 := z 1
  have z2 := z 2
  have zb := entry_eq (m ((c.tc : Thread nD τ).loc main_arg4)) 0 C
  unfold convAt
  rw [← e2', ← e0, ← e1, ← e2]
  refine Eq.trans ?_ (congr (congrArg _ (congr (congrArg _ (congr (congrArg _ (congrArg _ z0.symm)) (congrArg _ z1.symm))) (congrArg _ z2.symm))) zb.symm)
  generalize padded (hidden m c) = P
  unfold mixed
  simp only [pointwise, zero_add]
  exact (congr (congrArg _ (congr (congrArg _ (congr (congrArg _ (congr (congrArg _ (at_index (S := S4x2050x11264) P _ _ (fun a => by
      match a with
      | ⟨0, _⟩ => first | rfl | exact Nat.zero_add _
      | ⟨1, _⟩ => first | rfl | exact Nat.zero_add _
      | ⟨2, _⟩ => first | rfl | exact Nat.zero_add _
      ))) (at_index (S := S3x11264) (m ((c.tc : Thread nD τ).loc main_arg3)) _ _ (fun a => by
      match a with
      | ⟨0, _⟩ => first | rfl | exact Nat.zero_add _
      | ⟨1, _⟩ => first | rfl | exact Nat.zero_add _
      )))) (congr (congrArg _ (at_index (S := S4x2050x11264) P _ _ (fun a => by
      match a with
      | ⟨0, _⟩ => first | rfl | exact Nat.zero_add _
      | ⟨1, _⟩ => first | rfl | exact Nat.zero_add _
      | ⟨2, _⟩ => first | rfl | exact Nat.zero_add _
      ))) (at_index (S := S3x11264) (m ((c.tc : Thread nD τ).loc main_arg3)) _ _ (fun a => by
      match a with
      | ⟨0, _⟩ => first | rfl | exact Nat.zero_add _
      | ⟨1, _⟩ => first | rfl | exact Nat.zero_add _
      ))))) (congr (congrArg _ (at_index (S := S4x2050x11264) P _ _ (fun a => by
      match a with
      | ⟨0, _⟩ => first | rfl | exact Nat.zero_add _
      | ⟨1, _⟩ => first | rfl | exact Nat.zero_add _
      | ⟨2, _⟩ => first | rfl | exact Nat.zero_add _
      ))) (at_index (S := S3x11264) (m ((c.tc : Thread nD τ).loc main_arg3)) _ _ (fun a => by
      match a with
      | ⟨0, _⟩ => first | rfl | exact Nat.zero_add _
      | ⟨1, _⟩ => first | rfl | exact Nat.zero_add _
      ))))) rfl)

/-- The gated activation. -/
theorem acted_apply (s : Fin 4) (p : Fin 2048) (K : Fin 5632) : acted (mixed m c (padded (hidden m c))) (ix3 s p K) =
    act (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (s.val * 2048 + p.val) K.val := by
  have e0 : mixed m c (padded (hidden m c)) (ix3 ⟨0 + s.val, by omega⟩ ⟨0 + p.val, by omega⟩ ⟨0 + K.val, by omega⟩) = _ :=
    (at_index (S := S4x2048x11264) _ _ (ix3 s p ⟨K.val, by omega⟩) (fun a => by
      match a with
      | ⟨0, _⟩ => exact Nat.zero_add _
      | ⟨1, _⟩ => exact Nat.zero_add _
      | ⟨2, _⟩ => exact Nat.zero_add _)).trans (mixed_apply m c s p ⟨K.val, by omega⟩)
  have e1 : mixed m c (padded (hidden m c)) (ix3 ⟨0 + s.val, by omega⟩ ⟨0 + p.val, by omega⟩ ⟨5632 + K.val, by omega⟩) = _ :=
    (at_index (S := S4x2048x11264) _ _ (ix3 s p ⟨K.val + 5632, by omega⟩) (fun a => by
      match a with
      | ⟨0, _⟩ => exact Nat.zero_add _
      | ⟨1, _⟩ => exact Nat.zero_add _
      | ⟨2, _⟩ => exact Nat.add_comm _ _)).trans (mixed_apply m c s p ⟨K.val + 5632, by omega⟩)
  dsimp only at e0 e1
  unfold act Ideal.logistic
  rw [← e0, ← e1]
  generalize mixed m c (padded (hidden m c)) = U
  unfold acted
  simp only [pointwise, zero_add]
  exact (congr (congrArg _ (congr (congrArg _ (at_index (S := S4x2048x11264) U _ _ (fun a => by
      match a with
      | ⟨0, _⟩ => first | rfl | exact Nat.zero_add _
      | ⟨1, _⟩ => first | rfl | exact Nat.zero_add _
      | ⟨2, _⟩ => first | rfl | exact Nat.zero_add _
      ))) (congrArg (fun z => Ideal.div 1 (1 + Ideal.exp (-z))) (at_index (S := S4x2048x11264) U _ _ (fun a => by
      match a with
      | ⟨0, _⟩ => first | rfl | exact Nat.zero_add _
      | ⟨1, _⟩ => first | rfl | exact Nat.zero_add _
      | ⟨2, _⟩ => first | rfl | exact Nat.zero_add _
      ))))) (at_index (S := S4x2048x11264) U _ _ (fun a => by
      match a with
      | ⟨0, _⟩ => first | rfl | exact Nat.zero_add _
      | ⟨1, _⟩ => first | rfl | exact Nat.zero_add _
      | ⟨2, _⟩ => first | rfl | exact Nat.zero_add _
      )))

/-- The reference's result at row `r` and column `n`. -/
theorem result_apply (r : Fin 8192) (n : Fin 2048) : Cert.FfnRefIdeal.Value.res_main_v49 m c (ix2 r n) =
    result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r.val n.val := by
  rw [result_steps]
  have hA := acted_apply m c ⟨r.val / 2048, by omega⟩ ⟨r.val % 2048, by omega⟩
  revert hA
  generalize acted (mixed m c (padded (hidden m c))) = A
  intro hA
  unfold result summed
  simp only [pointwise, zero_add]
  refine congr (congrArg _ (entry_eq (m ((c.tc : Thread nD τ).loc main_arg0)) r n).symm) (Finset.sum_congr rfl fun k _ => ?_)
  refine congr (congrArg _ ((hA k).trans ?_)) (entry_eq (m ((c.tc : Thread nD τ).loc main_arg5)) k n).symm
  refine congrFun (congrArg _ ?_) _
  show r.val / 2048 * 2048 + r.val % 2048 = r.val
  omega

/-- The whole result of the reference. -/
theorem result_eq : Cert.FfnRefIdeal.Value.res_main_v49 m c = fun i : S8192x2048.Idx =>
    result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0).val (i 1).val := by
  funext i
  obtain ⟨r, n, rfl⟩ : ∃ (r : Fin 8192) (n : Fin 2048), i = ix2 r n := ⟨i 0, i 1, by
    funext a; match a with
    | ⟨0, _⟩ => rfl
    | ⟨1, _⟩ => rfl⟩
  exact result_apply m c r n

end Cert.FfnRefIdeal.Rows

end
-- ==== Proof.ConvIdealRun.lean ====
/- The body's run of the gated short convolution's kernel, from known contents of the buffer that carries the
   last eight rows of a tile: at a sequence's first tile (A) and at a later one (B). -/
module

public import proofs.«01_k».proof.Proof.Gen.ConvIdeal.Skeleton
public import proofs.«01_k».proof.Proof.Gen.ConvIdeal.Frame

@[expose] public section

set_option maxRecDepth 16384

noncomputable section

namespace Cert.ConvIdeal.Halo

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg2 : Memref sig .tc .vmem S1024x2048 .bf16) (harg2 : arg2.IsWhole) (arg3 : Memref sig .tc .vmem S3072x2048 .bf16) (harg3 : arg3.IsWhole) (arg4 : Memref sig .tc .vmem S3x512 .f32) (harg4 : arg4.IsWhole) (arg5 : Memref sig .tc .vmem S128x11264 .f32) (harg5 : arg5.IsWhole) (arg6 : Memref sig .tc .vmem S128x2048 .f32) (harg6 : arg6.IsWhole) (arg7 : Memref sig .tc .vmem S1024x512 .bf16) (harg7 : arg7.IsWhole) (arg8 : Memref sig .tc .vmem S128x11264 .bf16) (harg8 : arg8.IsWhole) (arg9 : Memref sig .tc .vmem S128x2048 .bf16) (harg9 : arg9.IsWhole) (arg10 : Memref sig .tc .vmem S2x8x512 .f32) (harg10 : arg10.IsWhole)

set_option maxHeartbeats 2000000 in
/-- The body's run at a sequence's first tile: the writes it made are the witness, the result block's (`L5`), the two cast blocks' (`L6`,
    `L7`) and the carried buffer's (`LS`). -/
noncomputable def kernelRun0_A (hc0 : k0_cond1 i = 1#1) (x0 : Vec F S1024x2048 .bf16) (x1 : Vec F S3072x2048 .bf16) (x2 : Vec F S3x512 .f32) (x3 : Vec F S128x11264 .f32) (x4 : Vec F S128x2048 .f32) (xs : Vec F S2x8x512 .f32) :
    Σ' (L5 : List (View.Piece (Elt F) S1024x512 .bf16)) (L6 : List (View.Piece (Elt F) S128x11264 .bf16)) (L7 : List (View.Piece (Elt F) S128x2048 .bf16)), { LS : List (View.Piece (Elt F) S2x8x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_conv_group i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_conv_group_eq_skeleton]; unfold cc0_conv_group_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexact HS

set_option maxHeartbeats 2000000 in
/-- The body's run at a later tile: the writes it made are the witness, the result block's (`L5`), the two cast blocks' (`L6`,
    `L7`) and the carried buffer's (`LS`). -/
noncomputable def kernelRun0_B (hc0 : ¬ (k0_cond1 i = 1#1)) (x0 : Vec F S1024x2048 .bf16) (x1 : Vec F S3072x2048 .bf16) (x2 : Vec F S3x512 .f32) (x3 : Vec F S128x11264 .f32) (x4 : Vec F S128x2048 .f32) (xs : Vec F S2x8x512 .f32) :
    Σ' (L5 : List (View.Piece (Elt F) S1024x512 .bf16)) (L6 : List (View.Piece (Elt F) S128x11264 .bf16)) (L7 : List (View.Piece (Elt F) S128x2048 .bf16)), { LS : List (View.Piece (Elt F) S2x8x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_conv_group i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_conv_group_eq_skeleton]; unfold cc0_conv_group_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexact HS

/-- The body's run at any point. -/
noncomputable def run0 (x0 : Vec F S1024x2048 .bf16) (x1 : Vec F S3072x2048 .bf16) (x2 : Vec F S3x512 .f32) (x3 : Vec F S128x11264 .f32) (x4 : Vec F S128x2048 .f32) (xs : Vec F S2x8x512 .f32) :
    Σ' (L5 : List (View.Piece (Elt F) S1024x512 .bf16)) (L6 : List (View.Piece (Elt F) S128x11264 .bf16)) (L7 : List (View.Piece (Elt F) S128x2048 .bf16)), { LS : List (View.Piece (Elt F) S2x8x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_conv_group i arg2 harg2 arg3 harg3 arg4 harg4 arg5 harg5 arg6 harg6 arg7 harg7 arg8 harg8 arg9 harg9 arg10 harg10) K } :=
  if h : k0_cond1 i = 1#1 then kernelRun0_A c i arg2 harg2 arg3 harg3 arg4 harg4 arg5 harg5 arg6 harg6 arg7 harg7 arg8 harg8 arg9 harg9 arg10 harg10 h x0 x1 x2 x3 x4 xs else kernelRun0_B c i arg2 harg2 arg3 harg3 arg4 harg4 arg5 harg5 arg6 harg6 arg7 harg7 arg8 harg8 arg9 harg9 arg10 harg10 h x0 x1 x2 x3 x4 xs

end Cert.ConvIdeal.Halo

end
-- ==== Proof.ConvIdealFrame.lean ====
/- The gated short convolution's state between grid points: the buffer that hands the last eight rows of a
   tile to the next tile; and the kernel's frame from it. -/
module

public import proofs.«01_k».proof.Proof.ConvIdealRun
public import Idealize.ShloMosaic.Lib.WritesUnit
public import Idealize.ShloMosaic.Lib.Claim

@[expose] public section

set_option maxRecDepth 16384

noncomputable section

namespace Cert.ConvIdeal.Halo

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
theorem live0_0 : ∀ t : Fin cfg0.N, cfg0.idle 0 (grid0.coords t) = false := fun _ => rfl
abbrev ms0_1 (t : Fin cfg0.N) : Memref sig .tc .vmem S3072x2048 .bf16 := win0_1.stage (cfg0.slots t 1)
abbrev hs0_1 (t : Fin cfg0.N) : (ms0_1 t).IsWhole := hstage0_1 ((cfg0.slots t 1).cast nbuf0_1)
theorem live0_1 : ∀ t : Fin cfg0.N, cfg0.idle 1 (grid0.coords t) = false := fun _ => rfl
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
theorem live0_2 : ∀ t : Fin cfg0.N, cfg0.idle 2 (grid0.coords t) = false := fun _ => rfl
abbrev ms0_3 (t : Fin cfg0.N) : Memref sig .tc .vmem S128x11264 .f32 := win0_3.stage (cfg0.slots t 3)
abbrev hs0_3 (t : Fin cfg0.N) : (ms0_3 t).IsWhole := hstage0_3 ((cfg0.slots t 3).cast nbuf0_3)
theorem live0_3 : ∀ t : Fin cfg0.N, cfg0.idle 3 (grid0.coords t) = false := fun _ => rfl
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
theorem live0_4 : ∀ t : Fin cfg0.N, cfg0.idle 4 (grid0.coords t) = false := fun _ => rfl
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
theorem live0_5 : ∀ t : Fin cfg0.N, cfg0.idle 5 (grid0.coords t) = false := fun _ => rfl
abbrev ms0_6 (t : Fin cfg0.N) : Memref sig .tc .vmem S128x11264 .bf16 := win0_6.stage (cfg0.slots t 6)
abbrev hs0_6 (t : Fin cfg0.N) : (ms0_6 t).IsWhole := hstage0_6 ((cfg0.slots t 6).cast nbuf0_6)
theorem live0_6 : ∀ t : Fin cfg0.N, cfg0.idle 6 (grid0.coords t) = false := fun _ => rfl
abbrev ms0_7 (t : Fin cfg0.N) : Memref sig .tc .vmem S128x2048 .bf16 := win0_7.stage (cfg0.slots t 7)
abbrev hs0_7 (t : Fin cfg0.N) : (ms0_7 t).IsWhole := hstage0_7 ((cfg0.slots t 7).cast nbuf0_7)
theorem live0_7 : ∀ t : Fin cfg0.N, cfg0.idle 7 (grid0.coords t) = false := fun _ => rfl
abbrev VO0_5 : View sig .tc .vmem S1024x512 .bf16 := (Memref.whole cc0_stg5_0 : Memref sig .tc .vmem S1024x512 .bf16).view
abbrev VO0_6 : View sig .tc .vmem S128x11264 .bf16 := (Memref.whole cc0_stg6_0 : Memref sig .tc .vmem S128x11264 .bf16).view
abbrev VO0_7 : View sig .tc .vmem S128x2048 .bf16 := (Memref.whole cc0_stg7_0 : Memref sig .tc .vmem S128x2048 .bf16).view
abbrev scM0_0 : Memref sig .tc .vmem S2x8x512 .f32 := Memref.whole cc0_scratch0

theorem PhiA0_eq (c : Dev nD) :
    (Pipeline.ΦA spec0 c : sProp (MT nD τ sig Unit (Elt F) ℕ (UR sig nD τ) ℕ))
      = iprop((∃ d, owns (c : Thread nD τ) scM0_0 fullShare d) ∗ (∃ r, prngReg c r)) := by
  unfold Pipeline.ΦA; rw [scopedRest0_eq]; simp only [scM0_0, owns_whole]; try rfl

/-- Two states of the carried buffer agree on its first `n` column blocks. -/
def Agree (n : ℕ) (d d' : Vec F S2x8x512 .f32) : Prop := ∀ y : S2x8x512.Idx, (y 0).val < n → d y = d' y

/-- A write of column block `n % 2` over states that agree on the first `n` leaves them agreeing on `n + 1`. -/
theorem agree_write (M : Memref sig .tc .vmem S2x8x512 .f32) (f f' : M.view.ty.Contents (Elt F)) (n : ℕ) (off : Fin 3 → ℕ)
    (inb : ∀ a, off a + S1x8x512.size a ≤ S2x8x512.size a) (hoff : off = ![n % 2, 0, 0])
    (p : (Rect.unit (s := S2x8x512) off S1x8x512.size inb).shape.Idx → Elt F .f32) (L : List (View.Piece (Elt F) S2x8x512 .f32))
    (h : Agree n (M.view.read (Elt F) (M.view.writes (Elt F) f L)) (M.view.read (Elt F) (M.view.writes (Elt F) f' L))) :
    Agree (n + 1) (M.view.read (Elt F) (M.view.writes (Elt F) f (⟨Rect.unit (s := S2x8x512) off S1x8x512.size inb, p⟩ :: L)))
      (M.view.read (Elt F) (M.view.writes (Elt F) f' (⟨Rect.unit (s := S2x8x512) off S1x8x512.size inb, p⟩ :: L))) := by
  intro y hy
  rw [View.read_writes_cons_unit M.view f inb p L y hoff, View.read_writes_cons_unit M.view f' inb p L y hoff]
  split
  · rfl
  · next hn =>
    refine h y ?_
    by_contra hge
    refine hn fun a => ?_
    have h0 : (y 0).val < 2 := (y 0).isLt
    have h1 : (y 1).val < 8 := (y 1).isLt
    have h2 : (y 2).val < 512 := (y 2).isLt
    match a with
    | ⟨0, _⟩ =>
      show n % 2 ≤ (y 0).val ∧ (y 0).val < n % 2 + 1
      omega
    | ⟨1, _⟩ =>
      show 0 ≤ (y 1).val ∧ (y 1).val < 0 + 8
      omega
    | ⟨2, _⟩ =>
      show 0 ≤ (y 2).val ∧ (y 2).val < 0 + 512
      omega

theorem Agree.mono {n k : ℕ} {d d' : Vec F S2x8x512 .f32} (h : Agree n d d') (hk : k ≤ n) : Agree k d d' :=
  fun y hy => h y (lt_of_lt_of_le hy hk)

/-- Past the first two points every column block is agreed on. -/
theorem Agree.eq {n : ℕ} {d d' : Vec F S2x8x512 .f32} (h : Agree n d d') (hn : 2 ≤ n) : d = d' :=
  funext fun y => h y (lt_of_lt_of_le (y 0).isLt hn)

theorem off1_eq : ∀ t : Fin cfg0.N, k0_off1 (grid0.coords t) = ![t.val % 2, 0, 0] :=
  (by decide +kernel : ∀ t : Fin grid0.N, k0_off1 (grid0.coords t) = ![t.val % 2, 0, 0])
theorem off2_eq (t : Fin cfg0.N) : k0_off2 (grid0.coords t) = ![t.val % 2, 0, 0] := off1_eq t
theorem cond_iff : ∀ t : Fin cfg0.N, k0_cond1 (grid0.coords t) = 1#1 ↔ t.val % 4 < 2 :=
  (by decide +kernel : ∀ t : Fin grid0.N, k0_cond1 (grid0.coords t) = 1#1 ↔ t.val % 4 < 2)
theorem late (t : Fin cfg0.N) (h : ¬ k0_cond1 (grid0.coords t) = 1#1) : 2 ≤ t.val := by
  rw [cond_iff] at h; omega

/-- The point is at a sequence's first tile. -/
abbrev First (t : Fin cfg0.N) : Prop := k0_cond1 (grid0.coords t) = 1#1
/-- The carried buffer's contents after the writes `L` over the contents `d`. -/
abbrev left (d : Vec F S2x8x512 .f32) (L : List (View.Piece (Elt F) S2x8x512 .f32)) : Vec F S2x8x512 .f32 :=
  scM0_0.view.read (Elt F) (scM0_0.view.writes (Elt F) ((Memref.isWhole_whole cc0_scratch0).unread d) L)
theorem read_left (d : Vec F S2x8x512 .f32) : scM0_0.view.read (Elt F) ((Memref.isWhole_whole cc0_scratch0).unread d) = d :=
  Memref.IsWhole.read_unread _ d

/-- The body's run at a point, from the carried contents `d`. -/
abbrev run (c : Dev nD) (t : Fin cfg0.N) (d : Vec F S2x8x512 .f32) := run0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) d
abbrev runA (c : Dev nD) (t : Fin cfg0.N) (h : First t) (d : Vec F S2x8x512 .f32) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h (iblk m c 0 t) (iblk m c 1 t) (iblk m c 2 t) (iblk m c 3 t) (iblk m c 4 t) d
theorem run_A (c : Dev nD) (t : Fin cfg0.N) (h : First t) (d : Vec F S2x8x512 .f32) : run m c t d = runA m c t h d := dif_pos h
abbrev runB (c : Dev nD) (t : Fin cfg0.N) (h : ¬ First t) (d : Vec F S2x8x512 .f32) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h (iblk m c 0 t) (iblk m c 1 t) (iblk m c 2 t) (iblk m c 3 t) (iblk m c 4 t) d
theorem run_B (c : Dev nD) (t : Fin cfg0.N) (h : ¬ First t) (d : Vec F S2x8x512 .f32) : run m c t d = runB m c t h d := dif_neg h
theorem coverA5 (c : Dev nD) (t : Fin cfg0.N) (h : First t) (d : Vec F S2x8x512 .f32) (y : S1024x512.Idx) : ∃ pc ∈ (runA m c t h d).1, y ∈ pc.1.set :=
  View.cover_of_tiledL (runA m c t h d).1 S256x512.size (by sl_kernel_rfl) y
theorem coverB5 (c : Dev nD) (t : Fin cfg0.N) (h : ¬ First t) (d : Vec F S2x8x512 .f32) (y : S1024x512.Idx) : ∃ pc ∈ (runB m c t h d).1, y ∈ pc.1.set :=
  View.cover_of_tiledL (runB m c t h d).1 S256x512.size (by sl_kernel_rfl) y
theorem cover5 (c : Dev nD) (t : Fin cfg0.N) (d : Vec F S2x8x512 .f32) (y : S1024x512.Idx) : ∃ pc ∈ (run m c t d).1, y ∈ pc.1.set := by
  by_cases h : First t
  · rw [run_A m c t h d]; exact coverA5 m c t h d y
  · rw [run_B m c t h d]; exact coverB5 m c t h d y
theorem sameA5 (c : Dev nD) (t : Fin cfg0.N) (h : First t) : ∃ p, ∀ d : Vec F S2x8x512 .f32, (runA m c t h d).1 = p := ⟨_, fun _ => rfl⟩

/-- A block after the body's run at a point, from the carried contents `d`. -/
def left5 (c : Dev nD) (t : Fin cfg0.N) (d : Vec F S2x8x512 .f32) : Vec F S1024x512 .bf16 :=
  VO0_5.read (Elt F) (VO0_5.writes (Elt F) VO0_5.junk (run m c t d).1)
theorem block5 (c : Dev nD) (t : Fin cfg0.N) (d d' : Vec F S2x8x512 .f32) (h : Agree t.val d d') : left5 m c t d = left5 m c t d' := by
  by_cases hc : First t
  · obtain ⟨p, e⟩ := sameA5 m c t hc
    unfold left5
    rw [run_A m c t hc d, run_A m c t hc d', e d, e d']
  · rw [Agree.eq h (late t hc)]

theorem coverA6 (c : Dev nD) (t : Fin cfg0.N) (h : First t) (d : Vec F S2x8x512 .f32) (y : S128x11264.Idx) : ∃ pc ∈ (runA m c t h d).2.1, y ∈ pc.1.set :=
  View.cover_of_tiledL (runA m c t h d).2.1 S128x11264.size (by sl_kernel_rfl) y
theorem coverB6 (c : Dev nD) (t : Fin cfg0.N) (h : ¬ First t) (d : Vec F S2x8x512 .f32) (y : S128x11264.Idx) : ∃ pc ∈ (runB m c t h d).2.1, y ∈ pc.1.set :=
  View.cover_of_tiledL (runB m c t h d).2.1 S128x11264.size (by sl_kernel_rfl) y
theorem cover6 (c : Dev nD) (t : Fin cfg0.N) (d : Vec F S2x8x512 .f32) (y : S128x11264.Idx) : ∃ pc ∈ (run m c t d).2.1, y ∈ pc.1.set := by
  by_cases h : First t
  · rw [run_A m c t h d]; exact coverA6 m c t h d y
  · rw [run_B m c t h d]; exact coverB6 m c t h d y
theorem sameA6 (c : Dev nD) (t : Fin cfg0.N) (h : First t) : ∃ p, ∀ d : Vec F S2x8x512 .f32, (runA m c t h d).2.1 = p := ⟨_, fun _ => rfl⟩

/-- A block after the body's run at a point, from the carried contents `d`. -/
def left6 (c : Dev nD) (t : Fin cfg0.N) (d : Vec F S2x8x512 .f32) : Vec F S128x11264 .bf16 :=
  VO0_6.read (Elt F) (VO0_6.writes (Elt F) VO0_6.junk (run m c t d).2.1)
theorem block6 (c : Dev nD) (t : Fin cfg0.N) (d d' : Vec F S2x8x512 .f32) (h : Agree t.val d d') : left6 m c t d = left6 m c t d' := by
  by_cases hc : First t
  · obtain ⟨p, e⟩ := sameA6 m c t hc
    unfold left6
    rw [run_A m c t hc d, run_A m c t hc d', e d, e d']
  · rw [Agree.eq h (late t hc)]

theorem coverA7 (c : Dev nD) (t : Fin cfg0.N) (h : First t) (d : Vec F S2x8x512 .f32) (y : S128x2048.Idx) : ∃ pc ∈ (runA m c t h d).2.2.1, y ∈ pc.1.set :=
  View.cover_of_tiledL (runA m c t h d).2.2.1 S128x2048.size (by sl_kernel_rfl) y
theorem coverB7 (c : Dev nD) (t : Fin cfg0.N) (h : ¬ First t) (d : Vec F S2x8x512 .f32) (y : S128x2048.Idx) : ∃ pc ∈ (runB m c t h d).2.2.1, y ∈ pc.1.set :=
  View.cover_of_tiledL (runB m c t h d).2.2.1 S128x2048.size (by sl_kernel_rfl) y
theorem cover7 (c : Dev nD) (t : Fin cfg0.N) (d : Vec F S2x8x512 .f32) (y : S128x2048.Idx) : ∃ pc ∈ (run m c t d).2.2.1, y ∈ pc.1.set := by
  by_cases h : First t
  · rw [run_A m c t h d]; exact coverA7 m c t h d y
  · rw [run_B m c t h d]; exact coverB7 m c t h d y
theorem sameA7 (c : Dev nD) (t : Fin cfg0.N) (h : First t) : ∃ p, ∀ d : Vec F S2x8x512 .f32, (runA m c t h d).2.2.1 = p := ⟨_, fun _ => rfl⟩

/-- A block after the body's run at a point, from the carried contents `d`. -/
def left7 (c : Dev nD) (t : Fin cfg0.N) (d : Vec F S2x8x512 .f32) : Vec F S128x2048 .bf16 :=
  VO0_7.read (Elt F) (VO0_7.writes (Elt F) VO0_7.junk (run m c t d).2.2.1)
theorem block7 (c : Dev nD) (t : Fin cfg0.N) (d d' : Vec F S2x8x512 .f32) (h : Agree t.val d d') : left7 m c t d = left7 m c t d' := by
  by_cases hc : First t
  · obtain ⟨p, e⟩ := sameA7 m c t hc
    unfold left7
    rw [run_A m c t hc d, run_A m c t hc d', e d, e d']
  · rw [Agree.eq h (late t hc)]

theorem slotA (c : Dev nD) (t : Fin cfg0.N) (h : First t) : ∃ inb inb' p z, ∀ d : Vec F S2x8x512 .f32,
    (runA m c t h d).2.2.2.1 = [⟨Rect.unit (s := S2x8x512) (k0_off2 (grid0.coords t)) S1x8x512.size inb, p⟩, ⟨Rect.unit (s := S2x8x512) (k0_off1 (grid0.coords t)) S1x8x512.size inb', z⟩] :=
  ⟨_, _, _, _, fun _ => rfl⟩

/-- The carried buffer stays agreed on one column block more. -/
theorem agree_run (c : Dev nD) (t : Fin cfg0.N) (d d' : Vec F S2x8x512 .f32) (hd : Agree t.val d d') :
    Agree (t.val + 1) (left d (run m c t d).2.2.2.1) (left d' (run m c t d').2.2.2.1) := by
  by_cases hc : First t
  · obtain ⟨inb, inb', p, z, e⟩ := slotA m c t hc
    have q : ∀ d, (run m c t d).2.2.2.1 = _ := fun d => (congrArg (fun r => r.2.2.2.1) (run_A m c t hc d)).trans (e d)
    rw [q d, q d']
    refine agree_write scM0_0 _ _ t.val _ inb (off2_eq t) p _ (Agree.mono (agree_write scM0_0 _ _ t.val _ inb' (off1_eq t) z [] ?_) (Nat.le_succ _))
    rw [View.writes_nil, View.writes_nil, read_left, read_left]; exact hd
  · exact fun y _ => congrArg (fun d => left d (run m c t d).2.2.2.1 y) (Agree.eq hd (late t hc))

/-- The carried buffer before grid point `n`. -/
def st (c : Dev nD) : ℕ → Vec F S2x8x512 .f32
  | 0 => scM0_0.view.read (Elt F) scM0_0.view.junk
  | n + 1 => if h : n < cfg0.N then left (st c n) (run m c ⟨n, h⟩ (st c n)).2.2.2.1 else st c n

theorem st_succ (c : Dev nD) (t : Fin cfg0.N) : st m c (t.val + 1) = left (st m c t.val) (run m c t (st m c t.val)).2.2.2.1 := by
  show (if h : t.val < cfg0.N then left (st m c t.val) (run m c ⟨t.val, h⟩ (st m c t.val)).2.2.2.1 else st m c t.val) = _
  rw [dif_pos t.isLt]

/-- What holds before grid point `n`: the carried buffer agrees with the state's on the column blocks written so far. -/
def PhiS (c : Dev nD) (n : ℕ) : sProp (MT nD τ sig Unit (Elt F) ℕ (UR sig nD τ) ℕ) :=
  iprop(∃ d, ⌜Agree n d (st m c n)⌝ ∗ owns (c : Thread nD τ) scM0_0 fullShare d ∗ (∃ r, prngReg c r))

/-- The kernel's data for the pipeline: each input's block stays, the result blocks after point `t` are the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t (st m c t.val)
    | ⟨6, _⟩ => left6 m c t (st m c t.val)
    | ⟨7, _⟩ => left7 m c t (st m c t.val)
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left5 m c t (st m c t.val) := by dsimp only [dats]
theorem after0_6 (c : Dev nD) (t : Fin cfg0.N) : (dats m 0 c).after 6 t = left6 m c t (st m c t.val) := by dsimp only [dats]
theorem after0_7 (c : Dev nD) (t : Fin cfg0.N) : (dats m 0 c).after 7 t = left7 m c t (st m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_castSucc m c t]
  rw [show (dats m 0 c).leavesExact 0 t = owns (c : Thread nD τ) (ms0_0 t) fullShare ((dats m 0 c).after 0 t) from by
    unfold Dat.leavesExact; rw [live0_0 t], after0_0]
  rw [show (dats m 0 c).leavesExact 1 t = owns (c : Thread nD τ) (ms0_1 t) fullShare ((dats m 0 c).after 1 t) from by
    unfold Dat.leavesExact; rw [live0_1 t], after0_1]
  rw [show (dats m 0 c).leavesExact 2 t = owns (c : Thread nD τ) (ms0_2 t) fullShare ((dats m 0 c).after 2 t) from by
    unfold Dat.leavesExact; rw [live0_2 t], after0_2]
  rw [show (dats m 0 c).leavesExact 3 t = owns (c : Thread nD τ) (ms0_3 t) fullShare ((dats m 0 c).after 3 t) from by
    unfold Dat.leavesExact; rw [live0_3 t], after0_3]
  rw [show (dats m 0 c).leavesExact 4 t = owns (c : Thread nD τ) (ms0_4 t) fullShare ((dats m 0 c).after 4 t) from by
    unfold Dat.leavesExact; rw [live0_4 t], after0_4]
  rw [show (dats m 0 c).leavesExact 5 t = owns (c : Thread nD τ) (ms0_5 t) fullShare ((dats m 0 c).after 5 t) from by
    unfold Dat.leavesExact; rw [live0_5 t], after0_5]
  rw [show (dats m 0 c).leavesExact 6 t = owns (c : Thread nD τ) (ms0_6 t) fullShare ((dats m 0 c).after 6 t) from by
    unfold Dat.leavesExact; rw [live0_6 t], after0_6]
  rw [show (dats m 0 c).leavesExact 7 t = owns (c : Thread nD τ) (ms0_7 t) fullShare ((dats m 0 c).after 7 t) from by
    unfold Dat.leavesExact; rw [live0_7 t], after0_7]
  unfold PhiS
  iintro ⟨⟨%d, %hd, HS, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hc5 := cover5 m c t d
  have hb5 := block5 m c t d _ hd
  unfold left5 at hb5
  have hc6 := cover6 m c t d
  have hb6 := block6 m c t d _ hd
  unfold left6 at hb6
  have hc7 := cover7 m c t d
  have hb7 := block7 m c t d _ hd
  unfold left7 at hb7
  have hn := agree_run m c t d _ hd
  rw [← st_succ] at hn
  change _ = left5 m c t (st m c t.val) at hb5
  change _ = left6 m c t (st m c t.val) at hb6
  change _ = left7 m c t (st m c t.val) at hb7
  generalize run m c t d = r at hc5 hc6 hc7 hb5 hb6 hb7 hn
  iapply (r.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]; · iexact HS
  iintro ⟨H0, H1, H2, H3, H4, ⟨%g5, H5⟩, ⟨%g6, H6⟩, ⟨%g7, H7⟩, HS⟩
  isplitl [HS Hg]
  · iexists (left d r.2.2.2.1)
    isplitr
    · ipureintro
      exact hn
    isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact (View.read_writes_of_cover _ _ _ _ _ hc5).trans hb5
  isplitl [H6]
  · unfold owns; iexists _; isplitr
    swap; · iexact H6
    ipureintro
    exact (View.read_writes_of_cover _ _ _ _ _ hc6).trans hb6
  unfold owns; iexists _; isplitr
  swap; · iexact H7
  ipureintro
  exact (View.read_writes_of_cover _ _ _ _ _ hc7).trans hb7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the buffer. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  iexists d
  isplitr
  · ipureintro
    exact fun y hy => absurd hy (Nat.not_lt_zero _)
  isplitl [HS]; · iexact HS
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%d, %hd, HS, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The kernel ends from any memory, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ConvIdeal.Halo

end
-- ==== Proof.ConvLayer.lean ====
/- What the gated short convolution's body stores at a grid point, its result entry by entry of the whole arrays, and a tile's terms as
   parts of it. -/
module

public import proofs.«01_k».proof.Proof.ConvIdealFrame
public import proofs.«01_k».proof.Proof.FfnLayer

@[expose] public section

set_option maxRecDepth 16384

noncomputable section

namespace Cert.ConvIdeal.Tile

open Idealize.ShloMosaic Idealize.ShloMosaic.TcCoe Idealize.ShloMosaic.Tactic Idealize.SL.Sem
open Cert.ConvIdeal.Gen Cert.ConvIdeal.Halo
open Cert.FfnIdeal.Tile (entry entry_eq)

theorem inb_rows (o : ℕ) (h : o + 256 ≤ 1024) : ∀ a, (![o, 0] : Fin 2 → ℕ) a + S256x2048.size a ≤ S1024x2048.size a := by
  intro a
  match a with
  | ⟨0, _⟩ => exact h
  | ⟨1, _⟩ => exact Nat.le_refl _

/-- 256 rows of a block, from row `o` on. -/
abbrev rows (X : Vec Ideal S1024x2048 .bf16) (o : ℕ) (h : o + 256 ≤ 1024) : Vec Ideal S256x2048 .bf16 :=
  View.ld X (Rect.unit (s := S1024x2048) ![o, 0] S256x2048.size (inb_rows o h))
/-- A column block's weights of the gate (`r = 0`) and of the two factors (`r = 1`, `r = 2`). -/
abbrev wts (W : Vec Ideal S3072x2048 .bf16) (i : grid0.Coords) (r : Fin 3) : Vec Ideal S512x2048 .bf16 :=
  View.ld W (Rect.unit (s := S3072x2048) (k0_off3 i (BitVec.ofNat 32 (1024 * r.val))) S512x2048.size (k0_off3_inb i r))
/-- One column block of the carried rows. -/
abbrev slot (d : Vec Ideal S2x8x512 .f32) (i : grid0.Coords) : Vec Ideal S1x8x512 .f32 :=
  View.ld d (Rect.unit (s := S2x8x512) (k0_off2 i) S1x8x512.size (k0_off2_inb i))

abbrev gate (X : Vec Ideal S1024x2048 .bf16) (W : Vec Ideal S3072x2048 .bf16) (i : grid0.Coords) (o : ℕ) (h : o + 256 ≤ 1024) : FVec Ideal S256x512 .f32 :=
  k0_pay9 (rows X o h) (wts W i 0)
abbrev prod (X : Vec Ideal S1024x2048 .bf16) (W : Vec Ideal S3072x2048 .bf16) (i : grid0.Coords) (o : ℕ) (h : o + 256 ≤ 1024) : FVec Ideal S256x512 .f32 :=
  k0_pay13 (rows X o h) (wts W i 1) (wts W i 2)
/-- The last eight of 256 rows. -/
abbrev last (z : FVec Ideal S256x512 .f32) : FVec Ideal S8x512 .f32 := extractStridedSlice S8x512 ![248, 0] z slices_S256x512_o248_0_S8x512
/-- 256 rows of the result: the gate times the causal convolution of `z` after the eight rows `h`. -/
def chunk (h : FVec Ideal S8x512 .f32) (g z : FVec Ideal S256x512 .f32) (c : Vec Ideal S3x512 .f32) : FVec Ideal S256x512 .bf16 :=
  k0_pay18 g z c
    (extractStridedSlice S256x512 ![6, 0] (concatenate S264x512 0 [⟨S8x512, h⟩, ⟨S256x512, z⟩] concatenates_S8x512_S256x512_S264x512_d0) slices_S264x512_o6_0_S256x512)
    (extractStridedSlice S256x512 ![7, 0] (concatenate S264x512 0 [⟨S8x512, h⟩, ⟨S256x512, z⟩] concatenates_S8x512_S256x512_S264x512_d0) slices_S264x512_o7_0_S256x512)
    (k0_pay17 c)

/-- The result block's four stores, last first. -/
abbrev quarters (X : Vec Ideal S1024x2048 .bf16) (W : Vec Ideal S3072x2048 .bf16) (c : Vec Ideal S3x512 .f32) (i : grid0.Coords)
    (h : FVec Ideal S8x512 .f32) : List (View.Piece (Elt Ideal) S1024x512 .bf16) :=
  [⟨Rect.unit (s := S1024x512) ![768, 0] S256x512.size inb_S1024x512_S256x512_768_0, chunk (last (prod X W i 512 (by omega))) (gate X W i 768 (by omega)) (prod X W i 768 (by omega)) c⟩,
   ⟨Rect.unit (s := S1024x512) ![512, 0] S256x512.size inb_S1024x512_S256x512_512_0, chunk (last (prod X W i 256 (by omega))) (gate X W i 512 (by omega)) (prod X W i 512 (by omega)) c⟩,
   ⟨Rect.unit (s := S1024x512) ![256, 0] S256x512.size inb_S1024x512_S256x512_256_0, chunk (last (prod X W i 0 (by omega))) (gate X W i 256 (by omega)) (prod X W i 256 (by omega)) c⟩,
   ⟨Rect.unit (s := S1024x512) ![0, 0] S256x512.size inb_S1024x512_S256x512_0_0, chunk h (gate X W i 0 (by omega)) (prod X W i 0 (by omega)) c⟩]
/-- The last eight rows of a tile, as stored. -/
abbrev kept (X : Vec Ideal S1024x2048 .bf16) (W : Vec Ideal S3072x2048 .bf16) (i : grid0.Coords) : Vec Ideal S1x8x512 .f32 :=
  k0_pay4 (k0_pay29 (rows X 768 (by omega)) (wts W i 1)) (k0_pay30 (rows X 768 (by omega)) (wts W i 2))

theorem zero2 : (![0, 0] : Fin 2 → ℕ) = fun _ => 0 := by
  funext a
  match a with
  | ⟨0, _⟩ => rfl
  | ⟨1, _⟩ => rfl
theorem full_S3x512 (x : Vec Ideal S3x512 .f32) (inb : ∀ a, (![0, 0] : Fin 2 → ℕ) a + S3x512.size a ≤ S3x512.size a) :
    View.ld x (Rect.unit (s := S3x512) ![0, 0] ![3, 512] inb) = x := View.ld_unit_zero (S := S3x512) zero2 inb x
theorem full_S128x11264 (x : Vec Ideal S128x11264 .f32) (inb : ∀ a, (![0, 0] : Fin 2 → ℕ) a + S128x11264.size a ≤ S128x11264.size a) :
    View.ld x (Rect.unit (s := S128x11264) ![0, 0] ![128, 11264] inb) = x := View.ld_unit_zero (S := S128x11264) zero2 inb x
theorem full_S128x2048 (x : Vec Ideal S128x2048 .f32) (inb : ∀ a, (![0, 0] : Fin 2 → ℕ) a + S128x2048.size a ≤ S128x2048.size a) :
    View.ld x (Rect.unit (s := S128x2048) ![0, 0] ![128, 2048] inb) = x := View.ld_unit_zero (S := S128x2048) zero2 inb x

section Stores

variable (c : Dev nD) (i : grid0.Coords) (a2 : Memref sig .tc .vmem S1024x2048 .bf16) (h2 : a2.IsWhole) (a3 : Memref sig .tc .vmem S3072x2048 .bf16) (h3 : a3.IsWhole) (a4 : Memref sig .tc .vmem S3x512 .f32) (h4 : a4.IsWhole) (a5 : Memref sig .tc .vmem S128x11264 .f32) (h5 : a5.IsWhole) (a6 : Memref sig .tc .vmem S128x2048 .f32) (h6 : a6.IsWhole) (a7 : Memref sig .tc .vmem S1024x512 .bf16) (h7 : a7.IsWhole) (a8 : Memref sig .tc .vmem S128x11264 .bf16) (h8 : a8.IsWhole) (a9 : Memref sig .tc .vmem S128x2048 .bf16) (h9 : a9.IsWhole) (a10 : Memref sig .tc .vmem S2x8x512 .f32) (h10 : a10.IsWhole)
  (x0 : Vec Ideal S1024x2048 .bf16) (x1 : Vec Ideal S3072x2048 .bf16) (x2 : Vec Ideal S3x512 .f32) (x3 : Vec Ideal S128x11264 .f32)
  (x4 : Vec Ideal S128x2048 .f32) (xs : Vec Ideal S2x8x512 .f32)

set_option maxHeartbeats 1600000

theorem piecesA (hc : k0_cond1 i = 1#1) : (kernelRun0_A (F := Ideal) c i a2 h2 a3 h3 a4 h4 a5 h5 a6 h6 a7 h7 a8 h8 a9 h9 a10 h10 hc x0 x1 x2 x3 x4 xs).1 =
    quarters x0 x1 x2 i (k0_pay8 (k0_pay7 (F := Ideal))) := by
  unfold kernelRun0_A
  sl_unfold_words
  dsimp only
  simp only [View.readCov_cons_toLoadRect, View.readAt_eq_ld, Memref.IsWhole.read_unread, full_S3x512, full_S128x11264, full_S128x2048]
  rfl

theorem upA (hc : k0_cond1 i = 1#1) : (kernelRun0_A (F := Ideal) c i a2 h2 a3 h3 a4 h4 a5 h5 a6 h6 a7 h7 a8 h8 a9 h9 a10 h10 hc x0 x1 x2 x3 x4 xs).2.1 = [⟨Rect.unit (s := S128x11264) ![0, 0] S128x11264.size inb_S128x11264_S128x11264_0_0, k0_pay5 x3⟩] := by
  unfold kernelRun0_A
  sl_unfold_words
  dsimp only
  simp only [View.readCov_cons_toLoadRect, View.readAt_eq_ld, Memref.IsWhole.read_unread, full_S3x512, full_S128x11264, full_S128x2048]

theorem outA (hc : k0_cond1 i = 1#1) : (kernelRun0_A (F := Ideal) c i a2 h2 a3 h3 a4 h4 a5 h5 a6 h6 a7 h7 a8 h8 a9 h9 a10 h10 hc x0 x1 x2 x3 x4 xs).2.2.1 = [⟨Rect.unit (s := S128x2048) ![0, 0] S128x2048.size inb_S128x2048_S128x2048_0_0, k0_pay6 x4⟩] := by
  unfold kernelRun0_A
  sl_unfold_words
  dsimp only
  simp only [View.readCov_cons_toLoadRect, View.readAt_eq_ld, Memref.IsWhole.read_unread, full_S3x512, full_S128x11264, full_S128x2048]

theorem keptA (hc : k0_cond1 i = 1#1) : (kernelRun0_A (F := Ideal) c i a2 h2 a3 h3 a4 h4 a5 h5 a6 h6 a7 h7 a8 h8 a9 h9 a10 h10 hc x0 x1 x2 x3 x4 xs).2.2.2.1 = [⟨Rect.unit (s := S2x8x512) (k0_off2 i) S1x8x512.size (k0_off2_inb i), kept x0 x1 i⟩, ⟨Rect.unit (s := S2x8x512) (k0_off1 i) S1x8x512.size (k0_off1_inb i hc), k0_pay7 (F := Ideal)⟩] := by
  unfold kernelRun0_A
  sl_unfold_words
  dsimp only
  simp only [View.readCov_cons_toLoadRect, View.readAt_eq_ld, Memref.IsWhole.read_unread, full_S3x512, full_S128x11264, full_S128x2048]
  rfl

theorem piecesB (hc : ¬ (k0_cond1 i = 1#1)) : (kernelRun0_B (F := Ideal) c i a2 h2 a3 h3 a4 h4 a5 h5 a6 h6 a7 h7 a8 h8 a9 h9 a10 h10 hc x0 x1 x2 x3 x4 xs).1 =
    quarters x0 x1 x2 i (k0_pay8 (slot xs i)) := by
  unfold kernelRun0_B
  sl_unfold_words
  dsimp only
  simp only [View.readCov_cons_toLoadRect, View.readAt_eq_ld, Memref.IsWhole.read_unread, full_S3x512, full_S128x11264, full_S128x2048]
  rfl

theorem upB (hc : ¬ (k0_cond1 i = 1#1)) : (kernelRun0_B (F := Ideal) c i a2 h2 a3 h3 a4 h4 a5 h5 a6 h6 a7 h7 a8 h8 a9 h9 a10 h10 hc x0 x1 x2 x3 x4 xs).2.1 = [⟨Rect.unit (s := S128x11264) ![0, 0] S128x11264.size inb_S128x11264_S128x11264_0_0, k0_pay5 x3⟩] := by
  unfold kernelRun0_B
  sl_unfold_words
  dsimp only
  simp only [View.readCov_cons_toLoadRect, View.readAt_eq_ld, Memref.IsWhole.read_unread, full_S3x512, full_S128x11264, full_S128x2048]

theorem outB (hc : ¬ (k0_cond1 i = 1#1)) : (kernelRun0_B (F := Ideal) c i a2 h2 a3 h3 a4 h4 a5 h5 a6 h6 a7 h7 a8 h8 a9 h9 a10 h10 hc x0 x1 x2 x3 x4 xs).2.2.1 = [⟨Rect.unit (s := S128x2048) ![0, 0] S128x2048.size inb_S128x2048_S128x2048_0_0, k0_pay6 x4⟩] := by
  unfold kernelRun0_B
  sl_unfold_words
  dsimp only
  simp only [View.readCov_cons_toLoadRect, View.readAt_eq_ld, Memref.IsWhole.read_unread, full_S3x512, full_S128x11264, full_S128x2048]

theorem keptB (hc : ¬ (k0_cond1 i = 1#1)) : (kernelRun0_B (F := Ideal) c i a2 h2 a3 h3 a4 h4 a5 h5 a6 h6 a7 h7 a8 h8 a9 h9 a10 h10 hc x0 x1 x2 x3 x4 xs).2.2.2.1 = [⟨Rect.unit (s := S2x8x512) (k0_off2 i) S1x8x512.size (k0_off2_inb i), kept x0 x1 i⟩] := by
  unfold kernelRun0_B
  sl_unfold_words
  dsimp only
  simp only [View.readCov_cons_toLoadRect, View.readAt_eq_ld, Memref.IsWhole.read_unread, full_S3x512, full_S128x11264, full_S128x2048]
  rfl

end Stores

variable (x : (⟨2, ![8192, 2048]⟩ : Shape).Idx → EReal) (w : (⟨2, ![3072, 2048]⟩ : Shape).Idx → EReal)
  (cw : (⟨2, ![3, 1024]⟩ : Shape).Idx → EReal)

/-- Row `R` of the input projected by row `C` of the weights. -/
def proj (R C : ℕ) : EReal := ∑ j : Fin 2048, entry x R j.val * entry w C j.val
/-- The product of a row's two factors at column `K`. -/
def zAt (R K : ℕ) : EReal := proj x w R (1024 + K) * proj x w R (2048 + K)
theorem zAt_at (R R' K : ℕ) (h : R = R') : zAt x w R K = zAt x w R' K := by rw [h]
/-- That product `d` rows before row `R` of its sequence of 2048 rows, 0 before the sequence. -/
def before (d R K : ℕ) : EReal := if R % 2048 < d then 0 else zAt x w (R - d) K
/-- The causal convolution over three rows, at row `R` and column `K`. -/
def convAt (R K : ℕ) : EReal := before x w 2 R K * entry cw 0 K + before x w 1 R K * entry cw 1 K + zAt x w R K * entry cw 2 K
/-- The result at row `R` and column `K`: the gate times the convolution. -/
def result (R K : ℕ) : EReal := proj x w R K * convAt x w cw R K

theorem at_pair {a b : ℕ} (i : (⟨2, ![a, b]⟩ : Shape).Idx) (r : Fin a) (k : Fin b) (h0 : (i 0).val = r.val) (h1 : (i 1).val = k.val) : i = ix2 r k := by
  funext q; apply Fin.ext
  match q with
  | ⟨0, _⟩ => exact h0
  | ⟨1, _⟩ => exact h1
theorem pair_eta {a b : ℕ} (i : (⟨2, ![a, b]⟩ : Shape).Idx) : ∃ (r : Fin a) (k : Fin b), i = ix2 r k := ⟨i 0, i 1, at_pair i _ _ rfl rfl⟩

theorem ld_rows {a a' b : ℕ} (X : Vec Ideal ⟨2, ![a, b]⟩ .bf16) (off : Fin 2 → ℕ) (inb : ∀ q, off q + (![a', b] : Fin 2 → ℕ) q ≤ (![a, b] : Fin 2 → ℕ) q)
    (o : ℕ) (h : off = ![o, 0]) (r : Fin a') (k : Fin b) (ho : o + r.val < a) :
    View.ld X (Rect.unit (s := (⟨2, ![a, b]⟩ : Shape)) off ![a', b] inb) (ix2 r k) = X (ix2 ⟨o + r.val, ho⟩ k) := by
  subst h
  refine congrArg X (at_pair _ _ _ ?_ ?_)
  · show o + 1 * r.val = o + r.val; omega
  · show 0 + 1 * k.val = k.val; omega

theorem mm_apply (a : Vec Ideal S256x2048 .bf16) (v : Vec Ideal S512x2048 .bf16) (r : Fin 256) (k : Fin 512) :
    k0_pay9 a v (ix2 r k) = ∑ j, (a (ix2 r j) : EReal) * v (ix2 k j) := by
  unfold k0_pay9
  simp only [pointwise, zero_add]
theorem last_apply (z : FVec Ideal S256x512 .f32) (i : Fin 8) (k : Fin 512) : last z (ix2 i k) = z (ix2 ⟨248 + i.val, by omega⟩ k) := by
  unfold last
  simp only [pointwise]
  exact congrArg z (at_pair _ _ _ rfl (Nat.zero_add _))
theorem halo_apply (v : Vec Ideal S1x8x512 .f32) (i : Fin 8) (k : Fin 512) : k0_pay8 v (ix2 i k) = v (ix3 0 i k) := by
  unfold k0_pay8
  simp only [pointwise]
theorem zero_apply (a : Fin 1) (i : Fin 8) (k : Fin 512) : (k0_pay7 (F := Ideal)) (ix3 a i k) = (0 : EReal) := by
  unfold k0_pay7
  simp only [pointwise]

section Blocks

variable (X : Vec Ideal S1024x2048 .bf16) (W : Vec Ideal S3072x2048 .bf16) (i : grid0.Coords) (T J o : ℕ) (ho : o + 256 ≤ 1024)
  (hX : ∀ r k, X (ix2 r k) = entry x (1024 * T + r.val) k.val) (hW : ∀ r k, W (ix2 r k) = entry w r.val k.val) (hi : (i 1).val = J) (hJ : J < 2)
include hX hW hi hJ

theorem mm_value (q : Fin 3) (r : Fin 256) (k : Fin 512) :
    k0_pay9 (rows X o ho) (wts W i q) (ix2 r k) = proj x w (1024 * T + (o + r.val)) (1024 * q.val + (512 * J + k.val)) := by
  have hq := q.isLt
  rw [mm_apply]
  unfold proj
  refine Finset.sum_congr rfl fun j _ => congr (congrArg _ ?_) ?_
  · exact (ld_rows X _ _ o rfl r j (by omega)).trans (hX _ j)
  · refine (ld_rows W _ _ _ (k0_off3_eq i q) k j (by omega)).trans ((hW _ j).trans ?_)
    refine congrFun (congrArg _ ?_) _
    show 1024 * q.val + 512 * (i 1).val + k.val = _
    omega
theorem gate_value (r : Fin 256) (k : Fin 512) : gate X W i o ho (ix2 r k) = proj x w (1024 * T + o + r.val) (512 * J + k.val) := by
  refine (mm_value x w X W i T J o ho hX hW hi hJ 0 r k).trans ?_
  rw [Nat.add_assoc]
  exact congrArg _ (Nat.zero_add _)
theorem prod_value (r : Fin 256) (k : Fin 512) : prod X W i o ho (ix2 r k) = zAt x w (1024 * T + o + r.val) (512 * J + k.val) := by
  have e : prod X W i o ho (ix2 r k) = (k0_pay9 (rows X o ho) (wts W i 1) (ix2 r k) : EReal) * k0_pay9 (rows X o ho) (wts W i 2) (ix2 r k) := rfl
  rw [e, mm_value x w X W i T J o ho hX hW hi hJ 1 r k, mm_value x w X W i T J o ho hX hW hi hJ 2 r k, Nat.add_assoc]
  rfl
omit ho
theorem kept_value (a : Fin 1) (q : Fin 8) (k : Fin 512) : kept X W i (ix3 a q k) = zAt x w (1024 * T + 1016 + q.val) (512 * J + k.val) := by
  have e : kept X W i = shapeCast S1x8x512 (last (prod X W i 768 (by omega))) shapeCasts_S8x512_S1x8x512 := rfl
  rw [e]
  generalize hp : last (prod X W i 768 (by omega)) = p
  simp only [pointwise]
  subst hp
  refine (last_apply _ q k).trans ((prod_value x w X W i T J 768 (by omega) hX hW hi hJ _ k).trans (zAt_at x w _ _ _ ?_))
  show 1024 * T + 768 + (248 + q.val) = _
  omega

end Blocks

section Chunk

variable (R K : ℕ) (h : FVec Ideal S8x512 .f32) (g z : FVec Ideal S256x512 .f32) (c : Vec Ideal S3x512 .f32) (hR256 : R % 256 = 0)
  (hg : ∀ r k, g (ix2 r k) = proj x w (R + r.val) (K + k.val)) (hz : ∀ r k, z (ix2 r k) = zAt x w (R + r.val) (K + k.val))
  (hh : ∀ i k, h (ix2 i k) = if R % 2048 = 0 then 0 else zAt x w (R - 8 + i.val) (K + k.val))
  (hc : ∀ a k, c (ix2 a k) = entry cw a.val (K + k.val))

section Rows
include hR256 hz hh
theorem slice6 (r : Fin 256) (k : Fin 512) :
    extractStridedSlice S256x512 ![6, 0] (concatenate S264x512 0 [⟨S8x512, h⟩, ⟨S256x512, z⟩] concatenates_S8x512_S256x512_S264x512_d0)
      slices_S264x512_o6_0_S256x512 (ix2 r k) = before x w 2 (R + r.val) (K + k.val) := by
  simp only [pointwise]
  unfold before
  have hm : (R + r.val) % 2048 = R % 2048 + r.val := by have := r.isLt; omega
  by_cases hr : r.val < 2
  · refine (dif_pos (show 6 + r.val < 8 by omega)).trans ?_
    refine (congrArg h (?_ : _ = ix2 (⟨6 + r.val, by omega⟩ : Fin 8) k)).trans ((hh _ _).trans ?_)
    · funext a; apply Fin.ext
      match a with
      | ⟨0, _⟩ => rfl
      | ⟨1, _⟩ => exact Nat.zero_add _
    by_cases hR : R % 2048 = 0
    · rw [if_pos hR, if_pos (by omega)]
    · rw [if_neg hR, if_neg (by omega)]
      exact zAt_at x w _ _ _ (show R - 8 + (6 + r.val) = _ by omega)
  · refine (dif_neg (show ¬ 6 + r.val < 8 by omega)).trans ?_
    refine (congrArg z (?_ : _ = ix2 (⟨r.val - 2, by omega⟩ : Fin 256) k)).trans ((hz _ _).trans ?_)
    · funext a; apply Fin.ext
      match a with
      | ⟨0, _⟩ => show 6 + r.val - 8 = r.val - 2; omega
      | ⟨1, _⟩ => exact Nat.zero_add _
    rw [if_neg (by omega)]
    exact zAt_at x w _ _ _ (show R + (r.val - 2) = _ by omega)

theorem slice7 (r : Fin 256) (k : Fin 512) :
    extractStridedSlice S256x512 ![7, 0] (concatenate S264x512 0 [⟨S8x512, h⟩, ⟨S256x512, z⟩] concatenates_S8x512_S256x512_S264x512_d0)
      slices_S264x512_o7_0_S256x512 (ix2 r k) = before x w 1 (R + r.val) (K + k.val) := by
  simp only [pointwise]
  unfold before
  have hm : (R + r.val) % 2048 = R % 2048 + r.val := by have := r.isLt; omega
  by_cases hr : r.val < 1
  · refine (dif_pos (show 7 + r.val < 8 by omega)).trans ?_
    refine (congrArg h (?_ : _ = ix2 (⟨7 + r.val, by omega⟩ : Fin 8) k)).trans ((hh _ _).trans ?_)
    · funext a; apply Fin.ext
      match a with
      | ⟨0, _⟩ => rfl
      | ⟨1, _⟩ => exact Nat.zero_add _
    by_cases hR : R % 2048 = 0
    · rw [if_pos hR, if_pos (by omega)]
    · rw [if_neg hR, if_neg (by omega)]
      exact zAt_at x w _ _ _ (show R - 8 + (7 + r.val) = _ by omega)
  · refine (dif_neg (show ¬ 7 + r.val < 8 by omega)).trans ?_
    refine (congrArg z (?_ : _ = ix2 (⟨r.val - 1, by omega⟩ : Fin 256) k)).trans ((hz _ _).trans ?_)
    · funext a; apply Fin.ext
      match a with
      | ⟨0, _⟩ => show 7 + r.val - 8 = r.val - 1; omega
      | ⟨1, _⟩ => exact Nat.zero_add _
    rw [if_neg (by omega)]
    exact zAt_at x w _ _ _ (show R + (r.val - 1) = _ by omega)

end Rows
section Taps
include hc
theorem tap0 (r : Fin 256) (k : Fin 512) :
    broadcastTo S256x512 (extractStridedSlice S1x512 ![0, 0] c slices_S3x512_o0_0_S1x512) broadcasts_S1x512_S256x512 (ix2 r k) =
      entry cw 0 (K + k.val) := by
  simp only [pointwise]
  exact (congrArg c (at_pair _ 0 k rfl (Nat.zero_add _))).trans (hc 0 k)

theorem tap1 (r : Fin 256) (k : Fin 512) :
    broadcastTo S256x512 (extractStridedSlice S1x512 ![1, 0] c slices_S3x512_o1_0_S1x512) broadcasts_S1x512_S256x512 (ix2 r k) =
      entry cw 1 (K + k.val) := by
  simp only [pointwise]
  exact (congrArg c (at_pair _ 1 k rfl (Nat.zero_add _))).trans (hc 1 k)

theorem tap2 (r : Fin 256) (k : Fin 512) :
    broadcastTo S256x512 (extractStridedSlice S1x512 ![2, 0] c slices_S3x512_o2_0_S1x512) broadcasts_S1x512_S256x512 (ix2 r k) =
      entry cw 2 (K + k.val) := by
  simp only [pointwise]
  exact (congrArg c (at_pair _ 2 k rfl (Nat.zero_add _))).trans (hc 2 k)

end Taps
include hR256 hg hz hh hc

/-- 256 rows of the result, after the eight rows before them, or nothing at a sequence's start. -/
theorem chunk_value (r : Fin 256) (k : Fin 512) : chunk h g z c (ix2 r k) = result x w cw (R + r.val) (K + k.val) := by
  unfold result convAt
  rw [← slice6 x w R K h z hR256 hz hh r k, ← slice7 x w R K h z hR256 hz hh r k, ← tap0 cw K c hc r k, ← tap1 cw K c hc r k, ← tap2 cw K c hc r k,
    ← hg r k, ← hz r k]
  rfl

end Chunk

end Cert.ConvIdeal.Tile

end
-- ==== Proof.ConvPoints.lean ====
/- The gated short convolution kernel's whole results: what each grid point's stores are worth, what the buffer carries from point
   to point, and the arrays they leave. -/
module

public import proofs.«01_k».proof.Proof.ConvLayer

@[expose] public section

set_option maxRecDepth 16384

noncomputable section

namespace Cert.ConvIdeal.Tile

open Idealize.ShloMosaic Idealize.ShloMosaic.TcCoe Idealize.ShloMosaic.Tactic Idealize.SL.Sem
open Cert.ConvIdeal.Gen Cert.ConvIdeal.Halo
open Cert.FfnIdeal.Tile (entry entry_eq)

/-- A block stored as four quarters, read at an entry. -/
theorem quarters_read {sg : RefSig} {κ : Kind} {sp : Space} (v : View sg κ sp S1024x512 .bf16) (f : v.ty.Contents (Elt Ideal))
    (p3 p2 p1 p0 : Vec Ideal S256x512 .bf16) (P : ℕ → ℕ → EReal)
    (h3 : ∀ (r : Fin 256) (n : Fin 512), p3 (ix2 r n) = P (768 + r.val) n.val)
    (h2 : ∀ (r : Fin 256) (n : Fin 512), p2 (ix2 r n) = P (512 + r.val) n.val)
    (h1 : ∀ (r : Fin 256) (n : Fin 512), p1 (ix2 r n) = P (256 + r.val) n.val)
    (h0 : ∀ (r : Fin 256) (n : Fin 512), p0 (ix2 r n) = P (0 + r.val) n.val)
    (r : Fin 1024) (n : Fin 512) :
    v.read (Elt Ideal) (v.writes (Elt Ideal) f
      [⟨Rect.unit (s := S1024x512) ![768, 0] S256x512.size inb_S1024x512_S256x512_768_0, p3⟩,
       ⟨Rect.unit (s := S1024x512) ![512, 0] S256x512.size inb_S1024x512_S256x512_512_0, p2⟩,
       ⟨Rect.unit (s := S1024x512) ![256, 0] S256x512.size inb_S1024x512_S256x512_256_0, p1⟩,
       ⟨Rect.unit (s := S1024x512) ![0, 0] S256x512.size inb_S1024x512_S256x512_0_0, p0⟩]) (ix2 r n) = P r.val n.val := by
  by_cases e3 : 768 ≤ r.val
  · refine (View.read_writes_cons_unit_of_mem v f inb_S1024x512_S256x512_768_0 p3 _ (ix2 r n) (ix2 (⟨r.val - 768, by omega⟩ : Fin 256) n) rfl (fun a => ?_)).trans ((h3 _ _).trans ?_)
    · match a with
      | ⟨0, _⟩ => show r.val = 768 + (r.val - 768); omega
      | ⟨1, _⟩ => show n.val = 0 + n.val; omega
    · exact congrFun (congrArg P (show 768 + (r.val - 768) = r.val by omega)) _
  refine (View.read_writes_cons_unit_of_not_mem v f inb_S1024x512_S256x512_768_0 p3 _ (ix2 r n) rfl 0 (.inl (show r.val < 768 by omega))).trans ?_
  by_cases e2 : 512 ≤ r.val
  · refine (View.read_writes_cons_unit_of_mem v f inb_S1024x512_S256x512_512_0 p2 _ (ix2 r n) (ix2 (⟨r.val - 512, by omega⟩ : Fin 256) n) rfl (fun a => ?_)).trans ((h2 _ _).trans ?_)
    · match a with
      | ⟨0, _⟩ => show r.val = 512 + (r.val - 512); omega
      | ⟨1, _⟩ => show n.val = 0 + n.val; omega
    · exact congrFun (congrArg P (show 512 + (r.val - 512) = r.val by omega)) _
  refine (View.read_writes_cons_unit_of_not_mem v f inb_S1024x512_S256x512_512_0 p2 _ (ix2 r n) rfl 0 (.inl (show r.val < 512 by omega))).trans ?_
  by_cases e1 : 256 ≤ r.val
  · refine (View.read_writes_cons_unit_of_mem v f inb_S1024x512_S256x512_256_0 p1 _ (ix2 r n) (ix2 (⟨r.val - 256, by omega⟩ : Fin 256) n) rfl (fun a => ?_)).trans ((h1 _ _).trans ?_)
    · match a with
      | ⟨0, _⟩ => show r.val = 256 + (r.val - 256); omega
      | ⟨1, _⟩ => show n.val = 0 + n.val; omega
    · exact congrFun (congrArg P (show 256 + (r.val - 256) = r.val by omega)) _
  refine (View.read_writes_cons_unit_of_not_mem v f inb_S1024x512_S256x512_256_0 p1 _ (ix2 r n) rfl 0 (.inl (show r.val < 256 by omega))).trans ?_
  · refine (View.read_writes_cons_unit_of_mem v f inb_S1024x512_S256x512_0_0 p0 _ (ix2 r n) (ix2 (⟨r.val - 0, by omega⟩ : Fin 256) n) rfl (fun a => ?_)).trans ((h0 _ _).trans ?_)
    · match a with
      | ⟨0, _⟩ => show r.val = 0 + (r.val - 0); omega
      | ⟨1, _⟩ => show n.val = 0 + n.val; omega
    · exact congrFun (congrArg P (show 0 + (r.val - 0) = r.val by omega)) _

/-- The carried buffer after one column block's store, at that block. -/
theorem slot_read (f : scM0_0.view.ty.Contents (Elt Ideal)) (off : Fin 3 → ℕ) (inb : ∀ a, off a + S1x8x512.size a ≤ S2x8x512.size a)
    (q : Fin 2) (h : off = ![q.val, 0, 0]) (p : Vec Ideal S1x8x512 .f32) (L : List (View.Piece (Elt Ideal) S2x8x512 .f32)) (i : Fin 8) (k : Fin 512) :
    scM0_0.view.read (Elt Ideal) (scM0_0.view.writes (Elt Ideal) f (⟨Rect.unit (s := S2x8x512) off S1x8x512.size inb, p⟩ :: L)) (ix3 q i k) = p (ix3 0 i k) := by
  refine View.read_writes_cons_unit_of_mem scM0_0.view f inb p L (ix3 q i k) (ix3 0 i k) h (fun a => ?_)
  match a with
  | ⟨0, _⟩ => show q.val = q.val + 0; omega
  | ⟨1, _⟩ => show i.val = 0 + i.val; omega
  | ⟨2, _⟩ => show k.val = 0 + k.val; omega
/-- The carried buffer after one column block's store, at the other block. -/
theorem slot_keep (f : scM0_0.view.ty.Contents (Elt Ideal)) (off : Fin 3 → ℕ) (inb : ∀ a, off a + S1x8x512.size a ≤ S2x8x512.size a)
    (j : ℕ) (h : off = ![j, 0, 0]) (p : Vec Ideal S1x8x512 .f32) (L : List (View.Piece (Elt Ideal) S2x8x512 .f32)) (q : Fin 2) (hq : q.val ≠ j) (i : Fin 8) (k : Fin 512) :
    scM0_0.view.read (Elt Ideal) (scM0_0.view.writes (Elt Ideal) f (⟨Rect.unit (s := S2x8x512) off S1x8x512.size inb, p⟩ :: L)) (ix3 q i k) =
      scM0_0.view.read (Elt Ideal) (scM0_0.view.writes (Elt Ideal) f L) (ix3 q i k) := by
  refine View.read_writes_cons_unit_of_not_mem scM0_0.view f inb p L (ix3 q i k) h 0 ?_
  show q.val < j ∨ j + 1 ≤ q.val
  omega
theorem slot_apply (d : Vec Ideal S2x8x512 .f32) (j : grid0.Coords) (q : Fin 2) (h : k0_off2 j = ![q.val, 0, 0]) (i : Fin 8) (k : Fin 512) :
    slot d j (ix3 0 i k) = d (ix3 q i k) := by
  refine congrArg d ?_
  funext a; apply Fin.ext
  match a with
  | ⟨0, _⟩ => show k0_off2 j 0 + 1 * 0 = q.val; rw [h]; rfl
  | ⟨1, _⟩ => show k0_off2 j 1 + 1 * i.val = i.val; rw [h]; show 0 + 1 * i.val = _; omega
  | ⟨2, _⟩ => show k0_off2 j 2 + 1 * k.val = k.val; rw [h]; show 0 + 1 * k.val = _; omega

variable (m : (ℓ : Loc nD τ sig) → Buf (Elt Ideal) ℓ) (c : Dev nD)

abbrev ax : (⟨2, ![8192, 2048]⟩ : Shape).Idx → EReal := m ((c : Thread nD τ).loc main_arg0)
abbrev aw : (⟨2, ![3072, 2048]⟩ : Shape).Idx → EReal := m ((c : Thread nD τ).loc main_arg1)
abbrev ac : (⟨2, ![3, 1024]⟩ : Shape).Idx → EReal := m ((c : Thread nD τ).loc main_arg2)

theorem index_0 : ∀ t : Fin cfg0.N, (cfg0.win 0).index t = ![t.val / 2, 0] :=
  (by decide +kernel : ∀ t : Fin grid0.N, win0_0.index t = ![t.val / 2, 0])
theorem blk_0 (t : Fin cfg0.N) (r : Fin 1024) (k : Fin 2048) :
    iblk m c 0 t (ix2 r k) = entry (a := 8192) (b := 2048) (m ((c : Thread nD τ).loc main_arg0)) (1024 * (t.val / 2) + r.val) (k.val) := by
  have hN : t.val < 16 := t.isLt
  have hr := r.isLt
  have hk := k.isLt
  refine Eq.trans ?_ (dif_pos (show 1024 * (t.val / 2) + r.val < 8192 ∧ k.val < 2048 by omega)).symm
  unfold iblk
  rw [View.read_apply]
  show V m c main_arg0 _ = _
  rw [V_main_arg0]
  refine congrArg _ ?_
  funext a; apply Fin.ext
  refine (Pipeline.Window.rect_emb_val (cfg0.win 0) t _ a).trans ?_
  rw [index_0 t]
  match a with
  | ⟨0, _⟩ => show t.val / 2 * 1024 + r.val = 1024 * (t.val / 2) + r.val; omega
  | ⟨1, _⟩ => show 0 * 2048 + k.val = k.val; omega

theorem index_1 : ∀ t : Fin cfg0.N, (cfg0.win 1).index t = ![0, 0] :=
  (by decide +kernel : ∀ t : Fin grid0.N, win0_1.index t = ![0, 0])
theorem blk_1 (t : Fin cfg0.N) (r : Fin 3072) (k : Fin 2048) :
    iblk m c 1 t (ix2 r k) = entry (a := 3072) (b := 2048) (m ((c : Thread nD τ).loc main_arg1)) (r.val) (k.val) := by
  have hN : t.val < 16 := t.isLt
  have hr := r.isLt
  have hk := k.isLt
  refine Eq.trans ?_ (dif_pos (show r.val < 3072 ∧ k.val < 2048 by omega)).symm
  unfold iblk
  rw [View.read_apply]
  show V m c main_arg1 _ = _
  rw [V_main_arg1]
  refine congrArg _ ?_
  funext a; apply Fin.ext
  refine (Pipeline.Window.rect_emb_val (cfg0.win 1) t _ a).trans ?_
  rw [index_1 t]
  match a with
  | ⟨0, _⟩ => show 0 * 3072 + r.val = r.val; omega
  | ⟨1, _⟩ => show 0 * 2048 + k.val = k.val; omega

theorem index_2 : ∀ t : Fin cfg0.N, (cfg0.win 2).index t = ![0, t.val % 2] :=
  (by decide +kernel : ∀ t : Fin grid0.N, win0_2.index t = ![0, t.val % 2])
theorem blk_2 (t : Fin cfg0.N) (r : Fin 3) (k : Fin 512) :
    iblk m c 2 t (ix2 r k) = entry (a := 3) (b := 1024) (m ((c : Thread nD τ).loc main_arg2)) (r.val) (512 * (t.val % 2) + k.val) := by
  have hN : t.val < 16 := t.isLt
  have hr := r.isLt
  have hk := k.isLt
  refine Eq.trans ?_ (dif_pos (show r.val < 3 ∧ 512 * (t.val % 2) + k.val < 1024 by omega)).symm
  unfold iblk
  rw [View.read_apply]
  show V m c main_arg2 _ = _
  rw [V_main_arg2]
  refine congrArg _ ?_
  funext a; apply Fin.ext
  refine (Pipeline.Window.rect_emb_val (cfg0.win 2) t _ a).trans ?_
  rw [index_2 t]
  match a with
  | ⟨0, _⟩ => show 0 * 3 + r.val = r.val; omega
  | ⟨1, _⟩ => show t.val % 2 * 512 + k.val = 512 * (t.val % 2) + k.val; omega

theorem index_3 : ∀ t : Fin cfg0.N, (cfg0.win 3).index t = ![t.val, 0] :=
  (by decide +kernel : ∀ t : Fin grid0.N, win0_3.index t = ![t.val, 0])
theorem blk_3 (t : Fin cfg0.N) (r : Fin 128) (k : Fin 11264) :
    iblk m c 3 t (ix2 r k) = entry (a := 2048) (b := 11264) (m ((c : Thread nD τ).loc main_arg3)) (128 * t.val + r.val) (k.val) := by
  have hN : t.val < 16 := t.isLt
  have hr := r.isLt
  have hk := k.isLt
  refine Eq.trans ?_ (dif_pos (show 128 * t.val + r.val < 2048 ∧ k.val < 11264 by omega)).symm
  unfold iblk
  rw [View.read_apply]
  show V m c main_arg3 _ = _
  rw [V_main_arg3]
  refine congrArg _ ?_
  funext a; apply Fin.ext
  refine (Pipeline.Window.rect_emb_val (cfg0.win 3) t _ a).trans ?_
  rw [index_3 t]
  match a with
  | ⟨0, _⟩ => show t.val * 128 + r.val = 128 * t.val + r.val; omega
  | ⟨1, _⟩ => show 0 * 11264 + k.val = k.val; omega

theorem index_4 : ∀ t : Fin cfg0.N, (cfg0.win 4).index t = ![t.val, 0] :=
  (by decide +kernel : ∀ t : Fin grid0.N, win0_4.index t = ![t.val, 0])
theorem blk_4 (t : Fin cfg0.N) (r : Fin 128) (k : Fin 2048) :
    iblk m c 4 t (ix2 r k) = entry (a := 2048) (b := 2048) (m ((c : Thread nD τ).loc main_arg4)) (128 * t.val + r.val) (k.val) := by
  have hN : t.val < 16 := t.isLt
  have hr := r.isLt
  have hk := k.isLt
  refine Eq.trans ?_ (dif_pos (show 128 * t.val + r.val < 2048 ∧ k.val < 2048 by omega)).symm
  unfold iblk
  rw [View.read_apply]
  show V m c main_arg4 _ = _
  rw [V_main_arg4]
  refine congrArg _ ?_
  funext a; apply Fin.ext
  refine (Pipeline.Window.rect_emb_val (cfg0.win 4) t _ a).trans ?_
  rw [index_4 t]
  match a with
  | ⟨0, _⟩ => show t.val * 128 + r.val = 128 * t.val + r.val; omega
  | ⟨1, _⟩ => show 0 * 2048 + k.val = k.val; omega

theorem column : ∀ t : Fin cfg0.N, ((grid0.coords t) 1).val = t.val % 2 :=
  (by decide +kernel : ∀ t : Fin grid0.N, ((grid0.coords t) 1).val = t.val % 2)

/-- What the carried buffer holds before point `n`: of each column block done, the last eight rows of its last tile. -/
def Inv (n : ℕ) (d : Vec Ideal S2x8x512 .f32) : Prop := ∀ q : Fin 2, q.val < n → ∀ (i : Fin 8) (k : Fin 512),
  d (ix3 q i k) = zAt (ax m c) (aw m c) (1024 * ((n - 1 - q.val) / 2) + 1016 + i.val) (512 * q.val + k.val)

theorem inv_step (t : Fin cfg0.N) (d : Vec Ideal S2x8x512 .f32) (hd : Inv m c t.val d) : Inv m c (t.val + 1) (left d (run m c t d).2.2.2.1) := by
  intro q hq i k
  have e : ∃ L, (run m c t d).2.2.2.1 = ⟨Rect.unit (s := S2x8x512) (k0_off2 (grid0.coords t)) S1x8x512.size (k0_off2_inb (grid0.coords t)), kept (iblk m c 0 t) (iblk m c 1 t) (grid0.coords t)⟩ :: L ∧
      (q.val ≠ t.val % 2 → left d L (ix3 q i k) = d (ix3 q i k)) := by
    by_cases h : k0_cond1 (grid0.coords t) = 1#1
    · refine ⟨_, (congrArg (fun r => r.2.2.2.1) (run_A m c t h d)).trans (keptA ..), fun hne => ?_⟩
      exact (slot_keep _ _ _ _ (off1_eq t) _ [] q hne i k).trans (congrFun (read_left d) _)
    · exact ⟨[], (congrArg (fun r => r.2.2.2.1) (run_B m c t h d)).trans (keptB ..), fun _ => congrFun (read_left d) (ix3 q i k)⟩
  obtain ⟨L, e, keep⟩ := e
  rw [e]
  by_cases hj : q.val = t.val % 2
  · refine (slot_read _ _ _ q ((off2_eq t).trans (by rw [hj])) _ L i k).trans ?_
    refine (kept_value (ax m c) (aw m c) _ _ (grid0.coords t) (t.val / 2) (t.val % 2) (blk_0 m c t) (blk_1 m c t) (column t) (by omega) 0 i k).trans ?_
    rw [show (t.val + 1 - 1 - q.val) / 2 = t.val / 2 by omega, hj]
  · refine (slot_keep _ _ _ _ (off2_eq t) _ L q hj i k).trans ((keep hj).trans ((hd q (by omega) i k).trans ?_))
    rw [show (t.val + 1 - 1 - q.val) / 2 = (t.val - 1 - q.val) / 2 by omega]

theorem inv (t : Fin cfg0.N) : Inv m c t.val (st m c t.val) := by
  obtain ⟨n, hn⟩ := t
  show Inv m c n (st m c n)
  induction n with
  | zero => exact fun q hq => absurd hq (Nat.not_lt_zero _)
  | succ n ih => exact (st_succ m c ⟨n, by omega⟩) ▸ inv_step m c ⟨n, by omega⟩ _ (ih (by omega))

/-- A grid point's block of the result. -/
theorem value5 (t : Fin cfg0.N) {d : Vec Ideal S2x8x512 .f32} (hd : Inv m c t.val d) (r : Fin 1024) (n : Fin 512) :
    left5 m c t d (ix2 r n) = result (ax m c) (aw m c) (ac m c) (1024 * (t.val / 2) + r.val) (512 * (t.val % 2) + n.val) := by
  have e : ∃ h : FVec Ideal S8x512 .f32, (run m c t d).1 = quarters (iblk m c 0 t) (iblk m c 1 t) (iblk m c 2 t) (grid0.coords t) h ∧
      ∀ i k, h (ix2 i k) = if (1024 * (t.val / 2) + 0) % 2048 = 0 then 0 else zAt (ax m c) (aw m c) (1024 * (t.val / 2) + 0 - 8 + i.val) (512 * (t.val % 2) + k.val) := by
    by_cases h : k0_cond1 (grid0.coords t) = 1#1
    · refine ⟨_, (congrArg (fun r => r.1) (run_A m c t h d)).trans (piecesA ..), fun i k => ?_⟩
      have h4 := (cond_iff t).mp h
      rw [if_pos (by omega)]
      exact (halo_apply _ i k).trans (zero_apply 0 i k)
    · refine ⟨_, (congrArg (fun r => r.1) (run_B m c t h d)).trans (piecesB ..), fun i k => ?_⟩
      have h4 : ¬ t.val % 4 < 2 := fun x => h ((cond_iff t).mpr x)
      rw [if_neg (by omega)]
      refine (halo_apply _ i k).trans ((slot_apply d _ ⟨t.val % 2, by omega⟩ (off2_eq t) i k).trans ((hd _ (show t.val % 2 < t.val by omega) i k).trans (zAt_at _ _ _ _ _ ?_)))
      show 1024 * ((t.val - 1 - t.val % 2) / 2) + 1016 + i.val = _
      omega
  obtain ⟨h, e, hh⟩ := e
  unfold left5
  rw [e]
  have hg := fun o ho => gate_value (ax m c) (aw m c) (iblk m c 0 t) (iblk m c 1 t) (grid0.coords t) (t.val / 2) (t.val % 2) o ho (blk_0 m c t) (blk_1 m c t) (column t) (by omega)
  have hz := fun o ho => prod_value (ax m c) (aw m c) (iblk m c 0 t) (iblk m c 1 t) (grid0.coords t) (t.val / 2) (t.val % 2) o ho (blk_0 m c t) (blk_1 m c t) (column t) (by omega)
  have step : ∀ (o o' : ℕ) (ho : o + 256 ≤ 1024) (ho' : o' + 256 ≤ 1024), o' = o + 256 → o % 256 = 0 → ∀ (r : Fin 256) (k : Fin 512),
      chunk (last (prod (iblk m c 0 t) (iblk m c 1 t) (grid0.coords t) o ho)) (gate (iblk m c 0 t) (iblk m c 1 t) (grid0.coords t) o' ho')
        (prod (iblk m c 0 t) (iblk m c 1 t) (grid0.coords t) o' ho') (iblk m c 2 t) (ix2 r k) =
      result (ax m c) (aw m c) (ac m c) (1024 * (t.val / 2) + (o' + r.val)) (512 * (t.val % 2) + k.val) := by
    intro o o' ho ho' hoo h256 r k
    refine (chunk_value (ax m c) (aw m c) (ac m c) (1024 * (t.val / 2) + o') (512 * (t.val % 2)) _ _ _ _ (by omega) (hg o' ho') (hz o' ho') (fun i k => ?_) (blk_2 m c t) r k).trans ?_
    · rw [if_neg (by omega)]
      refine (last_apply _ i k).trans ((hz o ho _ k).trans (zAt_at _ _ _ _ _ ?_))
      show 1024 * (t.val / 2) + o + (248 + i.val) = _
      omega
    · rw [Nat.add_assoc]
  refine quarters_read VO0_5 _ _ _ _ _ (fun R K => result (ax m c) (aw m c) (ac m c) (1024 * (t.val / 2) + R) (512 * (t.val % 2) + K))
    (step 512 768 (by omega) (by omega) rfl rfl) (step 256 512 (by omega) (by omega) rfl rfl) (step 0 256 (by omega) (by omega) rfl rfl) (fun r k => ?_) r n
  refine (chunk_value (ax m c) (aw m c) (ac m c) (1024 * (t.val / 2) + 0) (512 * (t.val % 2)) _ _ _ _ (by omega) (hg 0 (by omega)) (hz 0 (by omega)) hh (blk_2 m c t) r k).trans ?_
  rw [Nat.add_assoc]

theorem value6 (t : Fin cfg0.N) (d : Vec Ideal S2x8x512 .f32) (r : Fin 128) (n : Fin 11264) :
    left6 m c t d (ix2 r n) = entry (a := 2048) (b := 11264) (m ((c : Thread nD τ).loc main_arg3)) (128 * t.val + r.val) n.val := by
  have e : (run m c t d).2.1 = [⟨Rect.unit (s := S128x11264) ![0, 0] S128x11264.size inb_S128x11264_S128x11264_0_0, k0_pay5 (iblk m c 3 t)⟩] := by
    by_cases h : k0_cond1 (grid0.coords t) = 1#1
    · rw [run_A m c t h d]; exact upA ..
    · rw [run_B m c t h d]; exact upB ..
  unfold left6
  rw [e]
  refine (View.read_writes_cons_unit_of_mem VO0_6 _ inb_S128x11264_S128x11264_0_0 _ [] (ix2 r n) (ix2 r n) rfl (fun a => ?_)).trans (blk_3 m c t r n)
  match a with
  | ⟨0, _⟩ => show r.val = 0 + r.val; omega
  | ⟨1, _⟩ => show n.val = 0 + n.val; omega

theorem value7 (t : Fin cfg0.N) (d : Vec Ideal S2x8x512 .f32) (r : Fin 128) (n : Fin 2048) :
    left7 m c t d (ix2 r n) = entry (a := 2048) (b := 2048) (m ((c : Thread nD τ).loc main_arg4)) (128 * t.val + r.val) n.val := by
  have e : (run m c t d).2.2.1 = [⟨Rect.unit (s := S128x2048) ![0, 0] S128x2048.size inb_S128x2048_S128x2048_0_0, k0_pay6 (iblk m c 4 t)⟩] := by
    by_cases h : k0_cond1 (grid0.coords t) = 1#1
    · rw [run_A m c t h d]; exact outA ..
    · rw [run_B m c t h d]; exact outB ..
  unfold left7
  rw [e]
  refine (View.read_writes_cons_unit_of_mem VO0_7 _ inb_S128x2048_S128x2048_0_0 _ [] (ix2 r n) (ix2 r n) rfl (fun a => ?_)).trans (blk_4 m c t r n)
  match a with
  | ⟨0, _⟩ => show r.val = 0 + r.val; omega
  | ⟨1, _⟩ => show n.val = 0 + n.val; omega

theorem index_5 : ∀ t : Fin cfg0.N, (cfg0.win 5).index t = ![t.val / 2, t.val % 2] :=
  (by decide +kernel : ∀ t : Fin grid0.N, win0_5.index t = ![t.val / 2, t.val % 2])
/-- The whole result 0. -/
theorem final5 : (dats m 0 c).arrAt 5 cfg0.N = fun i => result (ax m c) (aw m c) (ac m c) (i 0).val (i 1).val := by
  funext i
  refine (dats m 0 c).arrAt_forall_of_cover 5 (fun i v => v = result (ax m c) (aw m c) (ac m c) (i 0).val (i 1).val) (fun t hf y => ?_) (fun i => ?_) i
  · have hN : t.val < 16 := t.isLt
    obtain ⟨r, n, rfl⟩ : ∃ (r : Fin 1024) (n : Fin 512), y = ix2 r n := pair_eta y
    have hb := value5 m c t (inv m c t) r n
    have hfl : (dats m 0 c).flushed 5 t = (cfg0.win 5).cut (grid0.coords t) (left5 m c t (st m c t.val)) := by
      show (cfg0.win 5).cut (grid0.coords t) ((dats m 0 c).after 5 t) = _
      rw [after0_5]
    rw [hfl]
    revert hb
    generalize left5 m c t (st m c t.val) = u
    intro hb
    show u (ix2 r n) = _
    rw [hb]
    have h0 := Pipeline.Window.rect_emb_val (cfg0.win 5) t (ix2 r n) 0
    have h1 := Pipeline.Window.rect_emb_val (cfg0.win 5) t (ix2 r n) 1
    rw [index_5 t] at h0 h1
    refine congr (congrArg _ ?_) ?_
    · refine Eq.trans ?_ h0.symm
      show 1024 * (t.val / 2) + r.val = t.val / 2 * 1024 + r.val
      omega
    · refine Eq.trans ?_ h1.symm
      show 512 * (t.val % 2) + n.val = t.val % 2 * 512 + n.val
      omega
  · obtain ⟨r, n, rfl⟩ : ∃ (r : Fin 8192) (n : Fin 1024), i = ix2 r n := pair_eta i
    have hr := r.isLt
    have hn := n.isLt
    let t : Fin cfg0.N := ⟨2 * (r.val / 1024) + n.val / 512, by show _ < 16; omega⟩
    have ht : t.val = 2 * (r.val / 1024) + n.val / 512 := rfl
    refine ⟨t, flush0_5 t, ?_⟩
    have key : ((cfg0.win 5).rect t).emb (ix2 (⟨r.val % 1024, by omega⟩ : Fin 1024) (⟨n.val % 512, by omega⟩ : Fin 512) : ((cfg0.win 5).xblock (cfg0.grid.coords t)).Idx)
        = (ix2 r n : S8192x1024.Idx) := by
      funext a; apply Fin.ext
      refine (Pipeline.Window.rect_emb_val (cfg0.win 5) t _ a).trans ?_
      rw [index_5 t]
      match a with
      | ⟨0, _⟩ => show t.val / 2 * 1024 + r.val % 1024 = r.val; omega
      | ⟨1, _⟩ => show t.val % 2 * 512 + n.val % 512 = n.val; omega
    rw [← key]
    exact View.emb_mem_set ((cfg0.win 5).blk t).view _

theorem index_6 : ∀ t : Fin cfg0.N, (cfg0.win 6).index t = ![t.val, 0] :=
  (by decide +kernel : ∀ t : Fin grid0.N, win0_6.index t = ![t.val, 0])
/-- The whole result 1. -/
theorem final6 : (dats m 0 c).arrAt 6 cfg0.N = fun i => entry (a := 2048) (b := 11264) (m ((c : Thread nD τ).loc main_arg3)) (i 0).val (i 1).val := by
  funext i
  refine (dats m 0 c).arrAt_forall_of_cover 6 (fun i v => v = entry (a := 2048) (b := 11264) (m ((c : Thread nD τ).loc main_arg3)) (i 0).val (i 1).val) (fun t hf y => ?_) (fun i => ?_) i
  · have hN : t.val < 16 := t.isLt
    obtain ⟨r, n, rfl⟩ : ∃ (r : Fin 128) (n : Fin 11264), y = ix2 r n := pair_eta y
    have hb := value6 m c t (st m c t.val) r n
    have hfl : (dats m 0 c).flushed 6 t = (cfg0.win 6).cut (grid0.coords t) (left6 m c t (st m c t.val)) := by
      show (cfg0.win 6).cut (grid0.coords t) ((dats m 0 c).after 6 t) = _
      rw [after0_6]
    rw [hfl]
    revert hb
    generalize left6 m c t (st m c t.val) = u
    intro hb
    show u (ix2 r n) = _
    rw [hb]
    have h0 := Pipeline.Window.rect_emb_val (cfg0.win 6) t (ix2 r n) 0
    have h1 := Pipeline.Window.rect_emb_val (cfg0.win 6) t (ix2 r n) 1
    rw [index_6 t] at h0 h1
    refine congr (congrArg _ ?_) ?_
    · refine Eq.trans ?_ h0.symm
      show 128 * t.val + r.val = t.val * 128 + r.val
      omega
    · refine Eq.trans ?_ h1.symm
      show n.val = 0 * 11264 + n.val
      omega
  · obtain ⟨r, n, rfl⟩ : ∃ (r : Fin 2048) (n : Fin 11264), i = ix2 r n := pair_eta i
    have hr := r.isLt
    have hn := n.isLt
    let t : Fin cfg0.N := ⟨r.val / 128, by show _ < 16; omega⟩
    have ht : t.val = r.val / 128 := rfl
    refine ⟨t, flush0_6 t, ?_⟩
    have key : ((cfg0.win 6).rect t).emb (ix2 (⟨r.val % 128, by omega⟩ : Fin 128) (⟨n.val % 11264, by omega⟩ : Fin 11264) : ((cfg0.win 6).xblock (cfg0.grid.coords t)).Idx)
        = (ix2 r n : S2048x11264.Idx) := by
      funext a; apply Fin.ext
      refine (Pipeline.Window.rect_emb_val (cfg0.win 6) t _ a).trans ?_
      rw [index_6 t]
      match a with
      | ⟨0, _⟩ => show t.val * 128 + r.val % 128 = r.val; omega
      | ⟨1, _⟩ => show 0 * 11264 + n.val % 11264 = n.val; omega
    rw [← key]
    exact View.emb_mem_set ((cfg0.win 6).blk t).view _

theorem index_7 : ∀ t : Fin cfg0.N, (cfg0.win 7).index t = ![t.val, 0] :=
  (by decide +kernel : ∀ t : Fin grid0.N, win0_7.index t = ![t.val, 0])
/-- The whole result 2. -/
theorem final7 : (dats m 0 c).arrAt 7 cfg0.N = fun i => entry (a := 2048) (b := 2048) (m ((c : Thread nD τ).loc main_arg4)) (i 0).val (i 1).val := by
  funext i
  refine (dats m 0 c).arrAt_forall_of_cover 7 (fun i v => v = entry (a := 2048) (b := 2048) (m ((c : Thread nD τ).loc main_arg4)) (i 0).val (i 1).val) (fun t hf y => ?_) (fun i => ?_) i
  · have hN : t.val < 16 := t.isLt
    obtain ⟨r, n, rfl⟩ : ∃ (r : Fin 128) (n : Fin 2048), y = ix2 r n := pair_eta y
    have hb := value7 m c t (st m c t.val) r n
    have hfl : (dats m 0 c).flushed 7 t = (cfg0.win 7).cut (grid0.coords t) (left7 m c t (st m c t.val)) := by
      show (cfg0.win 7).cut (grid0.coords t) ((dats m 0 c).after 7 t) = _
      rw [after0_7]
    rw [hfl]
    revert hb
    generalize left7 m c t (st m c t.val) = u
    intro hb
    show u (ix2 r n) = _
    rw [hb]
    have h0 := Pipeline.Window.rect_emb_val (cfg0.win 7) t (ix2 r n) 0
    have h1 := Pipeline.Window.rect_emb_val (cfg0.win 7) t (ix2 r n) 1
    rw [index_7 t] at h0 h1
    refine congr (congrArg _ ?_) ?_
    · refine Eq.trans ?_ h0.symm
      show 128 * t.val + r.val = t.val * 128 + r.val
      omega
    · refine Eq.trans ?_ h1.symm
      show n.val = 0 * 2048 + n.val
      omega
  · obtain ⟨r, n, rfl⟩ : ∃ (r : Fin 2048) (n : Fin 2048), i = ix2 r n := pair_eta i
    have hr := r.isLt
    have hn := n.isLt
    let t : Fin cfg0.N := ⟨r.val / 128, by show _ < 16; omega⟩
    have ht : t.val = r.val / 128 := rfl
    refine ⟨t, flush0_7 t, ?_⟩
    have key : ((cfg0.win 7).rect t).emb (ix2 (⟨r.val % 128, by omega⟩ : Fin 128) (⟨n.val % 2048, by omega⟩ : Fin 2048) : ((cfg0.win 7).xblock (cfg0.grid.coords t)).Idx)
        = (ix2 r n : S2048x2048.Idx) := by
      funext a; apply Fin.ext
      refine (Pipeline.Window.rect_emb_val (cfg0.win 7) t _ a).trans ?_
      rw [index_7 t]
      match a with
      | ⟨0, _⟩ => show t.val * 128 + r.val % 128 = r.val; omega
      | ⟨1, _⟩ => show 0 * 2048 + n.val % 2048 = n.val; omega
    rw [← key]
    exact View.emb_mem_set ((cfg0.win 7).blk t).view _

/-- Every weakly fair execution ends with the three result arrays at the values above, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (fun i : S8192x1024.Idx => result (ax m c) (aw m c) (ac m c) (i 0).val (i 1).val)
      ∧ r.2.mem ((c.tc : Thread nD τ).loc main_v0_1) = (fun i : S2048x11264.Idx => entry (a := 2048) (b := 11264) (m ((c : Thread nD τ).loc main_arg3)) (i 0).val (i 1).val)
      ∧ r.2.mem ((c.tc : Thread nD τ).loc main_v0_2) = (fun i : S2048x2048.Idx => entry (a := 2048) (b := 2048) (m ((c : Thread nD τ).loc main_arg4)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c), h.2 c⟩)
    (θ_run_and (run_main m ρ) (unchanged m ρ))

end Cert.ConvIdeal.Tile

end
-- ==== Proof.ConvRef.lean ====
/- The gated short convolution reference's whole result, entry by entry. -/
module

public import proofs.«01_k».proof.Proof.ConvLayer
public import proofs.«01_k».proof.Proof.FfnRef
public import proofs.«01_k».proof.Proof.Gen.ConvRefIdeal.Run

@[expose] public section

set_option maxRecDepth 16384

noncomputable section

namespace Cert.ConvRefIdeal.Rows

open Idealize.ShloMosaic Idealize.ShloMosaic.TcCoe Idealize.SL.Sem Cert.ConvRefIdeal Cert.ConvRefIdeal.Gen Idealize.ShloMosaic.StableHlo
open Cert.FfnIdeal.Tile (entry entry_eq)
open Cert.ConvIdeal.Tile (proj zAt zAt_at before convAt result pair_eta)
open Cert.FfnRefIdeal.Rows (at_index pad_zero)

variable (m : (ℓ : Loc nD τ sig) → Buf (Elt Ideal) ℓ) (c : Dev nD)

/-- The projection of the whole sequence batch. -/
def hidden : FVec Ideal S4x2048x3072 .f32 := Host.dotGeneral dot_S4x2048x2048_S2048x3072_S4x2048x3072_2_0_01_1_n_n none (shapeCast _ (extf .f32 (m ((c.tc : Thread nD τ).loc main_arg0)) bitsLt_bf16_f32) shapeCasts_S8192x2048_S4x2048x2048) (transpose S2048x3072 [1, 0] (extf .f32 (m ((c.tc : Thread nD τ).loc main_arg1)) bitsLt_bf16_f32) transposes_S3072x2048_S2048x3072_1_0)

/-- The product of the two factors. -/
def factors (D : FVec Ideal S4x2048x3072 .f32) : FVec Ideal S4x2048x1024 .f32 := mulf (extractStridedSlice S4x2048x1024 ![0, 0, 1024] D slices_S4x2048x3072_S4x2048x1024_0_0_1024) (extractStridedSlice S4x2048x1024 ![0, 0, 2048] D slices_S4x2048x3072_S4x2048x1024_0_0_2048)

/-- Two zero rows before each sequence. -/
def padded (Z : FVec Ideal S4x2048x1024 .f32) : FVec Ideal S4x2050x1024 .f32 := pad S4x2050x1024 ![0, 2, 0] ![0, 0, 0] ![0, 0, 0] Z (sitofp .f32 (constantI S_ 32 0#32)) pads_S4x2048x1024_S4x2050x1024_000_200_000 h_S_

/-- The gate times the convolution's three taps. -/
def mixed (D : FVec Ideal S4x2048x3072 .f32) (P : FVec Ideal S4x2050x1024 .f32) : FVec Ideal S8192x1024 .bf16 := truncf .bf16 (shapeCast _ (mulf (extractStridedSlice S4x2048x1024 ![0, 0, 0] D slices_S4x2048x3072_S4x2048x1024_0_0_0) (addf (addf (mulf (extractStridedSlice S4x2048x1024 ![0, 0, 0] P slices_S4x2050x1024_S4x2048x1024_0_0_0) (broadcastInDim S4x2048x1024 ![0, 1, 2] bcast_S1x1x1024_S4x2048x1024_0_1_2 (broadcastInDim S1x1x1024 ![2] bcast_S1024_S1x1x1024_2 (shapeCast _ (extractStridedSlice S1x1024 ![0, 0] (m ((c.tc : Thread nD τ).loc main_arg2)) slices_S3x1024_S1x1024_0_0) shapeCasts_S1x1024_S1024)))) (mulf (extractStridedSlice S4x2048x1024 ![0, 1, 0] P slices_S4x2050x1024_S4x2048x1024_0_1_0) (broadcastInDim S4x2048x1024 ![0, 1, 2] bcast_S1x1x1024_S4x2048x1024_0_1_2 (broadcastInDim S1x1x1024 ![2] bcast_S1024_S1x1x1024_2 (shapeCast _ (extractStridedSlice S1x1024 ![1, 0] (m ((c.tc : Thread nD τ).loc main_arg2)) slices_S3x1024_S1x1024_1_0) shapeCasts_S1x1024_S1024))))) (mulf (extractStridedSlice S4x2048x1024 ![0, 2, 0] P slices_S4x2050x1024_S4x2048x1024_0_2_0) (broadcastInDim S4x2048x1024 ![0, 1, 2] bcast_S1x1x1024_S4x2048x1024_0_1_2 (broadcastInDim S1x1x1024 ![2] bcast_S1024_S1x1x1024_2 (shapeCast _ (extractStridedSlice S1x1024 ![2, 0] (m ((c.tc : Thread nD τ).loc main_arg2)) slices_S3x1024_S1x1024_2_0) shapeCasts_S1x1024_S1024)))))) shapeCasts_S4x2048x1024_S8192x1024) bitsLt_bf16_f32

theorem result_steps : Cert.ConvRefIdeal.Value.res_main_v32 m c = mixed m c (hidden m c) (padded (factors (hidden m c))) := rfl

theorem proj_row (x : (⟨2, ![8192, 2048]⟩ : Shape).Idx → EReal) (w : (⟨2, ![3072, 2048]⟩ : Shape).Idx → EReal) (R : Fin 8192) (C : Fin 3072) :
    proj x w R.val C.val = ∑ k : Fin 2048, x (ix2 R k) * w (ix2 C k) := by
  unfold proj
  simp only [entry_eq]

/-- The projection at position `p` of sequence `s`. -/
theorem hidden_apply (s : Fin 4) (p : Fin 2048) (C : Fin 3072) : hidden m c (ix3 s p C) = proj (m ((c.tc : Thread nD τ).loc main_arg0)) (m ((c.tc : Thread nD τ).loc main_arg1)) (s.val * 2048 + p.val) C.val := by
  refine Eq.trans ?_ (proj_row (m ((c.tc : Thread nD τ).loc main_arg0)) (m ((c.tc : Thread nD τ).loc main_arg1)) ⟨s.val * 2048 + p.val, by omega⟩ C).symm
  unfold hidden
  simp only [pointwise, zero_add]

/-- The product of the factors at position `p` of sequence `s`. -/
theorem factors_apply (s : Fin 4) (p : Fin 2048) (K : Fin 1024) : factors (hidden m c) (ix3 s p K) = zAt (m ((c.tc : Thread nD τ).loc main_arg0)) (m ((c.tc : Thread nD τ).loc main_arg1)) (s.val * 2048 + p.val) K.val := by
  unfold zAt
  refine Eq.trans ?_ (congr (congrArg _ (hidden_apply m c s p ⟨1024 + K.val, by omega⟩)) (hidden_apply m c s p ⟨2048 + K.val, by omega⟩))
  generalize hidden m c = D
  unfold factors
  simp only [pointwise, zero_add]
  exact congr (congrArg _ (at_index (S := S4x2048x3072) D _ _ (fun a => by
      match a with
      | ⟨0, _⟩ => first | rfl | exact Nat.zero_add _ | (show _ + _ = _; omega)
      | ⟨1, _⟩ => first | rfl | exact Nat.zero_add _ | (show _ + _ = _; omega)
      | ⟨2, _⟩ => first | rfl | exact Nat.zero_add _ | (show _ + _ = _; omega)
      ))) (at_index (S := S4x2048x3072) D _ _ (fun a => by
      match a with
      | ⟨0, _⟩ => first | rfl | exact Nat.zero_add _ | (show _ + _ = _; omega)
      | ⟨1, _⟩ => first | rfl | exact Nat.zero_add _ | (show _ + _ = _; omega)
      | ⟨2, _⟩ => first | rfl | exact Nat.zero_add _ | (show _ + _ = _; omega)
      ))

/-- The padded rows, `d` rows before position `p`. -/
theorem padded_before (d : ℕ) (hd : d ≤ 2) (s : Fin 4) (p : Fin 2048) (K : Fin 1024) (q : Fin 2050) (hq : q.val = 2 - d + p.val) :
    padded (factors (hidden m c)) (ix3 s q K) = before (m ((c.tc : Thread nD τ).loc main_arg0)) (m ((c.tc : Thread nD τ).loc main_arg1)) d (s.val * 2048 + p.val) K.val := by
  have hs := s.isLt
  have hp := p.isLt
  have hK := K.isLt
  have hz := factors_apply m c s
  revert hz
  generalize factors (hidden m c) = Z
  intro hz
  unfold padded before
  simp only [pointwise, zero_add]
  by_cases h : p.val < d
  · rw [if_pos (by omega)]
    refine (dif_neg (fun hin => ?_)).trans pad_zero
    have := (hin 1).1
    change 2 ≤ q.val at this
    omega
  · rw [if_neg (by omega)]
    refine (dif_pos (fun a => ?_)).trans ?_
    · match a with
      | ⟨0, _⟩ => show 0 ≤ s.val ∧ (s.val - 0) % (0 + 1) = 0 ∧ (s.val - 0) / (0 + 1) < 4; omega
      | ⟨1, _⟩ => show 2 ≤ q.val ∧ (q.val - 2) % (0 + 1) = 0 ∧ (q.val - 2) / (0 + 1) < 2048; omega
      | ⟨2, _⟩ => show 0 ≤ K.val ∧ (K.val - 0) % (0 + 1) = 0 ∧ (K.val - 0) / (0 + 1) < 1024; omega
    · refine (at_index (S := S4x2048x1024) Z _ (ix3 s ⟨p.val - d, by omega⟩ K) (fun a => ?_)).trans ?_
      · match a with
        | ⟨0, _⟩ => show (s.val - 0) / (0 + 1) = s.val; omega
        | ⟨1, _⟩ => show (q.val - 2) / (0 + 1) = p.val - d; omega
        | ⟨2, _⟩ => show (K.val - 0) / (0 + 1) = K.val; omega
      · refine (hz ⟨p.val - d, by omega⟩ K).trans (zAt_at _ _ _ _ _ ?_)
        show s.val * 2048 + (p.val - d) = s.val * 2048 + p.val - d
        omega

/-- The reference's result at row `r` and column `n`. -/
theorem result_apply (r : Fin 8192) (n : Fin 1024) : Cert.ConvRefIdeal.Value.res_main_v32 m c (ix2 r n) = result (m ((c.tc : Thread nD τ).loc main_arg0)) (m ((c.tc : Thread nD τ).loc main_arg1)) (m ((c.tc : Thread nD τ).loc main_arg2)) r.val n.val := by
  rw [result_steps]
  obtain ⟨s, hs⟩ : ∃ s : Fin 4, s.val = r.val / 2048 := ⟨⟨r.val / 2048, by omega⟩, rfl⟩
  obtain ⟨p, hp⟩ : ∃ p : Fin 2048, p.val = r.val % 2048 := ⟨⟨r.val % 2048, by omega⟩, rfl⟩
  have hr : s.val * 2048 + p.val = r.val := by omega
  have g := hidden_apply m c s p ⟨n.val, by omega⟩
  have e0 := padded_before m c 2 (by omega) s p n ⟨0 + p.val, by omega⟩ (show 0 + p.val = 2 - 2 + p.val by omega)
  have e1 := padded_before m c 1 (by omega) s p n ⟨1 + p.val, by omega⟩ (show 1 + p.val = 2 - 1 + p.val by omega)
  have e2 := padded_before m c 0 (by omega) s p n ⟨2 + p.val, by omega⟩ (show 2 + p.val = 2 - 0 + p.val by omega)
  have e2' : before (m ((c.tc : Thread nD τ).loc main_arg0)) (m ((c.tc : Thread nD τ).loc main_arg1)) 0 r.val n.val = zAt (m ((c.tc : Thread nD τ).loc main_arg0)) (m ((c.tc : Thread nD τ).loc main_arg1)) r.val n.val := if_neg (Nat.not_lt_zero _)
  have z0 := entry_eq (m ((c.tc : Thread nD τ).loc main_arg2)) (0 : Fin 3) n
  have z1 := entry_eq (m ((c.tc : Thread nD τ).loc main_arg2)) (1 : Fin 3) n
  have z2 := entry_eq (m ((c.tc : Thread nD τ).loc main_arg2)) (2 : Fin 3) n
  rw [hr] at g e0 e1 e2
  unfold result convAt
  rw [← e2', ← e0, ← e1, ← e2]
  refine Eq.trans ?_ (congr (congrArg _ g) (congr (congrArg _ (congr (congrArg _ (congrArg _ z0.symm)) (congrArg _ z1.symm))) (congrArg _ z2.symm)))
  clear g e0 e1 e2 e2' z0 z1 z2
  generalize padded (factors (hidden m c)) = P
  generalize hidden m c = D
  unfold mixed
  simp only [pointwise, zero_add]
  refine congr (congrArg _ (at_index (S := S4x2048x3072) D _ _ ?_)) (congr (congrArg _ (congr (congrArg _ (congr (congrArg _ (at_index (S := S4x2050x1024) P _ _ ?_)) (at_index (S := S3x1024) (m ((c.tc : Thread nD τ).loc main_arg2)) _ _ ?_)))
    (congr (congrArg _ (at_index (S := S4x2050x1024) P _ _ ?_)) (at_index (S := S3x1024) (m ((c.tc : Thread nD τ).loc main_arg2)) _ _ ?_)))) (congr (congrArg _ (at_index (S := S4x2050x1024) P _ _ ?_)) (at_index (S := S3x1024) (m ((c.tc : Thread nD τ).loc main_arg2)) _ _ ?_)))
  · intro a
    match a with
    | ⟨0, _⟩ => show 0 + r.val / 2048 = s.val; omega
    | ⟨1, _⟩ => show 0 + r.val % 2048 = p.val; omega
    | ⟨2, _⟩ => exact Nat.zero_add _
  · intro a
    match a with
    | ⟨0, _⟩ => show 0 + r.val / 2048 = s.val; omega
    | ⟨1, _⟩ => show 0 + r.val % 2048 = p.val; omega
    | ⟨2, _⟩ => exact Nat.zero_add _
  · intro a
    match a with
    | ⟨0, _⟩ => rfl
    | ⟨1, _⟩ => exact Nat.zero_add _
  · intro a
    match a with
    | ⟨0, _⟩ => show 0 + r.val / 2048 = s.val; omega
    | ⟨1, _⟩ => show 1 + r.val % 2048 = 1 + p.val; omega
    | ⟨2, _⟩ => exact Nat.zero_add _
  · intro a
    match a with
    | ⟨0, _⟩ => rfl
    | ⟨1, _⟩ => exact Nat.zero_add _
  · intro a
    match a with
    | ⟨0, _⟩ => show 0 + r.val / 2048 = s.val; omega
    | ⟨1, _⟩ => show 2 + r.val % 2048 = 2 + p.val; omega
    | ⟨2, _⟩ => exact Nat.zero_add _
  · intro a
    match a with
    | ⟨0, _⟩ => rfl
    | ⟨1, _⟩ => exact Nat.zero_add _

/-- The whole result of the reference. -/
theorem result_eq : Cert.ConvRefIdeal.Value.res_main_v32 m c = fun i : S8192x1024.Idx => result (m ((c.tc : Thread nD τ).loc main_arg0)) (m ((c.tc : Thread nD τ).loc main_arg1)) (m ((c.tc : Thread nD τ).loc main_arg2)) (i 0).val (i 1).val := by
  funext i
  obtain ⟨r, n, rfl⟩ : ∃ (r : Fin 8192) (n : Fin 1024), i = ix2 r n := pair_eta i
  exact result_apply m c r n

/-- An entry of an argument the reference only rounds. -/
theorem entry_fun {a b : ℕ} (v : (⟨2, ![a, b]⟩ : Shape).Idx → EReal) : (fun i : (⟨2, ![a, b]⟩ : Shape).Idx => entry v (i 0).val (i 1).val) = v := by
  funext i
  obtain ⟨r, n, rfl⟩ := pair_eta i
  exact entry_eq v r n

end Cert.ConvRefIdeal.Rows

end
-- ==== Proof.PleKernel.lean ====
/- The per-layer embedding's kernel: what each grid point writes, entry by entry, and the whole result. -/
module

public import proofs.«01_k».proof.Proof.Gen.PleIdeal.Value
public import proofs.«01_k».proof.Proof.Row

@[expose] public section

set_option maxRecDepth 16384

noncomputable section

namespace Cert.PleIdeal.Tile

open Idealize.ShloMosaic Idealize.ShloMosaic.TcCoe Idealize.SL.Sem
open Cert.PleIdeal.Gen

theorem pay2_apply (v : Vec Ideal S256x2048 .f32) (g : Vec Ideal S1x2048 .f32) (r : Fin 256) (n : Fin 2048) :
    k0_pay2 v g (ix2 r n) = Row.norm (fun k => v (ix2 r k)) (fun k => g (ix2 0 k)) n := by
  unfold k0_pay2 Row.norm
  simp only [pointwise, zero_add]
  rfl

theorem pay6_apply (h : FVec Ideal S256x2048 .bf16) (wg : Vec Ideal S2048x2048 .bf16) (x : Vec Ideal S256x2048 .f32)
    (p : Vec Ideal S256x256 .f32) (wp : Vec Ideal S256x2048 .bf16) (a g : Fin 2048 → EReal) (r : Fin 256) (n : Fin 2048)
    (hx : ∀ k, x (ix2 r k) = a k) (hh : ∀ k, h (ix2 r k) = Row.norm a g k) :
    k0_pay6 h wg x p wp (ix2 r n) =
      Row.mix a g (fun k => p (ix2 r k)) (fun k j => wg (ix2 k j)) (fun k j => wp (ix2 k j)) n := by
  unfold k0_pay6 Row.mix
  simp only [pointwise, hx, hh, zero_add]

theorem pay1_apply (y : FVec Ideal S256x2048 .f32) (gf : Vec Ideal S1x2048 .f32) (q : FVec Ideal S256x1 .f32) (r : Fin 256)
    (n : Fin 2048) : k0_pay1 y gf q (ix2 r n) = (y (ix2 r n) : EReal) * Ideal.rsqrt (q (ix2 r 0)) * gf (ix2 0 n) := by
  unfold k0_pay1
  simp only [pointwise, zero_add]
  rfl

theorem pay7_apply (h : FVec Ideal S256x2048 .bf16) (wg : Vec Ideal S2048x2048 .bf16) (x : Vec Ideal S256x2048 .f32)
    (p : Vec Ideal S256x256 .f32) (wp : Vec Ideal S256x2048 .bf16) (r : Fin 256) (y : Fin 2048 → EReal)
    (hy : ∀ k, k0_pay6 h wg x p wp (ix2 r k) = y k) :
    k0_pay7 h wg x p wp (ix2 r 0) =
      Ideal.div (∑ k, y k * y k) (Ideal.ofBits .f32 1157627904#32) + Ideal.ofBits .f32 897988541#32 := by
  unfold k0_pay7
  simp only [pointwise, hy, zero_add]

/-- Rows 256 to 511 of the block. -/
theorem high_apply (v : Vec Ideal S256x2048 .f32) (g : Vec Ideal S1x2048 .f32) (wg : Vec Ideal S2048x2048 .bf16)
    (p : Vec Ideal S256x256 .f32) (wp : Vec Ideal S256x2048 .bf16) (gf : Vec Ideal S1x2048 .f32) (r : Fin 256) (n : Fin 2048) :
    k0_pay1 (k0_pay6 (k0_pay2 v g) wg v p wp) gf (k0_pay7 (k0_pay2 v g) wg v p wp) (ix2 r n) =
      Row.ple (fun k => v (ix2 r k)) (fun k => g (ix2 0 k)) (fun k => p (ix2 r k)) (fun k j => wg (ix2 k j))
        (fun k j => wp (ix2 k j)) (fun k => gf (ix2 0 k)) n := by
  have h6 := fun k => pay6_apply (k0_pay2 v g) wg v p wp (fun k => v (ix2 r k)) (fun k => g (ix2 0 k)) r k (fun _ => rfl)
    (pay2_apply v g r)
  rw [pay1_apply, pay7_apply _ _ _ _ _ _ _ h6, h6]
  rfl

theorem pay3_apply (v : Vec Ideal S256x2048 .f32) (g : Vec Ideal S1x2048 .f32) (wg : Vec Ideal S2048x2048 .bf16) (r : Fin 256)
    (n : Fin 2048) :
    k0_pay3 v g wg (ix2 r n) =
      Ideal.logistic (∑ k, Row.norm (fun k => v (ix2 r k)) (fun k => g (ix2 0 k)) k * wg (ix2 k n)) := by
  unfold k0_pay3 Row.norm
  simp only [pointwise, zero_add]
  rfl

/-- Rows 0 to 255 of the block. -/
theorem low_apply (v : Vec Ideal S256x2048 .f32) (g : Vec Ideal S1x2048 .f32) (wg : Vec Ideal S2048x2048 .bf16)
    (p : Vec Ideal S256x256 .f32) (wp : Vec Ideal S256x2048 .bf16) (gf : Vec Ideal S1x2048 .f32) (r : Fin 256) (n : Fin 2048) :
    k0_pay5 (k0_pay3 v g wg) v (k0_pay4 p) wp gf (ix2 r n) =
      Row.ple (fun k => v (ix2 r k)) (fun k => g (ix2 0 k)) (fun k => p (ix2 r k)) (fun k j => wg (ix2 k j))
        (fun k j => wp (ix2 k j)) (fun k => gf (ix2 0 k)) n := by
  unfold k0_pay5 k0_pay4
  simp only [pointwise, zero_add]
  show Row.norm (fun j => (v (ix2 r j) : EReal) + (k0_pay3 v g wg (ix2 r j) : EReal) *
    ∑ k, (p (ix2 r k) : EReal) * (wp (ix2 k j) : EReal)) (fun k => gf (ix2 0 k)) n = _
  simp only [pay3_apply]
  rfl

theorem idx_emb {s : Shape} (r : Rect s) (i : r.shape.Idx) : r.idx i = r.emb i := rfl

theorem r0_0_emb (r : Fin 256) (n : Fin 2048) : r0_0.emb (ix2 r n) = ix2 (⟨r.val, by omega⟩ : Fin 512) n := by
  funext a; apply Fin.ext; match a with
  | ⟨0, _⟩ => simp [Rect.emb_apply]
  | ⟨1, _⟩ => simp [Rect.emb_apply]

theorem r0_2_emb (r : Fin 256) (n : Fin 2048) : r0_2.emb (ix2 r n) = ix2 (⟨256 + r.val, by omega⟩ : Fin 512) n := by
  funext a; apply Fin.ext; match a with
  | ⟨0, _⟩ => simp [Rect.emb_apply]
  | ⟨1, _⟩ => simp [Rect.emb_apply]

theorem r0_4_emb (r : Fin 256) (n : Fin 256) : r0_4.emb (ix2 r n) = ix2 (⟨r.val, by omega⟩ : Fin 512) n := by
  funext a; apply Fin.ext; match a with
  | ⟨0, _⟩ => simp [Rect.emb_apply]
  | ⟨1, _⟩ => simp [Rect.emb_apply]

theorem r0_6_emb (r : Fin 256) (n : Fin 256) : r0_6.emb (ix2 r n) = ix2 (⟨256 + r.val, by omega⟩ : Fin 512) n := by
  funext a; apply Fin.ext; match a with
  | ⟨0, _⟩ => simp [Rect.emb_apply]
  | ⟨1, _⟩ => simp [Rect.emb_apply]

theorem r0_1_emb (i : S1x2048.Idx) : r0_1.emb i = i := by
  funext a; apply Fin.ext; match a with
  | ⟨0, _⟩ => simp [Rect.emb_apply]
  | ⟨1, _⟩ => simp [Rect.emb_apply]

theorem r0_3_emb (i : S2048x2048.Idx) : r0_3.emb i = i := by
  funext a; apply Fin.ext; match a with
  | ⟨0, _⟩ => simp [Rect.emb_apply]
  | ⟨1, _⟩ => simp [Rect.emb_apply]

theorem r0_5_emb (i : S256x2048.Idx) : r0_5.emb i = i := by
  funext a; apply Fin.ext; match a with
  | ⟨0, _⟩ => simp [Rect.emb_apply]
  | ⟨1, _⟩ => simp [Rect.emb_apply]

/-- A block of 512 rows of the result. -/
def block (x0 : Vec Ideal S512x2048 .f32) (x1 : Vec Ideal S1x2048 .f32) (x2 : Vec Ideal S512x256 .f32)
    (x3 : Vec Ideal S2048x2048 .bf16) (x4 : Vec Ideal S256x2048 .bf16) (x5 : Vec Ideal S1x2048 .f32) (r : Fin 512) :
    Fin 2048 → EReal :=
  Row.ple (fun k => x0 (ix2 r k)) (fun k => x1 (ix2 0 k)) (fun k => x2 (ix2 r k)) (fun k j => x3 (ix2 k j))
    (fun k j => x4 (ix2 k j)) (fun k => x5 (ix2 0 k))

/-- What a grid point writes, entry by entry. -/
theorem out_apply (x0 : Vec Ideal S512x2048 .f32) (x1 : Vec Ideal S1x2048 .f32) (x2 : Vec Ideal S512x256 .f32)
    (x3 : Vec Ideal S2048x2048 .bf16) (x4 : Vec Ideal S256x2048 .bf16) (x5 : Vec Ideal S1x2048 .f32) (r : Fin 512)
    (n : Fin 2048) : out0_6 x0 x1 x2 x3 x4 x5 (ix2 r n) = block x0 x1 x2 x3 x4 x5 r n := by
  unfold out0_6 k0_pay8
  by_cases hr : r.val < 256
  · have he : r0_0.emb (ix2 (⟨r.val, hr⟩ : Fin 256) n) = ix2 r n := (r0_0_emb _ _).trans rfl
    rw [← he]
    refine (View.canon_cons_of_not_mem _ _ ?_).trans ?_
    · rw [he, Rect.mem_set_unit]
      intro hx
      have h0 := (hx 0).1
      simp at h0
      omega
    rw [View.canon_cons_emb]
    refine (low_apply _ _ _ _ _ _ _ _).trans ?_
    unfold block
    simp only [View.ld, idx_emb, r0_0_emb, r0_1_emb, r0_3_emb, r0_4_emb, r0_5_emb]
  · have he : r0_2.emb (ix2 (⟨r.val - 256, by omega⟩ : Fin 256) n) = ix2 r n :=
      (r0_2_emb _ _).trans (congrArg (fun q => ix2 q n) (Fin.ext (show 256 + (r.val - 256) = r.val by omega)))
    rw [← he, View.canon_cons_emb]
    refine (high_apply _ _ _ _ _ _ _ _).trans ?_
    unfold block
    have hq : (⟨256 + (r.val - 256), by omega⟩ : Fin 512) = r := Fin.ext (by show 256 + (r.val - 256) = r.val; omega)
    simp only [View.ld, idx_emb, r0_2_emb, r0_1_emb, r0_3_emb, r0_6_emb, r0_5_emb, hq]

end Cert.PleIdeal.Tile

end
-- ==== Proof.PleResult.lean ====
/- The per-layer embedding's whole result, of the kernel and of the reference, row by row. -/
module

public import proofs.«01_k».proof.Proof.PleKernel
public import proofs.«01_k».proof.Proof.Gen.PleRefIdeal.Run

@[expose] public section

set_option maxRecDepth 16384

noncomputable section

namespace Cert.PleIdeal.Tile

open Idealize.ShloMosaic Idealize.ShloMosaic.TcCoe Idealize.SL.Sem
open Cert.PleIdeal.Gen

theorem index_0 : ∀ t : Fin cfg0.N, (cfg0.win 0).index t = ![t.val, 0] :=
  (by decide +kernel : ∀ t : Fin grid0.N, win0_0.index t = ![t.val, 0])
theorem index_1 : ∀ t : Fin cfg0.N, (cfg0.win 1).index t = ![0, 0] :=
  (by decide +kernel : ∀ t : Fin grid0.N, win0_1.index t = ![0, 0])
theorem index_2 : ∀ t : Fin cfg0.N, (cfg0.win 2).index t = ![t.val, 0] :=
  (by decide +kernel : ∀ t : Fin grid0.N, win0_2.index t = ![t.val, 0])
theorem index_3 : ∀ t : Fin cfg0.N, (cfg0.win 3).index t = ![0, 0] :=
  (by decide +kernel : ∀ t : Fin grid0.N, win0_3.index t = ![0, 0])
theorem index_4 : ∀ t : Fin cfg0.N, (cfg0.win 4).index t = ![0, 0] :=
  (by decide +kernel : ∀ t : Fin grid0.N, win0_4.index t = ![0, 0])
theorem index_5 : ∀ t : Fin cfg0.N, (cfg0.win 5).index t = ![0, 0] :=
  (by decide +kernel : ∀ t : Fin grid0.N, win0_5.index t = ![0, 0])
theorem index_6 : ∀ t : Fin cfg0.N, (cfg0.win 6).index t = ![t.val, 0] :=
  (by decide +kernel : ∀ t : Fin grid0.N, win0_6.index t = ![t.val, 0])
theorem flush_6 : ∀ t : Fin cfg0.N, (cfg0.win 6).flush t = true :=
  (by decide +kernel : ∀ t : Fin grid0.N, win0_6.flush t = true)

variable (m : (ℓ : Loc nD τ sig) → Buf (Elt Ideal) ℓ) (c : Dev nD)

theorem blk_0 (t : Fin cfg0.N) (r : Fin 512) (k : Fin 2048) :
    iblk m c 0 t (ix2 r k) = m ((c : Thread nD τ).loc main_arg0) (ix2 ⟨512 * t.val + r.val, by have : t.val < 16 := t.isLt; omega⟩ k) := by
  unfold iblk
  rw [View.read_apply]
  show V m c main_arg0 _ = _
  rw [V_main_arg0]
  refine congrArg _ ?_
  funext a; apply Fin.ext
  refine (Pipeline.Window.rect_emb_val (cfg0.win 0) t _ a).trans ?_
  rw [index_0 t]
  match a with
  | ⟨0, _⟩ => show t.val * 512 + r.val = 512 * t.val + r.val; omega
  | ⟨1, _⟩ => show 0 * 2048 + k.val = k.val; omega

theorem blk_1 (t : Fin cfg0.N) (r : Fin 1) (k : Fin 2048) :
    iblk m c 1 t (ix2 r k) = m ((c : Thread nD τ).loc main_arg1) (ix2 r k) := by
  unfold iblk
  rw [View.read_apply]
  show V m c main_arg1 _ = _
  rw [V_main_arg1]
  refine congrArg _ ?_
  funext a; apply Fin.ext
  refine (Pipeline.Window.rect_emb_val (cfg0.win 1) t _ a).trans ?_
  rw [index_1 t]
  match a with
  | ⟨0, _⟩ => show 0 * 1 + r.val = r.val; omega
  | ⟨1, _⟩ => show 0 * 2048 + k.val = k.val; omega

theorem blk_2 (t : Fin cfg0.N) (r : Fin 512) (k : Fin 256) :
    iblk m c 2 t (ix2 r k) = m ((c : Thread nD τ).loc main_arg2) (ix2 ⟨512 * t.val + r.val, by have : t.val < 16 := t.isLt; omega⟩ k) := by
  unfold iblk
  rw [View.read_apply]
  show V m c main_arg2 _ = _
  rw [V_main_arg2]
  refine congrArg _ ?_
  funext a; apply Fin.ext
  refine (Pipeline.Window.rect_emb_val (cfg0.win 2) t _ a).trans ?_
  rw [index_2 t]
  match a with
  | ⟨0, _⟩ => show t.val * 512 + r.val = 512 * t.val + r.val; omega
  | ⟨1, _⟩ => show 0 * 256 + k.val = k.val; omega

theorem blk_3 (t : Fin cfg0.N) (r : Fin 2048) (k : Fin 2048) :
    iblk m c 3 t (ix2 r k) = m ((c : Thread nD τ).loc main_arg3) (ix2 r k) := by
  unfold iblk
  rw [View.read_apply]
  show V m c main_arg3 _ = _
  rw [V_main_arg3]
  refine congrArg _ ?_
  funext a; apply Fin.ext
  refine (Pipeline.Window.rect_emb_val (cfg0.win 3) t _ a).trans ?_
  rw [index_3 t]
  match a with
  | ⟨0, _⟩ => show 0 * 2048 + r.val = r.val; omega
  | ⟨1, _⟩ => show 0 * 2048 + k.val = k.val; omega

theorem blk_4 (t : Fin cfg0.N) (r : Fin 256) (k : Fin 2048) :
    iblk m c 4 t (ix2 r k) = m ((c : Thread nD τ).loc main_arg4) (ix2 r k) := by
  unfold iblk
  rw [View.read_apply]
  show V m c main_arg4 _ = _
  rw [V_main_arg4]
  refine congrArg _ ?_
  funext a; apply Fin.ext
  refine (Pipeline.Window.rect_emb_val (cfg0.win 4) t _ a).trans ?_
  rw [index_4 t]
  match a with
  | ⟨0, _⟩ => show 0 * 256 + r.val = r.val; omega
  | ⟨1, _⟩ => show 0 * 2048 + k.val = k.val; omega

theorem blk_5 (t : Fin cfg0.N) (r : Fin 1) (k : Fin 2048) :
    iblk m c 5 t (ix2 r k) = m ((c : Thread nD τ).loc main_arg5) (ix2 r k) := by
  unfold iblk
  rw [View.read_apply]
  show V m c main_arg5 _ = _
  rw [V_main_arg5]
  refine congrArg _ ?_
  funext a; apply Fin.ext
  refine (Pipeline.Window.rect_emb_val (cfg0.win 5) t _ a).trans ?_
  rw [index_5 t]
  match a with
  | ⟨0, _⟩ => show 0 * 1 + r.val = r.val; omega
  | ⟨1, _⟩ => show 0 * 2048 + k.val = k.val; omega

/-- The result's row `r`, from the call's six arguments. -/
def result (x : S8192x2048.Idx → EReal) (g : S1x2048.Idx → EReal) (p : (⟨2, ![8192, 256]⟩ : Shape).Idx → EReal)
    (wg : S2048x2048.Idx → EReal) (wp : S256x2048.Idx → EReal) (gf : S1x2048.Idx → EReal) (r : Fin 8192) : Fin 2048 → EReal :=
  Row.ple (fun k => x (ix2 r k)) (fun k => g (ix2 0 k)) (fun k => p (ix2 r k)) (fun k j => wg (ix2 k j))
    (fun k j => wp (ix2 k j)) (fun k => gf (ix2 0 k))

/-- Row `r` of the result, from the arguments held at entry. -/
def resultAt (r : Fin 8192) : Fin 2048 → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

theorem block_eq (t : Fin cfg0.N) (r : Fin 512) (n : Fin 2048) :
    out0_6 (iblk m c 0 t) (iblk m c 1 t) (iblk m c 2 t) (iblk m c 3 t) (iblk m c 4 t) (iblk m c 5 t) (ix2 r n) =
      resultAt m c ⟨512 * t.val + r.val, by have : t.val < 16 := t.isLt; omega⟩ n := by
  rw [out_apply]
  unfold block resultAt result
  simp only [blk_0, blk_1, blk_2, blk_3, blk_4, blk_5]

/-- The whole result of the kernel. -/
theorem final : (dats m 0 c).arrAt 6 cfg0.N = fun i => resultAt m c (i 0) (i 1) := by
  funext i
  refine (dats m 0 c).arrAt_forall_of_cover 6 (fun i v => v = resultAt m c (i 0) (i 1)) (fun t hf y => ?_) (fun i => ?_) i
  · have hN : t.val < 16 := t.isLt
    rw [Cert.PleIdeal.Value.flushed6]
    obtain ⟨r, n, rfl⟩ : ∃ (r : Fin 512) (n : Fin 2048), y = ix2 r n := ⟨y 0, y 1, by
      funext a; match a with
      | ⟨0, _⟩ => rfl
      | ⟨1, _⟩ => rfl⟩
    have hb := block_eq m c t r n
    revert hb
    generalize out0_6 (iblk m c 0 t) (iblk m c 1 t) (iblk m c 2 t) (iblk m c 3 t) (iblk m c 4 t) (iblk m c 5 t) = w
    intro hb
    show w (ix2 r n) = _
    rw [hb]
    have hi := index_6 t
    have h0 := Pipeline.Window.rect_emb_val (cfg0.win 6) t (ix2 r n) 0
    have h1 := Pipeline.Window.rect_emb_val (cfg0.win 6) t (ix2 r n) 1
    rw [hi] at h0 h1
    congr 1 <;> apply Fin.ext
    · refine Eq.trans ?_ h0.symm
      show 512 * t.val + r.val = t.val * 512 + r.val
      omega
    · refine Eq.trans ?_ h1.symm
      show n.val = 0 * 2048 + n.val
      omega
  · obtain ⟨r, n, rfl⟩ : ∃ (r : Fin 8192) (n : Fin 2048), i = ix2 r n := ⟨i 0, i 1, by
      funext a; match a with
      | ⟨0, _⟩ => rfl
      | ⟨1, _⟩ => rfl⟩
    have hr := r.isLt
    let t : Fin cfg0.N := ⟨r.val / 512, by show _ < 16; omega⟩
    refine ⟨t, flush_6 t, ?_⟩
    have key : ((cfg0.win 6).rect t).emb (ix2 (⟨r.val % 512, by omega⟩ : Fin 512) n : ((cfg0.win 6).xblock (cfg0.grid.coords t)).Idx)
        = (ix2 r n : S8192x2048.Idx) := by
      funext a; apply Fin.ext
      refine (Pipeline.Window.rect_emb_val (cfg0.win 6) t _ a).trans ?_
      rw [index_6 t]
      match a with
      | ⟨0, _⟩ => show r.val / 512 * 512 + r.val % 512 = r.val; omega
      | ⟨1, _⟩ => show 0 * 2048 + n.val = n.val; omega
    rw [← key]
    exact View.emb_mem_set ((cfg0.win 6).blk t).view _

end Cert.PleIdeal.Tile

namespace Cert.PleRefIdeal.Rows

open Idealize.ShloMosaic Idealize.ShloMosaic.TcCoe Idealize.SL.Sem Cert.PleRefIdeal

variable (m : (ℓ : Loc nD τ sig) → Buf (Elt Ideal) ℓ) (c : Dev nD)

/-- The whole result of the reference. -/
theorem result_eq : Cert.PleRefIdeal.Value.res_main_v39 m c = fun i => Cert.PleIdeal.Tile.result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) := by
  funext i
  obtain ⟨r, n, rfl⟩ : ∃ (r : Fin 8192) (n : Fin 2048), i = ix2 r n := ⟨i 0, i 1, by
      funext a; match a with
      | ⟨0, _⟩ => rfl
      | ⟨1, _⟩ => rfl⟩
  unfold Cert.PleRefIdeal.Value.res_main_v39
  simp only [pointwise, zero_add]
  rfl

end Cert.PleRefIdeal.Rows

end
-- ==== Proof.Chunk.lean ====
/- The mLSTM recurrence over the reals, one head of one batch element: the step-by-step recurrence with its running
   stabiliser, and the fact that a chunk of any length computes what the steps compute. -/
module

public import Mathlib.Analysis.SpecialFunctions.Exp
public import Idealize.ShloMosaic.PureOps.Ideal

@[expose] public section

noncomputable section

namespace Cert.Mlstm

open Finset

/-- The running stabiliser: before any step 0, then the larger of the decayed stabiliser and the step's input gate. -/
def stab (lf li : ℕ → ℝ) : ℕ → ℝ
  | 0 => 0
  | t + 1 => max (lf t + stab lf li t) (li t)

/-- The stabilised weighted sum of `g` after `t` steps: each step decays what is held and adds its own term. -/
def accum (lf li g : ℕ → ℝ) : ℕ → ℝ
  | 0 => 0
  | t + 1 => Real.exp (lf t + stab lf li t - stab lf li (t + 1)) * accum lf li g t
      + Real.exp (li t - stab lf li (t + 1)) * g t

/-- The decay gathered by the first `j` steps from step `a` on. -/
def decay (lf : ℕ → ℝ) (a j : ℕ) : ℝ := ∑ r ∈ range j, lf (a + r)

theorem decay_zero (lf : ℕ → ℝ) (a : ℕ) : decay lf a 0 = 0 := by simp [decay]

theorem decay_succ (lf : ℕ → ℝ) (a j : ℕ) : decay lf a (j + 1) = decay lf a j + lf (a + j) := by
  simp [decay, sum_range_succ]

/-- An upper bound of the decayed stabiliser and of the chunk's log weights so far is an upper bound of the stabiliser,
    and conversely. -/
theorem stab_le_iff (lf li : ℕ → ℝ) (a j : ℕ) (x : ℝ) :
    stab lf li (a + j) ≤ x ↔
      decay lf a j + stab lf li a ≤ x ∧ ∀ s < j, decay lf a j - decay lf a (s + 1) + li (a + s) ≤ x := by
  induction j generalizing x with
  | zero => simp [decay_zero]
  | succ j ih =>
    have h : stab lf li (a + (j + 1)) = max (lf (a + j) + stab lf li (a + j)) (li (a + j)) := rfl
    rw [h, max_le_iff, ← le_sub_iff_add_le', ih]
    constructor
    · rintro ⟨⟨h1, h2⟩, h3⟩
      refine ⟨by rw [decay_succ]; linarith, fun s hs => ?_⟩
      rcases Nat.lt_succ_iff_lt_or_eq.mp hs with hs | rfl
      · have := h2 s hs
        rw [decay_succ lf a j]
        linarith
      · linarith
    · rintro ⟨h1, h2⟩
      refine ⟨⟨by rw [decay_succ] at h1; linarith, fun s hs => ?_⟩, ?_⟩
      · have := h2 s (Nat.lt_succ_of_lt hs)
        rw [decay_succ lf a j] at this
        linarith
      · have := h2 j (Nat.lt_succ_self j)
        linarith

/-- What `j` steps from step `a` on leave: the decayed sum held at `a` and the chunk's own terms, all at the
    stabiliser of the last step. -/
theorem accum_chunk (lf li g : ℕ → ℝ) (a j : ℕ) :
    accum lf li g (a + j) =
      Real.exp (decay lf a j + stab lf li a - stab lf li (a + j)) * accum lf li g a
      + ∑ s ∈ range j,
          Real.exp (decay lf a j - decay lf a (s + 1) + li (a + s) - stab lf li (a + j)) * g (a + s) := by
  induction j with
  | zero => simp [decay_zero]
  | succ j ih =>
    have h : accum lf li g (a + (j + 1)) =
        Real.exp (lf (a + j) + stab lf li (a + j) - stab lf li (a + (j + 1))) * accum lf li g (a + j)
          + Real.exp (li (a + j) - stab lf li (a + (j + 1))) * g (a + j) := rfl
    rw [h, ih, mul_add, ← mul_assoc, ← Real.exp_add, mul_sum, sum_range_succ, add_assoc]
    refine congrArg₂ (· + ·) ?_ (congrArg₂ (· + ·) (sum_congr rfl fun s _ => ?_) ?_)
    · rw [decay_succ]
      congr 2
      ring
    · rw [← mul_assoc, ← Real.exp_add, decay_succ lf a j]
      congr 2
      ring
    · congr 2
      ring

/-- A sum weighted by `w` of accumulations is the accumulation of the weighted sum. -/
theorem accum_sum {ι : Type} (s : Finset ι) (lf li : ℕ → ℝ) (w : ι → ℝ) (g : ι → ℕ → ℝ) (t : ℕ) :
    ∑ d ∈ s, w d * accum lf li (g d) t = accum lf li (fun r => ∑ d ∈ s, w d * g d r) t := by
  induction t with
  | zero => simp [accum]
  | succ t ih =>
    simp only [accum, ← ih, mul_sum, ← sum_add_distrib]
    exact sum_congr rfl fun d _ => by ring

/-! ## One chunk over the extended reals, as both programs compute it -/

section Chunk

open Idealize.ShloMosaic

variable {L : ℕ}

/-- A sum over a chunk's rows that keeps the rows up to one of them is the sum over the steps up to it. -/
theorem sum_upto (f : ℕ → ℝ) (t : Fin L) :
    (∑ s : Fin L, if s ≤ t then f s else 0) = ∑ s ∈ range (t.val + 1), f s := by
  have h := Fin.sum_univ_eq_sum_range (fun i => if i ≤ t.val then f i else 0) L
  refine Eq.trans (by rfl) (h.trans ?_)
  rw [← sum_filter]
  refine sum_congr (Finset.ext fun i => ?_) fun _ _ => rfl
  have := t.isLt
  simp only [mem_filter, mem_range]
  omega

/-- The log weight of row `s` at row `t` of a chunk: `⊥` for a later row. -/
def dlogE (b li : Fin L → EReal) (t s : Fin L) : EReal := if s ≤ t then b t - b s + li s else ⊥

/-- The stabiliser at row `t`: the larger of the carried state's log weight and the rows' greatest one. -/
def mtE (b li : Fin L → EReal) (m : EReal) (t : Fin L) : EReal :=
  max (b t + m) (univ.fold max ⊥ (dlogE b li t))

/-- A row's attention weight: the product of query and key, times the row's exponential weight. -/
def swE {K : ℕ} (b li : Fin L → EReal) (m : EReal) (q k : Fin L → Fin K → EReal) (t s : Fin L) : EReal :=
  (∑ d, q t d * k s d) * Ideal.exp (dlogE b li t s - mtE b li m t)

/-- The carried state's weight at row `t`. -/
def aE (b li : Fin L → EReal) (m : EReal) (t : Fin L) : EReal := Ideal.exp (b t + m - mtE b li m t)

/-- One entry of the chunk's output: numerator over the floored denominator. -/
def hE {K N : ℕ} (b li : Fin L → EReal) (m : EReal) (q k : Fin L → Fin K → EReal) (v : Fin L → Fin N → EReal)
    (C : Fin K → Fin N → EReal) (n : Fin K → EReal) (t : Fin L) (e : Fin N) : EReal :=
  Ideal.div (aE b li m t * (∑ d, q t d * C d e) + ∑ s, swE b li m q k t s * v s e)
    (max (max (aE b li m t * (∑ d, q t d * n d) + ∑ s, swE b li m q k t s)
        (-(aE b li m t * (∑ d, q t d * n d) + ∑ s, swE b li m q k t s)))
      (Ideal.exp (0 - mtE b li m t)))

/-- One head's output at a step, over the reals: the query against the accumulated products of key and value, over the
    floored query against the accumulated keys. -/
def headOut {K N : ℕ} (lf li : ℕ → ℝ) (q k : ℕ → Fin K → ℝ) (v : ℕ → Fin N → ℝ) (t : ℕ) (e : Fin N) : ℝ :=
  (∑ d, q t d * accum lf li (fun r => k r d * v r e) (t + 1))
    * (1 / max |∑ d, q t d * accum lf li (fun r => k r d) (t + 1)| (Real.exp (-stab lf li (t + 1))))

variable (lf li : ℕ → ℝ) (a : ℕ)

/-- The decay sums of a chunk starting at step `a`, as extended reals. -/
def decE (t : Fin L) : EReal := (decay lf a (t.val + 1) : ℝ)

/-- A chunk's rows of a sequence, as extended reals. -/
def rowE (f : ℕ → ℝ) (t : Fin L) : EReal := (f (a + t.val) : ℝ)

/-- An extended real bounds the stabiliser as soon as it bounds the carried state's log weight and every row's. -/
theorem stab_le_iff_ereal (j : ℕ) (z : EReal) :
    ((stab lf li (a + j) : ℝ) : EReal) ≤ z ↔ ((decay lf a j + stab lf li a : ℝ) : EReal) ≤ z
      ∧ ∀ s < j, ((decay lf a j - decay lf a (s + 1) + li (a + s) : ℝ) : EReal) ≤ z := by
  induction z with
  | bot => simp only [le_bot_iff, EReal.coe_ne_bot, false_and]
  | top => simp only [le_top, implies_true, and_self]
  | coe x => simp only [EReal.coe_le_coe_iff]; exact stab_le_iff lf li a j x

/-- The chunk's stabiliser is the recurrence's. -/
theorem mtE_eq (t : Fin L) :
    mtE (decE lf a) (rowE a li) (stab lf li a : ℝ) t = ((stab lf li (a + (t.val + 1)) : ℝ) : EReal) := by
  refine eq_of_forall_ge_iff fun z => ?_
  rw [stab_le_iff_ereal, mtE, max_le_iff, Finset.fold_max_le]
  refine and_congr (by rw [decE, EReal.coe_add]) ?_
  simp only [bot_le, true_and, mem_univ, forall_true_left, dlogE, decE, rowE]
  constructor
  · intro h s hs
    have hsL : s < L := by have := t.isLt; omega
    have := h ⟨s, hsL⟩
    rw [if_pos (show (⟨s, hsL⟩ : Fin L) ≤ t from by show s ≤ t.val; omega)] at this
    rw [EReal.coe_add, EReal.coe_sub]
    exact this
  · intro h s
    by_cases hs : s ≤ t
    · rw [if_pos hs, ← EReal.coe_sub, ← EReal.coe_add]
      exact h s.val (by have : s.val ≤ t.val := hs; omega)
    · rw [if_neg hs]; exact bot_le

/-- A row's exponential weight, over the reals: zero for a later row. -/
theorem exp_dlogE (t s : Fin L) :
    Ideal.exp (dlogE (decE lf a) (rowE a li) t s - ((stab lf li (a + (t.val + 1)) : ℝ) : EReal))
      = ((if s ≤ t then Real.exp (decay lf a (t.val + 1) - decay lf a (s.val + 1) + li (a + s.val)
          - stab lf li (a + (t.val + 1))) else 0 : ℝ) : EReal) := by
  rw [dlogE]
  by_cases hs : s ≤ t
  · rw [if_pos hs, if_pos hs, decE, decE, rowE, ← EReal.coe_sub, ← EReal.coe_add, ← EReal.coe_sub, Ideal.exp_coe]
  · rw [if_neg hs, if_neg hs, EReal.bot_sub, Ideal.exp_bot, EReal.coe_zero]

/-- The carried state's weight, over the reals. -/
theorem aE_eq (t : Fin L) :
    aE (decE lf a) (rowE a li) (stab lf li a : ℝ) t
      = ((Real.exp (decay lf a (t.val + 1) + stab lf li a - stab lf li (a + (t.val + 1))) : ℝ) : EReal) := by
  rw [aE, mtE_eq, decE, ← EReal.coe_add, ← EReal.coe_sub, Ideal.exp_coe]

/-- The larger of two reals is the same over the extended reals. -/
theorem coe_max (x y : ℝ) : ((max x y : ℝ) : EReal) = max (x : EReal) y := EReal.coe_strictMono.monotone.map_max

/-- Finite sums of reals are the same over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- The decayed state plus the chunk's rows up to `t` is the state after step `t`, seen through one query. -/
theorem carry_add_rows {K : ℕ} (w : Fin K → ℝ) (k : ℕ → Fin K → ℝ) (y : ℕ → ℝ) (t : Fin L) :
    Real.exp (decay lf a (t.val + 1) + stab lf li a - stab lf li (a + (t.val + 1)))
        * (∑ d, w d * accum lf li (fun r => k r d * y r) a)
      + ∑ s : Fin L, (∑ d, w d * k (a + s.val) d)
          * (if s ≤ t then Real.exp (decay lf a (t.val + 1) - decay lf a (s.val + 1) + li (a + s.val)
              - stab lf li (a + (t.val + 1))) else 0) * y (a + s.val)
      = ∑ d, w d * accum lf li (fun r => k r d * y r) (a + (t.val + 1)) := by
  rw [accum_sum, accum_sum, accum_chunk]
  congr 1
  rw [← sum_upto]
  refine sum_congr rfl fun s _ => ?_
  by_cases hs : s ≤ t
  · rw [if_pos hs, if_pos hs, mul_comm (∑ d, _) (Real.exp _), mul_assoc, sum_mul]
    simp only [mul_assoc]
  · rw [if_neg hs, if_neg hs, mul_zero, zero_mul]

/-- One entry of a chunk's output, its inputs real and its carried state the recurrence's, is the recurrence's output. -/
theorem hE_eq {K N : ℕ} (q k : ℕ → Fin K → ℝ) (v : ℕ → Fin N → ℝ) (t : Fin L) (e : Fin N) :
    hE (decE lf a) (rowE a li) (stab lf li a : ℝ) (fun t d => (q (a + t.val) d : ℝ)) (fun t d => (k (a + t.val) d : ℝ))
        (fun t e => (v (a + t.val) e : ℝ)) (fun d e => (accum lf li (fun r => k r d * v r e) a : ℝ))
        (fun d => (accum lf li (fun r => k r d) a : ℝ)) t e
      = ((headOut lf li q k v (a + t.val) e : ℝ) : EReal) := by
  have hnum := carry_add_rows lf li a (q (a + t.val)) k (fun r => v r e) t
  have hden := carry_add_rows lf li a (q (a + t.val)) k (fun _ => 1) t
  simp only [mul_one] at hden
  have hpos : max |∑ d, q (a + t.val) d * accum lf li (fun r => k r d) (a + (t.val + 1))|
      (Real.exp (-stab lf li (a + (t.val + 1)))) ≠ 0 := (lt_max_of_lt_right (Real.exp_pos _)).ne'
  simp only [hE, swE, aE_eq, mtE_eq, exp_dlogE]
  simp only [← EReal.coe_mul, ← coe_sum, ← EReal.coe_add, ← EReal.coe_neg, ← EReal.coe_zero, ← EReal.coe_sub,
    Ideal.exp_coe, zero_sub]
  rw [hnum, hden, ← coe_max, ← coe_max, ← abs_eq_max_neg, Ideal.div_coe hpos, ← EReal.coe_mul, headOut,
    add_assoc]

/-- The state after the whole chunk: the decayed state plus the rows' weighted products. -/
theorem state_eq (x : ℕ → ℝ) (t : Fin L) (hL : t.val + 1 = L) :
    ((Real.exp (decay lf a (t.val + 1) + stab lf li a - stab lf li (a + (t.val + 1))) : ℝ) : EReal)
        * ((accum lf li x a : ℝ) : EReal)
      + ∑ s : Fin L, ((Real.exp (decay lf a (t.val + 1) - decay lf a (s.val + 1) + li (a + s.val)
          - stab lf li (a + (t.val + 1))) * x (a + s.val) : ℝ) : EReal)
      = ((accum lf li x (a + (t.val + 1)) : ℝ) : EReal) := by
  rw [← EReal.coe_mul, ← coe_sum, ← EReal.coe_add, accum_chunk lf li x a (t.val + 1)]
  congr 2
  rw [← sum_upto]
  refine sum_congr rfl fun s _ => ?_
  rw [if_pos (show s ≤ t from by show s.val ≤ t.val; have := s.isLt; omega)]

/-- The logarithm of the logistic function, in the form that does not overflow. -/
def logSig (x : ℝ) : ℝ := min x 0 - Real.log (1 + Real.exp (-|x|))

/-- `log (1 + exp y)` of a real. -/
theorem log1p_exp (y : ℝ) : Ideal.log1p ((Real.exp y : ℝ) : EReal) = ((Real.log (1 + Real.exp y) : ℝ) : EReal) := by
  rw [Ideal.log1p, ← EReal.coe_one, ← EReal.coe_add, Ideal.log_coe, if_neg (not_le.mpr (by have := Real.exp_pos y; linarith))]

/-- The kernel's log of the logistic function, at a real. -/
theorem logSig_kernel (x : ℝ) :
    min (x : EReal) 0 - Ideal.log1p (Ideal.exp (0 - max (x : EReal) (-x))) = ((logSig x : ℝ) : EReal) := by
  have hmin : min (x : EReal) 0 = ((min x 0 : ℝ) : EReal) := (EReal.coe_strictMono.monotone.map_min (a := x) (b := 0)).symm
  rw [hmin, ← EReal.coe_neg, ← coe_max, ← abs_eq_max_neg, ← EReal.coe_zero, ← EReal.coe_sub, zero_sub, Ideal.exp_coe,
    log1p_exp, ← EReal.coe_sub, logSig]

/-- One entry of a head's output, normalised over the head's 256 entries, scaled and gated. -/
def gatedE (H : Fin 256 → EReal) (gn o : EReal) (e : Fin 256) : EReal :=
  Ideal.logistic o * (H e * Ideal.rsqrt (Ideal.div (∑ x, H x * H x) (Ideal.ofBits .f32 1132462080#32)
    + Ideal.ofBits .f32 897988541#32) * gn)

end Chunk

end Cert.Mlstm

end

end
-- ==== Proof.Chain.lean ====
/- One head of one batch element in one chunk, as the kernel's body computes it: the output rows before and after the
   normalisation, and the three pieces of state it leaves, as functions of the values the body loads. -/
module

public import proofs.«01_k».proof.Proof.Gen.KernelIdeal.Skeleton
public import proofs.«01_k».proof.Proof.Chunk
public import Idealize.ShloMosaic.Lib.Pointwise
public import Idealize.ShloMosaic.Lib.WordCmp

@[expose] public section

set_option maxRecDepth 16384

noncomputable section

namespace Cert.KernelIdeal.Chain

open Idealize.ShloMosaic Idealize.SL.Sem
open Cert.KernelIdeal.Gen

variable {F : FTy → Type} [FloatOps F]

theorem slices_col (k : Fin 128) : S256x128.Slices ![0, k.val] S256x1 :=
  ⟨rfl, fun a => by fin_cases a <;> [exact (by decide : 0 + 256 ≤ 256); exact k.isLt]⟩

theorem slices_row (k : Fin 128) : S128x256.Slices ![k.val, 0] S1x256 :=
  ⟨rfl, fun a => by fin_cases a <;> [exact k.isLt; exact (by decide : 0 + 256 ≤ 256)]⟩

/-- The column of the input gate of head `h`. -/
abbrev ci (h : Fin 4) : Fin 128 := ⟨h.val, by have := h.isLt; omega⟩

/-- The column of the forget gate of head `h`. -/
abbrev cf (h : Fin 4) : Fin 128 := ⟨4 + h.val, by have := h.isLt; omega⟩

/-- The biased gates of one batch element's chunk. -/
def gateV (g : Vec F S1x256x128 .f32) (bias : Vec F S1x128 .f32) : FVec F S256x128 .f32 := k0_pay3 g bias

/-- The running sums of the log forget gates down the chunk's rows. -/
def cumV (g : Vec F S1x256x128 .f32) (bias : Vec F S1x128 .f32) : FVec F S256x128 .f32 := k0_pay4 g bias

/-- Head `h`'s running sum, as a column. -/
def bcol (h : Fin 4) (B : FVec F S256x128 .f32) : FVec F S256x1 .f32 :=
  extractStridedSlice S256x1 ![0, (cf h).val] B (slices_col (cf h))

/-- The log weights of the chunk's rows at its rows, a later row's at minus infinity. -/
def dlogV (h : Fin 4) (G B : FVec F S256x128 .f32) : FVec F S256x256 .f32 :=
  select k0_pay1
    (addf (subf (broadcastTo S256x256 (bcol h B) broadcasts_S256x1_S256x256)
        (broadcastTo S256x256 (extractStridedSlice S1x256 ![(cf h).val, 0]
          (transpose S128x256 [1, 0] B transposes_S256x128_p1_0_S128x256) (slices_row (cf h))) broadcasts_S1x256_S256x256))
      (broadcastTo S256x256 (extractStridedSlice S1x256 ![(ci h).val, 0]
          (transpose S128x256 [1, 0] G transposes_S256x128_p1_0_S128x256) (slices_row (ci h))) broadcasts_S1x256_S256x256))
    (broadcast S256x256 (Scalar.ofBits .f32 0xFF800000#32))

/-- The carried state's log weight at the chunk's rows. -/
def interV (h : Fin 4) (B : FVec F S256x128 .f32) (m0 : Vec F S1x1 .f32) : FVec F S256x1 .f32 :=
  addf (bcol h B) (broadcastTo S256x1 m0 broadcasts_S1x1_S256x1)

/-- The stabiliser at the chunk's rows. -/
def mtV (h : Fin 4) (G B : FVec F S256x128 .f32) (m0 : Vec F S1x1 .f32) : FVec F S256x1 .f32 :=
  maximumf (interV h B m0) (shapeCast S256x1
    (multiReduction .maximumf [1] S256 (dlogV h G B) 0xFF800000#32 reduces_S256x256_S256 (.inl rfl) rfl) shapeCasts_S256_S256x1)

/-- The carried state's weight at the chunk's rows. -/
def aV (h : Fin 4) (G B : FVec F S256x128 .f32) (m0 : Vec F S1x1 .f32) : FVec F S256x1 .f32 :=
  exp (subf (interV h B m0) (mtV h G B m0))

/-- The chunk's output rows before the normalisation. -/
def hV (h : Fin 4) (G B : FVec F S256x128 .f32) (m0 : Vec F S1x1 .f32) (q k : Vec F S1x256x128 .bf16)
    (v : Vec F S1x256x256 .bf16) (C : Vec F S1x128x256 .f32) (n : Vec F S1x128 .f32) : FVec F S256x256 .f32 :=
  k0_pay79 (k0_pay17 q n)
    (exp (subf (dlogV h G B) (broadcastTo S256x256 (mtV h G B m0) broadcasts_S256x1_S256x256))) (aV h G B m0)
    (exp (subf (broadcast S256x1 (Scalar.ofBits .f32 0x00000000#32)) (mtV h G B m0))) q k v C

/-- The keys, each row by its exponential weight at the chunk's end. -/
def kwV (h : Fin 4) (G B : FVec F S256x128 .f32) (m0 : Vec F S1x1 .f32) (k : Vec F S1x256x128 .bf16) : FVec F S256x128 .f32 :=
  mulf (extf .f32 (shapeCast S256x128 k shapeCasts_S1x256x128_S256x128 : FVec F S256x128 .bf16) bitsLt_bf16_f32)
    (broadcastTo S256x128
      (exp (subf
        (addf (subf (broadcastTo S256x1 (extractStridedSlice S1x1 ![255, 0] (bcol h B) slices_S256x1_o255_0_S1x1)
            broadcasts_S1x1_S256x1) (bcol h B))
          (extractStridedSlice S256x1 ![0, (ci h).val] G (slices_col (ci h))))
        (broadcastTo S256x1 (extractStridedSlice S1x1 ![255, 0] (mtV h G B m0) slices_S256x1_o255_0_S1x1)
          broadcasts_S1x1_S256x1)))
      broadcasts_S256x1_S256x128)

/-- The accumulated products of key and value after the chunk. -/
def cV (h : Fin 4) (G B : FVec F S256x128 .f32) (m0 : Vec F S1x1 .f32) (k : Vec F S1x256x128 .bf16)
    (v : Vec F S1x256x256 .bf16) (C : Vec F S1x128x256 .f32) : FVec F S1x128x256 .f32 :=
  shapeCast S1x128x256
    (addf
      (mulf (broadcastTo S128x256 (extractStridedSlice S1x1 ![255, 0] (aV h G B m0) slices_S256x1_o255_0_S1x1)
          broadcasts_S1x1_S128x256)
        (shapeCast S128x256 C shapeCasts_S1x128x256_S128x256 : FVec F S128x256 .f32))
      (matmul dot_S128x256_S256x256_S128x256_1_0_0_1_n_n none
        (truncf .bf16 (transpose S128x256 [1, 0] (kwV h G B m0 k) transposes_S256x128_p1_0_S128x256) bitsLt_bf16_f32)
        (shapeCast S256x256 v shapeCasts_S1x256x256_S256x256 : FVec F S256x256 .bf16)
        (constant S128x256 .f32 0x00000000#32)) : FVec F S128x256 .f32)
    shapeCasts_S128x256_S1x128x256

/-- The accumulated keys after the chunk. -/
def nV (h : Fin 4) (G B : FVec F S256x128 .f32) (m0 : Vec F S1x1 .f32) (k : Vec F S1x256x128 .bf16)
    (n : Vec F S1x128 .f32) : FVec F S1x128 .f32 :=
  shapeCast S1x128
    (addf
      (mulf (broadcastTo S1x128 (extractStridedSlice S1x1 ![255, 0] (aV h G B m0) slices_S256x1_o255_0_S1x1)
          broadcasts_S1x1_S1x128) n)
      (shapeCast S1x128
        (multiReduction .add [0] S128 (kwV h G B m0 k) 0x00000000#32 reduces_S256x128_S128 (.inl rfl) rfl : FVec F S128 .f32)
        shapeCasts_S128_S1x128) : FVec F S1x128 .f32)
    shapeCasts_S1x128_S1x128

/-- The stabiliser after the chunk, on every lane. -/
def mV (h : Fin 4) (G B : FVec F S256x128 .f32) (m0 : Vec F S1x1 .f32) : FVec F S1x128 .f32 :=
  k0_pay119 (extractStridedSlice S1x1 ![255, 0] (mtV h G B m0) slices_S256x1_o255_0_S1x1)

/-- The chunk's gated, normalised output rows. -/
def yV (H : FVec F S256x256 .f32) (gn : Vec F S1x256 .f32) (o : Vec F S1x256x256 .bf16) : FVec F S1x256x256 .bf16 :=
  k0_pay103 H gn o

/-- The mask at a place: the column is no later than the row. -/
theorem mask_apply (t s : Fin 256) : k0_pay1 (ix2 t s) = BitVec.ofBool (decide (s.val ≤ t.val)) := by
  unfold k0_pay1
  pointwise
  exact WordCmp.cmpi_sle_ofNat (by have := s.isLt; omega) (by have := t.isLt; omega)

section Value

open Cert.Mlstm

/-- The bits of minus infinity read as minus infinity. -/
theorem negInf : Ideal.ofBits .f32 4286578688#32 = ⊥ := by simp [Ideal.ofBits, Ideal.ieee]

/-- The mask as a number: one up to the row, zero after it. -/
theorem mask_num (t s : Fin 256) :
    (FloatOps.sitofp .f32 (BitVec.setWidth 32 (k0_pay1 (ix2 t s))) : Ideal .f32) = if s ≤ t then 1 else 0 := by
  rw [mask_apply]
  by_cases hs : s ≤ t
  · rw [if_pos hs, decide_eq_true (show s.val ≤ t.val from hs)]
    simp [FloatOps.sitofp]
  · rw [if_neg hs, decide_eq_false (show ¬ s.val ≤ t.val from hs)]
    simp [FloatOps.sitofp]

variable (h : Fin 4) (G B : FVec Ideal S256x128 .f32) (m0 : Vec Ideal S1x1 .f32)

theorem bcol_apply (t : Fin 256) (z : Fin 1) : bcol (F := Ideal) h B (ix2 t z) = B (ix2 t (cf h)) := by
  unfold bcol
  pointwise

theorem dlogV_apply (t s : Fin 256) :
    dlogV (F := Ideal) h G B (ix2 t s) = dlogE (fun t => B (ix2 t (cf h))) (fun t => G (ix2 t (ci h))) t s := by
  unfold dlogV dlogE
  pointwise
  rw [mask_apply, negInf, bcol_apply]
  by_cases hs : s ≤ t
  · rw [if_pos hs, decide_eq_true (show s.val ≤ t.val from hs)]
    rfl
  · rw [if_neg hs, decide_eq_false (show ¬ s.val ≤ t.val from hs)]
    rfl

theorem mtV_apply (t : Fin 256) (z : Fin 1) :
    mtV (F := Ideal) h G B m0 (ix2 t z)
      = mtE (fun t => B (ix2 t (cf h))) (fun t => G (ix2 t (ci h))) (m0 (ix2 0 0)) t := by
  unfold mtV interV mtE
  pointwise
  rw [negInf, bcol_apply]
  simp only [dlogV_apply]

theorem aV_apply (t : Fin 256) (z : Fin 1) :
    aV (F := Ideal) h G B m0 (ix2 t z)
      = aE (fun t => B (ix2 t (cf h))) (fun t => G (ix2 t (ci h))) (m0 (ix2 0 0)) t := by
  unfold aV interV aE
  pointwise
  rw [mtV_apply, bcol_apply]

/-- One head's chunk over the reals: what the body is given of it. -/
structure Given (lf li : ℕ → ℝ) (a : ℕ) : Prop where
  hB : ∀ t, B (ix2 t (cf h)) = decE lf a t
  hG : ∀ t, G (ix2 t (ci h)) = rowE a li t
  hm : m0 (ix2 0 0) = ((stab lf li a : ℝ) : EReal)

variable {h G B m0} {lf li : ℕ → ℝ} {a : ℕ} (g : Given h G B m0 lf li a)
  {q k : Vec Ideal S1x256x128 .bf16} {v : Vec Ideal S1x256x256 .bf16} {C : Vec Ideal S1x128x256 .f32} {n : Vec Ideal S1x128 .f32}
  {qr kr : ℕ → Fin 128 → ℝ} {vr : ℕ → Fin 256 → ℝ}
  (hq : ∀ t d, q (ix3 0 t d) = ((qr (a + t.val) d : ℝ) : EReal)) (hk : ∀ t d, k (ix3 0 t d) = ((kr (a + t.val) d : ℝ) : EReal))
  (hv : ∀ t e, v (ix3 0 t e) = ((vr (a + t.val) e : ℝ) : EReal))
  (hC : ∀ d e, C (ix3 0 d e) = ((accum lf li (fun r => kr r d * vr r e) a : ℝ) : EReal))
  (hn : ∀ d, n (ix2 0 d) = ((accum lf li (fun r => kr r d) a : ℝ) : EReal))

include g

theorem Given.mt (t : Fin 256) (z : Fin 1) : mtV (F := Ideal) h G B m0 (ix2 t z) = ((stab lf li (a + (t.val + 1)) : ℝ) : EReal) := by
  rw [mtV_apply, g.hm, ← mtE_eq lf li a t]
  simp only [g.hB, g.hG]

theorem Given.carry (t : Fin 256) (z : Fin 1) : aV (F := Ideal) h G B m0 (ix2 t z)
    = ((Real.exp (decay lf a (t.val + 1) + stab lf li a - stab lf li (a + (t.val + 1))) : ℝ) : EReal) := by
  rw [aV_apply, g.hm, ← aE_eq lf li a t]
  simp only [g.hB, g.hG]

include hq hk hv hC hn in
/-- The chunk's output rows are the recurrence's. -/
theorem Given.out (t e : Fin 256) :
    hV (F := Ideal) h G B m0 q k v C n (ix2 t e) = ((headOut lf li qr kr vr (a + t.val) e : ℝ) : EReal) := by
  rw [← hE_eq]
  unfold hV k0_pay79 k0_pay17
  pointwise
  simp only [hE, swE, aV_apply, mtV_apply, dlogV_apply, hq, hk, hv, hC, hn, g.hm, g.hB, g.hG, Ideal.absf_def]

include hk in
theorem Given.keys (t : Fin 256) (d : Fin 128) : kwV (F := Ideal) h G B m0 k (ix2 t d)
    = ((Real.exp (decay lf a (255 + 1) - decay lf a (t.val + 1) + li (a + t.val) - stab lf li (a + (255 + 1))) * kr (a + t.val) d
        : ℝ) : EReal) := by
  unfold kwV
  pointwise
  rw [hk, g.mt, bcol_apply, bcol_apply, g.hB, g.hB, decE, decE, mul_comm, EReal.coe_mul, ← Ideal.exp_coe, EReal.coe_sub,
    EReal.coe_add, EReal.coe_sub]
  have := g.hG t
  rw [rowE] at this
  rw [← this]
  rfl

include hk hv hC in
/-- The accumulated products after the chunk are the recurrence's. -/
theorem Given.prods (z : Fin 1) (d : Fin 128) (e : Fin 256) : cV (F := Ideal) h G B m0 k v C (ix3 z d e)
    = ((accum lf li (fun r => kr r d * vr r e) (a + 256) : ℝ) : EReal) := by
  refine Eq.trans ?_ (state_eq lf li a (fun r => kr r d * vr r e) (255 : Fin 256) rfl)
  unfold cV
  pointwise
  rw [g.carry, hC]
  refine congrArg₂ _ rfl (Finset.sum_congr rfl fun s _ => ?_)
  rw [g.keys hk, hv, ← EReal.coe_mul, mul_assoc]

include hk hn in
/-- The accumulated keys after the chunk are the recurrence's. -/
theorem Given.sums (z : Fin 1) (d : Fin 128) : nV (F := Ideal) h G B m0 k n (ix2 z d)
    = ((accum lf li (fun r => kr r d) (a + 256) : ℝ) : EReal) := by
  refine Eq.trans ?_ (state_eq lf li a (fun r => kr r d) (255 : Fin 256) rfl)
  obtain rfl : z = 0 := Subsingleton.elim _ _
  unfold nV
  pointwise
  rw [g.carry, hn]
  refine congrArg₂ _ rfl (Finset.sum_congr rfl fun s _ => ?_)
  rw [g.keys hk]

/-- The stabiliser after the chunk is the recurrence's. -/
theorem Given.stabiliser (z : Fin 1) (d : Fin 128) : mV (F := Ideal) h G B m0 (ix2 z d)
    = ((stab lf li (a + 256) : ℝ) : EReal) := by
  unfold mV k0_pay119
  pointwise
  rw [g.mt]
  rfl

omit g

/-- A row of the gated, normalised output. -/
theorem yV_apply (H : FVec Ideal S256x256 .f32) (gn : Vec Ideal S1x256 .f32) (o : Vec Ideal S1x256x256 .bf16)
    (z : Fin 1) (t e : Fin 256) : yV (F := Ideal) H gn o (ix3 z t e)
      = gatedE (fun e => H (ix2 t e)) (gn (ix2 0 e)) (o (ix3 0 t e)) e := by
  obtain rfl : z = 0 := Subsingleton.elim _ _
  unfold yV k0_pay103 gatedE
  pointwise

/-- The biased gates at a place. -/
theorem gateV_apply (x : Vec Ideal S1x256x128 .f32) (bias : Vec Ideal S1x128 .f32) (t : Fin 256) (c : Fin 128) :
    gateV (F := Ideal) x bias (ix2 t c) = x (ix3 0 t c) + bias (ix2 0 c) := by
  unfold gateV k0_pay3
  pointwise

/-- The running sums of the log forget gates, where the gates are real. -/
theorem cumV_apply (x : Vec Ideal S1x256x128 .f32) (bias : Vec Ideal S1x128 .f32) (c : Fin 128) (f : ℕ → ℝ)
    (hf : ∀ t : Fin 256, x (ix3 0 t c) + bias (ix2 0 c) = ((f (a + t.val) : ℝ) : EReal)) (t : Fin 256) :
    cumV (F := Ideal) x bias (ix2 t c) = decE (fun r => logSig (f r)) a t := by
  unfold cumV k0_pay4 k0_pay2 k0_pay3
  pointwise
  simp only [hf, Ideal.absf_def, logSig_kernel, mask_num]
  simp only [← EReal.coe_sub, sub_self, sub_zero, EReal.coe_zero, mul_zero, Finset.sum_const_zero, add_zero]
  rw [decE, decay, ← sum_upto (fun r => logSig (f (a + r))) t, Cert.Mlstm.coe_sum]
  refine Finset.sum_congr rfl fun s _ => ?_
  by_cases hs : s ≤ t
  · rw [if_pos hs, if_pos hs, one_mul]
  · rw [if_neg hs, if_neg hs, zero_mul, EReal.coe_zero]

end Value

end Cert.KernelIdeal.Chain

end
-- ==== Proof.Pieces.lean ====
/- What the body's stores leave, case by case: each list of stored pieces, written with the functions of one head's
   chunk (Chain.lean) of the values the body loads. -/
module

public import proofs.«01_k».proof.Proof.Gen.KernelIdeal.Frame
public import proofs.«01_k».proof.Proof.Chain

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen

variable {F : FTy → Type} [FloatOps F]

/-- The batch row of a state row. -/
abbrev bt (r : Fin 8) : Fin 2 := ⟨r.val / 4, by have := r.isLt; omega⟩

/-- The head of a state row. -/
abbrev hd (r : Fin 8) : Fin 4 := ⟨r.val % 4, by omega⟩

/-- A box of one row lies in its array. -/
theorem fits2 {A B b : ℕ} (i : Fin A) (j : ℕ) (h : j + b ≤ B) :
    ∀ x, (![i.val, j] : Fin 2 → ℕ) x + (⟨2, ![1, b]⟩ : Shape).size x ≤ (⟨2, ![A, B]⟩ : Shape).size x := by
  intro x
  fin_cases x
  · exact i.isLt
  · exact h

/-- A box of one slab lies in its array. -/
theorem fits3 {A B C b c : ℕ} (i : Fin A) (j k : ℕ) (h : j + b ≤ B) (h' : k + c ≤ C) :
    ∀ x, (![i.val, j, k] : Fin 3 → ℕ) x + (⟨3, ![1, b, c]⟩ : Shape).size x ≤ (⟨3, ![A, B, C]⟩ : Shape).size x := by
  intro x
  fin_cases x
  · exact i.isLt
  · exact h
  · exact h'

/-- A batch row's head columns of the queries or keys. -/
abbrev headR (b : Fin 2) (h : Fin 4) : Rect S2x256x512 :=
  Rect.unit ![b.val, 0, 128 * h.val] S1x256x128.size (fits3 b 0 (128 * h.val) (by omega) (by have := h.isLt; omega))

/-- A batch row's head columns of the values, the output gates or the outputs. -/
abbrev wideR (b : Fin 2) (h : Fin 4) : Rect S2x256x1024 :=
  Rect.unit ![b.val, 0, 256 * h.val] S1x256x256.size (fits3 b 0 (256 * h.val) (by omega) (by have := h.isLt; omega))

/-- A batch row of the gates. -/
abbrev gateR (b : Fin 2) : Rect S2x256x128 :=
  Rect.unit ![b.val, 0, 0] S1x256x128.size (fits3 b 0 0 (by omega) (by omega))

/-- A head's columns of the normalisation's scale. -/
abbrev scaleR (h : Fin 4) : Rect S1x1024 :=
  Rect.unit ![0, 256 * h.val] S1x256.size (fits2 (A := 1) 0 (256 * h.val) (by have := h.isLt; omega))

/-- A state row of the matrix memories. -/
abbrev memR (r : Fin 8) : Rect S8x128x256 :=
  Rect.unit ![r.val, 0, 0] S1x128x256.size (fits3 r 0 0 (by omega) (by omega))

/-- A state row of the normalisers or of the stabilisers. -/
abbrev vecR (r : Fin 8) : Rect S8x128 :=
  Rect.unit ![r.val, 0] S1x128.size (fits2 r 0 (by omega))

/-- A state row's stabiliser. -/
abbrev oneR (r : Fin 8) : Rect S8x128 :=
  Rect.unit ![r.val, 0] S1x1.size (fits2 r 0 (by omega))

/-- What the recurrence loads of a chunk: by batch row and head the queries, keys, values and output gates, by batch
    row the gates, by head the normalisation's scale, and the gates' bias. -/
structure Loads (F : FTy → Type) where
  q : Fin 2 → Fin 4 → Vec F S1x256x128 .bf16
  k : Fin 2 → Fin 4 → Vec F S1x256x128 .bf16
  v : Fin 2 → Fin 4 → Vec F S1x256x256 .bf16
  o : Fin 2 → Fin 4 → Vec F S1x256x256 .bf16
  g : Fin 2 → Vec F S1x256x128 .f32
  bias : Vec F S1x128 .f32
  gn : Fin 4 → Vec F S1x256 .f32

variable (W : Loads F)

/-- A state row's biased gates. -/
abbrev rowG (r : Fin 8) : FVec F S256x128 .f32 := gateV (W.g (bt r)) W.bias

/-- A state row's running sums. -/
abbrev rowB (r : Fin 8) : FVec F S256x128 .f32 := cumV (W.g (bt r)) W.bias

/-- The matrix memory a chunk leaves in a state row. -/
def rowC (m0 : Fin 8 → Vec F S1x1 .f32) (r : Fin 8) (C : Vec F S1x128x256 .f32) : Vec F S1x128x256 .f32 :=
  cV (hd r) (rowG W r) (rowB W r) (m0 r) (W.k (bt r) (hd r)) (W.v (bt r) (hd r)) C

/-- The normaliser a chunk leaves in a state row. -/
def rowN (m0 : Fin 8 → Vec F S1x1 .f32) (r : Fin 8) (n : Vec F S1x128 .f32) : Vec F S1x128 .f32 :=
  nV (hd r) (rowG W r) (rowB W r) (m0 r) (W.k (bt r) (hd r)) n

/-- The stabiliser a chunk leaves in a state row. -/
def rowM (m0 : Fin 8 → Vec F S1x1 .f32) (r : Fin 8) : Vec F S1x128 .f32 :=
  mV (hd r) (rowG W r) (rowB W r) (m0 r)

/-- A state row's output rows. -/
def rowY (m0 : Fin 8 → Vec F S1x1 .f32) (C : Fin 8 → Vec F S1x128x256 .f32) (n : Fin 8 → Vec F S1x128 .f32) (r : Fin 8) :
    Vec F S1x256x256 .bf16 :=
  yV (hV (hd r) (rowG W r) (rowB W r) (m0 r) (W.q (bt r) (hd r)) (W.k (bt r) (hd r)) (W.v (bt r) (hd r)) (C r) (n r))
    (W.gn (hd r)) (W.o (bt r) (hd r))

/-- The output projection of a batch row's chunk: the convolution's rows against the weights' upper half, the
    recurrence's against the lower half, and the residual. -/
def projV (yc : Vec F S1x256x1024 .bf16) (wt : Vec F S1024x2048 .bf16) (y : Vec F S1x256x1024 .bf16)
    (wb : Vec F S1024x2048 .bf16) (x : Vec F S1x256x2048 .f32) : Vec F S1x256x2048 .f32 := k0_pay249 yc wt y wb x

/-- Stores of the eight rows, the last first, after the stores `L`. -/
def rowsOn {α : Type} (f : Fin 8 → α) (L : List α) : List α := f 7 :: f 6 :: f 5 :: f 4 :: f 3 :: f 2 :: f 1 :: f 0 :: L

/-- A batch row of the residual or of the projection. -/
abbrev outR (b : Fin 2) : Rect S2x256x2048 :=
  Rect.unit ![b.val, 0, 0] S1x256x2048.size (fits3 b 0 0 (by omega) (by omega))

/-- A batch row of the convolution's or of the recurrence's rows. -/
abbrev catR (b : Fin 2) : Rect S2x256x1024 :=
  Rect.unit ![b.val, 0, 0] S1x256x1024.size (fits3 b 0 0 (by omega) (by omega))

/-- The stores of the matrix memories at a chunk that starts from the reset ones, the last first. -/
def stackC (V : View sig .tc .vmem S8x128x256 .f32) (f : Fin 8 → Vec F S1x128x256 .f32 → Vec F S1x128x256 .f32) :
    (k : ℕ) → k ≤ 8 → List (View.Piece (Elt F) S8x128x256 .f32)
  | 0, _ => [⟨Rect.unit ![0, 0, 0] S8x128x256.size inb_S8x128x256_S8x128x256_0_0_0, k0_pay357⟩]
  | k + 1, h => ⟨memR ⟨k, h⟩, f ⟨k, h⟩ (V.readCov (stackC V f k (Nat.le_of_succ_le h)) (memR ⟨k, h⟩).toLoadRect)⟩
      :: stackC V f k (Nat.le_of_succ_le h)

/-- The stores of the normalisers at a chunk that starts from the reset ones, the last first. -/
def stackN (V : View sig .tc .vmem S8x128 .f32) (f : Fin 8 → Vec F S1x128 .f32 → Vec F S1x128 .f32) :
    (k : ℕ) → k ≤ 8 → List (View.Piece (Elt F) S8x128 .f32)
  | 0, _ => [⟨Rect.unit ![0, 0] S8x128.size inb_S8x128_S8x128_0_0, k0_pay358⟩]
  | k + 1, h => ⟨vecR ⟨k, h⟩, f ⟨k, h⟩ (V.readCov (stackN V f k (Nat.le_of_succ_le h)) (vecR ⟨k, h⟩).toLoadRect)⟩
      :: stackN V f k (Nat.le_of_succ_le h)

section Cases

variable (c : Dev nD) (i : grid0.Coords)
  (arg1 : Memref sig .tc .vmem S2x256x512 .bf16) (harg1 : arg1.IsWhole)
  (arg2 : Memref sig .tc .vmem S2x256x512 .bf16) (harg2 : arg2.IsWhole)
  (arg3 : Memref sig .tc .vmem S2x256x1024 .bf16) (harg3 : arg3.IsWhole)
  (arg4 : Memref sig .tc .vmem S2x256x1024 .bf16) (harg4 : arg4.IsWhole)
  (arg5 : Memref sig .tc .vmem S2x256x128 .f32) (harg5 : arg5.IsWhole) (arg6 : Memref sig .tc .vmem S1x128 .f32)
  (harg6 : arg6.IsWhole) (arg7 : Memref sig .tc .vmem S1x1024 .f32) (harg7 : arg7.IsWhole)
  (arg8 : Memref sig .tc .vmem S2x256x2048 .f32) (harg8 : arg8.IsWhole)
  (arg9 : Memref sig .tc .vmem S2x256x1024 .bf16) (harg9 : arg9.IsWhole)
  (arg10 : Memref sig .tc .vmem S2048x2048 .bf16) (harg10 : arg10.IsWhole)
  (arg11 : Memref sig .tc .vmem S352x2048 .f32) (harg11 : arg11.IsWhole)
  (arg12 : Memref sig .tc .vmem S128x2048 .f32) (harg12 : arg12.IsWhole)
  (arg13 : Memref sig .tc .vmem S2x256x2048 .f32) (harg13 : arg13.IsWhole)
  (arg14 : Memref sig .tc .vmem S352x2048 .bf16) (harg14 : arg14.IsWhole)
  (arg15 : Memref sig .tc .vmem S128x2048 .bf16) (harg15 : arg15.IsWhole)
  (arg16 : Memref sig .tc .vmem S8x128x256 .f32) (harg16 : arg16.IsWhole) (arg17 : Memref sig .tc .vmem S8x128 .f32)
  (harg17 : arg17.IsWhole) (arg18 : Memref sig .tc .vmem S8x128 .f32) (harg18 : arg18.IsWhole)
  (arg19 : Memref sig .tc .vmem S2x256x1024 .bf16) (harg19 : arg19.IsWhole)
  (x0 : Vec F S2x256x512 .bf16) (x1 : Vec F S2x256x512 .bf16) (x2 : Vec F S2x256x1024 .bf16)
  (x3 : Vec F S2x256x1024 .bf16) (x4 : Vec F S2x256x128 .f32) (x5 : Vec F S1x128 .f32) (x6 : Vec F S1x1024 .f32)
  (x7 : Vec F S2x256x2048 .f32) (x8 : Vec F S2x256x1024 .bf16) (x9 : Vec F S2048x2048 .bf16)
  (x10 : Vec F S352x2048 .f32) (x11 : Vec F S128x2048 .f32) (xs0 : Vec F S8x128x256 .f32) (xs1 : Vec F S8x128 .f32)
  (xs2 : Vec F S8x128 .f32) (xs3 : Vec F S2x256x1024 .bf16)

/-- What the recurrence loads, of the blocks the body is given. -/
def loads : Loads F where
  q b h := View.readAt (Elt F) arg1.view (headR b h).toLoadRect (harg1.unread x0)
  k b h := View.readAt (Elt F) arg2.view (headR b h).toLoadRect (harg2.unread x1)
  v b h := View.readAt (Elt F) arg3.view (wideR b h).toLoadRect (harg3.unread x2)
  o b h := View.readAt (Elt F) arg4.view (wideR b h).toLoadRect (harg4.unread x3)
  g b := View.readAt (Elt F) arg5.view (gateR b).toLoadRect (harg5.unread x4)
  bias := View.readAt (Elt F) arg6.view (Rect.unit ![0, 0] S1x128.size inb_S1x128_S1x128_0_0).toLoadRect (harg6.unread x5)
  gn h := View.readAt (Elt F) arg7.view (scaleR h).toLoadRect (harg7.unread x6)

/-- A state row's stabiliser, loaded. -/
abbrev oneL (r : Fin 8) : Vec F S1x1 .f32 := View.readAt (Elt F) arg18.view (oneR r).toLoadRect (harg18.unread xs2)

/-- A state row's normaliser, loaded. -/
abbrev vecL (r : Fin 8) : Vec F S1x128 .f32 := View.readAt (Elt F) arg17.view (vecR r).toLoadRect (harg17.unread xs1)

/-- A state row's matrix memory, loaded. -/
abbrev memL (r : Fin 8) : Vec F S1x128x256 .f32 := View.readAt (Elt F) arg16.view (memR r).toLoadRect (harg16.unread xs0)

/-- A state row's stabiliser, loaded after the reset. -/
abbrev oneZ (r : Fin 8) : Vec F S1x1 .f32 :=
  arg18.view.readCov [⟨Rect.unit ![0, 0] S8x128.size inb_S8x128_S8x128_0_0, (k0_pay359 : FVec F S8x128 .f32)⟩] (oneR r).toLoadRect

/-- A state row's normaliser, loaded after the reset. -/
abbrev vecZ (r : Fin 8) : Vec F S1x128 .f32 :=
  arg17.view.readCov [⟨Rect.unit ![0, 0] S8x128.size inb_S8x128_S8x128_0_0, (k0_pay358 : FVec F S8x128 .f32)⟩] (vecR r).toLoadRect

/-- A state row's matrix memory, loaded after the reset. -/
abbrev memZ (r : Fin 8) : Vec F S1x128x256 .f32 :=
  arg16.view.readCov [⟨Rect.unit ![0, 0, 0] S8x128x256.size inb_S8x128x256_S8x128x256_0_0_0, (k0_pay357 : FVec F S8x128x256 .f32)⟩]
    (memR r).toLoadRect

/-- A batch row's projection, of the blocks the body is given and of the rows the chunk before left. -/
def proj (b : Fin 2) : Vec F S1x256x2048 .f32 :=
  projV (View.readAt (Elt F) arg9.view (catR b).toLoadRect (harg9.unread x8))
    (View.readAt (Elt F) arg10.view (Rect.unit (s := S2048x2048) ![0, 0] S1024x2048.size inb_S2048x2048_S1024x2048_0_0).toLoadRect (harg10.unread x9))
    (View.readAt (Elt F) arg19.view (catR b).toLoadRect (harg19.unread xs3))
    (View.readAt (Elt F) arg10.view (Rect.unit (s := S2048x2048) ![1024, 0] S1024x2048.size inb_S2048x2048_S1024x2048_1024_0).toLoadRect (harg10.unread x9))
    (View.readAt (Elt F) arg8.view (outR b).toLoadRect (harg8.unread x7))

set_option maxHeartbeats 1000000 in
/-- The stores of the first point: a chunk that starts from the reset state, and no projection yet. -/
theorem pieces_A (hc0 : cond0_0 i) (hc1 : cond0_1 i) (hc2 : ¬cond0_2 i) (hc3 : ¬cond0_3 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.1 = [⟨Rect.unit ![0, 0] S352x2048.size inb_S352x2048_S352x2048_0_0, k0_pay355 (View.readAt (Elt F) arg11.view (Rect.unit ![0, 0] S352x2048.size inb_S352x2048_S352x2048_0_0).toLoadRect (harg11.unread x10))⟩]
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.2.1 = [⟨Rect.unit ![0, 0] S128x2048.size inb_S128x2048_S128x2048_0_0, k0_pay356 (View.readAt (Elt F) arg12.view (Rect.unit ![0, 0] S128x2048.size inb_S128x2048_S128x2048_0_0).toLoadRect (harg12.unread x11))⟩]
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.2.2.1 = stackC arg16.view (rowC (loads arg1 harg1 arg2 harg2 arg3 harg3 arg4 harg4 arg5 harg5 arg6 harg6 arg7 harg7 x0 x1 x2 x3 x4 x5 x6) (oneZ arg18)) 8 le_rfl
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.2.2.2.1 = stackN arg17.view (rowN (loads arg1 harg1 arg2 harg2 arg3 harg3 arg4 harg4 arg5 harg5 arg6 harg6 arg7 harg7 x0 x1 x2 x3 x4 x5 x6) (oneZ arg18)) 8 le_rfl
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.2.2.2.2.1 = rowsOn (fun r => ⟨vecR r, rowM (loads arg1 harg1 arg2 harg2 arg3 harg3 arg4 harg4 arg5 harg5 arg6 harg6 arg7 harg7 x0 x1 x2 x3 x4 x5 x6) (oneZ arg18) r⟩) [⟨Rect.unit ![0, 0] S8x128.size inb_S8x128_S8x128_0_0, k0_pay359⟩]
      ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11).2.2.2.2.2.2.1 = rowsOn (fun r => ⟨wideR (bt r) (hd r), rowY (loads arg1 harg1 arg2 harg2 arg3 harg3 arg4 harg4 arg5 harg5 arg6 harg6 arg7 harg7 x0 x1 x2 x3 x4 x5 x6) (oneZ arg18) (memZ arg16) (vecZ arg17) r⟩) [] :=
  ⟨by sl_kernel_rfl, by sl_kernel_rfl, by sl_kernel_rfl, by sl_kernel_rfl, by sl_kernel_rfl, by sl_kernel_rfl⟩

set_option maxHeartbeats 1000000 in
/-- The stores of a chunk that goes on from the chunk before, and of the projection of the chunk before. -/
theorem pieces_B (hc0 : ¬cond0_0 i) (hc1 : ¬cond0_1 i) (hc2 : cond0_2 i) (hc3 : ¬cond0_3 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).1 = [⟨outR 1, proj arg8 harg8 arg9 harg9 arg10 harg10 arg19 harg19 x7 x8 x9 xs3 1⟩, ⟨outR 0, proj arg8 harg8 arg9 harg9 arg10 harg10 arg19 harg19 x7 x8 x9 xs3 0⟩]
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.1 = [⟨Rect.unit ![0, 0] S352x2048.size inb_S352x2048_S352x2048_0_0, k0_pay355 (View.readAt (Elt F) arg11.view (Rect.unit ![0, 0] S352x2048.size inb_S352x2048_S352x2048_0_0).toLoadRect (harg11.unread x10))⟩]
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.2.1 = [⟨Rect.unit ![0, 0] S128x2048.size inb_S128x2048_S128x2048_0_0, k0_pay356 (View.readAt (Elt F) arg12.view (Rect.unit ![0, 0] S128x2048.size inb_S128x2048_S128x2048_0_0).toLoadRect (harg12.unread x11))⟩]
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.2.2.1 = rowsOn (fun r => ⟨memR r, rowC (loads arg1 harg1 arg2 harg2 arg3 harg3 arg4 harg4 arg5 harg5 arg6 harg6 arg7 harg7 x0 x1 x2 x3 x4 x5 x6) (oneL arg18 harg18 xs2) r ((memL arg16 harg16 xs0) r)⟩) []
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.2.2.2.1 = rowsOn (fun r => ⟨vecR r, rowN (loads arg1 harg1 arg2 harg2 arg3 harg3 arg4 harg4 arg5 harg5 arg6 harg6 arg7 harg7 x0 x1 x2 x3 x4 x5 x6) (oneL arg18 harg18 xs2) r ((vecL arg17 harg17 xs1) r)⟩) []
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.2.2.2.2.1 = rowsOn (fun r => ⟨vecR r, rowM (loads arg1 harg1 arg2 harg2 arg3 harg3 arg4 harg4 arg5 harg5 arg6 harg6 arg7 harg7 x0 x1 x2 x3 x4 x5 x6) (oneL arg18 harg18 xs2) r⟩) []
      ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs0 xs1 xs2 xs3).2.2.2.2.2.2.1 = rowsOn (fun r => ⟨wideR (bt r) (hd r), rowY (loads arg1 harg1 arg2 harg2 arg3 harg3 arg4 harg4 arg5 harg5 arg6 harg6 arg7 harg7 x0 x1 x2 x3 x4 x5 x6) (oneL arg18 harg18 xs2) (memL arg16 harg16 xs0) (vecL arg17 harg17 xs1) r⟩) [] :=
  ⟨by sl_kernel_rfl, by sl_kernel_rfl, by sl_kernel_rfl, by sl_kernel_rfl, by sl_kernel_rfl, by sl_kernel_rfl, by sl_kernel_rfl⟩

set_option maxHeartbeats 1000000 in
/-- The stores of a chunk that starts from the reset state, and of the projection of the chunk before. -/
theorem pieces_C (hc0 : cond0_0 i) (hc1 : ¬cond0_1 i) (hc2 : cond0_2 i) (hc3 : ¬cond0_3 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).1 = [⟨outR 1, proj arg8 harg8 arg9 harg9 arg10 harg10 arg19 harg19 x7 x8 x9 xs3 1⟩, ⟨outR 0, proj arg8 harg8 arg9 harg9 arg10 harg10 arg19 harg19 x7 x8 x9 xs3 0⟩]
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.1 = [⟨Rect.unit ![0, 0] S352x2048.size inb_S352x2048_S352x2048_0_0, k0_pay355 (View.readAt (Elt F) arg11.view (Rect.unit ![0, 0] S352x2048.size inb_S352x2048_S352x2048_0_0).toLoadRect (harg11.unread x10))⟩]
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.1 = [⟨Rect.unit ![0, 0] S128x2048.size inb_S128x2048_S128x2048_0_0, k0_pay356 (View.readAt (Elt F) arg12.view (Rect.unit ![0, 0] S128x2048.size inb_S128x2048_S128x2048_0_0).toLoadRect (harg12.unread x11))⟩]
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.2.1 = stackC arg16.view (rowC (loads arg1 harg1 arg2 harg2 arg3 harg3 arg4 harg4 arg5 harg5 arg6 harg6 arg7 harg7 x0 x1 x2 x3 x4 x5 x6) (oneZ arg18)) 8 le_rfl
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.2.2.1 = stackN arg17.view (rowN (loads arg1 harg1 arg2 harg2 arg3 harg3 arg4 harg4 arg5 harg5 arg6 harg6 arg7 harg7 x0 x1 x2 x3 x4 x5 x6) (oneZ arg18)) 8 le_rfl
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.2.2.2.1 = rowsOn (fun r => ⟨vecR r, rowM (loads arg1 harg1 arg2 harg2 arg3 harg3 arg4 harg4 arg5 harg5 arg6 harg6 arg7 harg7 x0 x1 x2 x3 x4 x5 x6) (oneZ arg18) r⟩) [⟨Rect.unit ![0, 0] S8x128.size inb_S8x128_S8x128_0_0, k0_pay359⟩]
      ∧ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.2.2.2.2.1 = rowsOn (fun r => ⟨wideR (bt r) (hd r), rowY (loads arg1 harg1 arg2 harg2 arg3 harg3 arg4 harg4 arg5 harg5 arg6 harg6 arg7 harg7 x0 x1 x2 x3 x4 x5 x6) (oneZ arg18) (memZ arg16) (vecZ arg17) r⟩) [] :=
  ⟨by sl_kernel_rfl, by sl_kernel_rfl, by sl_kernel_rfl, by sl_kernel_rfl, by sl_kernel_rfl, by sl_kernel_rfl, by sl_kernel_rfl⟩

set_option maxHeartbeats 1000000 in
/-- The stores of the last point: the projection of the chunk before. -/
theorem pieces_D (hc0 : cond0_0 i) (hc1 : ¬cond0_1 i) (hc2 : ¬cond0_2 i) (hc3 : cond0_3 i) :
    (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).1 = [⟨outR 1, proj arg8 harg8 arg9 harg9 arg10 harg10 arg19 harg19 x7 x8 x9 xs3 1⟩, ⟨outR 0, proj arg8 harg8 arg9 harg9 arg10 harg10 arg19 harg19 x7 x8 x9 xs3 0⟩]
      ∧ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.1 = [⟨Rect.unit ![0, 0] S352x2048.size inb_S352x2048_S352x2048_0_0, k0_pay355 (View.readAt (Elt F) arg11.view (Rect.unit ![0, 0] S352x2048.size inb_S352x2048_S352x2048_0_0).toLoadRect (harg11.unread x10))⟩]
      ∧ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 x10 x11 xs3).2.2.1 = [⟨Rect.unit ![0, 0] S128x2048.size inb_S128x2048_S128x2048_0_0, k0_pay356 (View.readAt (Elt F) arg12.view (Rect.unit ![0, 0] S128x2048.size inb_S128x2048_S128x2048_0_0).toLoadRect (harg12.unread x11))⟩] :=
  ⟨by sl_kernel_rfl, by sl_kernel_rfl, by sl_kernel_rfl⟩

end Cases

end Cert.KernelIdeal.Chain

end
-- ==== Proof.Readback.lean ====
/- What the stores of a grid point leave at an index of each buffer the body writes. -/
module

public import proofs.«01_k».proof.Proof.Pieces
public import Idealize.ShloMosaic.Lib.WholeRead
public import Idealize.ShloMosaic.Lib.Pipeline.Value
public import Idealize.ShloMosaic.Lib.Pointwise

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen

variable {F : FTy → Type} [FloatOps F]

/-! ## Indices -/

/-- A column of a head's block of `n` columns. -/
abbrev col {N n : ℕ} (k : ℕ) (h : Fin k) (hN : n * k ≤ N) (d : Fin n) : Fin N :=
  ⟨n * h.val + d.val, by
    have h1 := h.isLt
    have h2 := d.isLt
    calc n * h.val + d.val < n * h.val + n := by omega
      _ = n * (h.val + 1) := by ring
      _ ≤ n * k := Nat.mul_le_mul_left _ h1
      _ ≤ N := hN⟩

theorem headR_idx (b : Fin 2) (h : Fin 4) (t : Fin 256) (d : Fin 128) :
    (headR b h).emb (ix3 0 t d) = ix3 b t (col 4 h (by norm_num) d) := by
  funext a; apply Fin.ext
  match a with
  | ⟨0, _⟩ => simp [Rect.emb_apply]
  | ⟨1, _⟩ => simp [Rect.emb_apply]
  | ⟨2, _⟩ => simp [Rect.emb_apply]

theorem wideR_idx (b : Fin 2) (h : Fin 4) (t : Fin 256) (e : Fin 256) :
    (wideR b h).emb (ix3 0 t e) = ix3 b t (col 4 h (by norm_num) e) := by
  funext a; apply Fin.ext
  match a with
  | ⟨0, _⟩ => simp [Rect.emb_apply]
  | ⟨1, _⟩ => simp [Rect.emb_apply]
  | ⟨2, _⟩ => simp [Rect.emb_apply]

theorem memR_idx (r : Fin 8) (d : Fin 128) (e : Fin 256) : (memR r).emb (ix3 0 d e) = ix3 r d e := by
  funext a; apply Fin.ext
  match a with
  | ⟨0, _⟩ => simp [Rect.emb_apply]
  | ⟨1, _⟩ => simp [Rect.emb_apply]
  | ⟨2, _⟩ => simp [Rect.emb_apply]

theorem vecR_idx (r : Fin 8) (d : Fin 128) : (vecR r).emb (ix2 0 d) = ix2 r d := by
  funext a; apply Fin.ext
  match a with
  | ⟨0, _⟩ => simp [Rect.emb_apply]
  | ⟨1, _⟩ => simp [Rect.emb_apply]

theorem oneR_idx (r : Fin 8) : (oneR r).emb (ix2 0 0) = ix2 r 0 := by
  funext a; apply Fin.ext
  match a with
  | ⟨0, _⟩ => simp [Rect.emb_apply]
  | ⟨1, _⟩ => simp [Rect.emb_apply]

theorem gateR_idx (b : Fin 2) (t : Fin 256) (d : Fin 128) : (gateR b).emb (ix3 0 t d) = ix3 b t d := by
  funext a; apply Fin.ext
  match a with
  | ⟨0, _⟩ => simp [Rect.emb_apply]
  | ⟨1, _⟩ => simp [Rect.emb_apply]
  | ⟨2, _⟩ => simp [Rect.emb_apply]

theorem scaleR_idx (h : Fin 4) (e : Fin 256) : (scaleR h).emb (ix2 0 e) = ix2 0 (col 4 h (by norm_num) e) := by
  funext a; apply Fin.ext
  match a with
  | ⟨0, _⟩ => simp [Rect.emb_apply]
  | ⟨1, _⟩ => simp [Rect.emb_apply]

theorem outR_idx (b : Fin 2) (t : Fin 256) (d : Fin 2048) : (outR b).emb (ix3 0 t d) = ix3 b t d := by
  funext a; apply Fin.ext
  match a with
  | ⟨0, _⟩ => simp [Rect.emb_apply]
  | ⟨1, _⟩ => simp [Rect.emb_apply]
  | ⟨2, _⟩ => simp [Rect.emb_apply]

theorem catR_idx (b : Fin 2) (t : Fin 256) (d : Fin 1024) : (catR b).emb (ix3 0 t d) = ix3 b t d := by
  funext a; apply Fin.ext
  match a with
  | ⟨0, _⟩ => simp [Rect.emb_apply]
  | ⟨1, _⟩ => simp [Rect.emb_apply]
  | ⟨2, _⟩ => simp [Rect.emb_apply]

/-! ## Reading lists of stores back -/

/-- Stores at boxes that do not meet, read back at one of them. -/
theorem canon_map {ι : Type} {s : Shape} {e : EltTy} (p : ι → View.Piece (Elt F) s e)
    (hd : ∀ r r' x, r ≠ r' → (p r).1.emb x ∉ (p r').1.set) (L : List (View.Piece (Elt F) s e)) (r : ι)
    (x : (p r).1.shape.Idx) : ∀ l : List ι, r ∈ l → View.canon (l.map p ++ L) ((p r).1.emb x) = (p r).2 x
  | [], h => absurd h List.not_mem_nil
  | a :: l, h => by
    by_cases hr : r = a
    · subst hr
      exact View.canon_cons_emb _ _ _ x
    · rw [List.map_cons, List.cons_append, View.canon_cons_of_not_mem _ _ (hd r a x hr)]
      exact canon_map p hd L r x l (by simpa [hr] using h)

/-- The stores of the eight rows, read back at a row. -/
theorem canon_rowsOn {s : Shape} {e : EltTy} (p : Fin 8 → View.Piece (Elt F) s e)
    (hd : ∀ r r' x, r ≠ r' → (p r).1.emb x ∉ (p r').1.set) (L : List (View.Piece (Elt F) s e)) (r : Fin 8)
    (x : (p r).1.shape.Idx) : View.canon (rowsOn p L) ((p r).1.emb x) = (p r).2 x :=
  canon_map p hd L r x [7, 6, 5, 4, 3, 2, 1, 0] ((by decide : ∀ r : Fin 8, r ∈ [7, 6, 5, 4, 3, 2, 1, 0]) r)

theorem memR_disjoint (r r' : Fin 8) (x : S1x128x256.Idx) (h : r ≠ r') : (memR r).emb x ∉ (memR r').set := by
  rw [Rect.mem_set_unit]
  intro hx
  have h0 := hx 0
  have hz : (x 0).val = 0 := by have := (x 0).isLt; simp at this; omega
  simp [Rect.emb_apply, hz] at h0
  exact h (Fin.ext (by omega))

theorem vecR_disjoint (r r' : Fin 8) (x : S1x128.Idx) (h : r ≠ r') : (vecR r).emb x ∉ (vecR r').set := by
  rw [Rect.mem_set_unit]
  intro hx
  have h0 := hx 0
  have hz : (x 0).val = 0 := by have := (x 0).isLt; simp at this; omega
  simp [Rect.emb_apply, hz] at h0
  exact h (Fin.ext (by omega))

theorem wideR_disjoint (r r' : Fin 8) (x : S1x256x256.Idx) (h : r ≠ r') :
    (wideR (bt r) (hd r)).emb x ∉ (wideR (bt r') (hd r')).set := by
  rw [Rect.mem_set_unit]
  intro hx
  have h0 := hx 0
  have h2 := hx 2
  have hz : (x 0).val = 0 := by have := (x 0).isLt; simp at this; omega
  have hw : (x 2).val < 256 := (x 2).isLt
  simp [Rect.emb_apply, hz] at h0 h2
  exact h (Fin.ext (by omega))

theorem outR_disjoint (r r' : Fin 2) (x : S1x256x2048.Idx) (h : r ≠ r') : (outR r).emb x ∉ (outR r').set := by
  rw [Rect.mem_set_unit]
  intro hx
  have h0 := hx 0
  have hz : (x 0).val = 0 := by have := (x 0).isLt; simp at this; omega
  simp [Rect.emb_apply, hz] at h0
  exact h (Fin.ext (by omega))

/-- The reset matrix memory of a row. -/
abbrev zeroC : Vec F S1x128x256 .f32 := fun _ => Scalar.ofBits .f32 0#32
/-- The reset normaliser of a row. -/
abbrev zeroN : Vec F S1x128 .f32 := fun _ => Scalar.ofBits .f32 0#32
/-- The reset stabiliser of a row. -/
abbrev zeroM : Vec F S1x1 .f32 := fun _ => Scalar.ofBits .f32 0#32

theorem oneZ_eq (arg18 : Memref sig .tc .vmem S8x128 .f32) (r : Fin 8) : oneZ (F := F) arg18 r = zeroM := by
  unfold oneZ
  rw [View.readCov_eq_canon', View.canon_unit_zero (by funext a; fin_cases a <;> rfl)]
  funext j
  unfold k0_pay359
  rfl

theorem vecZ_eq (arg17 : Memref sig .tc .vmem S8x128 .f32) (r : Fin 8) : vecZ (F := F) arg17 r = zeroN := by
  unfold vecZ
  rw [View.readCov_eq_canon', View.canon_unit_zero (by funext a; fin_cases a <;> rfl)]
  funext j
  unfold k0_pay358
  rfl

theorem memZ_eq (arg16 : Memref sig .tc .vmem S8x128x256 .f32) (r : Fin 8) : memZ (F := F) arg16 r = zeroC := by
  unfold memZ
  rw [View.readCov_eq_canon', View.canon_unit_zero (by funext a; fin_cases a <;> rfl)]
  funext j
  unfold k0_pay357
  rfl

/-- The first `k` rows of the matrix memories are the chunk's over the reset ones, the others still reset. -/
theorem canon_stackC (V : View sig .tc .vmem S8x128x256 .f32) (f : Fin 8 → Vec F S1x128x256 .f32 → Vec F S1x128x256 .f32)
    (k : ℕ) : ∀ (hk : k ≤ 8) (r : Fin 8) (x : S1x128x256.Idx),
    View.canon (stackC V f k hk) ((memR r).emb x) = if r.val < k then f r zeroC x else Scalar.ofBits .f32 0#32 := by
  induction k with
  | zero =>
    intro hk r x
    rw [stackC, View.canon_unit_zero (by funext a; fin_cases a <;> rfl)]
    rfl
  | succ k ih =>
    intro hk r x
    have hz : V.readCov (stackC V f k (Nat.le_of_succ_le hk)) (memR ⟨k, hk⟩).toLoadRect = zeroC := by
      rw [View.readCov_eq_canon']
      funext j
      refine (ih (Nat.le_of_succ_le hk) ⟨k, hk⟩ j).trans ?_
      simp
    have hs : stackC V f (k + 1) hk = ⟨memR ⟨k, hk⟩, f ⟨k, hk⟩ zeroC⟩ :: stackC V f k (Nat.le_of_succ_le hk) := by
      rw [← hz]; rfl
    rw [hs]
    by_cases hr : r = ⟨k, hk⟩
    · subst hr
      rw [View.canon_cons_emb]
      simp
    · refine (View.canon_cons_of_not_mem ⟨memR ⟨k, hk⟩, f ⟨k, hk⟩ zeroC⟩ _ (memR_disjoint r ⟨k, hk⟩ x hr)).trans ?_
      rw [ih]
      have : r.val ≠ k := fun h => hr (Fin.ext h)
      simp only [show (r.val < k + 1) = (r.val < k) from propext ⟨fun _ => by omega, fun _ => by omega⟩]

/-- The first `k` rows of the normalisers are the chunk's over the reset ones, the others still reset. -/
theorem canon_stackN (V : View sig .tc .vmem S8x128 .f32) (f : Fin 8 → Vec F S1x128 .f32 → Vec F S1x128 .f32)
    (k : ℕ) : ∀ (hk : k ≤ 8) (r : Fin 8) (x : S1x128.Idx),
    View.canon (stackN V f k hk) ((vecR r).emb x) = if r.val < k then f r zeroN x else Scalar.ofBits .f32 0#32 := by
  induction k with
  | zero =>
    intro hk r x
    rw [stackN, View.canon_unit_zero (by funext a; fin_cases a <;> rfl)]
    rfl
  | succ k ih =>
    intro hk r x
    have hz : V.readCov (stackN V f k (Nat.le_of_succ_le hk)) (vecR ⟨k, hk⟩).toLoadRect = zeroN := by
      rw [View.readCov_eq_canon']
      funext j
      refine (ih (Nat.le_of_succ_le hk) ⟨k, hk⟩ j).trans ?_
      simp
    have hs : stackN V f (k + 1) hk = ⟨vecR ⟨k, hk⟩, f ⟨k, hk⟩ zeroN⟩ :: stackN V f k (Nat.le_of_succ_le hk) := by
      rw [← hz]; rfl
    rw [hs]
    by_cases hr : r = ⟨k, hk⟩
    · subst hr
      rw [View.canon_cons_emb]
      simp
    · refine (View.canon_cons_of_not_mem ⟨vecR ⟨k, hk⟩, f ⟨k, hk⟩ zeroN⟩ _ (vecR_disjoint r ⟨k, hk⟩ x hr)).trans ?_
      rw [ih]
      have : r.val ≠ k := fun h => hr (Fin.ext h)
      simp only [show (r.val < k + 1) = (r.val < k) from propext ⟨fun _ => by omega, fun _ => by omega⟩]

end Cert.KernelIdeal.Chain

end
-- ==== Proof.Step.lean ====
/- What one grid point leaves: the state rows, the output rows and the result blocks, over what the point before left. -/
module

public import proofs.«01_k».proof.Proof.Readback

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen

variable {F : FTy → Type} [FloatOps F]

/-- What the recurrence loads, at the indices of the blocks. -/
def blockLoads (x0 x1 : Vec F S2x256x512 .bf16) (x2 x3 : Vec F S2x256x1024 .bf16) (x4 : Vec F S2x256x128 .f32)
    (x5 : Vec F S1x128 .f32) (x6 : Vec F S1x1024 .f32) : Loads F where
  q b h := fun z => x0 ((headR b h).emb z)
  k b h := fun z => x1 ((headR b h).emb z)
  v b h := fun z => x2 ((wideR b h).emb z)
  o b h := fun z => x3 ((wideR b h).emb z)
  g b := fun z => x4 ((gateR b).emb z)
  bias := x5
  gn h := fun z => x6 ((scaleR h).emb z)

theorem loads_eq (arg1 : Memref sig .tc .vmem S2x256x512 .bf16) (harg1 : arg1.IsWhole)
    (arg2 : Memref sig .tc .vmem S2x256x512 .bf16) (harg2 : arg2.IsWhole)
    (arg3 : Memref sig .tc .vmem S2x256x1024 .bf16) (harg3 : arg3.IsWhole)
    (arg4 : Memref sig .tc .vmem S2x256x1024 .bf16) (harg4 : arg4.IsWhole)
    (arg5 : Memref sig .tc .vmem S2x256x128 .f32) (harg5 : arg5.IsWhole) (arg6 : Memref sig .tc .vmem S1x128 .f32)
    (harg6 : arg6.IsWhole) (arg7 : Memref sig .tc .vmem S1x1024 .f32) (harg7 : arg7.IsWhole)
    (x0 x1 : Vec F S2x256x512 .bf16) (x2 x3 : Vec F S2x256x1024 .bf16) (x4 : Vec F S2x256x128 .f32)
    (x5 : Vec F S1x128 .f32) (x6 : Vec F S1x1024 .f32) :
    loads arg1 harg1 arg2 harg2 arg3 harg3 arg4 harg4 arg5 harg5 arg6 harg6 arg7 harg7 x0 x1 x2 x3 x4 x5 x6
      = blockLoads x0 x1 x2 x3 x4 x5 x6 := by
  unfold loads blockLoads
  congr 1
  · funext b h z; exact Memref.IsWhole.readAt_unread _ _ _ _
  · funext b h z; exact Memref.IsWhole.readAt_unread _ _ _ _
  · funext b h z; exact Memref.IsWhole.readAt_unread _ _ _ _
  · funext b h z; exact Memref.IsWhole.readAt_unread _ _ _ _
  · funext b z; exact Memref.IsWhole.readAt_unread _ _ _ _
  · funext z
    refine (Memref.IsWhole.readAt_unread _ _ _ _).trans (congrArg x5 ?_)
    funext a; apply Fin.ext
    fin_cases a <;> simp
  · funext h z; exact Memref.IsWhole.readAt_unread _ _ _ _

variable (m : (ℓ : Loc nD τ sig) → Buf (Elt F) ℓ) (c : Dev nD) (t : Fin cfg0.N)

/-- What the recurrence loads at a point. -/
abbrev ptLoads : Loads F :=
  blockLoads (iblk m c 0 t) (iblk m c 1 t) (iblk m c 2 t) (iblk m c 3 t) (iblk m c 4 t) (iblk m c 5 t) (iblk m c 6 t)

/-- The matrix memories a point leaves. -/
abbrev memAt (n : ℕ) (hn : n < cfg0.N) : Vec F S8x128x256 .f32 := (outsAt0 m c n hn).2.2.2.1
/-- The normalisers a point leaves. -/
abbrev norAt (n : ℕ) (hn : n < cfg0.N) : Vec F S8x128 .f32 := (outsAt0 m c n hn).2.2.2.2.1
/-- The stabilisers a point leaves. -/
abbrev staAt (n : ℕ) (hn : n < cfg0.N) : Vec F S8x128 .f32 := (outsAt0 m c n hn).2.2.2.2.2.1
/-- The output rows a point leaves. -/
abbrev rowsAt (n : ℕ) (hn : n < cfg0.N) : Vec F S2x256x1024 .bf16 := (outsAt0 m c n hn).2.2.2.2.2.2

/-- What a chunk leaves at point `t` over given previous states, by state row. -/
def Leaves (pm : Fin 8 → Vec F S1x1 .f32) (pC : Fin 8 → Vec F S1x128x256 .f32) (pn : Fin 8 → Vec F S1x128 .f32) : Prop :=
  ∀ r : Fin 8,
    (∀ x, memAt m c t.val t.isLt ((memR r).emb x) = rowC (ptLoads m c t) pm r (pC r) x)
    ∧ (∀ x, norAt m c t.val t.isLt ((vecR r).emb x) = rowN (ptLoads m c t) pm r (pn r) x)
    ∧ (∀ x, staAt m c t.val t.isLt ((vecR r).emb x) = rowM (ptLoads m c t) pm r x)
    ∧ (∀ x, rowsAt m c t.val t.isLt ((wideR (bt r) (hd r)).emb x) = rowY (ptLoads m c t) pm pC pn r x)

/-- The weights' upper half. -/
abbrev upR : Rect S2048x2048 := Rect.unit ![0, 0] S1024x2048.size inb_S2048x2048_S1024x2048_0_0
/-- The weights' lower half. -/
abbrev loR : Rect S2048x2048 := Rect.unit ![1024, 0] S1024x2048.size inb_S2048x2048_S1024x2048_1024_0

/-- A batch row's projection, at the indices of the blocks and of the rows the chunk before left. -/
def blockProj (x7 : Vec F S2x256x2048 .f32) (x8 : Vec F S2x256x1024 .bf16) (x9 : Vec F S2048x2048 .bf16)
    (y : Vec F S2x256x1024 .bf16) (b : Fin 2) : Vec F S1x256x2048 .f32 :=
  projV (fun z => x8 ((catR b).emb z)) (fun z => x9 (upR.emb z)) (fun z => y ((catR b).emb z)) (fun z => x9 (loR.emb z))
    (fun z => x7 ((outR b).emb z))

theorem proj_eq (arg8 : Memref sig .tc .vmem S2x256x2048 .f32) (harg8 : arg8.IsWhole)
    (arg9 : Memref sig .tc .vmem S2x256x1024 .bf16) (harg9 : arg9.IsWhole)
    (arg10 : Memref sig .tc .vmem S2048x2048 .bf16) (harg10 : arg10.IsWhole)
    (arg19 : Memref sig .tc .vmem S2x256x1024 .bf16) (harg19 : arg19.IsWhole)
    (x7 : Vec F S2x256x2048 .f32) (x8 : Vec F S2x256x1024 .bf16) (x9 : Vec F S2048x2048 .bf16)
    (xs3 : Vec F S2x256x1024 .bf16) (b : Fin 2) :
    proj arg8 harg8 arg9 harg9 arg10 harg10 arg19 harg19 x7 x8 x9 xs3 b = blockProj x7 x8 x9 xs3 b := by
  unfold proj blockProj
  congr 1
  all_goals
    funext z
    exact Memref.IsWhole.readAt_unread _ _ _ _

/-- The two batch rows' projections, read back at a batch row. -/
theorem canon_proj (w : Fin 2 → Vec F S1x256x2048 .f32) (b : Fin 2) (x : S1x256x2048.Idx) :
    View.canon ([⟨outR 1, w 1⟩, ⟨outR 0, w 0⟩] : List (View.Piece (Elt F) S2x256x2048 .f32)) ((outR b).emb x) = w b x :=
  canon_map (fun b => ⟨outR b, w b⟩) outR_disjoint [] b x [1, 0] ((by decide : ∀ b : Fin 2, b ∈ [1, 0]) b)

/-- A store of a whole buffer of what was loaded of a whole block, read back. -/
theorem canon_pass13 (arg11 : Memref sig .tc .vmem S352x2048 .f32) (harg11 : arg11.IsWhole) (x : Vec F S352x2048 .f32) :
    View.canon ([⟨Rect.unit ![0, 0] S352x2048.size inb_S352x2048_S352x2048_0_0, k0_pay355 (View.readAt (Elt F) arg11.view
      (Rect.unit ![0, 0] S352x2048.size inb_S352x2048_S352x2048_0_0).toLoadRect (harg11.unread x))⟩] :
        List (View.Piece (Elt F) S352x2048 .bf16)) = k0_pay355 x := by
  rw [View.canon_unit_zero (by funext a; fin_cases a <;> rfl)]
  congr 1
  funext z
  refine (Memref.IsWhole.readAt_unread _ _ _ _).trans (congrArg x ?_)
  funext a; apply Fin.ext
  fin_cases a <;> simp

/-- A store of a whole buffer of what was loaded of a whole block, read back. -/
theorem canon_pass14 (arg12 : Memref sig .tc .vmem S128x2048 .f32) (harg12 : arg12.IsWhole) (x : Vec F S128x2048 .f32) :
    View.canon ([⟨Rect.unit ![0, 0] S128x2048.size inb_S128x2048_S128x2048_0_0, k0_pay356 (View.readAt (Elt F) arg12.view
      (Rect.unit ![0, 0] S128x2048.size inb_S128x2048_S128x2048_0_0).toLoadRect (harg12.unread x))⟩] :
        List (View.Piece (Elt F) S128x2048 .bf16)) = k0_pay356 x := by
  rw [View.canon_unit_zero (by funext a; fin_cases a <;> rfl)]
  congr 1
  funext z
  refine (Memref.IsWhole.readAt_unread _ _ _ _).trans (congrArg x ?_)
  funext a; apply Fin.ext
  fin_cases a <;> simp

/-- The state rows before a point, of what the point before left. -/
abbrev preM (r : Fin 8) : Vec F S1x1 .f32 := fun z => staAt m c (t.val - 1) (Nat.lt_of_le_of_lt (Nat.sub_le _ _) t.isLt) ((oneR r).emb z)
/-- The state rows before a point, of what the point before left. -/
abbrev preC (r : Fin 8) : Vec F S1x128x256 .f32 := fun z => memAt m c (t.val - 1) (Nat.lt_of_le_of_lt (Nat.sub_le _ _) t.isLt) ((memR r).emb z)
/-- The state rows before a point, of what the point before left. -/
abbrev preN (r : Fin 8) : Vec F S1x128 .f32 := fun z => norAt m c (t.val - 1) (Nat.lt_of_le_of_lt (Nat.sub_le _ _) t.isLt) ((vecR r).emb z)

theorem oneL_eq (arg18 : Memref sig .tc .vmem S8x128 .f32) (harg18 : arg18.IsWhole) (xs2 : Vec F S8x128 .f32) (r : Fin 8) :
    oneL arg18 harg18 xs2 r = fun z => xs2 ((oneR r).emb z) := by
  funext z; exact Memref.IsWhole.readAt_unread _ _ _ _

theorem vecL_eq (arg17 : Memref sig .tc .vmem S8x128 .f32) (harg17 : arg17.IsWhole) (xs1 : Vec F S8x128 .f32) (r : Fin 8) :
    vecL arg17 harg17 xs1 r = fun z => xs1 ((vecR r).emb z) := by
  funext z; exact Memref.IsWhole.readAt_unread _ _ _ _

theorem memL_eq (arg16 : Memref sig .tc .vmem S8x128x256 .f32) (harg16 : arg16.IsWhole) (xs0 : Vec F S8x128x256 .f32) (r : Fin 8) :
    memL arg16 harg16 xs0 r = fun z => xs0 ((memR r).emb z) := by
  funext z; exact Memref.IsWhole.readAt_unread _ _ _ _

/-- Whatever the case, a point leaves the weights' blocks it is given. -/
def Passes : Prop :=
  (outsAt0 m c t.val t.isLt).2.1 = k0_pay355 (iblk m c 10 t) ∧ (outsAt0 m c t.val t.isLt).2.2.1 = k0_pay356 (iblk m c 11 t)

/-- A point leaves the projection of the rows the point before left. -/
def Projects : Prop :=
  ∀ b x, (outsAt0 m c t.val t.isLt).1 ((outR b).emb x)
    = blockProj (iblk m c 7 t) (iblk m c 8 t) (iblk m c 9 t) (rowsAt m c (t.val - 1) (Nat.lt_of_le_of_lt (Nat.sub_le _ _) t.isLt)) b x

/-- What the first point leaves. -/
theorem point_A (h0 : t.val % 8 = 0) (h1 : t.val % 17 = 0) (h2 : ¬(1 ≤ t.val % 17 ∧ t.val % 17 ≤ 15)) (h3 : ¬t.val % 17 = 16) :
    Leaves m c t (fun _ => zeroM) (fun _ => zeroC) (fun _ => zeroN) ∧ Passes m c t := by
  have hp := pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1) (fun h => h2 ((hcond0_2 t).mp h)) (fun h => h3 ((hcond0_3 t).mp h))
  simp only [loads_eq, funext (oneZ_eq (F := F) _), funext (vecZ_eq (F := F) _), funext (memZ_eq (F := F) _)] at hp
  obtain ⟨h13, h14, hC, hN, hM, hY⟩ := hp
  unfold Leaves Passes memAt norAt staAt rowsAt
  rw [outsAt0_A m c t h0 h1 h2 h3]
  dsimp only
  refine ⟨fun r => ⟨fun x => ?_, fun x => ?_, fun x => ?_, fun x => ?_⟩, ⟨?_, ?_⟩⟩
  · unfold sout0_A_0
    rw [View.read_writes_junk_apply_eq_canon, hC, canon_stackC, if_pos r.isLt]
  · unfold sout0_A_1
    rw [View.read_writes_junk_apply_eq_canon, hN, canon_stackN, if_pos r.isLt]
  · unfold sout0_A_2
    rw [View.read_writes_junk_apply_eq_canon, hM]
    exact canon_rowsOn (fun r => ⟨vecR r, rowM (ptLoads m c t) (fun _ => zeroM) r⟩) vecR_disjoint _ r x
  · unfold sout0_A_3
    rw [View.read_writes_junk_apply_eq_canon, hY]
    exact canon_rowsOn (fun r => ⟨wideR (bt r) (hd r), rowY (ptLoads m c t) (fun _ => zeroM) (fun _ => zeroC) (fun _ => zeroN) r⟩) wideR_disjoint _ r x
  · unfold out0_A_13
    funext y
    rw [View.read_writes_junk_apply_eq_canon, h13, canon_pass13]
  · unfold out0_A_14
    funext y
    rw [View.read_writes_junk_apply_eq_canon, h14, canon_pass14]

/-- What a point that goes on from the point before leaves. -/
theorem point_B (h0 : ¬t.val % 8 = 0) (h1 : ¬t.val % 17 = 0) (h2 : (1 ≤ t.val % 17 ∧ t.val % 17 ≤ 15)) (h3 : ¬t.val % 17 = 16) :
    Leaves m c t (preM m c t) (preC m c t) (preN m c t) ∧ Passes m c t ∧ Projects m c t := by
  have hp := pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h)) ((hcond0_2 t).mpr h2) (fun h => h3 ((hcond0_3 t).mp h))
  simp only [loads_eq, proj_eq, vecL_eq, memL_eq, funext (oneL_eq (F := F) _ _ _), funext (vecL_eq (F := F) _ _ _), funext (memL_eq (F := F) _ _ _)] at hp
  obtain ⟨h12, h13, h14, hC, hN, hM, hY⟩ := hp
  unfold Leaves Passes Projects memAt norAt staAt rowsAt
  rw [outsAt0_B m c t h0 h1 h2 h3]
  dsimp only
  refine ⟨fun r => ⟨fun x => ?_, fun x => ?_, fun x => ?_, fun x => ?_⟩, ⟨?_, ?_⟩, fun b x => ?_⟩
  · unfold sout0_B_0
    rw [View.read_writes_junk_apply_eq_canon, hC]
    exact canon_rowsOn (fun r => ⟨memR r, rowC (ptLoads m c t) (preM m c t) r (preC m c t r)⟩) memR_disjoint _ r x
  · unfold sout0_B_1
    rw [View.read_writes_junk_apply_eq_canon, hN]
    exact canon_rowsOn (fun r => ⟨vecR r, rowN (ptLoads m c t) (preM m c t) r (preN m c t r)⟩) vecR_disjoint _ r x
  · unfold sout0_B_2
    rw [View.read_writes_junk_apply_eq_canon, hM]
    exact canon_rowsOn (fun r => ⟨vecR r, rowM (ptLoads m c t) (preM m c t) r⟩) vecR_disjoint _ r x
  · unfold sout0_B_3
    rw [View.read_writes_junk_apply_eq_canon, hY]
    exact canon_rowsOn (fun r => ⟨wideR (bt r) (hd r), rowY (ptLoads m c t) (preM m c t) (preC m c t) (preN m c t) r⟩) wideR_disjoint _ r x
  · unfold out0_B_13
    funext y
    rw [View.read_writes_junk_apply_eq_canon, h13, canon_pass13]
  · unfold out0_B_14
    funext y
    rw [View.read_writes_junk_apply_eq_canon, h14, canon_pass14]
  · unfold out0_B_12
    rw [View.read_writes_junk_apply_eq_canon, h12]
    exact canon_proj _ b x

/-- What a point that starts the second batch pair leaves. -/
theorem point_C (h0 : t.val % 8 = 0) (h1 : ¬t.val % 17 = 0) (h2 : (1 ≤ t.val % 17 ∧ t.val % 17 ≤ 15)) (h3 : ¬t.val % 17 = 16) :
    Leaves m c t (fun _ => zeroM) (fun _ => zeroC) (fun _ => zeroN) ∧ Passes m c t ∧ Projects m c t := by
  have hp := pieces_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2 ((hcond0_0 t).mpr h0) (fun h => h1 ((hcond0_1 t).mp h)) ((hcond0_2 t).mpr h2) (fun h => h3 ((hcond0_3 t).mp h))
  simp only [loads_eq, proj_eq, funext (oneZ_eq (F := F) _), funext (vecZ_eq (F := F) _), funext (memZ_eq (F := F) _)] at hp
  obtain ⟨h12, h13, h14, hC, hN, hM, hY⟩ := hp
  unfold Leaves Passes Projects memAt norAt staAt rowsAt
  rw [outsAt0_C m c t h0 h1 h2 h3]
  dsimp only
  refine ⟨fun r => ⟨fun x => ?_, fun x => ?_, fun x => ?_, fun x => ?_⟩, ⟨?_, ?_⟩, fun b x => ?_⟩
  · unfold sout0_C_0
    rw [View.read_writes_junk_apply_eq_canon, hC, canon_stackC, if_pos r.isLt]
  · unfold sout0_C_1
    rw [View.read_writes_junk_apply_eq_canon, hN, canon_stackN, if_pos r.isLt]
  · unfold sout0_C_2
    rw [View.read_writes_junk_apply_eq_canon, hM]
    exact canon_rowsOn (fun r => ⟨vecR r, rowM (ptLoads m c t) (fun _ => zeroM) r⟩) vecR_disjoint _ r x
  · unfold sout0_C_3
    rw [View.read_writes_junk_apply_eq_canon, hY]
    exact canon_rowsOn (fun r => ⟨wideR (bt r) (hd r), rowY (ptLoads m c t) (fun _ => zeroM) (fun _ => zeroC) (fun _ => zeroN) r⟩) wideR_disjoint _ r x
  · unfold out0_C_13
    funext y
    rw [View.read_writes_junk_apply_eq_canon, h13, canon_pass13]
  · unfold out0_C_14
    funext y
    rw [View.read_writes_junk_apply_eq_canon, h14, canon_pass14]
  · unfold out0_C_12
    rw [View.read_writes_junk_apply_eq_canon, h12]
    exact canon_proj _ b x

/-- What the last point leaves. -/
theorem point_D (h0 : t.val % 8 = 0) (h1 : ¬t.val % 17 = 0) (h2 : ¬(1 ≤ t.val % 17 ∧ t.val % 17 ≤ 15)) (h3 : t.val % 17 = 16) :
    Passes m c t ∧ Projects m c t := by
  have hp := pieces_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2 ((hcond0_0 t).mpr h0) (fun h => h1 ((hcond0_1 t).mp h)) (fun h => h2 ((hcond0_2 t).mp h)) ((hcond0_3 t).mpr h3)
  simp only [proj_eq] at hp
  obtain ⟨h12, h13, h14⟩ := hp
  unfold Passes Projects
  rw [outsAt0_D m c t h0 h1 h2 h3]
  dsimp only
  refine ⟨⟨?_, ?_⟩, fun b x => ?_⟩
  · unfold out0_D_13
    funext y
    rw [View.read_writes_junk_apply_eq_canon, h13, canon_pass13]
  · unfold out0_D_14
    funext y
    rw [View.read_writes_junk_apply_eq_canon, h14, canon_pass14]
  · unfold out0_D_12
    rw [View.read_writes_junk_apply_eq_canon, h12]
    exact canon_proj _ b x

end Cert.KernelIdeal.Chain

end
-- ==== Proof.Layer.lean ====
/- The layer's recurrence and output projection, of the program's arguments: what both programs compute. -/
module

public import proofs.«01_k».proof.Proof.Chunk
public import Idealize.ShloMosaic.Lib.Pointwise

@[expose] public section

noncomputable section

namespace Cert.Mlstm

open Idealize.ShloMosaic

/-- A row of a batch. -/
abbrev flat (b : Fin 4) (t : Fin 2048) : Fin 8192 := ⟨2048 * b.val + t.val, by omega⟩

/-- Real values of a batch's rows, as a sequence of steps (zero past the last row). -/
def steps (X : Fin 2048 → EReal) (t : ℕ) : ℝ := if h : t < 2048 then (X ⟨t, h⟩).toReal else 0

theorem coe_steps (X : Fin 2048 → EReal) (hX : ∀ t, ∃ r : ℝ, X t = r) (t : Fin 2048) : ((steps X t.val : ℝ) : EReal) = X t := by
  obtain ⟨r, hr⟩ := hX t
  rw [steps, dif_pos t.isLt, hr, EReal.toReal_coe]

/-- The arguments of the call that the result depends on through the recurrence and the projection. -/
structure Args where
  /-- queries, keys, values and output gates, side by side -/
  qkvo : Fin 8192 → Fin 3072 → EReal
  gates : Fin 8192 → Fin 128 → EReal
  bias : Fin 128 → EReal
  gnorm : Fin 1024 → EReal
  resid : Fin 8192 → Fin 2048 → EReal
  conv : Fin 8192 → Fin 1024 → EReal
  wout : Fin 2048 → Fin 2048 → EReal

namespace Args

variable (A : Args) (b : Fin 4) (h : Fin 4)

/-- A head's queries. -/
def q (t : ℕ) (d : Fin 128) : ℝ := steps (fun r => A.qkvo (flat b r) ⟨128 * h.val + d.val, by omega⟩) t
/-- A head's keys. -/
def k (t : ℕ) (d : Fin 128) : ℝ := steps (fun r => A.qkvo (flat b r) ⟨512 + (128 * h.val + d.val), by omega⟩) t
/-- A head's values. -/
def v (t : ℕ) (e : Fin 256) : ℝ := steps (fun r => A.qkvo (flat b r) ⟨1024 + (256 * h.val + e.val), by omega⟩) t
/-- A head's input gates. -/
def li (t : ℕ) : ℝ := steps (fun r => A.gates (flat b r) ⟨h.val, by omega⟩ + A.bias ⟨h.val, by omega⟩) t
/-- A head's forget gates before the logistic function. -/
def fg (t : ℕ) : ℝ := steps (fun r => A.gates (flat b r) ⟨4 + h.val, by omega⟩ + A.bias ⟨4 + h.val, by omega⟩) t
/-- A head's log forget gates. -/
def lf (t : ℕ) : ℝ := logSig (A.fg b h t)

/-- A head's output at a step. -/
def out (t : ℕ) (e : Fin 256) : ℝ := headOut (A.lf b h) (A.li b h) (A.q b h) (A.k b h) (A.v b h) t e

/-- A head's output, normalised, scaled and gated. -/
def gated (t : Fin 2048) (e : Fin 256) : EReal :=
  gatedE (fun e => ((A.out b h t.val e : ℝ) : EReal)) (A.gnorm ⟨256 * h.val + e.val, by omega⟩)
    (A.qkvo (flat b t) ⟨2048 + (256 * h.val + e.val), by omega⟩) e

/-- The heads side by side. -/
def rows (t : Fin 2048) (j : Fin 1024) : EReal := A.gated b ⟨j.val / 256, by omega⟩ t ⟨j.val % 256, by omega⟩

/-- The residual and the projection of the convolution's and the recurrence's rows. -/
def result (t : Fin 2048) (n : Fin 2048) : EReal :=
  A.resid (flat b t) n + ((∑ j : Fin 1024, A.conv (flat b t) j * A.wout ⟨j.val, by omega⟩ n)
    + ∑ j : Fin 1024, A.rows b t j * A.wout ⟨1024 + j.val, by omega⟩ n)

/-- What the recurrence reads is real. -/
structure Finite : Prop where
  qkv : ∀ r (j : Fin 3072), j.val < 2048 → ∃ x : ℝ, A.qkvo r j = x
  gate : ∀ r (j : Fin 128), j.val < 8 → ∃ x : ℝ, A.gates r j + A.bias j = x

variable {A} (hA : A.Finite) (t : Fin 2048)
include hA

theorem coe_q (d : Fin 128) : ((A.q b h t.val d : ℝ) : EReal) = A.qkvo (flat b t) ⟨128 * h.val + d.val, by omega⟩ :=
  coe_steps _ (fun r => hA.qkv _ _ (by show 128 * h.val + d.val < 2048; omega)) t
theorem coe_k (d : Fin 128) : ((A.k b h t.val d : ℝ) : EReal) = A.qkvo (flat b t) ⟨512 + (128 * h.val + d.val), by omega⟩ :=
  coe_steps _ (fun r => hA.qkv _ _ (by show 512 + (128 * h.val + d.val) < 2048; omega)) t
theorem coe_v (e : Fin 256) : ((A.v b h t.val e : ℝ) : EReal) = A.qkvo (flat b t) ⟨1024 + (256 * h.val + e.val), by omega⟩ :=
  coe_steps _ (fun r => hA.qkv _ _ (by show 1024 + (256 * h.val + e.val) < 2048; omega)) t
theorem coe_li : ((A.li b h t.val : ℝ) : EReal) = A.gates (flat b t) ⟨h.val, by omega⟩ + A.bias ⟨h.val, by omega⟩ :=
  coe_steps _ (fun r => hA.gate _ _ (by show h.val < 8; omega)) t
theorem coe_fg : ((A.fg b h t.val : ℝ) : EReal) = A.gates (flat b t) ⟨4 + h.val, by omega⟩ + A.bias ⟨4 + h.val, by omega⟩ :=
  coe_steps _ (fun r => hA.gate _ _ (by show 4 + h.val < 8; omega)) t

end Args

end Cert.Mlstm

end
-- ==== Proof.Blocks.lean ====
/- The blocks a grid point is given, at an index: entries of the program's arguments. -/
module

public import proofs.«01_k».proof.Proof.Step
public import proofs.«01_k».proof.Proof.Layer
public import Idealize.ShloMosaic.Lib.StableHlo.RunRead

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen
open Cert.Mlstm (flat)

variable {F : FTy → Type} [FloatOps F]

/-! ## Which block each window is on -/

theorem index_0 : ∀ t : Fin cfg0.N, (cfg0.win 0).index t = ![min t.val 15 / 8, min t.val 15 % 8, 0] :=
  (by decide +kernel : ∀ t : Fin grid0.N, win0_0.index t = ![min t.val 15 / 8, min t.val 15 % 8, 0])
theorem index_1 : ∀ t : Fin cfg0.N, (cfg0.win 1).index t = ![min t.val 15 / 8, min t.val 15 % 8, 1] :=
  (by decide +kernel : ∀ t : Fin grid0.N, win0_1.index t = ![min t.val 15 / 8, min t.val 15 % 8, 1])
theorem index_2 : ∀ t : Fin cfg0.N, (cfg0.win 2).index t = ![min t.val 15 / 8, min t.val 15 % 8, 1] :=
  (by decide +kernel : ∀ t : Fin grid0.N, win0_2.index t = ![min t.val 15 / 8, min t.val 15 % 8, 1])
theorem index_3 : ∀ t : Fin cfg0.N, (cfg0.win 3).index t = ![min t.val 15 / 8, min t.val 15 % 8, 2] :=
  (by decide +kernel : ∀ t : Fin grid0.N, win0_3.index t = ![min t.val 15 / 8, min t.val 15 % 8, 2])
theorem index_4 : ∀ t : Fin cfg0.N, (cfg0.win 4).index t = ![min t.val 15 / 8, min t.val 15 % 8, 0] :=
  (by decide +kernel : ∀ t : Fin grid0.N, win0_4.index t = ![min t.val 15 / 8, min t.val 15 % 8, 0])
theorem index_5 : ∀ t : Fin cfg0.N, (cfg0.win 5).index t = ![0, 0] :=
  (by decide +kernel : ∀ t : Fin grid0.N, win0_5.index t = ![0, 0])
theorem index_6 : ∀ t : Fin cfg0.N, (cfg0.win 6).index t = ![0, 0] :=
  (by decide +kernel : ∀ t : Fin grid0.N, win0_6.index t = ![0, 0])
theorem index_7 : ∀ t : Fin cfg0.N, (cfg0.win 7).index t = ![(t.val - 1) / 8, (t.val - 1) % 8, 0] :=
  (by decide +kernel : ∀ t : Fin grid0.N, win0_7.index t = ![(t.val - 1) / 8, (t.val - 1) % 8, 0])
theorem index_8 : ∀ t : Fin cfg0.N, (cfg0.win 8).index t = ![(t.val - 1) / 8, (t.val - 1) % 8, 0] :=
  (by decide +kernel : ∀ t : Fin grid0.N, win0_8.index t = ![(t.val - 1) / 8, (t.val - 1) % 8, 0])
theorem index_9 : ∀ t : Fin cfg0.N, (cfg0.win 9).index t = ![0, 0] :=
  (by decide +kernel : ∀ t : Fin grid0.N, win0_9.index t = ![0, 0])
theorem index_10 : ∀ t : Fin cfg0.N, (cfg0.win 10).index t = ![min t.val 15, 0] :=
  (by decide +kernel : ∀ t : Fin grid0.N, win0_10.index t = ![min t.val 15, 0])
theorem index_11 : ∀ t : Fin cfg0.N, (cfg0.win 11).index t = ![min t.val 15, 0] :=
  (by decide +kernel : ∀ t : Fin grid0.N, win0_11.index t = ![min t.val 15, 0])
theorem index_12 : ∀ t : Fin cfg0.N, (cfg0.win 12).index t = ![(t.val - 1) / 8, (t.val - 1) % 8, 0] :=
  (by decide +kernel : ∀ t : Fin grid0.N, win0_12.index t = ![(t.val - 1) / 8, (t.val - 1) % 8, 0])
theorem index_13 : ∀ t : Fin cfg0.N, (cfg0.win 13).index t = ![min t.val 15, 0] :=
  (by decide +kernel : ∀ t : Fin grid0.N, win0_13.index t = ![min t.val 15, 0])
theorem index_14 : ∀ t : Fin cfg0.N, (cfg0.win 14).index t = ![min t.val 15, 0] :=
  (by decide +kernel : ∀ t : Fin grid0.N, win0_14.index t = ![min t.val 15, 0])

/-- Every point but the first writes the projection's block back. -/
theorem flush_12 : ∀ t : Fin cfg0.N, (cfg0.win 12).flush t = true ↔ 1 ≤ t.val :=
  (by decide +kernel : ∀ t : Fin grid0.N, win0_12.flush t = true ↔ 1 ≤ t.val)

theorem flush_13 : ∀ t : Fin cfg0.N, (cfg0.win 13).flush t = true ↔ t.val ≠ 15 :=
  (by decide +kernel : ∀ t : Fin grid0.N, win0_13.flush t = true ↔ t.val ≠ 15)

theorem flush_14 : ∀ t : Fin cfg0.N, (cfg0.win 14).flush t = true ↔ t.val ≠ 15 :=
  (by decide +kernel : ∀ t : Fin grid0.N, win0_14.flush t = true ↔ t.val ≠ 15)

variable (m : (ℓ : Loc nD τ sig) → Buf (Elt F) ℓ) (c : Dev nD) (t : Fin cfg0.N)

/-! ## The arrays the region is entered with -/

theorem V_v0 : V m c main_v0 = shapeCast S4x2048x3072 (m ((c : Thread nD τ).loc main_arg0)) shapeCasts_S8192x3072_S4x2048x3072 := by
  show StableHlo.after hostOps0 (fun b => m (c, b)) (Proc.devRef .tc main_v0) = _
  after_reads_simp
  rfl

theorem V_v1 : V m c main_v1 = shapeCast S4x2048x128 (m ((c : Thread nD τ).loc main_arg1)) shapeCasts_S8192x128_S4x2048x128 := by
  show StableHlo.after hostOps0 (fun b => m (c, b)) (Proc.devRef .tc main_v1) = _
  after_reads_simp
  rfl

theorem V_v2 : V m c main_v2 = shapeCast S4x2048x2048 (m ((c : Thread nD τ).loc main_arg4)) shapeCasts_S8192x2048_S4x2048x2048 := by
  show StableHlo.after hostOps0 (fun b => m (c, b)) (Proc.devRef .tc main_v2) = _
  after_reads_simp
  rfl

theorem V_v3 : V m c main_v3 = shapeCast S4x2048x1024 (m ((c : Thread nD τ).loc main_arg5)) shapeCasts_S8192x1024_S4x2048x1024 := by
  show StableHlo.after hostOps0 (fun b => m (c, b)) (Proc.devRef .tc main_v3) = _
  after_reads_simp
  rfl

/-- Rows split by batch, at an index. -/
theorem split_rows {N : ℕ} {α : Type} (X : (⟨2, ![8192, N]⟩ : Shape).Idx → α)
    (h : (⟨2, ![8192, N]⟩ : Shape).ShapeCasts ⟨3, ![4, 2048, N]⟩) (b : Fin 4) (t : Fin 2048) (d : Fin N) :
    shapeCast ⟨3, ![4, 2048, N]⟩ X h (ix3 b t d) = X (ix2 (flat b t) d) := by
  refine shapeCast_apply X h _ _ ?_
  rw [Shape.rowMajor_val_two, Shape.rowMajor_val_three]
  show (2048 * b.val + t.val) * N + d.val = (b.val * 2048 + t.val) * N + d.val
  rw [Nat.mul_comm 2048]

/-- The batch of a point's batch row. -/
abbrev batOf (n : ℕ) (bi : Fin 2) : Fin 4 := ⟨2 * (n % 16 / 8) + bi.val, by omega⟩
/-- The row of a point's chunk. -/
abbrev rowOf (n : ℕ) (s : Fin 256) : Fin 2048 := ⟨256 * (n % 8) + s.val, by omega⟩

/-! ## The blocks -/

/-- The queries. -/
theorem blk_q (ht : t.val ≤ 15) (b : Fin 2) (s : Fin 256) (d : Fin 512) :
    iblk m c 0 t (ix3 b s d) = m ((c : Thread nD τ).loc main_arg0) (ix2 (flat (batOf t.val b) (rowOf t.val s)) ⟨d.val, by omega⟩) := by
  have hN : t.val < 17 := t.isLt
  unfold iblk
  rw [View.read_apply]
  show V m c main_v0 _ = _
  rw [V_v0]
  refine Eq.trans (congrArg _ ?_) (split_rows _ shapeCasts_S8192x3072_S4x2048x3072 _ _ _)
  funext a; apply Fin.ext
  refine (Pipeline.Window.rect_emb_val (cfg0.win 0) t _ a).trans ?_
  rw [index_0 t]
  have hb := b.isLt
  match a with
  | ⟨0, _⟩ => show _ * 2 + b.val = 2 * (t.val % 16 / 8) + b.val; simp; omega
  | ⟨1, _⟩ => show _ * 256 + s.val = 256 * (t.val % 8) + s.val; simp; omega
  | ⟨2, _⟩ => show 0 * 512 + d.val = _; simp

/-- The keys. -/
theorem blk_k (ht : t.val ≤ 15) (b : Fin 2) (s : Fin 256) (d : Fin 512) :
    iblk m c 1 t (ix3 b s d) = m ((c : Thread nD τ).loc main_arg0) (ix2 (flat (batOf t.val b) (rowOf t.val s)) ⟨512 + d.val, by omega⟩) := by
  have hN : t.val < 17 := t.isLt
  unfold iblk
  rw [View.read_apply]
  show V m c main_v0 _ = _
  rw [V_v0]
  refine Eq.trans (congrArg _ ?_) (split_rows _ shapeCasts_S8192x3072_S4x2048x3072 _ _ _)
  funext a; apply Fin.ext
  refine (Pipeline.Window.rect_emb_val (cfg0.win 1) t _ a).trans ?_
  rw [index_1 t]
  have hb := b.isLt
  match a with
  | ⟨0, _⟩ => show _ * 2 + b.val = 2 * (t.val % 16 / 8) + b.val; simp; omega
  | ⟨1, _⟩ => show _ * 256 + s.val = 256 * (t.val % 8) + s.val; simp; omega
  | ⟨2, _⟩ => show 1 * 512 + d.val = _; simp

/-- The values. -/
theorem blk_v (ht : t.val ≤ 15) (b : Fin 2) (s : Fin 256) (d : Fin 1024) :
    iblk m c 2 t (ix3 b s d) = m ((c : Thread nD τ).loc main_arg0) (ix2 (flat (batOf t.val b) (rowOf t.val s)) ⟨1024 + d.val, by omega⟩) := by
  have hN : t.val < 17 := t.isLt
  unfold iblk
  rw [View.read_apply]
  show V m c main_v0 _ = _
  rw [V_v0]
  refine Eq.trans (congrArg _ ?_) (split_rows _ shapeCasts_S8192x3072_S4x2048x3072 _ _ _)
  funext a; apply Fin.ext
  refine (Pipeline.Window.rect_emb_val (cfg0.win 2) t _ a).trans ?_
  rw [index_2 t]
  have hb := b.isLt
  match a with
  | ⟨0, _⟩ => show _ * 2 + b.val = 2 * (t.val % 16 / 8) + b.val; simp; omega
  | ⟨1, _⟩ => show _ * 256 + s.val = 256 * (t.val % 8) + s.val; simp; omega
  | ⟨2, _⟩ => show 1 * 1024 + d.val = _; simp

/-- The output gates. -/
theorem blk_o (ht : t.val ≤ 15) (b : Fin 2) (s : Fin 256) (d : Fin 1024) :
    iblk m c 3 t (ix3 b s d) = m ((c : Thread nD τ).loc main_arg0) (ix2 (flat (batOf t.val b) (rowOf t.val s)) ⟨2048 + d.val, by omega⟩) := by
  have hN : t.val < 17 := t.isLt
  unfold iblk
  rw [View.read_apply]
  show V m c main_v0 _ = _
  rw [V_v0]
  refine Eq.trans (congrArg _ ?_) (split_rows _ shapeCasts_S8192x3072_S4x2048x3072 _ _ _)
  funext a; apply Fin.ext
  refine (Pipeline.Window.rect_emb_val (cfg0.win 3) t _ a).trans ?_
  rw [index_3 t]
  have hb := b.isLt
  match a with
  | ⟨0, _⟩ => show _ * 2 + b.val = 2 * (t.val % 16 / 8) + b.val; simp; omega
  | ⟨1, _⟩ => show _ * 256 + s.val = 256 * (t.val % 8) + s.val; simp; omega
  | ⟨2, _⟩ => show 2 * 1024 + d.val = _; simp

/-- The gates. -/
theorem blk_g (ht : t.val ≤ 15) (b : Fin 2) (s : Fin 256) (d : Fin 128) :
    iblk m c 4 t (ix3 b s d) = m ((c : Thread nD τ).loc main_arg1) (ix2 (flat (batOf t.val b) (rowOf t.val s)) d) := by
  have hN : t.val < 17 := t.isLt
  unfold iblk
  rw [View.read_apply]
  show V m c main_v1 _ = _
  rw [V_v1]
  refine Eq.trans (congrArg _ ?_) (split_rows _ shapeCasts_S8192x128_S4x2048x128 _ _ _)
  funext a; apply Fin.ext
  refine (Pipeline.Window.rect_emb_val (cfg0.win 4) t _ a).trans ?_
  rw [index_4 t]
  have hb := b.isLt
  match a with
  | ⟨0, _⟩ => show _ * 2 + b.val = 2 * (t.val % 16 / 8) + b.val; simp; omega
  | ⟨1, _⟩ => show _ * 256 + s.val = 256 * (t.val % 8) + s.val; simp; omega
  | ⟨2, _⟩ => show 0 * 128 + d.val = _; simp

/-- The residual. -/
theorem blk_x (ht : 1 ≤ t.val) (b : Fin 2) (s : Fin 256) (d : Fin 2048) :
    iblk m c 7 t (ix3 b s d) = m ((c : Thread nD τ).loc main_arg4) (ix2 (flat (batOf (t.val - 1) b) (rowOf (t.val - 1) s)) d) := by
  have hN : t.val < 17 := t.isLt
  unfold iblk
  rw [View.read_apply]
  show V m c main_v2 _ = _
  rw [V_v2]
  refine Eq.trans (congrArg _ ?_) (split_rows _ shapeCasts_S8192x2048_S4x2048x2048 _ _ _)
  funext a; apply Fin.ext
  refine (Pipeline.Window.rect_emb_val (cfg0.win 7) t _ a).trans ?_
  rw [index_7 t]
  have hb := b.isLt
  match a with
  | ⟨0, _⟩ => show _ * 2 + b.val = 2 * ((t.val - 1) % 16 / 8) + b.val; simp; omega
  | ⟨1, _⟩ => show _ * 256 + s.val = 256 * ((t.val - 1) % 8) + s.val; simp; omega
  | ⟨2, _⟩ => show 0 * 2048 + d.val = _; simp

/-- The convolution's rows. -/
theorem blk_c (ht : 1 ≤ t.val) (b : Fin 2) (s : Fin 256) (d : Fin 1024) :
    iblk m c 8 t (ix3 b s d) = m ((c : Thread nD τ).loc main_arg5) (ix2 (flat (batOf (t.val - 1) b) (rowOf (t.val - 1) s)) d) := by
  have hN : t.val < 17 := t.isLt
  unfold iblk
  rw [View.read_apply]
  show V m c main_v3 _ = _
  rw [V_v3]
  refine Eq.trans (congrArg _ ?_) (split_rows _ shapeCasts_S8192x1024_S4x2048x1024 _ _ _)
  funext a; apply Fin.ext
  refine (Pipeline.Window.rect_emb_val (cfg0.win 8) t _ a).trans ?_
  rw [index_8 t]
  have hb := b.isLt
  match a with
  | ⟨0, _⟩ => show _ * 2 + b.val = 2 * ((t.val - 1) % 16 / 8) + b.val; simp; omega
  | ⟨1, _⟩ => show _ * 256 + s.val = 256 * ((t.val - 1) % 8) + s.val; simp; omega
  | ⟨2, _⟩ => show 0 * 1024 + d.val = _; simp

/-- The gates' bias. -/
theorem blk_bias : iblk m c 5 t = m ((c : Thread nD τ).loc main_arg2) := by
  unfold iblk
  funext y
  rw [View.read_apply]
  show V m c main_arg2 _ = _
  rw [V_main_arg2]
  congr 1
  funext a; apply Fin.ext
  refine (Pipeline.Window.rect_emb_val (cfg0.win 5) t _ a).trans ?_
  rw [index_5 t]
  fin_cases a <;> simp

/-- The normalisation's scale. -/
theorem blk_gn : iblk m c 6 t = m ((c : Thread nD τ).loc main_arg3) := by
  unfold iblk
  funext y
  rw [View.read_apply]
  show V m c main_arg3 _ = _
  rw [V_main_arg3]
  congr 1
  funext a; apply Fin.ext
  refine (Pipeline.Window.rect_emb_val (cfg0.win 6) t _ a).trans ?_
  rw [index_6 t]
  fin_cases a <;> simp

/-- The output weights. -/
theorem blk_w : iblk m c 9 t = m ((c : Thread nD τ).loc main_arg6) := by
  unfold iblk
  funext y
  rw [View.read_apply]
  show V m c main_arg6 _ = _
  rw [V_main_arg6]
  congr 1
  funext a; apply Fin.ext
  refine (Pipeline.Window.rect_emb_val (cfg0.win 9) t _ a).trans ?_
  rw [index_9 t]
  fin_cases a <;> simp

end Cert.KernelIdeal.Chain

end
-- ==== Proof.Invariant.lean ====
/- The kernel's grid, point by point: after every chunk the state rows are the recurrence's and the output rows the
   layer's. -/
module

public import proofs.«01_k».proof.Proof.Blocks

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen
open Cert.Mlstm

variable (m : (ℓ : Loc nD τ sig) → Buf (Elt Ideal) ℓ) (c : Dev nD)

/-- The program's arguments. -/
def args : Args where
  qkvo r j := m ((c : Thread nD τ).loc main_arg0) (ix2 r j)
  gates r j := m ((c : Thread nD τ).loc main_arg1) (ix2 r j)
  bias j := m ((c : Thread nD τ).loc main_arg2) (ix2 0 j)
  gnorm j := m ((c : Thread nD τ).loc main_arg3) (ix2 0 j)
  resid r j := m ((c : Thread nD τ).loc main_arg4) (ix2 r j)
  conv r j := m ((c : Thread nD τ).loc main_arg5) (ix2 r j)
  wout r j := m ((c : Thread nD τ).loc main_arg6) (ix2 r j)

/-- The batch of a state row at a point. -/
abbrev rb (n : ℕ) (r : Fin 8) : Fin 4 := batOf n (bt r)

/-- The states a chunk starts from, by state row, are the recurrence's after `a` steps. -/
structure Holds (A : Args) (n a : ℕ) (pm : Fin 8 → Vec Ideal S1x1 .f32) (pC : Fin 8 → Vec Ideal S1x128x256 .f32)
    (pn : Fin 8 → Vec Ideal S1x128 .f32) : Prop where
  sta : ∀ r, pm r (ix2 0 0) = ((stab (A.lf (rb n r) (hd r)) (A.li (rb n r) (hd r)) a : ℝ) : EReal)
  mem : ∀ r d e, pC r (ix3 0 d e)
    = ((accum (A.lf (rb n r) (hd r)) (A.li (rb n r) (hd r)) (fun s => A.k (rb n r) (hd r) s d * A.v (rb n r) (hd r) s e) a : ℝ) : EReal)
  nor : ∀ r d, pn r (ix2 0 d)
    = ((accum (A.lf (rb n r) (hd r)) (A.li (rb n r) (hd r)) (fun s => A.k (rb n r) (hd r) s d) a : ℝ) : EReal)

/-- The reset states are the recurrence's after no step. -/
theorem holds_zero (A : Args) (n : ℕ) : Holds A n 0 (fun _ => zeroM) (fun _ => zeroC) (fun _ => zeroN) where
  sta r := by simp [stab, Ideal.ofBits, Ideal.ieee]
  mem r d e := by simp [accum, Ideal.ofBits, Ideal.ieee]
  nor r d := by simp [accum, Ideal.ofBits, Ideal.ieee]

/-- What a point leaves. -/
structure Inv (n : ℕ) (hn : n < cfg0.N) : Prop where
  sta : ∀ r d, staAt m c n hn (ix2 r d)
    = ((stab ((args m c).lf (rb n r) (hd r)) ((args m c).li (rb n r) (hd r)) (256 * (n % 8) + 256) : ℝ) : EReal)
  mem : ∀ r d e, memAt m c n hn (ix3 r d e)
    = ((accum ((args m c).lf (rb n r) (hd r)) ((args m c).li (rb n r) (hd r))
        (fun s => (args m c).k (rb n r) (hd r) s d * (args m c).v (rb n r) (hd r) s e) (256 * (n % 8) + 256) : ℝ) : EReal)
  nor : ∀ r d, norAt m c n hn (ix2 r d)
    = ((accum ((args m c).lf (rb n r) (hd r)) ((args m c).li (rb n r) (hd r))
        (fun s => (args m c).k (rb n r) (hd r) s d) (256 * (n % 8) + 256) : ℝ) : EReal)
  rows : ∀ b s j, rowsAt m c n hn (ix3 b s j) = (args m c).rows (batOf n b) (rowOf n s) j

variable {m c} (hA : (args m c).Finite) (t : Fin cfg0.N) (ht : t.val ≤ 15)
include hA ht

theorem ld_q (b h s d) : (ptLoads m c t).q b h (ix3 0 s d)
    = (((args m c).q (batOf t.val b) h (256 * (t.val % 8) + s.val) d : ℝ) : EReal) := by
  show iblk m c 0 t ((headR b h).emb (ix3 0 s d)) = _
  rw [headR_idx, blk_q m c t ht]
  exact ((args m c).coe_q (batOf t.val b) h hA (rowOf t.val s) d).symm

theorem ld_k (b h s d) : (ptLoads m c t).k b h (ix3 0 s d)
    = (((args m c).k (batOf t.val b) h (256 * (t.val % 8) + s.val) d : ℝ) : EReal) := by
  show iblk m c 1 t ((headR b h).emb (ix3 0 s d)) = _
  rw [headR_idx, blk_k m c t ht]
  exact ((args m c).coe_k (batOf t.val b) h hA (rowOf t.val s) d).symm

theorem ld_v (b h s e) : (ptLoads m c t).v b h (ix3 0 s e)
    = (((args m c).v (batOf t.val b) h (256 * (t.val % 8) + s.val) e : ℝ) : EReal) := by
  show iblk m c 2 t ((wideR b h).emb (ix3 0 s e)) = _
  rw [wideR_idx, blk_v m c t ht]
  exact ((args m c).coe_v (batOf t.val b) h hA (rowOf t.val s) e).symm

theorem ld_bias (z) : (ptLoads m c t).bias (ix2 0 z) = (args m c).bias z := by
  show iblk m c 5 t _ = _
  rw [blk_bias]; rfl

theorem ld_g (b s z) : (ptLoads m c t).g b (ix3 0 s z) = (args m c).gates (flat (batOf t.val b) (rowOf t.val s)) z := by
  show iblk m c 4 t ((gateR b).emb (ix3 0 s z)) = _
  rw [gateR_idx, blk_g m c t ht]; rfl

theorem ld_o (b h s e) : (ptLoads m c t).o b h (ix3 0 s e)
    = (args m c).qkvo (flat (batOf t.val b) (rowOf t.val s)) ⟨2048 + (256 * h.val + e.val), by omega⟩ := by
  show iblk m c 3 t ((wideR b h).emb (ix3 0 s e)) = _
  rw [wideR_idx, blk_o m c t ht]; rfl

theorem ld_gn (h e) : (ptLoads m c t).gn h (ix2 0 e) = (args m c).gnorm ⟨256 * h.val + e.val, by omega⟩ := by
  show iblk m c 6 t ((scaleR h).emb (ix2 0 e)) = _
  rw [scaleR_idx, blk_gn]; rfl

/-- A chunk that starts from the recurrence's states leaves the recurrence's states and the layer's rows. -/
theorem inv_of_leaves {pm pC pn} (hp : Holds (args m c) t.val (256 * (t.val % 8)) pm pC pn) (hl : Leaves m c t pm pC pn) :
    Inv m c t.val t.isLt := by
  have hg : ∀ r, Given (h := hd r) (G := rowG (ptLoads m c t) r) (B := rowB (ptLoads m c t) r) (m0 := pm r)
      ((args m c).lf (rb t.val r) (hd r)) ((args m c).li (rb t.val r) (hd r)) (256 * (t.val % 8)) := fun r =>
    { hB := fun s => by
        refine cumV_apply _ _ _ ((args m c).fg (rb t.val r) (hd r)) (a := 256 * (t.val % 8)) (fun s => ?_) s
        rw [ld_g hA t ht, ld_bias hA t ht]
        exact ((args m c).coe_fg (rb t.val r) (hd r) hA (rowOf t.val s)).symm
      hG := fun s => by
        rw [rowG, gateV_apply, ld_g hA t ht, ld_bias hA t ht]
        exact ((args m c).coe_li (rb t.val r) (hd r) hA (rowOf t.val s)).symm
      hm := hp.sta r }
  refine ⟨fun r d => ?_, fun r d e => ?_, fun r d => ?_, fun b s j => ?_⟩
  · rw [← vecR_idx, (hl r).2.2.1]
    exact (hg r).stabiliser 0 d
  · rw [← memR_idx, (hl r).1]
    exact (hg r).prods (fun s d => ld_k hA t ht _ _ s d) (fun s e => ld_v hA t ht _ _ s e) (fun d e => hp.mem r d e) 0 d e
  · rw [← vecR_idx, (hl r).2.1]
    exact (hg r).sums (fun s d => ld_k hA t ht _ _ s d) (fun d => hp.nor r d) 0 d
  · obtain ⟨r, e, hb, hj⟩ : ∃ (r : Fin 8) (e : Fin 256), bt r = b ∧ col 4 (hd r) (by norm_num) e = j :=
      ⟨⟨4 * b.val + j.val / 256, by omega⟩, ⟨j.val % 256, by omega⟩, Fin.ext (by show (4 * b.val + j.val / 256) / 4 = b.val; omega),
        Fin.ext (by show 256 * ((4 * b.val + j.val / 256) % 4) + j.val % 256 = j.val; omega)⟩
    subst hb hj
    rw [← wideR_idx, (hl r).2.2.2, rowY, yV_apply, ld_gn hA t ht, ld_o hA t ht]
    simp only [(hg r).out (fun s d => ld_q hA t ht _ _ s d) (fun s d => ld_k hA t ht _ _ s d)
      (fun s e => ld_v hA t ht _ _ s e) (fun d e => hp.mem r d e) (fun d => hp.nor r d)]
    unfold Args.rows
    have e1 : (⟨(256 * (hd r).val + e.val) / 256, by omega⟩ : Fin 4) = hd r := Fin.ext (by show (256 * (r.val % 4) + e.val) / 256 = r.val % 4; omega)
    have e2 : (⟨(256 * (hd r).val + e.val) % 256, by omega⟩ : Fin 256) = e := Fin.ext (by show (256 * (r.val % 4) + e.val) % 256 = e.val; omega)
    show _ = (args m c).gated _ ⟨(256 * (hd r).val + e.val) / 256, _⟩ _ ⟨(256 * (hd r).val + e.val) % 256, _⟩
    rw [e1, e2]
    rfl

end Cert.KernelIdeal.Chain

end
-- ==== Proof.Results.lean ====
/- The kernel's run: what each result array holds. -/
module

public import proofs.«01_k».proof.Proof.Invariant
public import proofs.«01_k».proof.Proof.Gen.KernelIdeal.Value

@[expose] public section

set_option maxRecDepth 16384

noncomputable section

namespace Cert.KernelIdeal.Chain

open Idealize.ShloMosaic Idealize.ShloMosaic.TcCoe Idealize.ShloMosaic.Tactic Idealize.SL.Sem
open Cert.KernelIdeal.Gen
open Cert.Mlstm

variable {m : (ℓ : Loc nD τ sig) → Buf (Elt Ideal) ℓ} {c : Dev nD} (hA : (args m c).Finite)

/-- The states a chunk starts from are those the chunk before left. -/
theorem holds_of_inv (t : Fin cfg0.N) (ht : t.val ≤ 15) (h8 : t.val % 8 ≠ 0)
    (hI : Inv m c (t.val - 1) (Nat.lt_of_le_of_lt (Nat.sub_le _ _) t.isLt)) :
    Holds (args m c) t.val (256 * (t.val % 8)) (preM m c t) (preC m c t) (preN m c t) := by
  have hb : ∀ r, rb (t.val - 1) r = rb t.val r := fun r => Fin.ext (by
    show 2 * ((t.val - 1) % 16 / 8) + _ = 2 * (t.val % 16 / 8) + _; omega)
  have ha : 256 * ((t.val - 1) % 8) + 256 = 256 * (t.val % 8) := by omega
  refine ⟨fun r => ?_, fun r d e => ?_, fun r d => ?_⟩
  · have := hI.sta r 0
    rw [hb, ha] at this
    rw [← this, ← oneR_idx]
  · have := hI.mem r d e
    rw [hb, ha] at this
    rw [← this, ← memR_idx]
  · have := hI.nor r d
    rw [hb, ha] at this
    rw [← this, ← vecR_idx]

include hA in
/-- Every chunk leaves the recurrence's states and the layer's rows. -/
theorem inv_all (n : ℕ) : ∀ (hn : n < cfg0.N), n ≤ 15 → Inv m c n hn := by
  induction n with
  | zero =>
    intro hn _
    exact inv_of_leaves hA ⟨0, hn⟩ (by simp) (holds_zero _ _)
      (point_A m c ⟨0, hn⟩ (by simp) (by simp) (by simp) (by simp)).1
  | succ n ih =>
    intro hn h15
    by_cases h8 : (n + 1) % 8 = 0
    · have hp := (point_C m c ⟨n + 1, hn⟩ h8 (by simp; omega) (by simp; omega) (by simp; omega)).1
      refine inv_of_leaves hA ⟨n + 1, hn⟩ h15 ?_ hp
      have h0 : 256 * ((n + 1) % 8) = 0 := by omega
      show Holds _ _ (256 * ((n + 1) % 8)) _ _ _
      rw [h0]
      exact holds_zero _ _
    · have hp := (point_B m c ⟨n + 1, hn⟩ h8 (by simp; omega) (by simp; omega) (by simp; omega)).1
      exact inv_of_leaves hA ⟨n + 1, hn⟩ h15 (holds_of_inv ⟨n + 1, hn⟩ h15 h8 (ih (Nat.lt_of_succ_lt hn) (by omega))) hp

/-- Every point but the first leaves the projection of the rows the point before left. -/
theorem projects (t : Fin cfg0.N) (ht : 1 ≤ t.val) : Projects m c t := by
  have hN : t.val < 17 := t.isLt
  by_cases h16 : t.val = 16
  · exact (point_D m c t (by omega) (by omega) (by omega) (by omega)).2
  by_cases h8 : t.val % 8 = 0
  · exact (point_C m c t h8 (by omega) (by omega) (by omega)).2.2
  · exact (point_B m c t h8 (by omega) (by omega) (by omega)).2.2

/-- Every point leaves the weights' blocks it is given. -/
theorem passes (t : Fin cfg0.N) : Passes m c t := by
  have hN : t.val < 17 := t.isLt
  by_cases h16 : t.val = 16
  · exact (point_D m c t (by omega) (by omega) (by omega) (by omega)).1
  by_cases h0 : t.val = 0
  · exact (point_A m c t (by omega) (by omega) (by omega) (by omega)).2
  by_cases h8 : t.val % 8 = 0
  · exact (point_C m c t h8 (by omega) (by omega) (by omega)).2.1
  · exact (point_B m c t h8 (by omega) (by omega) (by omega)).2.1

include hA in
/-- The projection's block is the layer's result. -/
theorem block_result (t : Fin cfg0.N) (ht : 1 ≤ t.val) (b : Fin 2) (s : Fin 256) (n : Fin 2048) :
    (outsAt0 m c t.val t.isLt).1 (ix3 b s n) = (args m c).result (batOf (t.val - 1) b) (rowOf (t.val - 1) s) n := by
  have hN : t.val < 17 := t.isLt
  have hI := inv_all hA (t.val - 1) (Nat.lt_of_le_of_lt (Nat.sub_le _ _) t.isLt) (by omega)
  have hu : ∀ j : Fin 1024, upR.emb (ix2 j n) = ix2 (⟨j.val, by omega⟩ : Fin 2048) n := fun j => by
    funext a; apply Fin.ext
    match a with
    | ⟨0, _⟩ => simp [Rect.emb_apply]
    | ⟨1, _⟩ => simp [Rect.emb_apply]
  have hl : ∀ j : Fin 1024, loR.emb (ix2 j n) = ix2 (⟨1024 + j.val, by omega⟩ : Fin 2048) n := fun j => by
    funext a; apply Fin.ext
    match a with
    | ⟨0, _⟩ => simp [Rect.emb_apply]
    | ⟨1, _⟩ => simp [Rect.emb_apply]
  rw [← outR_idx, projects t ht b]
  unfold blockProj projV k0_pay249
  pointwise
  simp only [outR_idx, catR_idx, hu, hl, blk_x m c t ht, blk_c m c t ht, blk_w, hI.rows]
  rfl

include hA in
/-- The first result holds the layer's result. -/
theorem final_12 : (dats m 0 c).arrAt 12 cfg0.N = fun i => (args m c).result (i 0) (i 1) (i 2) := by
  funext i
  refine (dats m 0 c).arrAt_forall_of_cover 12 (fun i v => v = (args m c).result (i 0) (i 1) (i 2)) (fun t hf y => ?_) (fun i => ?_) i
  · have ht : 1 ≤ t.val := (flush_12 t).mp hf
    have hN : t.val < 17 := t.isLt
    rw [Cert.KernelIdeal.Value.flushed12]
    obtain ⟨b, s, n, rfl⟩ : ∃ (b : Fin 2) (s : Fin 256) (n : Fin 2048), y = ix3 b s n := ⟨y 0, y 1, y 2, by
      funext a; match a with
      | ⟨0, _⟩ => rfl
      | ⟨1, _⟩ => rfl
      | ⟨2, _⟩ => rfl⟩
    show (outsAt0 m c t.val t.isLt).1 (ix3 b s n) = _
    rw [block_result hA t ht]
    have hi := index_12 t
    have h0 := Pipeline.Window.rect_emb_val (cfg0.win 12) t (ix3 b s n) 0
    have h1 := Pipeline.Window.rect_emb_val (cfg0.win 12) t (ix3 b s n) 1
    have h2 := Pipeline.Window.rect_emb_val (cfg0.win 12) t (ix3 b s n) 2
    rw [hi] at h0 h1 h2
    congr 1 <;> apply Fin.ext
    · refine Eq.trans ?_ h0.symm
      show 2 * ((t.val - 1) % 16 / 8) + b.val = (t.val - 1) / 8 * 2 + b.val
      omega
    · refine Eq.trans ?_ h1.symm
      show 256 * ((t.val - 1) % 8) + s.val = (t.val - 1) % 8 * 256 + s.val
      omega
    · refine Eq.trans ?_ h2.symm
      show n.val = 0 * 2048 + n.val
      omega
  · obtain ⟨b, s, n, rfl⟩ : ∃ (b : Fin 4) (s n : Fin 2048), i = ix3 b s n := ⟨i 0, i 1, i 2, by
      funext a; match a with
      | ⟨0, _⟩ => rfl
      | ⟨1, _⟩ => rfl
      | ⟨2, _⟩ => rfl⟩
    have hb := b.isLt
    have hs := s.isLt
    let t : Fin cfg0.N := ⟨8 * (b.val / 2) + s.val / 256 + 1, by show _ < 17; omega⟩
    refine ⟨t, (flush_12 t).mpr (by show 1 ≤ _ + 1; omega), ?_⟩
    have key : ((cfg0.win 12).rect t).emb (ix3 (⟨b.val % 2, by omega⟩ : Fin 2) (⟨s.val % 256, by omega⟩ : Fin 256) n : ((cfg0.win 12).xblock (cfg0.grid.coords t)).Idx)
        = (ix3 b s n : S4x2048x2048.Idx) := by
      funext a; apply Fin.ext
      refine (Pipeline.Window.rect_emb_val (cfg0.win 12) t _ a).trans ?_
      rw [index_12 t]
      match a with
      | ⟨0, _⟩ => show (8 * (b.val / 2) + s.val / 256 + 1 - 1) / 8 * 2 + b.val % 2 = b.val; omega
      | ⟨1, _⟩ => show (8 * (b.val / 2) + s.val / 256 + 1 - 1) % 8 * 256 + s.val % 256 = s.val; omega
      | ⟨2, _⟩ => show 0 * 2048 + n.val = n.val; omega
    rw [← key]
    exact View.emb_mem_set ((cfg0.win 12).blk t).view _

/-- The second result holds the down weights. -/
theorem final_13 : (dats m 0 c).arrAt 13 cfg0.N = fun i => m ((c : Thread nD τ).loc main_arg7) i := by
  funext i
  refine (dats m 0 c).arrAt_forall_of_cover 13 (fun i v => v = m ((c : Thread nD τ).loc main_arg7) i) (fun t hf y => ?_) (fun i => ?_) i
  · rw [Cert.KernelIdeal.Value.flushed13, (passes t).1]
    show iblk m c 10 t y = _
    unfold iblk
    rw [View.read_apply]
    show V m c main_arg7 _ = _
    rw [V_main_arg7]
    refine congrArg _ ?_
    funext a; apply Fin.ext
    refine (Pipeline.Window.rect_emb_val (cfg0.win 10) t _ a).trans (Eq.trans ?_ (Pipeline.Window.rect_emb_val (cfg0.win 13) t _ a).symm)
    rw [index_10, index_13]
  · obtain ⟨s, n, rfl⟩ : ∃ (s : Fin 5632) (n : Fin 2048), i = ix2 s n := ⟨i 0, i 1, by
      funext a; match a with
      | ⟨0, _⟩ => rfl
      | ⟨1, _⟩ => rfl⟩
    have hs := s.isLt
    let t : Fin cfg0.N := ⟨if s.val / 352 = 15 then 16 else s.val / 352, by show _ < 17; split <;> omega⟩
    have hmin : min t.val 15 = s.val / 352 := by show min (if s.val / 352 = 15 then 16 else s.val / 352) 15 = _; split <;> omega
    refine ⟨t, (flush_13 t).mpr (by show (if s.val / 352 = 15 then 16 else s.val / 352) ≠ 15; split <;> omega), ?_⟩
    have key : ((cfg0.win 13).rect t).emb (ix2 (⟨s.val % 352, by omega⟩ : Fin 352) n : ((cfg0.win 13).xblock (cfg0.grid.coords t)).Idx)
        = (ix2 s n : S5632x2048.Idx) := by
      funext a; apply Fin.ext
      refine (Pipeline.Window.rect_emb_val (cfg0.win 13) t _ a).trans ?_
      rw [index_13 t, hmin]
      match a with
      | ⟨0, _⟩ => show s.val / 352 * 352 + s.val % 352 = s.val; omega
      | ⟨1, _⟩ => show 0 * 2048 + n.val = n.val; omega
    rw [← key]
    exact View.emb_mem_set ((cfg0.win 13).blk t).view _

/-- The third result holds the gate weights. -/
theorem final_14 : (dats m 0 c).arrAt 14 cfg0.N = fun i => m ((c : Thread nD τ).loc main_arg8) i := by
  funext i
  refine (dats m 0 c).arrAt_forall_of_cover 14 (fun i v => v = m ((c : Thread nD τ).loc main_arg8) i) (fun t hf y => ?_) (fun i => ?_) i
  · rw [Cert.KernelIdeal.Value.flushed14, (passes t).2]
    show iblk m c 11 t y = _
    unfold iblk
    rw [View.read_apply]
    show V m c main_arg8 _ = _
    rw [V_main_arg8]
    refine congrArg _ ?_
    funext a; apply Fin.ext
    refine (Pipeline.Window.rect_emb_val (cfg0.win 11) t _ a).trans (Eq.trans ?_ (Pipeline.Window.rect_emb_val (cfg0.win 14) t _ a).symm)
    rw [index_11, index_14]
  · obtain ⟨s, n, rfl⟩ : ∃ (s n : Fin 2048), i = ix2 s n := ⟨i 0, i 1, by
      funext a; match a with
      | ⟨0, _⟩ => rfl
      | ⟨1, _⟩ => rfl⟩
    have hs := s.isLt
    let t : Fin cfg0.N := ⟨if s.val / 128 = 15 then 16 else s.val / 128, by show _ < 17; split <;> omega⟩
    have hmin : min t.val 15 = s.val / 128 := by show min (if s.val / 128 = 15 then 16 else s.val / 128) 15 = _; split <;> omega
    refine ⟨t, (flush_14 t).mpr (by show (if s.val / 128 = 15 then 16 else s.val / 128) ≠ 15; split <;> omega), ?_⟩
    have key : ((cfg0.win 14).rect t).emb (ix2 (⟨s.val % 128, by omega⟩ : Fin 128) n : ((cfg0.win 14).xblock (cfg0.grid.coords t)).Idx)
        = (ix2 s n : S2048x2048.Idx) := by
      funext a; apply Fin.ext
      refine (Pipeline.Window.rect_emb_val (cfg0.win 14) t _ a).trans ?_
      rw [index_14 t, hmin]
      match a with
      | ⟨0, _⟩ => show s.val / 128 * 128 + s.val % 128 = s.val; omega
      | ⟨1, _⟩ => show 0 * 2048 + n.val = n.val; omega
    rw [← key]
    exact View.emb_mem_set ((cfg0.win 14).blk t).view _

end Cert.KernelIdeal.Chain

end
-- ==== Proof.Trip.lean ====
/- One trip of the reference's recurrence, as functions of the values it carries: the blocks it reads, the weights and the
   state it leaves. -/
module

public import proofs.«01_k».proof.Proof.Gen.ReferenceIdeal.Run
public import proofs.«01_k».proof.Proof.Layer
public import Idealize.ShloMosaic.Lib.Pointwise
public import Idealize.ShloMosaic.Lib.DynamicIndex

@[expose] public section

set_option maxRecDepth 16384

noncomputable section

namespace Cert.ReferenceIdeal.Trip

open Idealize.ShloMosaic Idealize.SL.Sem
open Cert.ReferenceIdeal Cert.ReferenceIdeal.Gen Cert.ReferenceIdeal.Value Cert.Mlstm

/-! ### The blocks a trip reads -/

theorem fits5 (N : Nat) (k : Fin 32) :
    (⟨5, ![32, 4, 4, 64, N]⟩ : Shape).Slices (![k.val, 0, 0, 0, 0] : Fin 5 → ℕ) ⟨5, ![1, 4, 4, 64, N]⟩ :=
  ⟨rfl, fun a => by
    match a with
    | ⟨0, _⟩ => exact k.isLt
    | ⟨1, _⟩ | ⟨2, _⟩ | ⟨3, _⟩ | ⟨4, _⟩ => exact Nat.le_of_eq (Nat.zero_add _)⟩

theorem fits4 (k : Fin 32) :
    (⟨4, ![32, 4, 4, 64]⟩ : Shape).Slices (![k.val, 0, 0, 0] : Fin 4 → ℕ) ⟨4, ![1, 4, 4, 64]⟩ :=
  ⟨rfl, fun a => by
    match a with
    | ⟨0, _⟩ => exact k.isLt
    | ⟨1, _⟩ | ⟨2, _⟩ | ⟨3, _⟩ => exact Nat.le_of_eq (Nat.zero_add _)⟩

/-- A stack's block at a trip, by coordinates. -/
theorem block5 {α : Type} {N : Nat} (X : (⟨5, ![32, 4, 4, 64, N]⟩ : Shape).Idx → α) (k : Fin 32) (st : Fin 5 → Int)
    (hst : ∀ a, st a = ((![k.val, 0, 0, 0, 0] : Fin 5 → ℕ) a : Int)) (h h') (b hd : Fin 4) (t : Fin 64) (d : Fin N) :
    shapeCast ⟨4, ![4, 4, 64, N]⟩ (Host.dynamicSlice ⟨5, ![1, 4, 4, 64, N]⟩ X st h) h' (ix4 b hd t d)
      = X (ix5 k b hd t d) := by
  rw [Host.dynamicSlice_eq_extractStridedSlice _ X st _ h (fits5 N k) hst]
  rw [shapeCast_apply _ h' (ix4 b hd t d) (ix5 (0 : Fin 1) b hd t d)
    (by rw [Shape.rowMajor_val_five, Shape.rowMajor_val_four]; simp)]
  simp only [pointwise]
  congr 1
  funext a
  match a with
  | ⟨0, _⟩ => exact Fin.ext (Nat.add_zero _)
  | ⟨1, _⟩ | ⟨2, _⟩ | ⟨3, _⟩ | ⟨4, _⟩ => exact Fin.ext (Nat.zero_add _)

/-- A stack of rows' block at a trip, by coordinates. -/
theorem block4 {α : Type} (X : (⟨4, ![32, 4, 4, 64]⟩ : Shape).Idx → α) (k : Fin 32) (st : Fin 4 → Int)
    (hst : ∀ a, st a = ((![k.val, 0, 0, 0] : Fin 4 → ℕ) a : Int)) (h h') (b hd : Fin 4) (t : Fin 64) :
    shapeCast ⟨3, ![4, 4, 64]⟩ (Host.dynamicSlice ⟨4, ![1, 4, 4, 64]⟩ X st h) h' (ix3 b hd t) = X (ix4 k b hd t) := by
  rw [Host.dynamicSlice_eq_extractStridedSlice _ X st _ h (fits4 k) hst]
  rw [shapeCast_apply _ h' (ix3 b hd t) (ix4 (0 : Fin 1) b hd t)
    (by rw [Shape.rowMajor_val_four, Shape.rowMajor_val_three]; simp)]
  simp only [pointwise]
  congr 1
  funext a
  match a with
  | ⟨0, _⟩ => exact Fin.ext (Nat.add_zero _)
  | ⟨1, _⟩ | ⟨2, _⟩ | ⟨3, _⟩ => exact Fin.ext (Nat.zero_add _)

/-- Running sums along the last axis: a window over the earlier entries. -/
theorem cumsum_apply (x : (⟨3, ![4, 4, 64]⟩ : Shape).Idx → EReal) (h hu) (b hd : Fin 4) (t : Fin 64) :
    Host.reduceWindow (t := ⟨3, ![4, 4, 64]⟩) (u := ⟨0, ![]⟩) (· + ·) ![1, 1, 64] ![1, 1, 1] ![0, 0, 63] ![0, 0, 0] x
        (fun _ => (0 : EReal)) h hu (ix3 b hd t)
      = ∑ s ∈ Finset.range (t.val + 1), if hs : s < 64 then x (ix3 b hd ⟨s, hs⟩) else 0 := by
  have hn : (⟨3, ![1, 1, 64]⟩ : Shape).numel = 64 := by decide
  have key : Host.reduceWindow (t := ⟨3, ![4, 4, 64]⟩) (u := ⟨0, ![]⟩) (· + ·) ![1, 1, 64] ![1, 1, 1] ![0, 0, 63] ![0, 0, 0] x
        (fun _ => (0 : EReal)) h hu (ix3 b hd t)
      = ∑ n : Fin (⟨3, ![1, 1, 64]⟩ : Shape).numel,
          (fun n : ℕ => if 63 ≤ t.val + n then (if hs : t.val + n - 63 < 64 then x (ix3 b hd ⟨t.val + n - 63, hs⟩) else 0) else 0)
            n.val := by
    rw [Fin.sum_univ_def, List.sum_eq_foldl, List.foldl_map]
    unfold Host.reduceWindow
    dsimp only
    congr 1
    funext r n
    congr 1
    obtain ⟨i, hin⟩ : ∃ i, i = (⟨3, ![1, 1, 64]⟩ : Shape).rowMajor.symm n := ⟨_, rfl⟩
    have hni : n = (⟨3, ![1, 1, 64]⟩ : Shape).rowMajor i := by rw [hin, Equiv.apply_symm_apply]
    have h0 : (i 0).val = 0 := Nat.lt_one_iff.1 (i 0).isLt
    have h1 : (i 1).val = 0 := Nat.lt_one_iff.1 (i 1).isLt
    have h2 : ((⟨3, ![1, 1, 64]⟩ : Shape).rowMajor i).val = (i 2).val := by
      rw [Shape.rowMajor_val_three, h0, h1]; simp
    have hi : (i 2).val < 64 := (i 2).isLt
    have e0 : b.val * 1 + (i 0).val - 0 = b.val := by omega
    have e1 : hd.val * 1 + (i 1).val - 0 = hd.val := by omega
    have e2 : t.val * 1 + (i 2).val - 63 = t.val + (i 2).val - 63 := by omega
    rw [← hni] at h2
    rw [h2]
    subst hin
    by_cases hw : 63 ≤ t.val + ((⟨3, ![1, 1, 64]⟩ : Shape).rowMajor.symm n 2).val
    · have hs : t.val + ((⟨3, ![1, 1, 64]⟩ : Shape).rowMajor.symm n 2).val - 63 < 64 := by have := t.isLt; omega
      rw [if_pos hw, dif_pos hs, dif_pos]
      · congr 1
        funext a
        match a with
        | ⟨0, _⟩ => exact Fin.ext e0
        | ⟨1, _⟩ => exact Fin.ext e1
        | ⟨2, _⟩ => exact Fin.ext e2
      · intro a
        match a with
        | ⟨0, _⟩ => exact ⟨Nat.zero_le _, lt_of_eq_of_lt e0 b.isLt⟩
        | ⟨1, _⟩ => exact ⟨Nat.zero_le _, lt_of_eq_of_lt e1 hd.isLt⟩
        | ⟨2, _⟩ => exact ⟨(by show 63 ≤ t.val * 1 + ((⟨3, ![1, 1, 64]⟩ : Shape).rowMajor.symm n 2).val; omega), lt_of_eq_of_lt e2 hs⟩
    · rw [if_neg hw, dif_neg]
      intro hin
      have := (hin 2).1
      exact hw (by show 63 ≤ t.val + ((⟨3, ![1, 1, 64]⟩ : Shape).rowMajor.symm n 2).val; have h : 63 ≤ t.val * 1 + ((⟨3, ![1, 1, 64]⟩ : Shape).rowMajor.symm n 2).val := this; omega)
  rw [key, Fin.sum_univ_eq_sum_range (fun n : ℕ => if 63 ≤ t.val + n then
      (if hs : t.val + n - 63 < 64 then x (ix3 b hd ⟨t.val + n - 63, hs⟩) else 0) else 0) _, hn,
    show Finset.range 64 = Finset.range ((63 - t.val) + (t.val + 1)) from congrArg _ (by have := t.isLt; omega),
    Finset.sum_range_add, Finset.sum_eq_zero, zero_add]
  · refine Finset.sum_congr rfl fun s hs => ?_
    have hs := Finset.mem_range.1 hs
    have ht := t.isLt
    have e : t.val + (63 - t.val + s) - 63 = s := by omega
    rw [if_pos (by omega)]
    simp only [e]
  · intro s hs
    have hs := Finset.mem_range.1 hs
    rw [if_neg (by omega)]

/-! ### What a trip computes -/

theorem negInf : Ideal.ofBits .f32 4286578688#32 = (⊥ : EReal) := by simp [Ideal.ofBits, Ideal.ieee]

/-- The trip's number, read as an integer. -/
theorem counter : ∀ k : Fin 32, (Scf.iv 0#32 1#32 k.val).toInt = (k.val : Int) := by decide

section

variable (V : Valuation τ sig (Elt Ideal))

abbrev xQ : FVec Ideal S32x4x4x64x128 .f32 := V (Proc.devRef .tc main_v36_0)
abbrev xK : FVec Ideal S32x4x4x64x128 .f32 := V (Proc.devRef .tc main_v36_1)
abbrev xV : FVec Ideal S32x4x4x64x256 .f32 := V (Proc.devRef .tc main_v36_2)
abbrev xF : FVec Ideal S32x4x4x64 .f32 := V (Proc.devRef .tc main_v36_3)
abbrev xI : FVec Ideal S32x4x4x64 .f32 := V (Proc.devRef .tc main_v36_4)
abbrev xMask : IVec S64x64 1 := V (Proc.devRef .tc main_v36_5)
abbrev xCtr : IVec S_ 32 := V (Proc.devRef .tc main_v36_6)
abbrev xC : FVec Ideal S4x4x256x128 .f32 := V (Proc.devRef .tc main_v36_7)
abbrev xN : FVec Ideal S4x4x128 .f32 := V (Proc.devRef .tc main_v36_8)
abbrev xM : FVec Ideal S4x4 .f32 := V (Proc.devRef .tc main_v36_9)
abbrev xY : FVec Ideal S32x4x4x64x256 .f32 := V (Proc.devRef .tc main_v36_10)

def tQ : FVec Ideal S4x4x64x128 .f32 := res_main_while0b_v74 V
def tK : FVec Ideal S4x4x64x128 .f32 := res_main_while0b_v75 V
def tV : FVec Ideal S4x4x64x256 .f32 := res_main_while0b_v76 V
def tI : FVec Ideal S4x4x64 .f32 := res_main_while0b_v78 V
def tB : FVec Ideal S4x4x64 .f32 := res_main_while0b_v79 V
def tD : FVec Ideal S4x4x64x64 .f32 := res_main_while0b_v88 V
def tInter : FVec Ideal S4x4x64 .f32 := res_main_while0b_v91 V
def tM : FVec Ideal S4x4x64 .f32 := res_main_while0b_v93 V
def tA : FVec Ideal S4x4x64 .f32 := res_main_while0b_v99 V
def tS : FVec Ideal S4x4x64x64 .f32 := res_main_while0b_v101 V
def tTot : FVec Ideal S4x4 .f32 := res_main_while0b_v120 V
def tW : FVec Ideal S4x4x64 .f32 := res_main_while0b_v124 V
def tMnew : FVec Ideal S4x4 .f32 := res_main_while0b_v127 V
def tPrev : FVec Ideal S4x4 .f32 := res_main_while0b_v130 V
def tExpW : FVec Ideal S4x4x64 .f32 := res_main_while0b_v134 V
def tCnew : FVec Ideal S4x4x256x128 .f32 := step_main_v36_7 V
def tNnew : FVec Ideal S4x4x128 .f32 := step_main_v36_8 V

variable {V} {k : Fin 32} (hk : xCtr V = fun _ => Scf.iv 0#32 1#32 k.val)
include hk

theorem start5 (a : Fin 5) :
    (((![xCtr V, constantI S_ 32 0#32, constantI S_ 32 0#32, constantI S_ 32 0#32, constantI S_ 32 0#32] :
      Fin 5 → IVec S_ 32) a (Shape.Idx.first h_S_)).toInt) = ((![k.val, 0, 0, 0, 0] : Fin 5 → ℕ) a : Int) := by
  match a with
  | ⟨0, _⟩ =>
    show (xCtr V (Shape.Idx.first h_S_)).toInt = (k.val : Int)
    rw [hk]
    exact counter k
  | ⟨1, _⟩ | ⟨2, _⟩ | ⟨3, _⟩ | ⟨4, _⟩ => rfl

theorem start4 (a : Fin 4) :
    (((![xCtr V, constantI S_ 32 0#32, constantI S_ 32 0#32, constantI S_ 32 0#32] :
      Fin 4 → IVec S_ 32) a (Shape.Idx.first h_S_)).toInt) = ((![k.val, 0, 0, 0] : Fin 4 → ℕ) a : Int) := by
  match a with
  | ⟨0, _⟩ => exact start5 hk 0
  | ⟨1, _⟩ | ⟨2, _⟩ | ⟨3, _⟩ => rfl

variable (b h : Fin 4)

theorem tQ_apply (t : Fin 64) (d : Fin 128) : tQ V (ix4 b h t d) = xQ V (ix5 k b h t d) :=
  block5 (xQ V) k _ (start5 hk) sliceFits_S32x4x4x64x128_S1x4x4x64x128 shapeCasts_S1x4x4x64x128_S4x4x64x128 b h t d
theorem tK_apply (t : Fin 64) (d : Fin 128) : tK V (ix4 b h t d) = xK V (ix5 k b h t d) :=
  block5 (xK V) k _ (start5 hk) sliceFits_S32x4x4x64x128_S1x4x4x64x128 shapeCasts_S1x4x4x64x128_S4x4x64x128 b h t d
theorem tV_apply (t : Fin 64) (d : Fin 256) : tV V (ix4 b h t d) = xV V (ix5 k b h t d) :=
  block5 (xV V) k _ (start5 hk) sliceFits_S32x4x4x64x256_S1x4x4x64x256 shapeCasts_S1x4x4x64x256_S4x4x64x256 b h t d
theorem tI_apply (t : Fin 64) : tI V (ix3 b h t) = xI V (ix4 k b h t) :=
  block4 (xI V) k _ (start4 hk) sliceFits_S32x4x4x64_S1x4x4x64 shapeCasts_S1x4x4x64_S4x4x64 b h t

theorem tB_apply (t : Fin 64) : tB V (ix3 b h t)
    = ∑ s ∈ Finset.range (t.val + 1), if hs : s < 64 then xF V (ix4 k b h ⟨s, hs⟩) else 0 := by
  refine Eq.trans ?_ ((cumsum_apply (shapeCast S4x4x64 (Host.dynamicSlice S1x4x4x64 (xF V) (fun k =>
    (((![xCtr V, constantI S_ 32 0#32, constantI S_ 32 0#32, constantI S_ 32 0#32] : Fin 4 → IVec S_ 32) k
      (Shape.Idx.first h_S_)).toInt)) sliceFits_S32x4x4x64_S1x4x4x64) shapeCasts_S1x4x4x64_S4x4x64)
      reduceWindows_S4x4x64_S4x4x64_w1s1p0_0_w1s1p0_0_w64s1p63_0 h_S_ b h t).trans ?_)
  · show Ideal.hostReduceWindowAdd (s := S4x4x64) (t := S4x4x64) ![1, 1, 64] ![1, 1, 1] ![0, 0, 63] ![0, 0, 0]
      reduceWindows_S4x4x64_S4x4x64_w1s1p0_0_w1s1p0_0_w64s1p63_0 _ (Ideal.ofBits .f32 0#32) _ = _
    rw [show Ideal.ofBits .f32 0#32 = (0 : EReal) by simp [Ideal.ofBits, Ideal.ieee]]
    rfl
  · refine Finset.sum_congr rfl fun s _ => ?_
    by_cases hs : s < 64
    · rw [dif_pos hs, dif_pos hs, block4 (xF V) k _ (start4 hk)]
    · rw [dif_neg hs, dif_neg hs]

end

section

variable (V : Valuation τ sig (Elt Ideal)) (b h : Fin 4)

/-- A head's rows of a trip. -/
abbrev rQ (t : Fin 64) (d : Fin 128) : EReal := tQ V (ix4 b h t d)
abbrev rK (t : Fin 64) (d : Fin 128) : EReal := tK V (ix4 b h t d)
abbrev rV (t : Fin 64) (e : Fin 256) : EReal := tV V (ix4 b h t e)
abbrev rI (t : Fin 64) : EReal := tI V (ix3 b h t)
abbrev rB (t : Fin 64) : EReal := tB V (ix3 b h t)
abbrev rM : EReal := xM V (ix2 b h)

variable {V} (hM : ∀ t s : Fin 64, xMask V (ix2 t s) = if s ≤ t then 1#1 else 0#1)

include hM in
theorem tD_apply (t s : Fin 64) : tD V (ix4 b h t s) = dlogE (rB V b h) (rI V b h) t s := by
  show select (broadcastInDim S4x4x64x64 ![2, 3] bcast_S64x64_S4x4x64x64_2_3 (xMask V))
    (addf (subf (broadcastInDim S4x4x64x64 ![0, 1, 2, 3] bcast_S4x4x64x1_S4x4x64x64_0_1_2_3
        (broadcastInDim S4x4x64x1 ![0, 1, 2] bcast_S4x4x64_S4x4x64x1_0_1_2 (tB V)))
        (broadcastInDim S4x4x64x64 ![0, 1, 2, 3] bcast_S4x4x1x64_S4x4x64x64_0_1_2_3
          (broadcastInDim S4x4x1x64 ![0, 1, 3] bcast_S4x4x64_S4x4x1x64_0_1_3 (tB V))))
      (broadcastInDim S4x4x64x64 ![0, 1, 2, 3] bcast_S4x4x1x64_S4x4x64x64_0_1_2_3
          (broadcastInDim S4x4x1x64 ![0, 1, 3] bcast_S4x4x64_S4x4x1x64_0_1_3 (tI V)))) _ _ = _
  simp only [pointwise]
  show Scalar.select (xMask V (ix2 t s)) (rB V b h t - rB V b h s + rI V b h s) (Ideal.ofBits .f32 4286578688#32) = _
  rw [hM, negInf, dlogE]
  by_cases hs : s ≤ t
  · rw [if_pos hs, if_pos hs]; rfl
  · rw [if_neg hs, if_neg hs]; rfl

theorem tInter_apply (t : Fin 64) : tInter V (ix3 b h t) = rB V b h t + rM V b h := by
  show addf (tB V) (broadcastInDim S4x4x64 ![0, 1, 2] bcast_S4x4x1_S4x4x64_0_1_2
    (broadcastInDim S4x4x1 ![0, 1] bcast_S4x4_S4x4x1_0_1 (xM V))) (ix3 b h t) = _
  simp only [pointwise]
  rfl

include hM in
theorem tM_apply (t : Fin 64) : tM V (ix3 b h t) = mtE (rB V b h) (rI V b h) (rM V b h) t := by
  show maximumf (tInter V) (Host.reduce FloatOps.maximumf (tD V) (constant S_ .f32 0xFF800000#32)
    reducesTo_S4x4x64x64_S4x4x64_d3 h_S_) (ix3 b h t) = _
  simp only [pointwise, tInter_apply, tD_apply b h hM, negInf]
  rfl

include hM in
theorem tA_apply (t : Fin 64) : tA V (ix3 b h t) = aE (rB V b h) (rI V b h) (rM V b h) t := by
  show Ideal.exp (tInter V (ix3 b h t) - tM V (ix3 b h t)) = _
  rw [tInter_apply, tM_apply b h hM]
  rfl

include hM in
theorem tS_apply (t s : Fin 64) :
    tS V (ix4 b h t s) = swE (rB V b h) (rI V b h) (rM V b h) (rQ V b h) (rK V b h) t s := by
  show mulf (Host.dotGeneral dot_S4x4x64x128_S4x4x64x128_S4x4x64x64_3_3_2_2_01_01 none (tQ V) (tK V))
    (Host.exp (subf (tD V) (broadcastInDim S4x4x64x64 ![0, 1, 2, 3] bcast_S4x4x64x1_S4x4x64x64_0_1_2_3
      (broadcastInDim S4x4x64x1 ![0, 1, 2] bcast_S4x4x64_S4x4x64x1_0_1_2 (tM V))))) (ix4 b h t s) = _
  simp only [pointwise, zero_add]
  show (∑ d, tQ V (ix4 b h t d) * tK V (ix4 b h s d)) * Ideal.exp (tD V (ix4 b h t s) - tM V (ix3 b h t)) = _
  rw [tD_apply b h hM, tM_apply b h hM]
  rfl

/-- The trip's denominators before the bound from below. -/
def tDen (V : Valuation τ sig (Elt Ideal)) : FVec Ideal S4x4x64 .f32 :=
  addf (mulf (tA V) (Host.dotGeneral dot_S4x4x128_S4x4x64x128_S4x4x64_2_3_n_2_01_01 none (xN V) (tQ V)))
    (Host.reduceAdd (tS V) (constant S_ .f32 0x00000000#32) reducesTo_S4x4x64x64_S4x4x64_d3 h_S_)

include hM in
theorem tDen_apply (t : Fin 64) : tDen V (ix3 b h t)
    = aE (rB V b h) (rI V b h) (rM V b h) t * (∑ d, rQ V b h t d * xN V (ix3 b h d))
      + ∑ s, swE (rB V b h) (rI V b h) (rM V b h) (rQ V b h) (rK V b h) t s := by
  unfold tDen
  simp only [pointwise, zero_add, tA_apply b h hM, tS_apply b h hM, mul_comm (tQ V _)]

/-- The trip's numerators. -/
def tNum (V : Valuation τ sig (Elt Ideal)) : FVec Ideal S4x4x64x256 .f32 :=
  addf (mulf (broadcastInDim S4x4x64x256 ![0, 1, 2, 3] bcast_S4x4x64x1_S4x4x64x256_0_1_2_3
        (broadcastInDim S4x4x64x1 ![0, 1, 2] bcast_S4x4x64_S4x4x64x1_0_1_2 (tA V)))
      (Host.dotGeneral dot_S4x4x64x128_S4x4x256x128_S4x4x64x256_3_3_2_2_01_01 none (tQ V) (xC V)))
      (Host.dotGeneral dot_S4x4x64x64_S4x4x64x256_S4x4x64x256_3_2_2_3_01_01 none (tS V) (tV V))

include hM in
theorem tNum_apply (t : Fin 64) (e : Fin 256) : tNum V (ix4 b h t e)
    = aE (rB V b h) (rI V b h) (rM V b h) t * (∑ d, rQ V b h t d * xC V (ix4 b h e d))
      + ∑ s, swE (rB V b h) (rI V b h) (rM V b h) (rQ V b h) (rK V b h) t s * rV V b h s e := by
  unfold tNum
  simp only [pointwise, zero_add]
  show tA V (ix3 b h t) * (∑ d, tQ V (ix4 b h t d) * xC V (ix4 b h e d)) + ∑ s, tS V (ix4 b h t s) * tV V (ix4 b h s e) = _
  simp only [tA_apply b h hM, tS_apply b h hM]

/-- The trip's output rows. -/
def tH (V : Valuation τ sig (Elt Ideal)) : FVec Ideal S4x4x64x256 .f32 :=
  Host.divf (tNum V) (broadcastInDim S4x4x64x256 ![0, 1, 2, 3] bcast_S4x4x64x1_S4x4x64x256_0_1_2_3
      (broadcastInDim S4x4x64x1 ![0, 1, 2] bcast_S4x4x64_S4x4x64x1_0_1_2
        (maximumf (Host.absf (tDen V)) (Host.exp (Host.negf (tM V))))))

include hM in
theorem tH_apply (t : Fin 64) (e : Fin 256) :
    tH V (ix4 b h t e) = hE (rB V b h) (rI V b h) (rM V b h) (rQ V b h) (rK V b h) (rV V b h)
      (fun d e => xC V (ix4 b h e d)) (fun d => xN V (ix3 b h d)) t e := by
  unfold tH
  simp only [pointwise]
  show Ideal.div (tNum V (ix4 b h t e)) (max (max (tDen V (ix3 b h t)) (-tDen V (ix3 b h t)))
      (Ideal.exp (-tM V (ix3 b h t)))) = _
  rw [tNum_apply b h hM, tDen_apply b h hM, tM_apply b h hM, hE, sub_eq_add_neg 0, zero_add]

theorem tTot_apply : tTot V (ix2 b h) = rB V b h 63 := by
  show shapeCast S4x4 (extractStridedSlice S4x4x1 ![0, 0, 63] (tB V) slices_S4x4x64_S4x4x1_0_0_63) shapeCasts_S4x4x1_S4x4
    (ix2 b h) = _
  rw [shapeCast_apply _ _ (ix2 b h) (ix3 b h (0 : Fin 1)) (by rw [Shape.rowMajor_val_three, Shape.rowMajor_val_two]; simp)]
  simp only [pointwise]
  show tB V _ = tB V _
  congr 1
  funext a
  match a with
  | ⟨0, _⟩ | ⟨1, _⟩ => exact Fin.ext (Nat.zero_add _)
  | ⟨2, _⟩ => rfl

theorem tW_apply (s : Fin 64) : tW V (ix3 b h s) = dlogE (rB V b h) (rI V b h) 63 s := by
  show addf (subf (broadcastInDim S4x4x64 ![0, 1, 2] bcast_S4x4x1_S4x4x64_0_1_2
    (broadcastInDim S4x4x1 ![0, 1] bcast_S4x4_S4x4x1_0_1 (tTot V))) (tB V)) (tI V) (ix3 b h s) = _
  simp only [pointwise]
  show tTot V (ix2 b h) - tB V (ix3 b h s) + tI V (ix3 b h s) = _
  rw [tTot_apply, dlogE, if_pos (by have := s.isLt; exact Fin.le_def.2 (by show s.val ≤ 63; omega))]

theorem tMnew_apply : tMnew V (ix2 b h) = mtE (rB V b h) (rI V b h) (rM V b h) 63 := by
  show maximumf (addf (tTot V) (xM V)) (Host.reduce FloatOps.maximumf (tW V) (constant S_ .f32 0xFF800000#32)
    reducesTo_S4x4x64_S4x4_d2 h_S_) (ix2 b h) = _
  simp only [pointwise, tTot_apply, tW_apply, negInf]
  rfl

theorem tPrev_apply : tPrev V (ix2 b h) = aE (rB V b h) (rI V b h) (rM V b h) 63 := by
  show Ideal.exp (tTot V (ix2 b h) + xM V (ix2 b h) - tMnew V (ix2 b h)) = _
  rw [tTot_apply, tMnew_apply]
  rfl

theorem tExpW_apply (s : Fin 64) : tExpW V (ix3 b h s)
    = Ideal.exp (dlogE (rB V b h) (rI V b h) 63 s - mtE (rB V b h) (rI V b h) (rM V b h) 63) := by
  show Host.exp (subf (tW V) (broadcastInDim S4x4x64 ![0, 1, 2] bcast_S4x4x1_S4x4x64_0_1_2
    (broadcastInDim S4x4x1 ![0, 1] bcast_S4x4_S4x4x1_0_1 (tMnew V)))) (ix3 b h s) = _
  simp only [pointwise]
  show Ideal.exp (tW V (ix3 b h s) - tMnew V (ix2 b h)) = _
  rw [tW_apply, tMnew_apply]

theorem tCnew_apply (e : Fin 256) (d : Fin 128) : tCnew V (ix4 b h e d)
    = aE (rB V b h) (rI V b h) (rM V b h) 63 * xC V (ix4 b h e d)
      + ∑ s, rV V b h s e * (Ideal.exp (dlogE (rB V b h) (rI V b h) 63 s - mtE (rB V b h) (rI V b h) (rM V b h) 63)
          * rK V b h s d) := by
  show addf (mulf (broadcastInDim S4x4x256x128 ![0, 1, 2, 3] bcast_S4x4x1x1_S4x4x256x128_0_1_2_3
      (broadcastInDim S4x4x1x1 ![0, 1] bcast_S4x4_S4x4x1x1_0_1 (tPrev V))) (xC V))
    (Host.dotGeneral dot_S4x4x64x256_S4x4x64x128_S4x4x256x128_2_2_3_3_01_01 none (tV V)
      (mulf (broadcastInDim S4x4x64x128 ![0, 1, 2, 3] bcast_S4x4x64x1_S4x4x64x128_0_1_2_3
        (broadcastInDim S4x4x64x1 ![0, 1, 2] bcast_S4x4x64_S4x4x64x1_0_1_2 (tExpW V))) (tK V))) (ix4 b h e d) = _
  simp only [pointwise, zero_add]
  show tPrev V (ix2 b h) * xC V (ix4 b h e d)
    + ∑ s, tV V (ix4 b h s e) * (tExpW V (ix3 b h s) * tK V (ix4 b h s d)) = _
  simp only [tPrev_apply, tExpW_apply]

theorem tNnew_apply (d : Fin 128) : tNnew V (ix3 b h d)
    = aE (rB V b h) (rI V b h) (rM V b h) 63 * xN V (ix3 b h d)
      + ∑ s, Ideal.exp (dlogE (rB V b h) (rI V b h) 63 s - mtE (rB V b h) (rI V b h) (rM V b h) 63) * rK V b h s d := by
  show addf (mulf (broadcastInDim S4x4x128 ![0, 1, 2] bcast_S4x4x1_S4x4x128_0_1_2
      (broadcastInDim S4x4x1 ![0, 1] bcast_S4x4_S4x4x1_0_1 (tPrev V))) (xN V))
    (Host.dotGeneral dot_S4x4x64_S4x4x64x128_S4x4x128_2_2_n_3_01_01 none (tExpW V) (tK V)) (ix3 b h d) = _
  simp only [pointwise, zero_add]
  show tPrev V (ix2 b h) * xN V (ix3 b h d) + ∑ s, tExpW V (ix3 b h s) * tK V (ix4 b h s d) = _
  simp only [tPrev_apply, tExpW_apply]

end

end Cert.ReferenceIdeal.Trip

end
-- ==== Proof.Scan.lean ====
/- The reference's recurrence over its trips: what it carries into a trip is the sequential recurrence's state at that step. -/
module

public import proofs.«01_k».proof.Proof.Trip
public import Idealize.ShloMosaic.Lib.Pipeline.Value
public import Idealize.ShloMosaic.Lib.Tactic

@[expose] public section

set_option maxRecDepth 16384

noncomputable section

namespace Cert.ReferenceIdeal.Trip

open Idealize.ShloMosaic Idealize.SL.Sem
open Cert.ReferenceIdeal Cert.ReferenceIdeal.Gen Cert.ReferenceIdeal.Value Cert.Mlstm

/-- A stack with one block replaced, by coordinates. -/
theorem put5 {α : Type} {N : Nat} (X : (⟨5, ![32, 4, 4, 64, N]⟩ : Shape).Idx → α)
    (U : (⟨5, ![1, 4, 4, 64, N]⟩ : Shape).Idx → α) (k : Fin 32) (st : Fin 5 → Int)
    (hst : ∀ a, st a = ((![k.val, 0, 0, 0, 0] : Fin 5 → ℕ) a : Int)) (h) (c : Fin 32) (b hd : Fin 4) (t : Fin 64) (d : Fin N) :
    Host.dynamicUpdateSlice X U st h (ix5 c b hd t d) = if c = k then U (ix5 (0 : Fin 1) b hd t d) else X (ix5 c b hd t d) := by
  rw [Host.dynamicUpdateSlice_eq_updateSlice X U st h ![k.val, 0, 0, 0, 0] (fun a => by
    have hf := (fits5 N k).2 a
    rw [hst a]
    omega) (fits5 N k)]
  rw [updateSlice_apply]
  by_cases hc : c = k
  · subst hc
    rw [if_pos rfl, dif_pos]
    · show U _ = U _
      congr 1
      funext a
      match a with
      | ⟨0, _⟩ => exact Fin.ext (Nat.sub_self _)
      | ⟨1, _⟩ | ⟨2, _⟩ | ⟨3, _⟩ | ⟨4, _⟩ => exact Fin.ext (Nat.sub_zero _)
    · intro a
      match a with
      | ⟨0, _⟩ => exact ⟨le_refl _, Nat.lt_succ_self _⟩
      | ⟨1, _⟩ => exact ⟨Nat.zero_le _, by show b.val < 0 + 4; omega⟩
      | ⟨2, _⟩ => exact ⟨Nat.zero_le _, by show hd.val < 0 + 4; omega⟩
      | ⟨3, _⟩ => exact ⟨Nat.zero_le _, by show t.val < 0 + 64; omega⟩
      | ⟨4, _⟩ => exact ⟨Nat.zero_le _, by show d.val < 0 + N; omega⟩
  · rw [if_neg hc, dif_neg]
    intro hin
    have h0 : k.val ≤ c.val ∧ c.val < k.val + 1 := hin 0
    exact hc (Fin.ext (by omega))

/-- The rows a trip leaves: the earlier ones with its own put at its number. -/
theorem step_rows (V : Valuation τ sig (Elt Ideal)) : step_main_v36_10 V
    = Host.dynamicUpdateSlice (xY V)
        (broadcastInDim S1x4x4x64x256 ![1, 2, 3, 4] bcast_S4x4x64x256_S1x4x4x64x256_1_2_3_4 (tH V))
        (fun k => (((![xCtr V, constantI S_ 32 0#32, constantI S_ 32 0#32, constantI S_ 32 0#32, constantI S_ 32 0#32] :
          Fin 5 → IVec S_ 32) k (Shape.Idx.first h_S_)).toInt)) updateFits_S32x4x4x64x256_S1x4x4x64x256 := by
  sl_kernel_rfl

/-- The rows a trip leaves, by coordinates. -/
theorem step_rows_apply {V : Valuation τ sig (Elt Ideal)} {k : Fin 32} (hk : xCtr V = fun _ => Scf.iv 0#32 1#32 k.val)
    (c : Fin 32) (b h : Fin 4) (t : Fin 64) (e : Fin 256) :
    (step_main_v36_10 V : FVec Ideal S32x4x4x64x256 .f32) (ix5 c b h t e)
      = if c = k then tH V (ix4 b h t e) else xY V (ix5 c b h t e) := by
  rw [step_rows]
  rw [put5 (xY V) _ k _ (start5 hk)]
  simp only [pointwise]
  rfl

/-- What the recurrence carries into trip `k`, given the call's arguments. -/
structure Carry (A : Args) (V : Valuation τ sig (Elt Ideal)) (k : ℕ) : Prop where
  ctr : xCtr V = fun _ => Scf.iv 0#32 1#32 k
  mask : ∀ t s : Fin 64, xMask V (ix2 t s) = if s ≤ t then 1#1 else 0#1
  q : ∀ (c : Fin 32) (b h : Fin 4) (t : Fin 64) (d : Fin 128), xQ V (ix5 c b h t d) = ((A.q b h (64 * c.val + t.val) d : ℝ) : EReal)
  key : ∀ (c : Fin 32) (b h : Fin 4) (t : Fin 64) (d : Fin 128), xK V (ix5 c b h t d) = ((A.k b h (64 * c.val + t.val) d : ℝ) : EReal)
  v : ∀ (c : Fin 32) (b h : Fin 4) (t : Fin 64) (e : Fin 256), xV V (ix5 c b h t e) = ((A.v b h (64 * c.val + t.val) e : ℝ) : EReal)
  lf : ∀ (c : Fin 32) (b h : Fin 4) (t : Fin 64), xF V (ix4 c b h t) = ((A.lf b h (64 * c.val + t.val) : ℝ) : EReal)
  li : ∀ (c : Fin 32) (b h : Fin 4) (t : Fin 64), xI V (ix4 c b h t) = ((A.li b h (64 * c.val + t.val) : ℝ) : EReal)
  C : ∀ (b h : Fin 4) (e : Fin 256) (d : Fin 128), xC V (ix4 b h e d)
    = ((accum (A.lf b h) (A.li b h) (fun r => A.k b h r d * A.v b h r e) (64 * k) : ℝ) : EReal)
  n : ∀ (b h : Fin 4) (d : Fin 128), xN V (ix3 b h d)
    = ((accum (A.lf b h) (A.li b h) (fun r => A.k b h r d) (64 * k) : ℝ) : EReal)
  m : ∀ b h : Fin 4, xM V (ix2 b h) = ((stab (A.lf b h) (A.li b h) (64 * k) : ℝ) : EReal)
  y : ∀ c : Fin 32, c.val < k → ∀ (b h : Fin 4) (t : Fin 64) (e : Fin 256),
    xY V (ix5 c b h t e) = ((A.out b h (64 * c.val + t.val) e : ℝ) : EReal)

namespace Carry

variable {A : Args} {V : Valuation τ sig (Elt Ideal)} {k : Fin 32} (H : Carry A V k.val) (b h : Fin 4)
include H

theorem rB_eq : rB V b h = decE (A.lf b h) (64 * k.val) := by
  funext t
  refine (tB_apply H.ctr b h t).trans ?_
  rw [decE, decay, Cert.Mlstm.coe_sum]
  refine Finset.sum_congr rfl fun s hs => ?_
  have hs' : s < 64 := by have := Finset.mem_range.1 hs; have := t.isLt; omega
  rw [dif_pos hs', H.lf]

theorem rI_eq : rI V b h = rowE (64 * k.val) (A.li b h) := funext fun t => (tI_apply H.ctr b h t).trans (H.li _ _ _ _)
theorem rQ_eq : rQ V b h = fun t d => ((A.q b h (64 * k.val + t.val) d : ℝ) : EReal) :=
  funext fun t => funext fun d => (tQ_apply H.ctr b h t d).trans (H.q _ _ _ _ _)
theorem rK_eq : rK V b h = fun t d => ((A.k b h (64 * k.val + t.val) d : ℝ) : EReal) :=
  funext fun t => funext fun d => (tK_apply H.ctr b h t d).trans (H.key _ _ _ _ _)
theorem rV_eq : rV V b h = fun t e => ((A.v b h (64 * k.val + t.val) e : ℝ) : EReal) :=
  funext fun t => funext fun e => (tV_apply H.ctr b h t e).trans (H.v _ _ _ _ _)
theorem rM_eq : rM V b h = ((stab (A.lf b h) (A.li b h) (64 * k.val) : ℝ) : EReal) := H.m b h

/-- A trip's output rows are the recurrence's. -/
theorem tH_eq (t : Fin 64) (e : Fin 256) : tH V (ix4 b h t e) = ((A.out b h (64 * k.val + t.val) e : ℝ) : EReal) := by
  rw [tH_apply b h H.mask, rB_eq H, rI_eq H, rQ_eq H, rK_eq H, rV_eq H, rM_eq H]
  rw [show (fun d e => xC V (ix4 b h e d)) = fun d e =>
      ((accum (A.lf b h) (A.li b h) (fun r => A.k b h r d * A.v b h r e) (64 * k.val) : ℝ) : EReal) from
    funext fun d => funext fun e => H.C b h e d]
  rw [show (fun d => xN V (ix3 b h d)) = fun d =>
      ((accum (A.lf b h) (A.li b h) (fun r => A.k b h r d) (64 * k.val) : ℝ) : EReal) from funext fun d => H.n b h d]
  exact hE_eq _ _ _ _ _ _ t e

theorem tMnew_eq : tMnew V (ix2 b h) = ((stab (A.lf b h) (A.li b h) (64 * (k.val + 1)) : ℝ) : EReal) := by
  rw [tMnew_apply b h, rB_eq H, rI_eq H, rM_eq H, mtE_eq]
  rfl

theorem tNnew_eq (d : Fin 128) : tNnew V (ix3 b h d)
    = ((accum (A.lf b h) (A.li b h) (fun r => A.k b h r d) (64 * (k.val + 1)) : ℝ) : EReal) := by
  rw [tNnew_apply b h, rB_eq H, rI_eq H, rM_eq H, rK_eq H, H.n, aE_eq, mtE_eq]
  simp only [exp_dlogE]
  refine Eq.trans ?_ (state_eq (A.lf b h) (A.li b h) (64 * k.val) (fun r => A.k b h r d) (63 : Fin 64) rfl)
  refine congrArg _ (Finset.sum_congr rfl fun s _ => ?_)
  rw [if_pos (Fin.le_def.2 (by show s.val ≤ 63; omega)), ← EReal.coe_mul]

theorem tCnew_eq (e : Fin 256) (d : Fin 128) : tCnew V (ix4 b h e d)
    = ((accum (A.lf b h) (A.li b h) (fun r => A.k b h r d * A.v b h r e) (64 * (k.val + 1)) : ℝ) : EReal) := by
  rw [tCnew_apply b h, rB_eq H, rI_eq H, rM_eq H, rK_eq H, rV_eq H, H.C, aE_eq, mtE_eq]
  simp only [exp_dlogE]
  refine Eq.trans ?_ (state_eq (A.lf b h) (A.li b h) (64 * k.val) (fun r => A.k b h r d * A.v b h r e) (63 : Fin 64) rfl)
  congr 1
  refine Finset.sum_congr rfl fun s _ => ?_
  rw [if_pos (Fin.le_def.2 (by show s.val ≤ 63; omega)), ← EReal.coe_mul, ← EReal.coe_mul]
  congr 1
  ring

/-- A trip takes what is carried into it to what is carried into the next. -/
theorem step : Carry A (STEP V) (k.val + 1) where
  ctr := by
    refine (STEP_main_v36_6 V).trans ?_
    show addi (xCtr V) (constantI S_ 32 1#32) = _
    rw [H.ctr, Scf.iv_succ]
    rfl
  mask t s := (congrFun (STEP_main_v36_5 V) _).trans (H.mask t s)
  q c b h t d := (congrFun (STEP_main_v36_0 V) _).trans (H.q c b h t d)
  key c b h t d := (congrFun (STEP_main_v36_1 V) _).trans (H.key c b h t d)
  v c b h t d := (congrFun (STEP_main_v36_2 V) _).trans (H.v c b h t d)
  lf c b h t := (congrFun (STEP_main_v36_3 V) _).trans (H.lf c b h t)
  li c b h t := (congrFun (STEP_main_v36_4 V) _).trans (H.li c b h t)
  C b h e d := (congrFun (STEP_main_v36_7 V) _).trans (tCnew_eq H b h e d)
  n b h d := (congrFun (STEP_main_v36_8 V) _).trans (tNnew_eq H b h d)
  m b h := (congrFun (STEP_main_v36_9 V) _).trans (tMnew_eq H b h)
  y c hc b h t e := by
    refine (congrFun (STEP_main_v36_10 V) _).trans ((step_rows_apply H.ctr c b h t e).trans ?_)
    by_cases hk : c = k
    · rw [if_pos hk, hk]
      exact tH_eq H b h t e
    · rw [if_neg hk]
      exact H.y c (by have : c.val ≠ k.val := fun hh => hk (Fin.ext hh); omega) b h t e

end Carry

/-- The recurrence's trips, from what is carried into the first. -/
theorem carry_all {A : Args} {V : Valuation τ sig (Elt Ideal)} (H : Carry A V 0) :
    ∀ k, k ≤ 32 → Carry A (STEP^[k] V) k
  | 0, _ => H
  | k + 1, hk => by
    rw [Function.iterate_succ_apply']
    exact (carry_all H k (by omega)).step (k := ⟨k, by omega⟩)

end Cert.ReferenceIdeal.Trip

end
-- ==== Proof.Entry.lean ====
/- What the reference carries into its first trip. -/
module

public import proofs.«01_k».proof.Proof.Scan
public import Idealize.ShloMosaic.Lib.StableHlo.RunRead
public import Idealize.ShloMosaic.Lib.WordCmp

@[expose] public section

set_option maxRecDepth 16384

noncomputable section

namespace Cert.ReferenceIdeal.Trip

open Idealize.ShloMosaic Idealize.SL.Sem Idealize.ShloMosaic.TcCoe Idealize.ShloMosaic.StableHlo Idealize.ShloMosaic.Tactic
open Cert.ReferenceIdeal Cert.ReferenceIdeal.Gen Cert.ReferenceIdeal.Value Cert.Mlstm

/-! ### The carried values at the first trip -/

section

variable {F : FTy → Type} [FloatOps F]

/-- The queries, keys and values, as batches of rows. -/
def qkvV (X : FVec F S8192x3072 .bf16) : FVec F S4x2048x2048 .f32 :=
  shapeCast S4x2048x2048 (extf .f32 (extractStridedSlice S8192x2048 ![0, 0] X slices_S8192x3072_S8192x2048_0_0) bitsLt_bf16_f32)
    shapeCasts_S8192x2048_S4x2048x2048

def qStack (X : FVec F S8192x3072 .bf16) : FVec F S32x4x4x64x128 .f32 :=
  transpose S32x4x4x64x128 [2, 0, 1, 3, 4] (shapeCast S4x4x32x64x128 (transpose S4x4x2048x128 [0, 2, 1, 3]
    (shapeCast S4x2048x4x128 (extractStridedSlice S4x2048x512 ![0, 0, 0] (qkvV X) slices_S4x2048x2048_S4x2048x512_0_0_0)
      shapeCasts_S4x2048x512_S4x2048x4x128) transposes_S4x2048x4x128_S4x4x2048x128_0_2_1_3)
    shapeCasts_S4x4x2048x128_S4x4x32x64x128) transposes_S4x4x32x64x128_S32x4x4x64x128_2_0_1_3_4

def kStack (X : FVec F S8192x3072 .bf16) : FVec F S32x4x4x64x128 .f32 :=
  transpose S32x4x4x64x128 [2, 0, 1, 3, 4] (shapeCast S4x4x32x64x128 (transpose S4x4x2048x128 [0, 2, 1, 3]
    (shapeCast S4x2048x4x128 (extractStridedSlice S4x2048x512 ![0, 0, 512] (qkvV X) slices_S4x2048x2048_S4x2048x512_0_0_512)
      shapeCasts_S4x2048x512_S4x2048x4x128) transposes_S4x2048x4x128_S4x4x2048x128_0_2_1_3)
    shapeCasts_S4x4x2048x128_S4x4x32x64x128) transposes_S4x4x32x64x128_S32x4x4x64x128_2_0_1_3_4

def vStack (X : FVec F S8192x3072 .bf16) : FVec F S32x4x4x64x256 .f32 :=
  transpose S32x4x4x64x256 [2, 0, 1, 3, 4] (shapeCast S4x4x32x64x256 (transpose S4x4x2048x256 [0, 2, 1, 3]
    (shapeCast S4x2048x4x256 (extractStridedSlice S4x2048x1024 ![0, 0, 1024] (qkvV X) slices_S4x2048x2048_S4x2048x1024_0_0_1024)
      shapeCasts_S4x2048x1024_S4x2048x4x256) transposes_S4x2048x4x256_S4x4x2048x256_0_2_1_3)
    shapeCasts_S4x4x2048x256_S4x4x32x64x256) transposes_S4x4x32x64x256_S32x4x4x64x256_2_0_1_3_4

/-- The biased gates, as batches of rows. -/
def gatesV (g : FVec F S8192x128 .f32) (bias : FVec F S1x128 .f32) : FVec F S4x2048x128 .f32 :=
  shapeCast S4x2048x128 (addf g (broadcastInDim S8192x128 ![0, 1] bcast_S1x128_S8192x128_0_1 bias)) shapeCasts_S8192x128_S4x2048x128

/-- The input gates of each head. -/
def inV (g : FVec F S8192x128 .f32) (bias : FVec F S1x128 .f32) : FVec F S4x4x2048 .f32 :=
  transpose S4x4x2048 [0, 2, 1] (extractStridedSlice S4x2048x4 ![0, 0, 0] (gatesV g bias) slices_S4x2048x128_S4x2048x4_0_0_0)
    transposes_S4x2048x4_S4x4x2048_0_2_1

/-- The forget gates of each head. -/
def forgetV (g : FVec F S8192x128 .f32) (bias : FVec F S1x128 .f32) : FVec F S4x4x2048 .f32 :=
  transpose S4x4x2048 [0, 2, 1] (extractStridedSlice S4x2048x4 ![0, 0, 4] (gatesV g bias) slices_S4x2048x128_S4x2048x4_0_0_4)
    transposes_S4x2048x4_S4x4x2048_0_2_1

/-- The zero the logarithm of the logistic function compares with. -/
def zeroV : FVec F S4x4x2048 .f32 := broadcastInDim S4x4x2048 ![] bcast_S_S4x4x2048 (constant S_ .f32 0#32)

/-- The logarithm of the logistic function. -/
def logSigV (f : FVec F S4x4x2048 .f32) : FVec F S4x4x2048 .f32 :=
  Host.negf (select (cmpf .une (subf (Host.negf f) zeroV) (subf (Host.negf f) zeroV)) (addf (Host.negf f) zeroV)
    (addf (maximumf (Host.negf f) zeroV) (Host.log1p (Host.exp (Host.negf (Host.absf (subf (Host.negf f) zeroV)))))))

def iStack (g : FVec F S8192x128 .f32) (bias : FVec F S1x128 .f32) : FVec F S32x4x4x64 .f32 :=
  transpose S32x4x4x64 [2, 0, 1, 3] (shapeCast S4x4x32x64 (inV g bias) shapeCasts_S4x4x2048_S4x4x32x64)
    transposes_S4x4x32x64_S32x4x4x64_2_0_1_3

def fStack (g : FVec F S8192x128 .f32) (bias : FVec F S1x128 .f32) : FVec F S32x4x4x64 .f32 :=
  transpose S32x4x4x64 [2, 0, 1, 3] (shapeCast S4x4x32x64 (logSigV (forgetV g bias)) shapeCasts_S4x4x2048_S4x4x32x64)
    transposes_S4x4x32x64_S32x4x4x64_2_0_1_3

/-- Which rows of a chunk a row may read. -/
def maskV : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

variable (m : (ℓ : Loc nD τ sig) → Buf (Elt F) ℓ) (c : Dev nD)

theorem entry_q : entryContents preI m c (Proc.devRef .tc main_v36_0) = qStack (m ((c.tc : Thread nD τ).loc main_arg0)) := by
  simp only [entryContents, afterL_cons, afterL_nil]
  after_reads_simp
  rfl
theorem entry_k : entryContents preI m c (Proc.devRef .tc main_v36_1) = kStack (m ((c.tc : Thread nD τ).loc main_arg0)) := by
  simp only [entryContents, afterL_cons, afterL_nil]
  after_reads_simp
  rfl
theorem entry_v : entryContents preI m c (Proc.devRef .tc main_v36_2) = vStack (m ((c.tc : Thread nD τ).loc main_arg0)) := by
  simp only [entryContents, afterL_cons, afterL_nil]
  after_reads_simp
  rfl
theorem entry_f : entryContents preI m c (Proc.devRef .tc main_v36_3)
    = fStack (m ((c.tc : Thread nD τ).loc main_arg1)) (m ((c.tc : Thread nD τ).loc main_arg2)) := by
  simp only [entryContents, afterL_cons, afterL_nil]
  after_reads_simp
  rfl
theorem entry_i : entryContents preI m c (Proc.devRef .tc main_v36_4)
    = iStack (m ((c.tc : Thread nD τ).loc main_arg1)) (m ((c.tc : Thread nD τ).loc main_arg2)) := by
  simp only [entryContents, afterL_cons, afterL_nil]
  after_reads_simp
  rfl
theorem entry_mask : entryContents preI m c (Proc.devRef .tc main_v36_5) = maskV := by
  simp only [entryContents, afterL_cons, afterL_nil]
  after_reads_simp
  rfl
theorem entry_C : entryContents preI m c (Proc.devRef .tc main_v36_7)
    = broadcastInDim S4x4x256x128 ![] bcast_S_S4x4x256x128 (constant (F := F) S_ .f32 0#32) := by
  simp only [entryContents, afterL_cons, afterL_nil]
  after_reads_simp
  rfl
theorem entry_n : entryContents preI m c (Proc.devRef .tc main_v36_8)
    = broadcastInDim S4x4x128 ![] bcast_S_S4x4x128 (constant (F := F) S_ .f32 0#32) := by
  simp only [entryContents, afterL_cons, afterL_nil]
  after_reads_simp
  rfl
theorem entry_m : entryContents preI m c (Proc.devRef .tc main_v36_9)
    = broadcastInDim S4x4 ![] bcast_S_S4x4 (constant (F := F) S_ .f32 0#32) := by
  simp only [entryContents, afterL_cons, afterL_nil]
  after_reads_simp
  rfl

/-- Entries at equal coordinates are equal. -/
theorem at2 {α : Type} {R C : Nat} (X : (⟨2, ![R, C]⟩ : Shape).Idx → α) {r r' : Fin R} {j j' : Fin C} (hr : r.val = r'.val)
    (hj : j.val = j'.val) : X (ix2 r j) = X (ix2 r' j') := by
  rw [Fin.ext hr, Fin.ext hj]

theorem row_eq (b : Fin 4) (c : Fin 32) (t : Fin 64) :
    0 + ((0 + b.val) * 2048 + (0 + (c.val * 64 + t.val))) = 2048 * b.val + (64 * c.val + t.val) := by omega

theorem gate_row_eq (b : Fin 4) (c : Fin 32) (t : Fin 64) :
    (0 + b.val) * 2048 + (0 + (c.val * 64 + t.val)) = 2048 * b.val + (64 * c.val + t.val) := by omega

theorem qStack_apply (X : FVec Ideal S8192x3072 .bf16) (c : Fin 32) (b h : Fin 4) (t : Fin 64) (d : Fin 128) :
    qStack X (ix5 c b h t d) = X (ix2 (flat b ⟨64 * c.val + t.val, by omega⟩) ⟨128 * h.val + d.val, by omega⟩) := by
  unfold qStack qkvV
  simp only [pointwise]
  exact at2 X (row_eq b c t) (show 0 + (0 + (h.val * 128 + d.val)) = 128 * h.val + d.val by omega)

theorem kStack_apply (X : FVec Ideal S8192x3072 .bf16) (c : Fin 32) (b h : Fin 4) (t : Fin 64) (d : Fin 128) :
    kStack X (ix5 c b h t d) = X (ix2 (flat b ⟨64 * c.val + t.val, by omega⟩) ⟨512 + (128 * h.val + d.val), by omega⟩) := by
  unfold kStack qkvV
  simp only [pointwise]
  exact at2 X (row_eq b c t) (show 0 + (512 + (h.val * 128 + d.val)) = 512 + (128 * h.val + d.val) by omega)

theorem vStack_apply (X : FVec Ideal S8192x3072 .bf16) (c : Fin 32) (b h : Fin 4) (t : Fin 64) (d : Fin 256) :
    vStack X (ix5 c b h t d) = X (ix2 (flat b ⟨64 * c.val + t.val, by omega⟩) ⟨1024 + (256 * h.val + d.val), by omega⟩) := by
  unfold vStack qkvV
  simp only [pointwise]
  exact at2 X (row_eq b c t) (show 0 + (1024 + (h.val * 256 + d.val)) = 1024 + (256 * h.val + d.val) by omega)

theorem iStack_apply (g : FVec Ideal S8192x128 .f32) (bias : FVec Ideal S1x128 .f32) (c : Fin 32) (b h : Fin 4) (t : Fin 64) :
    iStack g bias (ix4 c b h t)
      = g (ix2 (flat b ⟨64 * c.val + t.val, by omega⟩) ⟨h.val, by omega⟩) + bias (ix2 0 ⟨h.val, by omega⟩) := by
  unfold iStack inV gatesV
  simp only [pointwise]
  exact congrArg₂ (fun x y : EReal => x + y) (at2 g (gate_row_eq b c t) (Nat.zero_add _)) (at2 bias rfl (Nat.zero_add _))

theorem mask_apply (t s : Fin 64) : maskV (ix2 t s) = if s ≤ t then 1#1 else 0#1 := by
  unfold maskV
  simp only [pointwise]
  show Scalar.select (IntOp.cmpi .sge (BitVec.ofNat 32 t.val + 0#32) (BitVec.ofNat 32 s.val)) 1#1 0#1 = _
  have ht := t.isLt
  have hs := s.isLt
  rw [BitVec.add_zero, WordCmp.cmpi_sge_ofNat (by omega) (by omega)]
  by_cases h : s ≤ t
  · rw [if_pos h, decide_eq_true (Fin.le_def.1 h)]; rfl
  · rw [if_neg h, decide_eq_false (fun hh => h (Fin.le_def.2 hh))]; rfl

theorem logSigV_apply (f : FVec Ideal S4x4x2048 .f32) (b h : Fin 4) (t : Fin 2048) (x : ℝ) (hx : f (ix3 b h t) = x) :
    logSigV f (ix3 b h t) = ((logSig x : ℝ) : EReal) := by
  unfold logSigV zeroV
  simp only [pointwise]
  rw [if_neg (not_not.2 rfl), hx, Ideal.absf_def, sub_zero, neg_neg, max_comm (-(x : EReal)) x]
  have hmax : max (-(x : EReal)) 0 = ((max (-x) 0 : ℝ) : EReal) := by rw [Cert.Mlstm.coe_max, EReal.coe_neg, EReal.coe_zero]
  rw [hmax, ← EReal.coe_neg, ← Cert.Mlstm.coe_max, ← abs_eq_max_neg, ← EReal.coe_neg, Ideal.exp_coe, log1p_exp,
    ← EReal.coe_add, ← EReal.coe_neg, logSig]
  have e : max (-x) 0 = -min x 0 := by
    rcases le_total x 0 with h | h
    · rw [min_eq_left h, max_eq_left (neg_nonneg.2 h)]
    · rw [min_eq_right h, max_eq_right (neg_nonpos.2 h), neg_zero]
  rw [e, neg_add, neg_neg, sub_eq_add_neg]

theorem fStack_apply (g : FVec Ideal S8192x128 .f32) (bias : FVec Ideal S1x128 .f32) (c : Fin 32) (b h : Fin 4) (t : Fin 64)
    (x : ℝ) (hx : g (ix2 (flat b ⟨64 * c.val + t.val, by omega⟩) ⟨4 + h.val, by omega⟩) + bias (ix2 0 ⟨4 + h.val, by omega⟩) = x) :
    fStack g bias (ix4 c b h t) = ((logSig x : ℝ) : EReal) := by
  unfold fStack
  simp only [pointwise]
  refine logSigV_apply _ _ _ _ _ ?_
  rw [← hx]
  unfold forgetV gatesV
  simp only [pointwise]
  exact congrArg₂ (fun x y : EReal => x + y) (at2 g (gate_row_eq b c t) rfl) (at2 bias rfl rfl)

end

section

variable (m : (ℓ : Loc nD τ sig) → Buf (Elt Ideal) ℓ)

/-- The arguments the reference's result depends on, from the memory it starts in. -/
def argsR (c : Dev nD) : Args where
  qkvo r j := m ((c.tc : Thread nD τ).loc main_arg0) (ix2 r j)
  gates r j := m ((c.tc : Thread nD τ).loc main_arg1) (ix2 r j)
  bias j := m ((c.tc : Thread nD τ).loc main_arg2) (ix2 0 j)
  gnorm j := m ((c.tc : Thread nD τ).loc main_arg3) (ix2 0 j)
  resid r j := m ((c.tc : Thread nD τ).loc main_arg4) (ix2 r j)
  conv r j := m ((c.tc : Thread nD τ).loc main_arg5) (ix2 r j)
  wout r j := m ((c.tc : Thread nD τ).loc main_arg6) (ix2 r j)

theorem zeroE : Ideal.ofBits .f32 0#32 = ((0 : ℝ) : EReal) := by simp [Ideal.ofBits, Ideal.ieee]

variable {m} {c : Dev nD} (hF : (argsR m c).Finite)
include hF

/-- What is carried into the first trip. -/
theorem carry_zero : Carry (argsR m c) (entryContents preI m c) 0 where
  ctr := (ctr_entry m c).trans (funext fun _ => (Scf.iv_zero _ _).symm)
  mask t s := (congrFun (entry_mask m c) _).trans (mask_apply t s)
  q cc b h t d := (congrFun (entry_q m c) _).trans ((qStack_apply _ cc b h t d).trans
    (Args.coe_q b h hF ⟨64 * cc.val + t.val, by omega⟩ d).symm)
  key cc b h t d := (congrFun (entry_k m c) _).trans ((kStack_apply _ cc b h t d).trans
    (Args.coe_k b h hF ⟨64 * cc.val + t.val, by omega⟩ d).symm)
  v cc b h t d := (congrFun (entry_v m c) _).trans ((vStack_apply _ cc b h t d).trans
    (Args.coe_v b h hF ⟨64 * cc.val + t.val, by omega⟩ d).symm)
  lf cc b h t := (congrFun (entry_f m c) _).trans (fStack_apply _ _ cc b h t _
    (Args.coe_fg b h hF ⟨64 * cc.val + t.val, by omega⟩).symm)
  li cc b h t := (congrFun (entry_i m c) _).trans ((iStack_apply _ _ cc b h t).trans
    (Args.coe_li b h hF ⟨64 * cc.val + t.val, by omega⟩).symm)
  C b h e d := (congrFun (entry_C m c) _).trans zeroE
  n b h d := (congrFun (entry_n m c) _).trans zeroE
  m b h := (congrFun (entry_m m c) _).trans zeroE
  y cc hcc := absurd hcc (Nat.not_lt_zero _)

/-- The rows the reference's recurrence leaves. -/
theorem rows_all (cc : Fin 32) (b h : Fin 4) (t : Fin 64) (e : Fin 256) :
    xY (STEP^[32] (entryContents preI m c)) (ix5 cc b h t e)
      = (((argsR m c).out b h (64 * cc.val + t.val) e : ℝ) : EReal) :=
  (carry_all (carry_zero hF) 32 (le_refl _)).y cc cc.isLt b h t e

end

end Cert.ReferenceIdeal.Trip

end
-- ==== Proof.Output.lean ====
/- What the reference computes from the recurrence's rows: the normalised and gated heads, and the projection. -/
module

public import proofs.«01_k».proof.Proof.Entry

@[expose] public section

set_option maxRecDepth 16384

noncomputable section

namespace Cert.ReferenceIdeal.Trip

open Idealize.ShloMosaic Idealize.SL.Sem Idealize.ShloMosaic.TcCoe Idealize.ShloMosaic.StableHlo
open Cert.ReferenceIdeal Cert.ReferenceIdeal.Gen Cert.ReferenceIdeal.Value Cert.Mlstm

section

variable {F : FTy → Type} [FloatOps F]

/-- The heads' rows in the order of the steps. -/
def headsV (ys : FVec F S32x4x4x64x256 .f32) : FVec F S4x2048x4x256 .f32 :=
  transpose S4x2048x4x256 [0, 2, 1, 3] (shapeCast S4x4x2048x256
    (transpose S4x4x32x64x256 [1, 2, 0, 3, 4] ys transposes_S32x4x4x64x256_S4x4x32x64x256_1_2_0_3_4)
    shapeCasts_S4x4x32x64x256_S4x4x2048x256) transposes_S4x4x2048x256_S4x2048x4x256_0_2_1_3

/-- Each head's rows over the square root of their mean square. -/
def normV (hm : FVec F S4x2048x4x256 .f32) : FVec F S4x2048x4x256 .f32 :=
  mulf hm (broadcastInDim S4x2048x4x256 ![0, 1, 2, 3] bcast_S4x2048x4x1_S4x2048x4x256_0_1_2_3 (Host.rsqrt (addf
    (Host.divf (broadcastInDim S4x2048x4x1 ![0, 1, 2] bcast_S4x2048x4_S4x2048x4x1_0_1_2
        (Host.reduceAdd (mulf hm hm) (constant S_ .f32 0x00000000#32) reducesTo_S4x2048x4x256_S4x2048x4_d3 h_S_))
      (broadcastInDim S4x2048x4x1 ![] bcast_S_S4x2048x4x1 (constant S_ .f32 0x43800000#32)))
    (broadcastInDim S4x2048x4x1 ![] bcast_S_S4x2048x4x1 (constant S_ .f32 0x358637BD#32)))))

/-- The output gates. -/
def sigV (X : FVec F S8192x3072 .bf16) : FVec F S4x2048x1024 .f32 :=
  Host.divf (broadcastInDim S4x2048x1024 ![] bcast_S_S4x2048x1024 (constant S_ .f32 0x3F800000#32))
    (addf (broadcastInDim S4x2048x1024 ![] bcast_S_S4x2048x1024 (constant S_ .f32 0x3F800000#32))
      (Host.exp (Host.negf (shapeCast S4x2048x1024 (extf .f32
        (extractStridedSlice S8192x1024 ![0, 2048] X slices_S8192x3072_S8192x1024_0_2048) bitsLt_bf16_f32)
        shapeCasts_S8192x1024_S4x2048x1024))))

/-- The gated rows. -/
def gatedV (X : FVec F S8192x3072 .bf16) (gn : FVec F S1x1024 .f32) (nm : FVec F S4x2048x4x256 .f32) : FVec F S4x2048x1024 .f32 :=
  mulf (sigV X) (mulf (shapeCast S4x2048x1024 nm shapeCasts_S4x2048x4x256_S4x2048x1024)
    (broadcastInDim S4x2048x1024 ![0, 1, 2] bcast_S1x1x1024_S4x2048x1024_0_1_2
      (broadcastInDim S1x1x1024 ![2] bcast_S1024_S1x1x1024_2 (shapeCast S1024 gn shapeCasts_S1x1024_S1024))))

/-- The convolution's rows and the recurrence's, side by side. -/
def sideV (cv : FVec F S8192x1024 .bf16) (y : FVec F S4x2048x1024 .f32) : FVec F S4x2048x2048 .f32 :=
  concatenate S4x2048x2048 2 [⟨S4x2048x1024, (shapeCast S4x2048x1024 (extf .f32 cv bitsLt_bf16_f32) shapeCasts_S8192x1024_S4x2048x1024)⟩,
    ⟨S4x2048x1024, y⟩] concatenates_S4x2048x1024_S4x2048x1024_S4x2048x2048_d2

/-- The residual plus the projection. -/
def projV (x : FVec F S8192x2048 .f32) (w : FVec F S2048x2048 .bf16) (y : FVec F S4x2048x2048 .f32) : FVec F S4x2048x2048 .f32 :=
  addf (shapeCast S4x2048x2048 x shapeCasts_S8192x2048_S4x2048x2048)
    (Host.dotGeneral dot_S4x2048x2048_S2048x2048_S4x2048x2048_2_0_01_1_n_n none y (extf .f32 w bitsLt_bf16_f32))

theorem out_eq (V : Valuation τ sig (Elt F)) : out_main_v71 V
    = projV (V (Proc.devRef .tc main_arg4)) (V (Proc.devRef .tc main_arg6)) (sideV (V (Proc.devRef .tc main_arg5))
        (gatedV (V (Proc.devRef .tc main_arg0)) (V (Proc.devRef .tc main_arg3))
          (normV (headsV (V (Proc.devRef .tc main_v36_10)))))) := rfl

end

/-- The heads' rows, by coordinates. -/
theorem headsV_apply (ys : FVec Ideal S32x4x4x64x256 .f32) (b h : Fin 4) (t : Fin 2048) (e : Fin 256) :
    headsV ys (ix4 b t h e) = ys (ix5 ⟨t.val / 64, by omega⟩ b h ⟨t.val % 64, by omega⟩ e) := by
  unfold headsV
  simp only [pointwise]

theorem normV_apply (hm : FVec Ideal S4x2048x4x256 .f32) (b h : Fin 4) (t : Fin 2048) (e : Fin 256) :
    normV hm (ix4 b t h e) = hm (ix4 b t h e) * Ideal.rsqrt (Ideal.div (∑ x, hm (ix4 b t h x) * hm (ix4 b t h x))
      (Ideal.ofBits .f32 1132462080#32) + Ideal.ofBits .f32 897988541#32) := by
  unfold normV
  simp only [pointwise, zero_add]
  rfl

theorem sigV_apply (X : FVec Ideal S8192x3072 .bf16) (b : Fin 4) (t : Fin 2048) (j : Fin 1024) :
    sigV X (ix3 b t j) = Ideal.logistic (X (ix2 (flat b t) ⟨2048 + j.val, by omega⟩)) := by
  unfold sigV
  simp only [pointwise]
  exact congrArg (fun x : EReal => Ideal.logistic x)
    (at2 X (show 0 + (b.val * 2048 + t.val) = 2048 * b.val + t.val by omega) (show 2048 + j.val = 2048 + j.val from rfl))

theorem gatedV_apply (X : FVec Ideal S8192x3072 .bf16) (gn : FVec Ideal S1x1024 .f32) (nm : FVec Ideal S4x2048x4x256 .f32)
    (b : Fin 4) (t : Fin 2048) (j : Fin 1024) :
    gatedV X gn nm (ix3 b t j) = Ideal.logistic (X (ix2 (flat b t) ⟨2048 + j.val, by omega⟩))
      * (nm (ix4 b t ⟨j.val / 256, by omega⟩ ⟨j.val % 256, by omega⟩) * gn (ix2 0 j)) := by
  unfold gatedV
  simp only [pointwise]
  rw [sigV_apply]
  rfl

theorem sideV_left (cv : FVec Ideal S8192x1024 .bf16) (y : FVec Ideal S4x2048x1024 .f32) (b : Fin 4) (t : Fin 2048)
    (j : Fin 1024) : sideV cv y (ix3 b t ⟨j.val, by omega⟩) = cv (ix2 (flat b t) j) := by
  refine (concatenate_pair_apply_left 2 _ y concatenates_S4x2048x1024_S4x2048x1024_S4x2048x2048_d2 _ rfl (ix3 b t j) fun a => ?_).trans ?_
  · match a with
    | ⟨0, _⟩ | ⟨1, _⟩ | ⟨2, _⟩ => rfl
  · simp only [pointwise]
    exact at2 cv (show b.val * 2048 + t.val = 2048 * b.val + t.val by omega) rfl

theorem sideV_right (cv : FVec Ideal S8192x1024 .bf16) (y : FVec Ideal S4x2048x1024 .f32) (b : Fin 4) (t : Fin 2048)
    (j : Fin 1024) : sideV cv y (ix3 b t ⟨1024 + j.val, by omega⟩) = y (ix3 b t j) := by
  refine concatenate_pair_apply_right 2 _ y concatenates_S4x2048x1024_S4x2048x1024_S4x2048x2048_d2 _ rfl rfl (ix3 b t j)
    (fun a ha => ?_) (Nat.add_comm _ _)
  match a with
  | ⟨0, _⟩ | ⟨1, _⟩ => rfl
  | ⟨2, _⟩ => exact absurd rfl ha

theorem projV_apply (x : FVec Ideal S8192x2048 .f32) (w : FVec Ideal S2048x2048 .bf16) (cv : FVec Ideal S8192x1024 .bf16)
    (y : FVec Ideal S4x2048x1024 .f32) (b : Fin 4) (t n : Fin 2048) :
    projV x w (sideV cv y) (ix3 b t n) = x (ix2 (flat b t) n)
      + ((∑ j : Fin 1024, cv (ix2 (flat b t) j) * w (ix2 ⟨j.val, by omega⟩ n))
        + ∑ j : Fin 1024, y (ix3 b t j) * w (ix2 ⟨1024 + j.val, by omega⟩ n)) := by
  unfold projV
  simp only [pointwise, zero_add]
  refine congrArg₂ (fun p q : EReal => p + q) (at2 x (show b.val * 2048 + t.val = 2048 * b.val + t.val by omega) rfl) ?_
  refine (Fin.sum_univ_add (a := 1024) (b := 1024) (fun k : Fin (1024 + 1024) => sideV cv y (ix3 b t k) * w (ix2 k n))).trans ?_
  refine congrArg₂ (fun p q : EReal => p + q) (Finset.sum_congr rfl fun j _ => ?_) (Finset.sum_congr rfl fun j _ => ?_)
  · exact congrArg (fun z : EReal => z * w (ix2 ⟨j.val, by omega⟩ n)) (sideV_left cv y b t j)
  · exact congrArg (fun z : EReal => z * w (ix2 ⟨1024 + j.val, by omega⟩ n)) (sideV_right cv y b t j)

variable {m : (ℓ : Loc nD τ sig) → Buf (Elt Ideal) ℓ} {c : Dev nD} (hF : (argsR m c).Finite)
include hF

/-- The reference's recurrence's rows, in the order of the steps. -/
theorem heads_all (b h : Fin 4) (t : Fin 2048) (e : Fin 256) :
    headsV (xY (STEP^[32] (entryContents preI m c))) (ix4 b t h e) = (((argsR m c).out b h t.val e : ℝ) : EReal) := by
  rw [headsV_apply, rows_all hF]
  show (((argsR m c).out b h (64 * (t.val / 64) + t.val % 64) e : ℝ) : EReal) = _
  rw [Nat.div_add_mod]

/-- The reference's gated rows are the layer's. -/
theorem gated_all (b : Fin 4) (t : Fin 2048) (j : Fin 1024) :
    gatedV (m ((c.tc : Thread nD τ).loc main_arg0)) (m ((c.tc : Thread nD τ).loc main_arg3))
      (normV (headsV (xY (STEP^[32] (entryContents preI m c))))) (ix3 b t j) = (argsR m c).rows b t j := by
  rw [gatedV_apply, normV_apply]
  simp only [heads_all hF]
  have e : 256 * (j.val / 256) + j.val % 256 = j.val := Nat.div_add_mod _ _
  rw [Args.rows, Args.gated, gatedE]
  refine congrArg₂ (fun p q : EReal => Ideal.logistic p * (_ * q)) (at2 _ rfl ?_) (at2 _ rfl ?_)
  · show 2048 + j.val = 2048 + (256 * (j.val / 256) + j.val % 256)
    rw [e]
  · exact e.symm

/-- The reference's first result is the layer's. -/
theorem result_eq : out_main_v71 (STEP^[32] (entryContents preI m c))
    = fun i : S4x2048x2048.Idx => (argsR m c).result (i 0) (i 1) (i 2) := by
  rw [out_eq, iter_main_arg0, iter_main_arg3, iter_main_arg4, iter_main_arg5, iter_main_arg6]
  funext i
  obtain ⟨b, t, n, rfl⟩ : ∃ (b : Fin 4) (t n : Fin 2048), i = ix3 b t n := ⟨i 0, i 1, i 2, by
    funext a
    match a with
    | ⟨0, _⟩ | ⟨1, _⟩ | ⟨2, _⟩ => rfl⟩
  refine (projV_apply _ _ _ _ b t n).trans ?_
  simp only [gated_all hF]
  rfl

omit hF in
/-- The reference's second result is the up projection's weights. -/
theorem passed_72 : out_main_v72 (STEP^[32] (entryContents preI m c)) = m ((c.tc : Thread nD τ).loc main_arg7) := by
  refine Eq.trans ?_ (iter_main_arg7 m c 32)
  rfl

omit hF in
/-- The reference's third result is the gate's weights. -/
theorem passed_73 : out_main_v73 (STEP^[32] (entryContents preI m c)) = m ((c.tc : Thread nD τ).loc main_arg8) := by
  refine Eq.trans ?_ (iter_main_arg8 m c 32)
  rfl

end Cert.ReferenceIdeal.Trip

end
-- ==== Proof.Finite.lean ====
/- What the precondition says: the queries, keys and values and the gates with their bias are real numbers. -/
module

public import proofs.«01_k».proof.Defs
public import proofs.«01_k».proof.Proof.Invariant
public import Idealize.ShloMosaic.Lib.Pointwise
public import Idealize.ShloMosaic.Lib.Pipeline.Value
public import Idealize.ShloMosaic.Lib.StableHlo.Predicate

@[expose] public section

set_option maxRecDepth 16384

noncomputable section

namespace Cert.Pre_finite_gates

open Idealize.ShloMosaic

/-- The shape facts the precondition's operations take. -/
instance facts : Facts where
  slices_S8192x3072_S8192x2048_0_0 := by decide
  bitsLt_bf16_f32 := by decide
  bcast_S1x128_S8192x128_0_1 := by decide
  slices_S8192x128_S8192x8_0_0 := by decide
  concatenates_S8192x2048_S8192x8_S8192x2056_d1 := by decide
  bcast_S_S8192x2056 := by decide

/-- An extended real whose absolute value is below the word for infinity is a real number. -/
theorem real_of_abs (x : EReal) (h : Ideal.cmp .olt (max x (-x)) (Ideal.ofBits .f32 0x7F800000#32) = 1#1) : ∃ a : ℝ, x = a := by
  have h' : max x (-x) < (⊤ : EReal) := by
    have := (Ideal.cmp_olt_eq_one _ _).1 h
    simpa [Ideal.ofBits, Ideal.ieee] using this
  induction x with
  | bot => simp at h'
  | top => simp at h'
  | coe a => exact ⟨a, rfl⟩

/-- The first 2048 columns of the two arrays side by side are the first array's. -/
theorem beside_left (a : S8192x2048.Idx → EReal) (b : S8192x8.Idx → EReal) (r : Fin 8192) (j : Fin 2048) (hj : j.val < 2056) :
    concatenate S8192x2056 1 [⟨S8192x2048, a⟩, ⟨S8192x8, b⟩] Facts.concatenates_S8192x2048_S8192x8_S8192x2056_d1
      (ix2 r (⟨j.val, hj⟩ : Fin 2056)) = a (ix2 r j) := by
  refine concatenate_pair_apply_left (s₁ := S8192x2048) (s₂ := S8192x8) (t := S8192x2056) _ _ _ _ _ rfl (ix2 r j) fun d => ?_
  match d with
  | ⟨0, _⟩ => rfl
  | ⟨1, _⟩ => rfl

/-- The last eight columns are the second array's. -/
theorem beside_right (a : S8192x2048.Idx → EReal) (b : S8192x8.Idx → EReal) (r : Fin 8192) (j : Fin 8) (hj : 2048 + j.val < 2056) :
    concatenate S8192x2056 1 [⟨S8192x2048, a⟩, ⟨S8192x8, b⟩] Facts.concatenates_S8192x2048_S8192x8_S8192x2056_d1
      (ix2 r (⟨2048 + j.val, hj⟩ : Fin 2056)) = b (ix2 r j) := by
  refine concatenate_pair_apply_right (s₁ := S8192x2048) (s₂ := S8192x8) (t := S8192x2056) _ _ _ _ _ rfl rfl (ix2 r j) (fun d hd => ?_) ?_
  · match d with
    | ⟨0, _⟩ => rfl
    | ⟨1, _⟩ => exact absurd rfl hd
  · show j.val + 2048 = 2048 + j.val
    omega

end Cert.Pre_finite_gates

namespace Cert.KernelIdeal.Chain

open Idealize.ShloMosaic Idealize.ShloMosaic.TcCoe Idealize.ShloMosaic.Tactic Idealize.SL.Sem
open Cert.Mlstm

/-- The arguments of a memory that meets the precondition are finite. -/
theorem finite_of_pre (m : (ℓ : Loc nD τ sig) → Buf (Elt Ideal) ℓ) (h : Cert.Pre_KernelIdeal_finite_gates m) (c : Dev nD) :
    (args m c).Finite where
  qkv r j hj := by
    have e := congrFun (h c) (ix2 r (⟨j.val, by omega⟩ : Fin 2056))
    apply Cert.Pre_finite_gates.real_of_abs
    refine Eq.trans ?_ e
    refine congrArg (fun x : EReal => Ideal.cmp .olt (max x (-x)) (Ideal.ofBits .f32 0x7F800000#32)) ?_
    refine Eq.symm ((Cert.Pre_finite_gates.beside_left _ _ r (⟨j.val, hj⟩ : Fin 2048) _).trans ?_)
    simp only [pointwise]
    show m ((c : Thread nD τ).loc main_arg0) (ix2 (⟨0 + r.val, by omega⟩ : Fin 8192) (⟨0 + j.val, by omega⟩ : Fin 3072)) = _
    simp only [zero_add]
    rfl
  gate r j hj := by
    have e := congrFun (h c) (ix2 r (⟨2048 + j.val, by omega⟩ : Fin 2056))
    apply Cert.Pre_finite_gates.real_of_abs
    refine Eq.trans ?_ e
    refine congrArg (fun x : EReal => Ideal.cmp .olt (max x (-x)) (Ideal.ofBits .f32 0x7F800000#32)) ?_
    refine Eq.symm ((Cert.Pre_finite_gates.beside_right _ _ r (⟨j.val, hj⟩ : Fin 8) _).trans ?_)
    simp only [pointwise]
    show (args m c).gates ⟨0 + r.val, by omega⟩ ⟨0 + j.val, by omega⟩ + (args m c).bias ⟨0 + j.val, by omega⟩ = _
    simp only [zero_add]

end Cert.KernelIdeal.Chain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame.Runs
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame.Runs
public import proofs.«01_k».proof.Proof.Gen.FfnRefIdeal
public import proofs.«01_k».proof.Proof.Gen.FfnRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.FfnFrame
public import proofs.«01_k».proof.Proof.FfnIdealFrame
public import proofs.«01_k».proof.Proof.FfnResult
public import proofs.«01_k».proof.Proof.FfnRef
public import proofs.«01_k».proof.Proof.ConvFrame
public import proofs.«01_k».proof.Proof.ConvPoints
public import proofs.«01_k».proof.Proof.ConvRef
public import proofs.«01_k».proof.Proof.PleResult
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Results
public import proofs.«01_k».proof.Proof.Output
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it runs, keeps its arguments, and has no semaphore. -/
theorem frame_reference : Cert.quiescent_ReferenceIdeal := fun m g _ =>
  (θ_run _ _ _).mono (fun r h => ⟨fun c => (h c).2.2.2, sem_eq_zero_of_no_sems rfl r.2⟩) (Cert.ReferenceIdeal.Value.run m g)

/-- The kernel and the reference, over the real numbers, from equal arguments with finite gates, queries, keys and values:
    both end with the layer's result, and with the two weights they pass on. -/
theorem algebraic : Cert.algebraic_KernelIdeal_ReferenceIdeal_pre_finite_gates := by
  intro m g m' g' hpre hag
  have hF := Cert.KernelIdeal.Chain.finite_of_pre m hpre
  have hA : ∀ c, Cert.ReferenceIdeal.Trip.argsR m' c = Cert.KernelIdeal.Chain.args m c := fun c => by
    obtain ⟨h0, h1, h2, h3, h4, h5, h6, -, -⟩ := hag c
    unfold Cert.ReferenceIdeal.Trip.argsR Cert.KernelIdeal.Chain.args
    rw [h0, h1, h2, h3, h4, h5, h6]
  refine ⟨fun c => fun i => (Cert.KernelIdeal.Chain.args m c).result (i 0) (i 1) (i 2), fun c => fun i => m (c.tc.loc Cert.KernelIdeal.main_arg7) i,
    fun c => fun i => m (c.tc.loc Cert.KernelIdeal.main_arg8) i, ?_, ?_⟩
  · refine (θ_run _ _ _).mono (fun r h c => ?_) (Cert.KernelIdeal.Value.run_blocks m g)
    obtain ⟨e0, e1, e2, hk⟩ := h c
    exact ⟨e0.trans (Cert.KernelIdeal.Chain.final_12 (hF c)), e1.trans (Cert.KernelIdeal.Chain.final_13),
      e2.trans (Cert.KernelIdeal.Chain.final_14), hk⟩
  · refine (θ_run _ _ _).mono (fun r h c => ?_) (Cert.ReferenceIdeal.Value.run m' g')
    obtain ⟨e0, e1, e2, hk⟩ := h c
    obtain ⟨-, -, -, -, -, -, -, h7, h8⟩ := hag c
    refine ⟨e0.trans ?_, e1.trans ?_, e2.trans ?_, hk⟩
    · rw [Cert.ReferenceIdeal.Trip.result_eq (by rw [hA c]; exact hF c), hA c]
      rfl
    · exact (Cert.ReferenceIdeal.Trip.passed_72).trans h7
    · exact (Cert.ReferenceIdeal.Trip.passed_73).trans h8

/-- The per-layer embedding's reference: it runs, keeps its arguments, and has no semaphore. -/
theorem frame_ple_reference : Cert.quiescent_PleRefIdeal := fun m g _ =>
  (θ_run _ _ _).mono (fun r h => ⟨fun c => (h c).2, sem_eq_zero_of_no_sems rfl r.2⟩) (Cert.PleRefIdeal.Value.run m g)

/-- The per-layer embedding's kernel and reference, over the extended reals, from equal arguments: both end with the same
    rows. -/
theorem algebraic_ple : Cert.algebraic_PleIdeal_PleRefIdeal := by
  intro m g m' g' _ hag
  refine ⟨fun c => fun i => Cert.PleIdeal.Tile.resultAt m c (i 0) (i 1), ?_, ?_⟩
  · refine (θ_run _ _ _).mono (fun r h c => ?_) (Cert.PleIdeal.Value.run_blocks m g)
    obtain ⟨e0, hk⟩ := h c
    exact ⟨e0.trans (Cert.PleIdeal.Tile.final m c), hk⟩
  · refine (θ_run _ _ _).mono (fun r h c => ?_) (Cert.PleRefIdeal.Value.run m' g')
    obtain ⟨e0, hk⟩ := h c
    obtain ⟨h0, h1, h2, h3, h4, h5⟩ := hag c
    refine ⟨e0.trans ?_, hk⟩
    rw [Cert.PleRefIdeal.Rows.result_eq m' c]
    unfold Cert.PleIdeal.Tile.resultAt
    rw [h0, h1, h2, h3, h4, h5]
    rfl

/-- The feed-forward call's reference: it runs, keeps its arguments, and has no semaphore. -/
theorem frame_ffn_reference : Cert.quiescent_FfnRefIdeal := fun m g _ =>
  (θ_run _ _ _).mono (fun r h => ⟨fun c => (h c).2, sem_eq_zero_of_no_sems rfl r.2⟩) (Cert.FfnRefIdeal.Value.run m g)

/-- The feed-forward kernel and reference, over the extended reals, from equal arguments: both end with the same rows. -/
theorem algebraic_ffn : Cert.algebraic_FfnIdeal_FfnRefIdeal := by
  intro m g m' g' _ hag
  refine ⟨fun c => fun i => Cert.FfnIdeal.Tile.resultAt m c (i 0).val (i 1).val, ?_, ?_⟩
  · exact Cert.FfnIdeal.Tile.run m g
  · refine (θ_run _ _ _).mono (fun r h c => ?_) (Cert.FfnRefIdeal.Value.run m' g')
    obtain ⟨e0, hk⟩ := h c
    obtain ⟨h0, h1, h2, h3, h4, h5⟩ := hag c
    refine ⟨e0.trans ?_, hk⟩
    rw [Cert.FfnRefIdeal.Rows.result_eq m' c]
    unfold Cert.FfnIdeal.Tile.resultAt Cert.FfnIdeal.Tile.ax Cert.FfnIdeal.Tile.ag Cert.FfnIdeal.Tile.au Cert.FfnIdeal.Tile.ac Cert.FfnIdeal.Tile.ab Cert.FfnIdeal.Tile.ad
    rw [h0, h1, h2, h3, h4, h5]
    rfl

/-- The gated short convolution call's reference: it runs, keeps its arguments, and has no semaphore. -/
theorem frame_conv_reference : Cert.quiescent_ConvRefIdeal := fun m g _ =>
  (θ_run _ _ _).mono (fun r h => ⟨fun c => (h c).2.2.2, sem_eq_zero_of_no_sems rfl r.2⟩) (Cert.ConvRefIdeal.Value.run m g)

/-- The gated short convolution's kernel and reference, over the extended reals, from equal arguments: both end with the same
    rows, and with the two weight matrices they cast. -/
theorem algebraic_conv : Cert.algebraic_ConvIdeal_ConvRefIdeal := by
  intro m g m' g' _ hag
  refine ⟨fun c => fun i => Cert.ConvIdeal.Tile.result (Cert.ConvIdeal.Tile.ax m c) (Cert.ConvIdeal.Tile.aw m c) (Cert.ConvIdeal.Tile.ac m c) (i 0).val (i 1).val,
    fun c => fun i => Cert.FfnIdeal.Tile.entry (a := 2048) (b := 11264) (m (c.tc.loc Cert.ConvIdeal.main_arg3)) (i 0).val (i 1).val,
    fun c => fun i => Cert.FfnIdeal.Tile.entry (a := 2048) (b := 2048) (m (c.tc.loc Cert.ConvIdeal.main_arg4)) (i 0).val (i 1).val, ?_, ?_⟩
  · exact Cert.ConvIdeal.Tile.run m g
  · refine (θ_run _ _ _).mono (fun r h c => ?_) (Cert.ConvRefIdeal.Value.run m' g')
    obtain ⟨e0, e1, e2, hk⟩ := h c
    obtain ⟨h0, h1, h2, h3, h4⟩ := hag c
    refine ⟨e0.trans ?_, e1.trans ?_, e2.trans ?_, hk⟩
    · rw [Cert.ConvRefIdeal.Rows.result_eq m' c]
      unfold Cert.ConvIdeal.Tile.ax Cert.ConvIdeal.Tile.aw Cert.ConvIdeal.Tile.ac
      rw [h0, h1, h2]
      rfl
    · rw [h3]
      exact (Cert.ConvRefIdeal.Rows.entry_fun (a := 2048) (b := 11264) (m (c.tc.loc Cert.ConvIdeal.main_arg3))).symm
    · rw [h4]
      exact (Cert.ConvRefIdeal.Rows.entry_fun (a := 2048) (b := 2048) (m (c.tc.loc Cert.ConvIdeal.main_arg4))).symm

theorem claim : Cert.Claim :=
  ⟨Cert.Kernel.Gen.facts, Cert.KernelIdeal.Gen.facts, Cert.ReferenceIdeal.Gen.facts, Cert.Ple.Gen.facts,
    Cert.PleIdeal.Gen.facts, Cert.PleRefIdeal.Gen.facts, Cert.Ffn.Gen.facts, Cert.FfnIdeal.Gen.facts,
    Cert.FfnRefIdeal.Gen.facts, Cert.Conv.Gen.facts, Cert.ConvIdeal.Gen.facts, Cert.ConvRefIdeal.Gen.facts,
    Cert.Pre_finite_gates.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Ple.Gen.frame m ρ, fun m ρ _ => Cert.PleIdeal.Gen.frame m ρ, frame_ple_reference,
    fun m ρ _ => Cert.Ffn.Halo.frame m ρ, fun m ρ _ => Cert.FfnIdeal.Halo.frame m ρ, frame_ffn_reference,
    fun m ρ _ => Cert.Conv.Halo.frame m ρ, fun m ρ _ => Cert.ConvIdeal.Halo.frame m ρ, frame_conv_reference,
    trivial, algebraic, trivial, algebraic_ple, trivial, algebraic_ffn, trivial, algebraic_conv⟩

end Cert.Proof

end
